-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "c" .f32 0x3D888889#32 ((15⁻¹ : ℝ) : EReal)

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_qkv.lean ====
abbrev S2x4096x16384 : Shape := ⟨3, ![2, 4096, 16384]⟩
abbrev S2x4096x32 : Shape := ⟨3, ![2, 4096, 32]⟩
abbrev S2x8 : Shape := ⟨2, ![2, 8]⟩
abbrev S4096 : Shape := ⟨1, ![4096]⟩
abbrev S2x4096x8192 : Shape := ⟨3, ![2, 4096, 8192]⟩
abbrev S_ : Shape := ⟨0, ![]⟩

class Facts : Prop where
  slices_S2x4096x16384_S2x4096x8192_0_0_0 : S2x4096x16384.Slices ![0, 0, 0] S2x4096x8192
  bitsLt_bf16_f32 : FTy.bits .bf16 < FTy.bits .f32
  bcast_S_S2x4096x8192 : S_.BroadcastsInDim S2x4096x8192 (![] : Fin 0 → Fin S2x4096x8192.rank)
  reducesTo_S2x4096x8192_S_d0_1_2 : S2x4096x8192.ReducesTo [0, 1, 2] S_
  h_S_ : 0 < S_.numel

variable [Facts]

def fn {F : FTy → Type} [FloatOps F] (main_arg0 : FVec F S2x4096x16384 .bf16) (main_arg1 : FVec F S2x4096x32 .f32) (main_arg2 : FVec F S2x8 .f32) (main_arg3 : FVec F S2x8 .f32) (main_arg4 : FVec F S4096 .f32) : IVec S_ 1 :=
  let main_v0 : FVec F S2x4096x8192 .bf16 := (extractStridedSlice S2x4096x8192 ![0, 0, 0] · slices_S2x4096x16384_S2x4096x8192_0_0_0) main_arg0
  let main_v1 : FVec F S2x4096x8192 .f32 := (extf .f32 · bitsLt_bf16_f32) main_v0
  let main_v2 : FVec F S2x4096x8192 .f32 := Host.absf main_v1
  let main_cst : FVec F S_ .f32 := constant S_ .f32 0x7F800000#32
  let main_v3 : FVec F S2x4096x8192 .f32 := broadcastInDim S2x4096x8192 ![] bcast_S_S2x4096x8192 main_cst
  let main_v4 : IVec S2x4096x8192 1 := cmpf .olt main_v2 main_v3
  let main_c : IVec S_ 1 := constantI S_ 1 1#1
  let main_v5 : IVec S_ 1 := (fun x v => Host.reduce IntOp.andi x v reducesTo_S2x4096x8192_S_d0_1_2 h_S_) main_v4 main_c
  main_v5
-- ==== Kernel.lean ====
abbrev S2x4096x16384 : Shape := ⟨3, ![2, 4096, 16384]⟩
abbrev S2x4096x32 : Shape := ⟨3, ![2, 4096, 32]⟩
abbrev S2x8 : Shape := ⟨2, ![2, 8]⟩
abbrev S4096 : Shape := ⟨1, ![4096]⟩
abbrev S2x4096x2x2x8 : Shape := ⟨5, ![2, 4096, 2, 2, 8]⟩
abbrev S2x4096x2x1x8 : Shape := ⟨5, ![2, 4096, 2, 1, 8]⟩
abbrev S2x4096x2x8 : Shape := ⟨4, ![2, 4096, 2, 8]⟩
abbrev S2x4096x16 : Shape := ⟨3, ![2, 4096, 16]⟩
abbrev S1x16 : Shape := ⟨2, ![1, 16]⟩
abbrev S1x4096x16 : Shape := ⟨3, ![1, 4096, 16]⟩
abbrev S4096x16 : Shape := ⟨2, ![4096, 16]⟩
abbrev S256x256 : Shape := ⟨2, ![256, 256]⟩
abbrev S256x16 : Shape := ⟨2, ![256, 16]⟩
abbrev S1x256x16 : Shape := ⟨3, ![1, 256, 16]⟩
abbrev S2x4096x1x8 : Shape := ⟨4, ![2, 4096, 1, 8]⟩
abbrev S2x4096x8 : Shape := ⟨3, ![2, 4096, 8]⟩
abbrev S2x4096x8x1 : Shape := ⟨4, ![2, 4096, 8, 1]⟩
abbrev S2x4096x8x4 : Shape := ⟨4, ![2, 4096, 8, 4]⟩
abbrev S2x8x4096x4 : Shape := ⟨4, ![2, 8, 4096, 4]⟩
abbrev S2x16x256x2x8 : Shape := ⟨5, ![2, 16, 256, 2, 8]⟩
abbrev S2x8x2x16x256 : Shape := ⟨5, ![2, 8, 2, 16, 256]⟩
abbrev S2x8x2x16x1x256 : Shape := ⟨6, ![2, 8, 2, 16, 1, 256]⟩
abbrev S1x4096 : Shape := ⟨2, ![1, 4096]⟩
abbrev S2x4096x4096 : Shape := ⟨3, ![2, 4096, 4096]⟩
abbrev S1x4096x256 : Shape := ⟨3, ![1, 4096, 256]⟩
abbrev S1x4096x512 : Shape := ⟨3, ![1, 4096, 512]⟩
abbrev S1x1x4096x4 : Shape := ⟨4, ![1, 1, 4096, 4]⟩
abbrev S1x1x2x16x1x256 : Shape := ⟨6, ![1, 1, 2, 16, 1, 256]⟩
abbrev S1x512 : Shape := ⟨2, ![1, 512]⟩
abbrev S4096x512 : Shape := ⟨2, ![4096, 512]⟩
abbrev S2x256x512 : Shape := ⟨3, ![2, 256, 512]⟩
abbrev S2x1x256 : Shape := ⟨3, ![2, 1, 256]⟩
abbrev S1x256x256 : Shape := ⟨3, ![1, 256, 256]⟩
abbrev S1x256x512 : Shape := ⟨3, ![1, 256, 512]⟩
abbrev S256x512 : Shape := ⟨2, ![256, 512]⟩
abbrev S1x1x256x4 : Shape := ⟨4, ![1, 1, 256, 4]⟩
abbrev S256x4 : Shape := ⟨2, ![256, 4]⟩
abbrev S256x1 : Shape := ⟨2, ![256, 1]⟩
abbrev S1x1x1x1x1x256 : Shape := ⟨6, ![1, 1, 1, 1, 1, 256]⟩
abbrev S1x256 : Shape := ⟨2, ![1, 256]⟩
abbrev S1x1 : Shape := ⟨2, ![1, 1]⟩
abbrev S1x1x256 : Shape := ⟨3, ![1, 1, 256]⟩
abbrev S256x128 : Shape := ⟨2, ![256, 128]⟩
abbrev S512x512 : Shape := ⟨2, ![512, 512]⟩
abbrev S256 : Shape := ⟨1, ![256]⟩

abbrev nBuf : Space → Nat
  | .hbm => 38
  | .vmem => 31
  | .smem => 0
  | _ => 0

abbrev bufTy : (tb : Table) → Fin (tcTables nBuf tb) → BufTy
  | .hbm, ⟨0, _⟩ => ⟨S2x4096x16384, .bf16⟩
  | .hbm, ⟨1, _⟩ => ⟨S2x4096x32, .f32⟩
  | .hbm, ⟨2, _⟩ => ⟨S2x8, .f32⟩
  | .hbm, ⟨3, _⟩ => ⟨S2x8, .f32⟩
  | .hbm, ⟨4, _⟩ => ⟨S4096, .f32⟩
  | .hbm, ⟨5, _⟩ => ⟨S2x4096x2x2x8, .f32⟩
  | .hbm, ⟨6, _⟩ => ⟨S2x4096x2x1x8, .f32⟩
  | .hbm, ⟨7, _⟩ => ⟨S2x4096x2x8, .f32⟩
  | .hbm, ⟨8, _⟩ => ⟨S2x4096x16, .f32⟩
  | .hbm, ⟨9, _⟩ => ⟨S2x4096x2x1x8, .f32⟩
  | .hbm, ⟨10, _⟩ => ⟨S2x4096x2x8, .f32⟩
  | .hbm, ⟨11, _⟩ => ⟨S2x4096x16, .f32⟩
  | .hbm, ⟨12, _⟩ => ⟨S1x16, .f32⟩
  | .hbm, ⟨13, _⟩ => ⟨S1x16, .f32⟩
  | .hbm, ⟨14, _⟩ => ⟨S2x4096x16, .f32⟩
  | .hbm, ⟨15, _⟩ => ⟨S2x4096x16, .f32⟩
  | .hbm, ⟨16, _⟩ => ⟨S2x4096x16, .f32⟩
  | .hbm, ⟨17, _⟩ => ⟨S2x4096x2x8, .f32⟩
  | .hbm, ⟨18, _⟩ => ⟨S2x4096x2x8, .f32⟩
  | .hbm, ⟨19, _⟩ => ⟨S2x4096x1x8, .f32⟩
  | .hbm, ⟨20, _⟩ => ⟨S2x4096x8, .f32⟩
  | .hbm, ⟨21, _⟩ => ⟨S2x4096x1x8, .f32⟩
  | .hbm, ⟨22, _⟩ => ⟨S2x4096x8, .f32⟩
  | .hbm, ⟨23, _⟩ => ⟨S2x4096x1x8, .f32⟩
  | .hbm, ⟨24, _⟩ => ⟨S2x4096x8, .f32⟩
  | .hbm, ⟨25, _⟩ => ⟨S2x4096x1x8, .f32⟩
  | .hbm, ⟨26, _⟩ => ⟨S2x4096x8, .f32⟩
  | .hbm, ⟨27, _⟩ => ⟨S2x4096x8x1, .f32⟩
  | .hbm, ⟨28, _⟩ => ⟨S2x4096x8x1, .f32⟩
  | .hbm, ⟨29, _⟩ => ⟨S2x4096x8x1, .f32⟩
  | .hbm, ⟨30, _⟩ => ⟨S2x4096x8x1, .f32⟩
  | .hbm, ⟨31, _⟩ => ⟨S2x4096x8x4, .f32⟩
  | .hbm, ⟨32, _⟩ => ⟨S2x8x4096x4, .f32⟩
  | .hbm, ⟨33, _⟩ => ⟨S2x16x256x2x8, .f32⟩
  | .hbm, ⟨34, _⟩ => ⟨S2x8x2x16x256, .f32⟩
  | .hbm, ⟨35, _⟩ => ⟨S2x8x2x16x1x256, .f32⟩
  | .hbm, ⟨36, _⟩ => ⟨S1x4096, .f32⟩
  | .hbm, ⟨37, _⟩ => ⟨S2x4096x4096, .bf16⟩
  | .local _ .vmem, ⟨0, _⟩ => ⟨S1x4096x16, .f32⟩
  | .local _ .vmem, ⟨1, _⟩ => ⟨S1x4096x16, .f32⟩
  | .local _ .vmem, ⟨2, _⟩ => ⟨S1x4096x16, .f32⟩
  | .local _ .vmem, ⟨3, _⟩ => ⟨S1x4096x16, .f32⟩
  | .local _ .vmem, ⟨4, _⟩ => ⟨S1x16, .f32⟩
  | .local _ .vmem, ⟨5, _⟩ => ⟨S1x16, .f32⟩
  | .local _ .vmem, ⟨6, _⟩ => ⟨S1x4096x16, .f32⟩
  | .local _ .vmem, ⟨7, _⟩ => ⟨S1x4096x16, .f32⟩
  | .local _ .vmem, ⟨8, _⟩ => ⟨S1x4096x16, .f32⟩
  | .local _ .vmem, ⟨9, _⟩ => ⟨S1x4096x16, .f32⟩
  | .local _ .vmem, ⟨10, _⟩ => ⟨S1x4096x16, .f32⟩
  | .local _ .vmem, ⟨11, _⟩ => ⟨S1x4096x16, .f32⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S1x1x4096x4, .f32⟩
  | .local _ .vmem, ⟨21, _⟩ => ⟨S1x1x4096x4, .f32⟩
  | .local _ .vmem, ⟨22, _⟩ => ⟨S1x1x2x16x1x256, .f32⟩
  | .local _ .vmem, ⟨23, _⟩ => ⟨S1x1x2x16x1x256, .f32⟩
  | .local _ .vmem, ⟨24, _⟩ => ⟨S1x512, .f32⟩
  | .local _ .vmem, ⟨25, _⟩ => ⟨S1x512, .f32⟩
  | .local _ .vmem, ⟨26, _⟩ => ⟨S1x4096x512, .bf16⟩
  | .local _ .vmem, ⟨27, _⟩ => ⟨S1x4096x512, .bf16⟩
  | .local _ .vmem, ⟨28, _⟩ => ⟨S4096x512, .f32⟩
  | .local _ .vmem, ⟨29, _⟩ => ⟨S2x256x512, .f32⟩
  | .local _ .vmem, ⟨30, _⟩ => ⟨S2x1x256, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

@[reducible] def k1_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k1_mult1 (k1_t1 : Fin k1_t1_loop.trips) : BitVec 32 :=
  let c0_i32 : BitVec 32 := 0#32
  let c1_i32 : BitVec 32 := 1#32
  let arg13 : BitVec 32 := Scf.iv c0_i32 c1_i32 k1_t1
  let c256_i32 : BitVec 32 := 256#32
  let v15 : BitVec 32 := Scalar.muli arg13 c256_i32
  v15
def k1_mult2 (k1_t1 : Fin k1_t1_loop.trips) : BitVec 32 :=
  let c15_i32 : BitVec 32 := 15#32
  let c0_i32 : BitVec 32 := 0#32
  let c1_i32 : BitVec 32 := 1#32
  let arg13 : BitVec 32 := Scf.iv c0_i32 c1_i32 k1_t1
  let v14 : BitVec 32 := Scalar.subi c15_i32 arg13
  let c256_i32_11 : BitVec 32 := 256#32
  let v17 : BitVec 32 := Scalar.muli v14 c256_i32_11
  v17
def k1_off1 (k1_t1 : Fin k1_t1_loop.trips) : Fin 3 → Nat :=
  let c0_12 : Index := 0#32
  let c0_i32 : BitVec 32 := 0#32
  let c1_i32 : BitVec 32 := 1#32
  let arg13 : BitVec 32 := Scf.iv c0_i32 c1_i32 k1_t1
  let c256_i32 : BitVec 32 := 256#32
  let v15 : BitVec 32 := Scalar.muli arg13 c256_i32
  let v16 : BitVec 32 := v15
  let v19 : Index := Scalar.indexCast v16
  let c0_13 : Index := 0#32
  ![0, v19.toNat, 0]
def k1_off2 (k1_t1 : Fin k1_t1_loop.trips) : Fin 3 → Nat :=
  let c0_15 : Index := 0#32
  let c15_i32 : BitVec 32 := 15#32
  let c0_i32 : BitVec 32 := 0#32
  let c1_i32 : BitVec 32 := 1#32
  let arg13 : BitVec 32 := Scf.iv c0_i32 c1_i32 k1_t1
  let v14 : BitVec 32 := Scalar.subi c15_i32 arg13
  let c256_i32_11 : BitVec 32 := 256#32
  let v17 : BitVec 32 := Scalar.muli v14 c256_i32_11
  let v18 : BitVec 32 := v17
  let v24 : Index := Scalar.indexCast v18
  let c0_16 : Index := 0#32
  ![0, v24.toNat, 0]
def k1_off3 (k1_t1 : Fin k1_t1_loop.trips) : Fin 3 → Nat :=
  let c0_22 : Index := 0#32
  let c0_i32 : BitVec 32 := 0#32
  let c1_i32 : BitVec 32 := 1#32
  let arg13 : BitVec 32 := Scf.iv c0_i32 c1_i32 k1_t1
  let c256_i32 : BitVec 32 := 256#32
  let v15 : BitVec 32 := Scalar.muli arg13 c256_i32
  let v16 : BitVec 32 := v15
  let v35 : Index := Scalar.indexCast v16
  let c0_23 : Index := 0#32
  ![0, v35.toNat, 0]
def k1_off4 (k1_t1 : Fin k1_t1_loop.trips) : Fin 3 → Nat :=
  let c0_24 : Index := 0#32
  let c15_i32 : BitVec 32 := 15#32
  let c0_i32 : BitVec 32 := 0#32
  let c1_i32 : BitVec 32 := 1#32
  let arg13 : BitVec 32 := Scf.iv c0_i32 c1_i32 k1_t1
  let v14 : BitVec 32 := Scalar.subi c15_i32 arg13
  let c256_i32_11 : BitVec 32 := 256#32
  let v17 : BitVec 32 := Scalar.muli v14 c256_i32_11
  let v18 : BitVec 32 := v17
  let v38 : Index := Scalar.indexCast v18
  let c0_25 : Index := 0#32
  ![0, v38.toNat, 0]
def k1_off5 (k1_t1 : Fin k1_t1_loop.trips) : Fin 4 → Nat :=
  let c0_26 : Index := 0#32
  let c0_27 : Index := 0#32
  let c0_i32 : BitVec 32 := 0#32
  let c1_i32 : BitVec 32 := 1#32
  let arg13 : BitVec 32 := Scf.iv c0_i32 c1_i32 k1_t1
  let c256_i32 : BitVec 32 := 256#32
  let v15 : BitVec 32 := Scalar.muli arg13 c256_i32
  let v16 : BitVec 32 := v15
  let v41 : Index := Scalar.indexCast v16
  let c0_28 : Index := 0#32
  ![0, 0, v41.toNat, 0]
def k1_off6 (k1_t1 : Fin k1_t1_loop.trips) : Fin 4 → Nat :=
  let c0_29 : Index := 0#32
  let c0_30 : Index := 0#32
  let c15_i32 : BitVec 32 := 15#32
  let c0_i32 : BitVec 32 := 0#32
  let c1_i32 : BitVec 32 := 1#32
  let arg13 : BitVec 32 := Scf.iv c0_i32 c1_i32 k1_t1
  let v14 : BitVec 32 := Scalar.subi c15_i32 arg13
  let c256_i32_11 : BitVec 32 := 256#32
  let v17 : BitVec 32 := Scalar.muli v14 c256_i32_11
  let v18 : BitVec 32 := v17
  let v44 : Index := Scalar.indexCast v18
  let c0_31 : Index := 0#32
  ![0, 0, v44.toNat, 0]
def k1_off7 (k1_t1 : Fin k1_t1_loop.trips) : Fin 6 → Nat :=
  let c0_32 : Index := 0#32
  let c0_33 : Index := 0#32
  let c0_34 : Index := 0#32
  let c0_i32 : BitVec 32 := 0#32
  let c1_i32 : BitVec 32 := 1#32
  let arg13 : BitVec 32 := Scf.iv c0_i32 c1_i32 k1_t1
  let v51 : Index := Scalar.indexCast arg13
  let c0_35 : Index := 0#32
  let c0_36 : Index := 0#32
  ![0, 0, 0, v51.toNat, 0, 0]
def k1_off8 (k1_t1 : Fin k1_t1_loop.trips) : Fin 6 → Nat :=
  let c0_37 : Index := 0#32
  let c0_38 : Index := 0#32
  let c1 : Index := 1#32
  let c15_i32 : BitVec 32 := 15#32
  let c0_i32 : BitVec 32 := 0#32
  let c1_i32 : BitVec 32 := 1#32
  let arg13 : BitVec 32 := Scf.iv c0_i32 c1_i32 k1_t1
  let v14 : BitVec 32 := Scalar.subi c15_i32 arg13
  let v54 : Index := Scalar.indexCast v14
  let c0_39 : Index := 0#32
  let c0_40 : Index := 0#32
  ![0, 0, 1, v54.toNat, 0, 0]
def k1_mult3 (k1_t1 : Fin k1_t1_loop.trips) : BitVec 32 :=
  let c0_i32 : BitVec 32 := 0#32
  let c1_i32 : BitVec 32 := 1#32
  let arg13 : BitVec 32 := Scf.iv c0_i32 c1_i32 k1_t1
  let c256_i32_83 : BitVec 32 := 256#32
  let v181 : BitVec 32 := Scalar.muli arg13 c256_i32_83
  v181
def k1_off9 (k1_t1 : Fin k1_t1_loop.trips) : Fin 2 → Nat :=
  let c0_i32 : BitVec 32 := 0#32
  let c1_i32 : BitVec 32 := 1#32
  let arg13 : BitVec 32 := Scf.iv c0_i32 c1_i32 k1_t1
  let c256_i32_83 : BitVec 32 := 256#32
  let v181 : BitVec 32 := Scalar.muli arg13 c256_i32_83
  let v182 : BitVec 32 := v181
  let v183 : Index := Scalar.indexCast v182
  let c0_84 : Index := 0#32
  ![v183.toNat, 0]
def k1_mult4 (k1_t1 : Fin k1_t1_loop.trips) : BitVec 32 :=
  let c15_i32_85 : BitVec 32 := 15#32
  let c0_i32 : BitVec 32 := 0#32
  let c1_i32 : BitVec 32 := 1#32
  let arg13 : BitVec 32 := Scf.iv c0_i32 c1_i32 k1_t1
  let v187 : BitVec 32 := Scalar.subi c15_i32_85 arg13
  let c256_i32_86 : BitVec 32 := 256#32
  let v188 : BitVec 32 := Scalar.muli v187 c256_i32_86
  v188
def k1_off10 (k1_t1 : Fin k1_t1_loop.trips) : Fin 2 → Nat :=
  let c15_i32_85 : BitVec 32 := 15#32
  let c0_i32 : BitVec 32 := 0#32
  let c1_i32 : BitVec 32 := 1#32
  let arg13 : BitVec 32 := Scf.iv c0_i32 c1_i32 k1_t1
  let v187 : BitVec 32 := Scalar.subi c15_i32_85 arg13
  let c256_i32_86 : BitVec 32 := 256#32
  let v188 : BitVec 32 := Scalar.muli v187 c256_i32_86
  let v189 : BitVec 32 := v188
  let v190 : Index := Scalar.indexCast v189
  let c0_87 : Index := 0#32
  ![v190.toNat, 0]
@[reducible] def k1_t2_loop : Scf.Loop 32 :=
  let c8_i32_7 : BitVec 32 := 8#32
  let c8_i32_8 : BitVec 32 := 8#32
  let v13 : BitVec 32 := Scalar.addi c8_i32_7 c8_i32_8
  let c1_i32_9 : BitVec 32 := 1#32
  ⟨c8_i32_7, v13, c1_i32_9⟩
def k1_mult5 (k1_t2 : Fin k1_t2_loop.trips) : BitVec 32 :=
  let c8_i32_7 : BitVec 32 := 8#32
  let c1_i32_9 : BitVec 32 := 1#32
  let arg13 : BitVec 32 := Scf.iv c8_i32_7 c1_i32_9 k1_t2
  let c256_i32 : BitVec 32 := 256#32
  let v15 : BitVec 32 := Scalar.muli arg13 c256_i32
  v15
def k1_mult6 (k1_t2 : Fin k1_t2_loop.trips) : BitVec 32 :=
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_11 : BitVec 32 := 256#32
  let v17 : BitVec 32 := Scalar.muli v14 c256_i32_11
  v17
def k1_off11 (k1_t2 : Fin k1_t2_loop.trips) : Fin 3 → Nat :=
  let c0_12 : Index := 0#32
  let c8_i32_7 : BitVec 32 := 8#32
  let c1_i32_9 : BitVec 32 := 1#32
  let arg13 : BitVec 32 := Scf.iv c8_i32_7 c1_i32_9 k1_t2
  let c256_i32 : BitVec 32 := 256#32
  let v15 : BitVec 32 := Scalar.muli arg13 c256_i32
  let v16 : BitVec 32 := v15
  let v19 : Index := Scalar.indexCast v16
  let c0_13 : Index := 0#32
  ![0, v19.toNat, 0]
def k1_off12 (k1_t2 : Fin k1_t2_loop.trips) : Fin 3 → Nat :=
  let c0_15 : Index := 0#32
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_11 : BitVec 32 := 256#32
  let v17 : BitVec 32 := Scalar.muli v14 c256_i32_11
  let v18 : BitVec 32 := v17
  let v24 : Index := Scalar.indexCast v18
  let c0_16 : Index := 0#32
  ![0, v24.toNat, 0]
def k1_off13 (k1_t2 : Fin k1_t2_loop.trips) : Fin 3 → Nat :=
  let c0_22 : Index := 0#32
  let c8_i32_7 : BitVec 32 := 8#32
  let c1_i32_9 : BitVec 32 := 1#32
  let arg13 : BitVec 32 := Scf.iv c8_i32_7 c1_i32_9 k1_t2
  let c256_i32 : BitVec 32 := 256#32
  let v15 : BitVec 32 := Scalar.muli arg13 c256_i32
  let v16 : BitVec 32 := v15
  let v35 : Index := Scalar.indexCast v16
  let c0_23 : Index := 0#32
  ![0, v35.toNat, 0]
def k1_off14 (k1_t2 : Fin k1_t2_loop.trips) : Fin 3 → Nat :=
  let c0_24 : Index := 0#32
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_11 : BitVec 32 := 256#32
  let v17 : BitVec 32 := Scalar.muli v14 c256_i32_11
  let v18 : BitVec 32 := v17
  let v38 : Index := Scalar.indexCast v18
  let c0_25 : Index := 0#32
  ![0, v38.toNat, 0]
def k1_off15 (k1_t2 : Fin k1_t2_loop.trips) : Fin 4 → Nat :=
  let c0_26 : Index := 0#32
  let c0_27 : Index := 0#32
  let c8_i32_7 : BitVec 32 := 8#32
  let c1_i32_9 : BitVec 32 := 1#32
  let arg13 : BitVec 32 := Scf.iv c8_i32_7 c1_i32_9 k1_t2
  let c256_i32 : BitVec 32 := 256#32
  let v15 : BitVec 32 := Scalar.muli arg13 c256_i32
  let v16 : BitVec 32 := v15
  let v41 : Index := Scalar.indexCast v16
  let c0_28 : Index := 0#32
  ![0, 0, v41.toNat, 0]
def k1_off16 (k1_t2 : Fin k1_t2_loop.trips) : Fin 4 → Nat :=
  let c0_29 : Index := 0#32
  let c0_30 : Index := 0#32
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_11 : BitVec 32 := 256#32
  let v17 : BitVec 32 := Scalar.muli v14 c256_i32_11
  let v18 : BitVec 32 := v17
  let v44 : Index := Scalar.indexCast v18
  let c0_31 : Index := 0#32
  ![0, 0, v44.toNat, 0]
def k1_off17 (k1_t2 : Fin k1_t2_loop.trips) : Fin 6 → Nat :=
  let c0_32 : Index := 0#32
  let c0_33 : Index := 0#32
  let c0_34 : Index := 0#32
  let c8_i32_7 : BitVec 32 := 8#32
  let c1_i32_9 : BitVec 32 := 1#32
  let arg13 : BitVec 32 := Scf.iv c8_i32_7 c1_i32_9 k1_t2
  let v51 : Index := Scalar.indexCast arg13
  let c0_35 : Index := 0#32
  let c0_36 : Index := 0#32
  ![0, 0, 0, v51.toNat, 0, 0]
def k1_off18 (k1_t2 : Fin k1_t2_loop.trips) : Fin 6 → Nat :=
  let c0_37 : Index := 0#32
  let c0_38 : Index := 0#32
  let c1 : Index := 1#32
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let v54 : Index := Scalar.indexCast v14
  let c0_39 : Index := 0#32
  let c0_40 : Index := 0#32
  ![0, 0, 1, v54.toNat, 0, 0]
def k1_mult7 (k1_t2 : Fin k1_t2_loop.trips) : BitVec 32 :=
  let c8_i32_7 : BitVec 32 := 8#32
  let c1_i32_9 : BitVec 32 := 1#32
  let arg13 : BitVec 32 := Scf.iv c8_i32_7 c1_i32_9 k1_t2
  let c256_i32_83 : BitVec 32 := 256#32
  let v181 : BitVec 32 := Scalar.muli arg13 c256_i32_83
  v181
def k1_off19 (k1_t2 : Fin k1_t2_loop.trips) : Fin 2 → Nat :=
  let c8_i32_7 : BitVec 32 := 8#32
  let c1_i32_9 : BitVec 32 := 1#32
  let arg13 : BitVec 32 := Scf.iv c8_i32_7 c1_i32_9 k1_t2
  let c256_i32_83 : BitVec 32 := 256#32
  let v181 : BitVec 32 := Scalar.muli arg13 c256_i32_83
  let v182 : BitVec 32 := v181
  let v183 : Index := Scalar.indexCast v182
  let c0_84 : Index := 0#32
  ![v183.toNat, 0]
def k1_mult8 (k1_t2 : Fin k1_t2_loop.trips) : BitVec 32 :=
  let c8_i32_7 : BitVec 32 := 8#32
  let c1_i32_9 : BitVec 32 := 1#32
  let arg13 : BitVec 32 := Scf.iv c8_i32_7 c1_i32_9 k1_t2
  let c256_i32_85 : BitVec 32 := 256#32
  let v186 : BitVec 32 := Scalar.muli arg13 c256_i32_85
  v186
def k1_mult9 (k1_t2 : Fin k1_t2_loop.trips) : BitVec 32 :=
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_98 : BitVec 32 := 256#32
  let v219 : BitVec 32 := Scalar.muli v14 c256_i32_98
  v219
def k1_off20 (k1_t2 : Fin k1_t2_loop.trips) : Fin 2 → Nat :=
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_98 : BitVec 32 := 256#32
  let v219 : BitVec 32 := Scalar.muli v14 c256_i32_98
  let v220 : BitVec 32 := v219
  let v221 : Index := Scalar.indexCast v220
  let c0_99 : Index := 0#32
  ![v221.toNat, 0]
def k1_mult10 (k1_t2 : Fin k1_t2_loop.trips) : BitVec 32 :=
  let c15_i32 : BitVec 32 := 15#32
  let c8_i32_7 : BitVec 32 := 8#32
  let c1_i32_9 : BitVec 32 := 1#32
  let arg13 : BitVec 32 := Scf.iv c8_i32_7 c1_i32_9 k1_t2
  let v14 : BitVec 32 := Scalar.subi c15_i32 arg13
  let c256_i32_100 : BitVec 32 := 256#32
  let v224 : BitVec 32 := Scalar.muli v14 c256_i32_100
  v224
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x4096x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x2x16x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x4096x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "c" => some ((15⁻¹ : ℝ) : EReal)
  | _ => none
-- ==== ReferenceIdeal.lean ====
abbrev S2x4096x16384 : Shape := ⟨3, ![2, 4096, 16384]⟩
abbrev S2x4096x32 : Shape := ⟨3, ![2, 4096, 32]⟩
abbrev S2x8 : Shape := ⟨2, ![2, 8]⟩
abbrev S4096 : Shape := ⟨1, ![4096]⟩
abbrev S2x4096x8192 : Shape := ⟨3, ![2, 4096, 8192]⟩
abbrev S2x4096x2048 : Shape := ⟨3, ![2, 4096, 2048]⟩
abbrev S2x4096x4096 : Shape := ⟨3, ![2, 4096, 4096]⟩
abbrev S2x4096x8x256 : Shape := ⟨4, ![2, 4096, 8, 256]⟩
abbrev S2x8x4096x256 : Shape := ⟨4, ![2, 8, 4096, 256]⟩
abbrev S_ : Shape := ⟨0, ![]⟩
abbrev S2x4096x8x512 : Shape := ⟨4, ![2, 4096, 8, 512]⟩
abbrev S2x8x4096x512 : Shape := ⟨4, ![2, 8, 4096, 512]⟩
abbrev S2x4096x2x2x8 : Shape := ⟨5, ![2, 4096, 2, 2, 8]⟩
abbrev S2x4096x2x1x8 : Shape := ⟨5, ![2, 4096, 2, 1, 8]⟩
abbrev S2x4096x2x8 : Shape := ⟨4, ![2, 4096, 2, 8]⟩
abbrev S1x1x2x8 : Shape := ⟨4, ![1, 1, 2, 8]⟩
abbrev S2x2x8x4096 : Shape := ⟨4, ![2, 2, 8, 4096]⟩
abbrev S4x8x4096x256 : Shape := ⟨4, ![4, 8, 4096, 256]⟩
abbrev S4x8x4096x512 : Shape := ⟨4, ![4, 8, 4096, 512]⟩
abbrev S1x2x8x4096 : Shape := ⟨4, ![1, 2, 8, 4096]⟩
abbrev S2x8x4096 : Shape := ⟨3, ![2, 8, 4096]⟩
abbrev S4x8x4096 : Shape := ⟨3, ![4, 8, 4096]⟩
abbrev S4x8x32x128x256 : Shape := ⟨5, ![4, 8, 32, 128, 256]⟩
abbrev S32x4x8x128x256 : Shape := ⟨5, ![32, 4, 8, 128, 256]⟩
abbrev S4x8x32x128x512 : Shape := ⟨5, ![4, 8, 32, 128, 512]⟩
abbrev S32x4x8x128x512 : Shape := ⟨5, ![32, 4, 8, 128, 512]⟩
abbrev S4x8x32x128 : Shape := ⟨4, ![4, 8, 32, 128]⟩
abbrev S32x4x8x128 : Shape := ⟨4, ![32, 4, 8, 128]⟩
abbrev S128x128 : Shape := ⟨2, ![128, 128]⟩
abbrev S4x8x256x512 : Shape := ⟨4, ![4, 8, 256, 512]⟩
abbrev S4x8x256 : Shape := ⟨3, ![4, 8, 256]⟩
abbrev S4x8 : Shape := ⟨2, ![4, 8]⟩
abbrev S1x4x8x128x256 : Shape := ⟨5, ![1, 4, 8, 128, 256]⟩
abbrev S4x8x128x256 : Shape := ⟨4, ![4, 8, 128, 256]⟩
abbrev S1x4x8x128x512 : Shape := ⟨5, ![1, 4, 8, 128, 512]⟩
abbrev S4x8x128x512 : Shape := ⟨4, ![4, 8, 128, 512]⟩
abbrev S1x4x8x128 : Shape := ⟨4, ![1, 4, 8, 128]⟩
abbrev S4x8x128 : Shape := ⟨3, ![4, 8, 128]⟩
abbrev S4x8x128x1 : Shape := ⟨4, ![4, 8, 128, 1]⟩
abbrev S4x8x1x128 : Shape := ⟨4, ![4, 8, 1, 128]⟩
abbrev S4x8x128x128 : Shape := ⟨4, ![4, 8, 128, 128]⟩
abbrev S4x8x1 : Shape := ⟨3, ![4, 8, 1]⟩
abbrev S4x8x1x1 : Shape := ⟨4, ![4, 8, 1, 1]⟩
abbrev S2x8x4096x1 : Shape := ⟨4, ![2, 8, 4096, 1]⟩
abbrev S8x1x512 : Shape := ⟨3, ![8, 1, 512]⟩
abbrev S1x8x1x512 : Shape := ⟨4, ![1, 8, 1, 512]⟩

abbrev nBuf : Space → Nat
  | .hbm => 275
  | .vmem => 0
  | .smem => 0
  | _ => 0

abbrev hbmTy0_0 (i : Nat) : BufTy := match i % 128 with
  | 0 => ⟨S2x4096x16384, .bf16⟩
  | 1 => ⟨S2x4096x32, .f32⟩
  | 2 => ⟨S2x8, .f32⟩
  | 3 => ⟨S2x8, .f32⟩
  | 4 => ⟨S4096, .f32⟩
  | 5 => ⟨S2x4096x8192, .bf16⟩
  | 6 => ⟨S2x4096x8192, .f32⟩
  | 7 => ⟨S2x4096x2048, .f32⟩
  | 8 => ⟨S2x4096x2048, .f32⟩
  | 9 => ⟨S2x4096x4096, .f32⟩
  | 10 => ⟨S2x4096x8x256, .f32⟩
  | 11 => ⟨S2x8x4096x256, .f32⟩
  | 12 => ⟨S_, .f32⟩
  | 13 => ⟨S2x8x4096x256, .f32⟩
  | 14 => ⟨S2x8x4096x256, .f32⟩
  | 15 => ⟨S2x4096x8x256, .f32⟩
  | 16 => ⟨S2x8x4096x256, .f32⟩
  | 17 => ⟨S2x4096x8x512, .f32⟩
  | 18 => ⟨S2x8x4096x512, .f32⟩
  | 19 => ⟨S2x4096x2x2x8, .f32⟩
  | 20 => ⟨S2x4096x2x1x8, .f32⟩
  | 21 => ⟨S2x4096x2x8, .f32⟩
  | 22 => ⟨S1x1x2x8, .f32⟩
  | 23 => ⟨S2x4096x2x8, .f32⟩
  | 24 => ⟨S2x4096x2x8, .f32⟩
  | 25 => ⟨S_, .f32⟩
  | 26 => ⟨S2x4096x2x8, .f32⟩
  | 27 => ⟨S2x4096x2x8, .f32⟩
  | 28 => ⟨S2x4096x2x8, .f32⟩
  | 29 => ⟨S_, .f32⟩
  | 30 => ⟨S2x4096x2x8, .f32⟩
  | 31 => ⟨S2x4096x2x8, .f32⟩
  | 32 => ⟨S2x4096x2x1x8, .f32⟩
  | 33 => ⟨S2x4096x2x8, .f32⟩
  | 34 => ⟨S1x1x2x8, .f32⟩
  | 35 => ⟨S2x4096x2x8, .f32⟩
  | 36 => ⟨S2x4096x2x8, .f32⟩
  | 37 => ⟨S_, .f32⟩
  | 38 => ⟨S2x4096x2x8, .f32⟩
  | 39 => ⟨S2x4096x2x8, .f32⟩
  | 40 => ⟨S2x4096x2x8, .f32⟩
  | 41 => ⟨S_, .f32⟩
  | 42 => ⟨S2x4096x2x8, .f32⟩
  | 43 => ⟨S2x4096x2x8, .f32⟩
  | 44 => ⟨S2x4096x2x8, .f32⟩
  | 45 => ⟨S_, .f32⟩
  | 46 => ⟨S2x4096x2x8, .f32⟩
  | 47 => ⟨S2x4096x2x8, .f32⟩
  | 48 => ⟨S2x4096x2x8, .f32⟩
  | 49 => ⟨S2x4096x2x8, .f32⟩
  | 50 => ⟨S2x4096x2x8, .i1⟩
  | 51 => ⟨S2x4096x2x8, .f32⟩
  | 52 => ⟨S2x4096x2x8, .f32⟩
  | 53 => ⟨S2x4096x2x8, .f32⟩
  | 54 => ⟨S2x4096x2x8, .f32⟩
  | 55 => ⟨S2x4096x2x8, .f32⟩
  | 56 => ⟨S2x4096x2x8, .f32⟩
  | 57 => ⟨S2x4096x2x8, .f32⟩
  | 58 => ⟨S2x4096x2x8, .f32⟩
  | 59 => ⟨S2x4096x2x8, .f32⟩
  | 60 => ⟨S2x2x8x4096, .f32⟩
  | 61 => ⟨S2x2x8x4096, .f32⟩
  | 62 => ⟨S2x8x4096x256, .f32⟩
  | 63 => ⟨S4x8x4096x256, .f32⟩
  | 64 => ⟨S2x8x4096x256, .f32⟩
  | 65 => ⟨S4x8x4096x256, .f32⟩
  | 66 => ⟨S2x8x4096x512, .f32⟩
  | 67 => ⟨S4x8x4096x512, .f32⟩
  | 68 => ⟨S1x2x8x4096, .f32⟩
  | 69 => ⟨S2x8x4096, .f32⟩
  | 70 => ⟨S1x2x8x4096, .f32⟩
  | 71 => ⟨S2x8x4096, .f32⟩
  | 72 => ⟨S2x8x4096, .f32⟩
  | 73 => ⟨S4x8x4096, .f32⟩
  | 74 => ⟨S1x2x8x4096, .f32⟩
  | 75 => ⟨S2x8x4096, .f32⟩
  | 76 => ⟨S1x2x8x4096, .f32⟩
  | 77 => ⟨S2x8x4096, .f32⟩
  | 78 => ⟨S2x8x4096, .f32⟩
  | 79 => ⟨S4x8x4096, .f32⟩
  | 80 => ⟨S4x8x32x128x256, .f32⟩
  | 81 => ⟨S32x4x8x128x256, .f32⟩
  | 82 => ⟨S4x8x32x128x256, .f32⟩
  | 83 => ⟨S32x4x8x128x256, .f32⟩
  | 84 => ⟨S4x8x32x128x512, .f32⟩
  | 85 => ⟨S32x4x8x128x512, .f32⟩
  | 86 => ⟨S4x8x32x128, .f32⟩
  | 87 => ⟨S32x4x8x128, .f32⟩
  | 88 => ⟨S4x8x32x128, .f32⟩
  | 89 => ⟨S32x4x8x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S_, .f32⟩
  | 102 => ⟨S4x8x256x512, .f32⟩
  | 103 => ⟨S_, .f32⟩
  | 104 => ⟨S4x8x256, .f32⟩
  | 105 => ⟨S_, .f32⟩
  | 106 => ⟨S4x8, .f32⟩
  | 107 => ⟨S_, .f32⟩
  | 108 => ⟨S32x4x8x128x512, .f32⟩
  | 109 => ⟨S_, .i32⟩
  | 110 => ⟨S32x4x8x128x256, .f32⟩
  | 111 => ⟨S32x4x8x128x256, .f32⟩
  | 112 => ⟨S32x4x8x128x512, .f32⟩
  | 113 => ⟨S32x4x8x128, .f32⟩
  | 114 => ⟨S32x4x8x128, .f32⟩
  | 115 => ⟨S128x128, .i1⟩
  | 116 => ⟨S_, .i32⟩
  | 117 => ⟨S4x8x256x512, .f32⟩
  | 118 => ⟨S4x8x256, .f32⟩
  | 119 => ⟨S4x8, .f32⟩
  | 120 => ⟨S32x4x8x128x512, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x4x8x128x256, .f32⟩
  | _ => ⟨S2x4096x16384, .bf16⟩

abbrev hbmTy0_1 (i : Nat) : BufTy := match i % 128 with
  | 0 => ⟨S4x8x128x256, .f32⟩
  | 1 => ⟨S_, .i32⟩
  | 2 => ⟨S_, .i32⟩
  | 3 => ⟨S_, .i32⟩
  | 4 => ⟨S_, .i32⟩
  | 5 => ⟨S1x4x8x128x256, .f32⟩
  | 6 => ⟨S4x8x128x256, .f32⟩
  | 7 => ⟨S_, .i32⟩
  | 8 => ⟨S_, .i32⟩
  | 9 => ⟨S_, .i32⟩
  | 10 => ⟨S_, .i32⟩
  | 11 => ⟨S1x4x8x128x512, .f32⟩
  | 12 => ⟨S4x8x128x512, .f32⟩
  | 13 => ⟨S_, .i32⟩
  | 14 => ⟨S_, .i32⟩
  | 15 => ⟨S_, .i32⟩
  | 16 => ⟨S1x4x8x128, .f32⟩
  | 17 => ⟨S4x8x128, .f32⟩
  | 18 => ⟨S_, .i32⟩
  | 19 => ⟨S_, .i32⟩
  | 20 => ⟨S_, .i32⟩
  | 21 => ⟨S1x4x8x128, .f32⟩
  | 22 => ⟨S4x8x128, .f32⟩
  | 23 => ⟨S_, .f32⟩
  | 24 => ⟨S_, .f32⟩
  | 25 => ⟨S4x8x128, .f32⟩
  | 26 => ⟨S4x8x128x1, .f32⟩
  | 27 => ⟨S4x8x1x128, .f32⟩
  | 28 => ⟨S4x8x128x128, .f32⟩
  | 29 => ⟨S4x8x128x128, .f32⟩
  | 30 => ⟨S4x8x128x128, .f32⟩
  | 31 => ⟨S4x8x1x128, .f32⟩
  | 32 => ⟨S4x8x128x128, .f32⟩
  | 33 => ⟨S4x8x128x128, .f32⟩
  | 34 => ⟨S_, .f32⟩
  | 35 => ⟨S_, .f32⟩
  | 36 => ⟨S4x8x128x128, .i1⟩
  | 37 => ⟨S4x8x128x128, .f32⟩
  | 38 => ⟨S4x8x128x128, .f32⟩
  | 39 => ⟨S4x8x1, .f32⟩
  | 40 => ⟨S4x8x128, .f32⟩
  | 41 => ⟨S4x8x128, .f32⟩
  | 42 => ⟨S_, .f32⟩
  | 43 => ⟨S4x8x128, .f32⟩
  | 44 => ⟨S4x8x128, .f32⟩
  | 45 => ⟨S4x8x128x1, .f32⟩
  | 46 => ⟨S4x8x128x128, .f32⟩
  | 47 => ⟨S4x8x128x128, .f32⟩
  | 48 => ⟨S4x8x128x128, .f32⟩
  | 49 => ⟨S4x8x128, .f32⟩
  | 50 => ⟨S4x8x128, .f32⟩
  | 51 => ⟨S4x8x128x128, .f32⟩
  | 52 => ⟨S4x8x128x128, .f32⟩
  | 53 => ⟨S4x8x128x512, .f32⟩
  | 54 => ⟨S4x8x128x1, .f32⟩
  | 55 => ⟨S4x8x128x512, .f32⟩
  | 56 => ⟨S4x8x128x512, .f32⟩
  | 57 => ⟨S4x8x128x512, .f32⟩
  | 58 => ⟨S4x8x128x512, .f32⟩
  | 59 => ⟨S_, .f32⟩
  | 60 => ⟨S4x8x128, .f32⟩
  | 61 => ⟨S4x8x128, .f32⟩
  | 62 => ⟨S4x8x128, .f32⟩
  | 63 => ⟨S4x8x128, .f32⟩
  | 64 => ⟨S4x8x128, .f32⟩
  | 65 => ⟨S4x8x128, .f32⟩
  | 66 => ⟨S4x8x128, .f32⟩
  | 67 => ⟨S4x8x128, .f32⟩
  | 68 => ⟨S4x8x128x1, .f32⟩
  | 69 => ⟨S4x8x128x512, .f32⟩
  | 70 => ⟨S4x8x128x512, .f32⟩
  | 71 => ⟨S4x8x1, .f32⟩
  | 72 => ⟨S4x8, .f32⟩
  | 73 => ⟨S4x8x1, .f32⟩
  | 74 => ⟨S4x8x128, .f32⟩
  | 75 => ⟨S4x8x128, .f32⟩
  | 76 => ⟨S4x8x128, .f32⟩
  | 77 => ⟨S4x8, .f32⟩
  | 78 => ⟨S_, .f32⟩
  | 79 => ⟨S4x8, .f32⟩
  | 80 => ⟨S4x8, .f32⟩
  | 81 => ⟨S4x8x1, .f32⟩
  | 82 => ⟨S4x8x128, .f32⟩
  | 83 => ⟨S4x8x128, .f32⟩
  | 84 => ⟨S4x8x128, .f32⟩
  | 85 => ⟨S4x8, .f32⟩
  | 86 => ⟨S4x8, .f32⟩
  | 87 => ⟨S4x8, .f32⟩
  | 88 => ⟨S4x8x128x1, .f32⟩
  | 89 => ⟨S4x8x128x256, .f32⟩
  | 90 => ⟨S4x8x128x256, .f32⟩
  | 91 => ⟨S4x8x1x1, .f32⟩
  | 92 => ⟨S4x8x256x512, .f32⟩
  | 93 => ⟨S4x8x256x512, .f32⟩
  | 94 => ⟨S4x8x256x512, .f32⟩
  | 95 => ⟨S4x8x256x512, .f32⟩
  | 96 => ⟨S4x8x1, .f32⟩
  | 97 => ⟨S4x8x256, .f32⟩
  | 98 => ⟨S4x8x256, .f32⟩
  | 99 => ⟨S_, .f32⟩
  | 100 => ⟨S4x8x256, .f32⟩
  | 101 => ⟨S4x8x256, .f32⟩
  | 102 => ⟨S1x4x8x128x512, .f32⟩
  | 103 => ⟨S_, .i32⟩
  | 104 => ⟨S_, .i32⟩
  | 105 => ⟨S_, .i32⟩
  | 106 => ⟨S_, .i32⟩
  | 107 => ⟨S32x4x8x128x512, .f32⟩
  | 108 => ⟨S_, .i32⟩
  | 109 => ⟨S_, .i32⟩
  | 110 => ⟨S4x8x32x128x512, .f32⟩
  | 111 => ⟨S4x8x4096x512, .f32⟩
  | 112 => ⟨S2x8x4096x512, .f32⟩
  | 113 => ⟨S2x8x4096x512, .f32⟩
  | 114 => ⟨S2x8x4096x512, .f32⟩
  | 115 => ⟨S2x8x4096x512, .f32⟩
  | 116 => ⟨S2x8x4096x512, .f32⟩
  | 117 => ⟨S_, .f32⟩
  | 118 => ⟨S2x8x4096, .f32⟩
  | 119 => ⟨S2x8x4096x1, .f32⟩
  | 120 => ⟨S_, .f32⟩
  | 121 => ⟨S2x8x4096x1, .f32⟩
  | 122 => ⟨S2x8x4096x1, .f32⟩
  | 123 => ⟨S_, .f32⟩
  | 124 => ⟨S2x8x4096x1, .f32⟩
  | 125 => ⟨S2x8x4096x1, .f32⟩
  | 126 => ⟨S2x8x4096x1, .f32⟩
  | 127 => ⟨S2x8x4096x512, .f32⟩
  | _ => ⟨S2x4096x16384, .bf16⟩

abbrev hbmTy0_2 (i : Nat) : BufTy := match i % 128 with
  | 0 => ⟨S2x8x4096x512, .f32⟩
  | 1 => ⟨S8x1x512, .f32⟩
  | 2 => ⟨S1x8x1x512, .f32⟩
  | 3 => ⟨S2x8x4096x512, .f32⟩
  | 4 => ⟨S2x8x4096x512, .f32⟩
  | 5 => ⟨S2x4096x8x512, .f32⟩
  | 6 => ⟨S2x4096x4096, .f32⟩
  | 7 => ⟨S2x4096x4096, .bf16⟩
  | 8 => ⟨S2x4096x4096, .f32⟩
  | 9 => ⟨S2x4096x4096, .f32⟩
  | 10 => ⟨S2x4096x4096, .f32⟩
  | 11 => ⟨S_, .f32⟩
  | 12 => ⟨S2x4096x4096, .f32⟩
  | 13 => ⟨S2x4096x4096, .f32⟩
  | 14 => ⟨S_, .f32⟩
  | 15 => ⟨S2x4096x4096, .f32⟩
  | 16 => ⟨S2x4096x4096, .f32⟩
  | 17 => ⟨S2x4096x4096, .f32⟩
  | 18 => ⟨S2x4096x4096, .bf16⟩
  | _ => ⟨S2x4096x16384, .bf16⟩

abbrev hbmTy (i : Nat) : BufTy := match i / 128 with
  | 0 => hbmTy0_0 i
  | 1 => hbmTy0_1 i
  | 2 => hbmTy0_2 i
  | _ => ⟨S2x4096x16384, .bf16⟩

abbrev bufTy : (tb : Table) → Fin (tcTables nBuf tb) → BufTy
  | .hbm, ⟨i, _⟩ => hbmTy i
  | _, _ => ⟨S2x4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c : Ref sig .tc := ⟨.hbm, 90, rfl⟩
abbrev main_v65 : Ref sig .tc := ⟨.hbm, 91, rfl⟩
abbrev main_call6_v0 : Ref sig .tc := ⟨.hbm, 92, rfl⟩
abbrev main_call6_c : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_0 : Ref sig .tc := ⟨.hbm, 98, rfl⟩
abbrev main_call6_v5 : Ref sig .tc := ⟨.hbm, 99, rfl⟩
abbrev main_v66 : Ref sig .tc := ⟨.hbm, 100, rfl⟩
abbrev main_cst_4 : Ref sig .tc := ⟨.hbm, 101, rfl⟩
abbrev main_v67 : Ref sig .tc := ⟨.hbm, 102, rfl⟩
abbrev main_cst_5 : Ref sig .tc := ⟨.hbm, 103, rfl⟩
abbrev main_v68 : Ref sig .tc := ⟨.hbm, 104, rfl⟩
abbrev main_cst_6 : Ref sig .tc := ⟨.hbm, 105, rfl⟩
abbrev main_v69 : Ref sig .tc := ⟨.hbm, 106, rfl⟩
abbrev main_cst_7 : Ref sig .tc := ⟨.hbm, 107, rfl⟩
abbrev main_v70 : Ref sig .tc := ⟨.hbm, 108, rfl⟩
abbrev main_c_8 : Ref sig .tc := ⟨.hbm, 109, rfl⟩
abbrev main_v71_0 : Ref sig .tc := ⟨.hbm, 110, rfl⟩
abbrev main_v71_1 : Ref sig .tc := ⟨.hbm, 111, rfl⟩
abbrev main_v71_2 : Ref sig .tc := ⟨.hbm, 112, rfl⟩
abbrev main_v71_3 : Ref sig .tc := ⟨.hbm, 113, rfl⟩
abbrev main_v71_4 : Ref sig .tc := ⟨.hbm, 114, rfl⟩
abbrev main_v71_5 : Ref sig .tc := ⟨.hbm, 115, rfl⟩
abbrev main_v71_6 : Ref sig .tc := ⟨.hbm, 116, rfl⟩
abbrev main_v71_7 : Ref sig .tc := ⟨.hbm, 117, rfl⟩
abbrev main_v71_8 : Ref sig .tc := ⟨.hbm, 118, rfl⟩
abbrev main_v71_9 : Ref sig .tc := ⟨.hbm, 119, rfl⟩
abbrev main_v71_10 : Ref sig .tc := ⟨.hbm, 120, rfl⟩
abbrev main_while0c_c_24 : Ref sig .tc := ⟨.hbm, 121, rfl⟩
abbrev main_while0c_v104 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_call7_v0 : Ref sig .tc := ⟨.hbm, 127, rfl⟩
abbrev main_while0b_v104 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_call8_v0 : Ref sig .tc := ⟨.hbm, 133, rfl⟩
abbrev main_while0b_v105 : Ref sig .tc := ⟨.hbm, 134, rfl⟩
abbrev main_while0b_call9_c : Ref sig .tc := ⟨.hbm, 135, rfl⟩
abbrev main_while0b_call9_c_0 : Ref sig .tc := ⟨.hbm, 136, rfl⟩
abbrev main_while0b_call9_c_1 : Ref sig .tc := ⟨.hbm, 137, rfl⟩
abbrev main_while0b_call9_c_2 : Ref sig .tc := ⟨.hbm, 138, rfl⟩
abbrev main_while0b_call9_v0 : Ref sig .tc := ⟨.hbm, 139, rfl⟩
abbrev main_while0b_v106 : Ref sig .tc := ⟨.hbm, 140, rfl⟩
abbrev main_while0b_call10_c : Ref sig .tc := ⟨.hbm, 141, rfl⟩
abbrev main_while0b_call10_c_0 : Ref sig .tc := ⟨.hbm, 142, rfl⟩
abbrev main_while0b_call10_c_1 : Ref sig .tc := ⟨.hbm, 143, rfl⟩
abbrev main_while0b_call10_v0 : Ref sig .tc := ⟨.hbm, 144, rfl⟩
abbrev main_while0b_v107 : Ref sig .tc := ⟨.hbm, 145, rfl⟩
abbrev main_while0b_call11_c : Ref sig .tc := ⟨.hbm, 146, rfl⟩
abbrev main_while0b_call11_c_0 : Ref sig .tc := ⟨.hbm, 147, rfl⟩
abbrev main_while0b_call11_c_1 : Ref sig .tc := ⟨.hbm, 148, rfl⟩
abbrev main_while0b_call11_v0 : Ref sig .tc := ⟨.hbm, 149, rfl⟩
abbrev main_while0b_v108 : Ref sig .tc := ⟨.hbm, 150, rfl⟩
abbrev main_while0b_call12_call0_cst : Ref sig .tc := ⟨.hbm, 151, rfl⟩
abbrev main_while0b_call12_call0_v0 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_cst_24 : Ref sig .tc := ⟨.hbm, 162, rfl⟩
abbrev main_while0b_call13_v0 : Ref sig .tc := ⟨.hbm, 163, rfl⟩
abbrev main_while0b_call13_v1 : Ref sig .tc := ⟨.hbm, 164, rfl⟩
abbrev main_while0b_call13_v2 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_cst_25 : Ref sig .tc := ⟨.hbm, 170, rfl⟩
abbrev main_while0b_v122 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_v126 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_v131 : Ref sig .tc := ⟨.hbm, 180, rfl⟩
abbrev main_while0b_v132 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_cst_26 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_v147 : Ref sig .tc := ⟨.hbm, 197, rfl⟩
abbrev main_while0b_v148 : Ref sig .tc := ⟨.hbm, 198, rfl⟩
abbrev main_while0b_v149 : Ref sig .tc := ⟨.hbm, 199, rfl⟩
abbrev main_while0b_v150 : Ref sig .tc := ⟨.hbm, 200, rfl⟩
abbrev main_while0b_v151 : Ref sig .tc := ⟨.hbm, 201, rfl⟩
abbrev main_while0b_v152 : Ref sig .tc := ⟨.hbm, 202, rfl⟩
abbrev main_while0b_v153 : Ref sig .tc := ⟨.hbm, 203, rfl⟩
abbrev main_while0b_v154 : Ref sig .tc := ⟨.hbm, 204, rfl⟩
abbrev main_while0b_v155 : Ref sig .tc := ⟨.hbm, 205, rfl⟩
abbrev main_while0b_cst_27 : Ref sig .tc := ⟨.hbm, 206, rfl⟩
abbrev main_while0b_v156 : Ref sig .tc := ⟨.hbm, 207, rfl⟩
abbrev main_while0b_v157 : Ref sig .tc := ⟨.hbm, 208, rfl⟩
abbrev main_while0b_v158 : Ref sig .tc := ⟨.hbm, 209, rfl⟩
abbrev main_while0b_v159 : Ref sig .tc := ⟨.hbm, 210, rfl⟩
abbrev main_while0b_v160 : Ref sig .tc := ⟨.hbm, 211, rfl⟩
abbrev main_while0b_v161 : Ref sig .tc := ⟨.hbm, 212, rfl⟩
abbrev main_while0b_v162 : Ref sig .tc := ⟨.hbm, 213, rfl⟩
abbrev main_while0b_v163 : Ref sig .tc := ⟨.hbm, 214, rfl⟩
abbrev main_while0b_v164 : Ref sig .tc := ⟨.hbm, 215, rfl⟩
abbrev main_while0b_v165 : Ref sig .tc := ⟨.hbm, 216, rfl⟩
abbrev main_while0b_v166 : Ref sig .tc := ⟨.hbm, 217, rfl⟩
abbrev main_while0b_v167 : Ref sig .tc := ⟨.hbm, 218, rfl⟩
abbrev main_while0b_v168 : Ref sig .tc := ⟨.hbm, 219, rfl⟩
abbrev main_while0b_v169 : Ref sig .tc := ⟨.hbm, 220, rfl⟩
abbrev main_while0b_v170 : Ref sig .tc := ⟨.hbm, 221, rfl⟩
abbrev main_while0b_v171 : Ref sig .tc := ⟨.hbm, 222, rfl⟩
abbrev main_while0b_v172 : Ref sig .tc := ⟨.hbm, 223, rfl⟩
abbrev main_while0b_v173 : Ref sig .tc := ⟨.hbm, 224, rfl⟩
abbrev main_while0b_v174 : Ref sig .tc := ⟨.hbm, 225, rfl⟩
abbrev main_while0b_v175 : Ref sig .tc := ⟨.hbm, 226, rfl⟩
abbrev main_while0b_cst_28 : Ref sig .tc := ⟨.hbm, 227, rfl⟩
abbrev main_while0b_v176 : Ref sig .tc := ⟨.hbm, 228, rfl⟩
abbrev main_while0b_v177 : Ref sig .tc := ⟨.hbm, 229, rfl⟩
abbrev main_while0b_call14_v0 : Ref sig .tc := ⟨.hbm, 230, rfl⟩
abbrev main_while0b_call14_c : Ref sig .tc := ⟨.hbm, 231, rfl⟩
abbrev main_while0b_call14_c_0 : Ref sig .tc := ⟨.hbm, 232, rfl⟩
abbrev main_while0b_call14_c_1 : Ref sig .tc := ⟨.hbm, 233, rfl⟩
abbrev main_while0b_call14_c_2 : Ref sig .tc := ⟨.hbm, 234, rfl⟩
abbrev main_while0b_v178 : Ref sig .tc := ⟨.hbm, 235, rfl⟩
abbrev main_while0b_c_29 : Ref sig .tc := ⟨.hbm, 236, rfl⟩
abbrev main_while0b_v179 : Ref sig .tc := ⟨.hbm, 237, rfl⟩
abbrev main_v72 : Ref sig .tc := ⟨.hbm, 238, rfl⟩
abbrev main_v73 : Ref sig .tc := ⟨.hbm, 239, rfl⟩
abbrev main_v74 : Ref sig .tc := ⟨.hbm, 240, rfl⟩
abbrev main_v75 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_cst_9 : Ref sig .tc := ⟨.hbm, 245, rfl⟩
abbrev main_v79 : Ref sig .tc := ⟨.hbm, 246, rfl⟩
abbrev main_v80 : Ref sig .tc := ⟨.hbm, 247, rfl⟩
abbrev main_cst_10 : Ref sig .tc := ⟨.hbm, 248, rfl⟩
abbrev main_v81 : Ref sig .tc := ⟨.hbm, 249, rfl⟩
abbrev main_v82 : Ref sig .tc := ⟨.hbm, 250, rfl⟩
abbrev main_cst_11 : Ref sig .tc := ⟨.hbm, 251, rfl⟩
abbrev main_v83 : Ref sig .tc := ⟨.hbm, 252, rfl⟩
abbrev main_v84 : Ref sig .tc := ⟨.hbm, 253, rfl⟩
abbrev main_v85 : Ref sig .tc := ⟨.hbm, 254, rfl⟩
abbrev main_v86 : Ref sig .tc := ⟨.hbm, 255, rfl⟩
abbrev main_v87 : Ref sig .tc := ⟨.hbm, 256, rfl⟩
abbrev main_v88 : Ref sig .tc := ⟨.hbm, 257, rfl⟩
abbrev main_v89 : Ref sig .tc := ⟨.hbm, 258, rfl⟩
abbrev main_v90 : Ref sig .tc := ⟨.hbm, 259, rfl⟩
abbrev main_v91 : Ref sig .tc := ⟨.hbm, 260, rfl⟩
abbrev main_v92 : Ref sig .tc := ⟨.hbm, 261, rfl⟩
abbrev main_v93 : Ref sig .tc := ⟨.hbm, 262, rfl⟩
abbrev main_v94 : Ref sig .tc := ⟨.hbm, 263, rfl⟩
abbrev main_v95 : Ref sig .tc := ⟨.hbm, 264, rfl⟩
abbrev main_v96 : Ref sig .tc := ⟨.hbm, 265, rfl⟩
abbrev main_v97 : Ref sig .tc := ⟨.hbm, 266, rfl⟩
abbrev main_cst_12 : Ref sig .tc := ⟨.hbm, 267, rfl⟩
abbrev main_v98 : Ref sig .tc := ⟨.hbm, 268, rfl⟩
abbrev main_v99 : Ref sig .tc := ⟨.hbm, 269, rfl⟩
abbrev main_cst_13 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x16384 : Shape := ⟨2, ![8192, 16384]⟩
abbrev S16384x4096 : Shape := ⟨2, ![16384, 4096]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x16384 : Shape := ⟨2, ![8192, 16384]⟩
abbrev S16384x4096 : Shape := ⟨2, ![16384, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x16384, .f32⟩
  | .hbm, ⟨3, _⟩ => ⟨S16384x4096, .f32⟩
  | .hbm, ⟨4, _⟩ => ⟨S8192x4096, .f32⟩
  | .hbm, ⟨5, _⟩ => ⟨S8192x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8192x4096 : Shape := ⟨2, ![8192, 4096]⟩
abbrev S2x4096x16384 : Shape := ⟨3, ![2, 4096, 16384]⟩
abbrev S2x16384x4096 : Shape := ⟨3, ![2, 16384, 4096]⟩
abbrev S8192x16384 : Shape := ⟨2, ![8192, 16384]⟩
abbrev S16384x4096 : Shape := ⟨2, ![16384, 4096]⟩
abbrev S1024x4096 : Shape := ⟨2, ![1024, 4096]⟩
abbrev S1x512x1024 : Shape := ⟨3, ![1, 512, 1024]⟩
abbrev S1x128x4096 : Shape := ⟨3, ![1, 128, 4096]⟩
abbrev S1024x1024 : Shape := ⟨2, ![1024, 1024]⟩
abbrev S128x4096 : Shape := ⟨2, ![128, 4096]⟩
abbrev S4096x1024 : Shape := ⟨2, ![4096, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S2x16384x4096, .f32⟩
  | .hbm, ⟨3, _⟩ => ⟨S8192x16384, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1x128x4096, .f32⟩
  | .local _ .vmem, ⟨5, _⟩ => ⟨S1x128x4096, .f32⟩
  | .local _ .vmem, ⟨6, _⟩ => ⟨S1024x1024, .bf16⟩
  | .local _ .vmem, ⟨7, _⟩ => ⟨S1024x1024, .bf16⟩
  | .local _ .vmem, ⟨8, _⟩ => ⟨S128x4096, .bf16⟩
  | .local _ .vmem, ⟨9, _⟩ => ⟨S128x4096, .bf16⟩
  | .local _ .vmem, ⟨10, _⟩ => ⟨S4096x1024, .bf16⟩
  | .local _ .vmem, ⟨11, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x4096 : Shape := ⟨2, ![8192, 4096]⟩
abbrev S2x4096x16384 : Shape := ⟨3, ![2, 4096, 16384]⟩
abbrev S2x16384x4096 : Shape := ⟨3, ![2, 16384, 4096]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩
abbrev S1x16384x4096 : Shape := ⟨3, ![1, 16384, 4096]⟩
abbrev S16384x4096 : Shape := ⟨2, ![16384, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S2x16384x4096, .f32⟩
  | .hbm, ⟨3, _⟩ => ⟨S8192x4096, .f32⟩
  | .hbm, ⟨4, _⟩ => ⟨S1x4096x16384, .f32⟩
  | .hbm, ⟨5, _⟩ => ⟨S4096x16384, .f32⟩
  | .hbm, ⟨6, _⟩ => ⟨S8192x16384, .f32⟩
  | .hbm, ⟨7, _⟩ => ⟨S_, .f32⟩
  | .hbm, ⟨8, _⟩ => ⟨S8192x16384, .f32⟩
  | .hbm, ⟨9, _⟩ => ⟨S8192x16384, .f32⟩
  | .hbm, ⟨10, _⟩ => ⟨S8192x16384, .f32⟩
  | .hbm, ⟨11, _⟩ => ⟨S8192x16384, .bf16⟩
  | .hbm, ⟨12, _⟩ => ⟨S1x16384x4096, .f32⟩
  | .hbm, ⟨13, _⟩ => ⟨S16384x4096, .f32⟩
  | .hbm, ⟨14, _⟩ => ⟨S16384x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x4096 : Shape := ⟨2, ![8192, 4096]⟩
abbrev S2x4096x16416 : Shape := ⟨3, ![2, 4096, 16416]⟩
abbrev S2x16416x4096 : Shape := ⟨3, ![2, 16416, 4096]⟩
abbrev S8192x16384 : Shape := ⟨2, ![8192, 16384]⟩
abbrev S1024x4096 : Shape := ⟨2, ![1024, 4096]⟩
abbrev S1x1024x512 : Shape := ⟨3, ![1, 1024, 512]⟩
abbrev S1024x1024 : Shape := ⟨2, ![1024, 1024]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x16416x4096, .f32⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x512, .f32⟩
  | .local _ .vmem, ⟨3, _⟩ => ⟨S1x1024x512, .f32⟩
  | .local _ .vmem, ⟨4, _⟩ => ⟨S1024x1024, .bf16⟩
  | .local _ .vmem, ⟨5, _⟩ => ⟨S1024x1024, .bf16⟩
  | .local _ .vmem, ⟨6, _⟩ => ⟨S4096x1024, .bf16⟩
  | .local _ .vmem, ⟨7, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def k0_mult1 (i : grid0.Coords) : BitVec 32 :=
  let arg0 : BitVec 32 := BitVec.ofNat 32 (i 0).val
  let c15_i32 : BitVec 32 := 15#32
  let v0 : BitVec 32 := Scalar.minsi arg0 c15_i32
  let c1024_i32 : BitVec 32 := 1024#32
  let v1 : BitVec 32 := Scalar.muli v0 c1024_i32
  let c1024_i32_0 : BitVec 32 := 1024#32
  let v2 : BitVec 32 := Scalar.muli v0 c1024_i32_0
  let c12288_i32 : BitVec 32 := 12288#32
  let v3 : BitVec 1 := Scalar.cmpi .sge v2 c12288_i32
  let c32_i32 : BitVec 32 := 32#32
  let c0_i32 : BitVec 32 := 0#32
  let v4 : BitVec 32 := Scalar.select v3 c32_i32 c0_i32
  let v5 : BitVec 32 := Scalar.addi v1 v4
  v5
def k0_mult2 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_19 : Index := 0#32
  ![v39.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_19 : Index := 0#32
  ![v39.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_19 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c1024_i32 : BitVec 32 := 1024#32
  let v1 : BitVec 32 := Scalar.muli v0 c1024_i32
  let c1024_i32_0 : BitVec 32 := 1024#32
  let v2 : BitVec 32 := Scalar.muli v0 c1024_i32_0
  let c12288_i32 : BitVec 32 := 12288#32
  let v3 : BitVec 1 := Scalar.cmpi .sge v2 c12288_i32
  let c32_i32 : BitVec 32 := 32#32
  let c0_i32 : BitVec 32 := 0#32
  let v4 : BitVec 32 := Scalar.select v3 c32_i32 c0_i32
  let v5 : BitVec 32 := Scalar.addi v1 v4
  let v6 : BitVec 32 := v5
  let c512_i32 : BitVec 32 := 512#32
  let v7 : BitVec 32 := Scalar.muli arg1 c512_i32
  let c0_i32_1 : BitVec 32 := 0#32
  let c0_i32_2 : BitVec 32 := 0#32
  ![c0_i32_1.toNat, v6.toNat, v7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S8192x16416 : Shape := ⟨2, ![8192, 16416]⟩
abbrev S8192x2048 : Shape := ⟨2, ![8192, 2048]⟩
abbrev S8192x32 : Shape := ⟨2, ![8192, 32]⟩
abbrev S8192x16384 : Shape := ⟨2, ![8192, 16384]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S8192x4096, .f32⟩
  | .hbm, ⟨3, _⟩ => ⟨S1x4096x16416, .f32⟩
  | .hbm, ⟨4, _⟩ => ⟨S4096x16416, .f32⟩
  | .hbm, ⟨5, _⟩ => ⟨S8192x16416, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x32, .f32⟩
  | .hbm, ⟨11, _⟩ => ⟨S8192x4096, .f32⟩
  | .hbm, ⟨12, _⟩ => ⟨S8192x16384, .f32⟩
  | .hbm, ⟨13, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel5.lean ====
abbrev S8192x4096 : Shape := ⟨2, ![8192, 4096]⟩
abbrev S2x4096x8192 : Shape := ⟨3, ![2, 4096, 8192]⟩
abbrev S2x8192 : Shape := ⟨2, ![2, 8192]⟩
abbrev S1x8192 : Shape := ⟨2, ![1, 8192]⟩
abbrev S8192 : Shape := ⟨1, ![8192]⟩
abbrev S8192x8192 : Shape := ⟨2, ![8192, 8192]⟩
abbrev S1024x4096 : Shape := ⟨2, ![1024, 4096]⟩
abbrev S1x512x1024 : Shape := ⟨3, ![1, 512, 1024]⟩
abbrev S1x1024 : Shape := ⟨2, ![1, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .f32⟩
  | .hbm, ⟨2, _⟩ => ⟨S2x8192, .f32⟩
  | .hbm, ⟨3, _⟩ => ⟨S1x8192, .f32⟩
  | .hbm, ⟨4, _⟩ => ⟨S8192, .f32⟩
  | .hbm, ⟨5, _⟩ => ⟨S1x8192, .f32⟩
  | .hbm, ⟨6, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S4096x1024, .bf16⟩
  | .local _ .vmem, ⟨9, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S2x4096x8192 : Shape := ⟨3, ![2, 4096, 8192]⟩
abbrev S2x8192 : Shape := ⟨2, ![2, 8192]⟩
abbrev S1x4096x8192 : Shape := ⟨3, ![1, 4096, 8192]⟩
abbrev S4096x8192 : Shape := ⟨2, ![4096, 8192]⟩
abbrev S8192x8192 : Shape := ⟨2, ![8192, 8192]⟩
abbrev S1x8192 : Shape := ⟨2, ![1, 8192]⟩
abbrev S8192 : Shape := ⟨1, ![8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .f32⟩
  | .hbm, ⟨2, _⟩ => ⟨S2x8192, .f32⟩
  | .hbm, ⟨3, _⟩ => ⟨S8192x4096, .f32⟩
  | .hbm, ⟨4, _⟩ => ⟨S1x4096x8192, .f32⟩
  | .hbm, ⟨5, _⟩ => ⟨S4096x8192, .f32⟩
  | .hbm, ⟨6, _⟩ => ⟨S8192x8192, .f32⟩
  | .hbm, ⟨7, _⟩ => ⟨S1x8192, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel6.lean ====
abbrev S8192x4096 : Shape := ⟨2, ![8192, 4096]⟩
abbrev S2x4096x4096 : Shape := ⟨3, ![2, 4096, 4096]⟩
abbrev S8192x8192 : Shape := ⟨2, ![8192, 8192]⟩
abbrev S1024x4096 : Shape := ⟨2, ![1024, 4096]⟩
abbrev S1x512x1024 : Shape := ⟨3, ![1, 512, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x8192, .bf16⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4096x1024, .bf16⟩
  | .local _ .vmem, ⟨9, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let v4 : BitVec 32 := Scalar.addi c0_i32_2 v3
  let c0_i32_3 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x4096 : Shape := ⟨2, ![8192, 4096]⟩
abbrev S2x4096x4096 : Shape := ⟨3, ![2, 4096, 4096]⟩
abbrev S8192x8192 : Shape := ⟨2, ![8192, 8192]⟩
abbrev S1x4096x4096 : Shape := ⟨3, ![1, 4096, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x8192, .bf16⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x8192, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x4096 : Shape := ⟨2, ![8192, 4096]⟩
abbrev S2x4096x4096 : Shape := ⟨3, ![2, 4096, 4096]⟩
abbrev S8192x8192 : Shape := ⟨2, ![8192, 8192]⟩
abbrev S1024x4096 : Shape := ⟨2, ![1024, 4096]⟩
abbrev S1x512x1024 : Shape := ⟨3, ![1, 512, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x8192, .bf16⟩
  | .hbm, ⟨3, _⟩ => ⟨S8192x4096, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S4096x1024, .bf16⟩
  | .local _ .vmem, ⟨11, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c4_i32 : BitVec 32 := 4#32
  let v4 : BitVec 32 := Scalar.addi c4_i32 v3
  let c0_i32_2 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let v4 : BitVec 32 := Scalar.addi c0_i32_2 v3
  let c0_i32_3 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x4096 : Shape := ⟨2, ![8192, 4096]⟩
abbrev S2x4096x4096 : Shape := ⟨3, ![2, 4096, 4096]⟩
abbrev S8192x8192 : Shape := ⟨2, ![8192, 8192]⟩
abbrev S1x4096x4096 : Shape := ⟨3, ![1, 4096, 4096]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S1x4096x4096, .f32⟩
  | .hbm, ⟨6, _⟩ => ⟨S4096x4096, .f32⟩
  | .hbm, ⟨7, _⟩ => ⟨S8192x4096, .f32⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S8192x4096 : Shape := ⟨2, ![8192, 4096]⟩
abbrev S2x4096x4096 : Shape := ⟨3, ![2, 4096, 4096]⟩
abbrev S1024x4096 : Shape := ⟨2, ![1024, 4096]⟩
abbrev S1x512x1024 : Shape := ⟨3, ![1, 512, 1024]⟩
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S4096x1024, .bf16⟩
  | .local _ .vmem, ⟨7, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S1024x4096 : Shape := ⟨2, ![1024, 4096]⟩
abbrev S1x512x1024 : Shape := ⟨3, ![1, 512, 1024]⟩
abbrev S1024x256 : Shape := ⟨2, ![1024, 256]⟩
abbrev S1x256x1024 : Shape := ⟨3, ![1, 256, 1024]⟩
abbrev S1024x1024 : Shape := ⟨2, ![1024, 1024]⟩
abbrev S4096x1024 : Shape := ⟨2, ![4096, 1024]⟩
abbrev S512x1024 : Shape := ⟨2, ![512, 1024]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x256, .f32⟩
  | .hbm, ⟨3, _⟩ => ⟨S2x256x4096, .f32⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x1024, .f32⟩
  | .local _ .vmem, ⟨3, _⟩ => ⟨S1x512x1024, .f32⟩
  | .local _ .vmem, ⟨4, _⟩ => ⟨S1024x256, .f32⟩
  | .local _ .vmem, ⟨5, _⟩ => ⟨S1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1024x1024, .bf16⟩
  | .local _ .vmem, ⟨10, _⟩ => ⟨S4096x1024, .bf16⟩
  | .local _ .vmem, ⟨11, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 1 := Scalar.andi v20 v31
  let v33 : BitVec 32 := Scalar.extui v32
  let c0_i32_16 : BitVec 32 := 0#32
  let v34 : BitVec 1 := Scalar.cmpi .ne v33 c0_i32_16
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v38 : Index := Scalar.indexCast v1
  let c0_19 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let v1 : BitVec 32 := Scalar.addi c0_i32 v0
  let c0_i32_0 : BitVec 32 := 0#32
  let c0_i32_1 : BitVec 32 := 0#32
  ![c0_i32_0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, c0_i32_2.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x4096 : Shape := ⟨2, ![8192, 4096]⟩
abbrev S2x4096x4096 : Shape := ⟨3, ![2, 4096, 4096]⟩
abbrev S8192x256 : Shape := ⟨2, ![8192, 256]⟩
abbrev S2x256x4096 : Shape := ⟨3, ![2, 256, 4096]⟩
abbrev S1x4096x4096 : Shape := ⟨3, ![1, 4096, 4096]⟩
abbrev S4096x4096 : Shape := ⟨2, ![4096, 4096]⟩
abbrev S_ : Shape := ⟨0, ![]⟩
abbrev S1x256x4096 : Shape := ⟨3, ![1, 256, 4096]⟩
abbrev S256x4096 : Shape := ⟨2, ![256, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x256, .f32⟩
  | .hbm, ⟨3, _⟩ => ⟨S2x256x4096, .f32⟩
  | .hbm, ⟨4, _⟩ => ⟨S8192x4096, .f32⟩
  | .hbm, ⟨5, _⟩ => ⟨S1x4096x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S1x256x4096, .f32⟩
  | .hbm, ⟨17, _⟩ => ⟨S256x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .bf16⟩
  | .hbm, ⟨7, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .bf16⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel12.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S512x4096, .bf16⟩
  | .local _ .vmem, ⟨7, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.MlstmTrip.lean ====
/-
  The scan's body as functions of vectors, over any float values.  The kernel's two counted loops together make
  sixteen trips; trip `j` takes chunk `j` forwards and chunk `15 - j` backwards.  Stated here: what one trip leaves in
  the carried state, in the kept sums and in the output block, each as a plain function of the blocks the trip loads;
  then the state before any trip, and the block after the last one, which no longer depends on what the scratch
  buffers held at the start.
-/
module

public import proofs.«01_k».proof.Proof.Gen.KernelIdeal.Loops
public import Idealize.ShloMosaic.Lib.VecWindow
public import Idealize.ShloMosaic.Lib.Pipeline.Frame
public import Idealize.ShloMosaic.Lib.Pointwise

@[expose] public section

set_option maxRecDepth 8192
set_option maxHeartbeats 4000000

noncomputable section

namespace Cert.KernelIdeal.Mlstm

open Cert.KernelIdeal.Gen
open Idealize.ShloMosaic Idealize.ShloMosaic.TcCoe Idealize.ShloMosaic.Tactic
open Idealize.ShloMosaic.VecWindow

variable {F : FTy → Type} [FloatOps F] [Named F]

/-! ## Chunks of the blocks -/

/-- The first row of chunk `n`. -/
def crow (n : ℕ) : ℕ := 256 * (n % 16)

theorem crow_le (n : ℕ) : crow n + 256 ≤ 4096 := by unfold crow; omega

theorem crow_of_lt {n : ℕ} (h : n < 16) : crow n = 256 * n := by unfold crow; rw [Nat.mod_eq_of_lt h]

theorem in3 {A B : ℕ} (n : ℕ) (hA : 256 = A) : ∀ a : Fin 3, (![0, crow n, 0] : Fin 3 → ℕ) a + (![1, A, B] : Fin 3 → ℕ) a ≤ (![1, 4096, B] : Fin 3 → ℕ) a := by
  subst hA; have := crow_le n; intro a; fin_cases a <;> simp <;> omega

theorem inH (n : ℕ) : ∀ a : Fin 2, (![crow n, 0] : Fin 2 → ℕ) a + (![256, 512] : Fin 2 → ℕ) a ≤ (![4096, 512] : Fin 2 → ℕ) a := by
  have := crow_le n; intro a; fin_cases a <;> simp <;> omega

theorem inG (n : ℕ) : ∀ a : Fin 4, (![0, 0, crow n, 0] : Fin 4 → ℕ) a + (![1, 1, 256, 4] : Fin 4 → ℕ) a ≤ (![1, 1, 4096, 4] : Fin 4 → ℕ) a := by
  have := crow_le n; intro a; fin_cases a <;> simp <;> omega

theorem inR (d n : ℕ) (hd : d < 2) : ∀ a : Fin 6, (![0, 0, d, n % 16, 0, 0] : Fin 6 → ℕ) a + (![1, 1, 1, 1, 1, 256] : Fin 6 → ℕ) a ≤ (![1, 1, 2, 16, 1, 256] : Fin 6 → ℕ) a := by
  intro a; fin_cases a <;> simp <;> omega

theorem inC (d : ℕ) (hd : d < 2) : ∀ a : Fin 3, (![d, 0, 0] : Fin 3 → ℕ) a + (![1, 256, 512] : Fin 3 → ℕ) a ≤ (![2, 256, 512] : Fin 3 → ℕ) a := by
  intro a; fin_cases a <;> simp <;> omega

theorem inN (d : ℕ) (hd : d < 2) : ∀ a : Fin 3, (![d, 0, 0] : Fin 3 → ℕ) a + (![1, 1, 256] : Fin 3 → ℕ) a ≤ (![2, 1, 256] : Fin 3 → ℕ) a := by
  intro a; fin_cases a <;> simp <;> omega

/-- Chunk `n` of the queries' or the keys' block. -/
def qkc (x : Vec F S1x4096x256 .bf16) (n : ℕ) : Vec F S1x256x256 .bf16 := window (s := S1x4096x256) x ![0, crow n, 0] ![1, 256, 256] (in3 n rfl)
/-- Chunk `n` of the values', the gates' or the output's block. -/
def voc (x : Vec F S1x4096x512 .bf16) (n : ℕ) : Vec F S1x256x512 .bf16 := window (s := S1x4096x512) x ![0, crow n, 0] ![1, 256, 512] (in3 n rfl)
/-- Chunk `n` of the gate columns. -/
def gcc (x : Vec F S1x1x4096x4 .f32) (n : ℕ) : Vec F S1x1x256x4 .f32 := window (s := S1x1x4096x4) x ![0, 0, crow n, 0] ![1, 1, 256, 4] (inG n)
/-- Chunk `n` of the forward gate row. -/
def grF (x : Vec F S1x1x2x16x1x256 .f32) (n : ℕ) : Vec F S1x1x1x1x1x256 .f32 := window (s := S1x1x2x16x1x256) x ![0, 0, 0, n % 16, 0, 0] ![1, 1, 1, 1, 1, 256] (inR 0 n (by decide))
/-- Chunk `n` of the backward gate row. -/
def grB (x : Vec F S1x1x2x16x1x256 .f32) (n : ℕ) : Vec F S1x1x1x1x1x256 .f32 := window (s := S1x1x2x16x1x256) x ![0, 0, 1, n % 16, 0, 0] ![1, 1, 1, 1, 1, 256] (inR 1 n (by decide))
/-- Chunk `n` of the kept sums. -/
def hc (x : Vec F S4096x512 .f32) (n : ℕ) : Vec F S256x512 .f32 := window (s := S4096x512) x ![crow n, 0] ![256, 512] (inH n)
/-- The forward (`0`) and backward (`1`) halves of the carried matrices and vectors. -/
def cs0 (x : Vec F S2x256x512 .f32) : Vec F S1x256x512 .f32 := window (s := S2x256x512) x ![0, 0, 0] ![1, 256, 512] (inC 0 (by decide))
def cs1 (x : Vec F S2x256x512 .f32) : Vec F S1x256x512 .f32 := window (s := S2x256x512) x ![1, 0, 0] ![1, 256, 512] (inC 1 (by decide))
def ns0 (x : Vec F S2x1x256 .f32) : Vec F S1x1x256 .f32 := window (s := S2x1x256) x ![0, 0, 0] ![1, 1, 256] (inN 0 (by decide))
def ns1 (x : Vec F S2x1x256 .f32) : Vec F S1x1x256 .f32 := window (s := S2x1x256) x ![1, 0, 0] ![1, 1, 256] (inN 1 (by decide))

/-! ## One chunk -/

/-- The chunk's outputs: from the mask, the column of inclusive gate sums, the chunk's queries, keys, values and gate
    row, and the state before it. -/
def hPay (mask : IVec S256x256 1) (bcol : FVec F S256x1 .f32) (q k : Vec F S1x256x256 .bf16) (v : Vec F S1x256x512 .bf16)
    (gr : Vec F S1x1x1x1x1x256 .f32) (C : Vec F S1x256x512 .f32) (n : Vec F S1x1x256 .f32) : FVec F S256x512 .f32 :=
  k1_pay36 (k1_pay8 q) (k1_pay12 v) (k1_pay22 C) (k1_pay24 n) (k1_pay26 (k1_pay8 q) (k1_pay10 k)) (k1_pay28 bcol) (k1_pay30 mask bcol gr)

/-- The matrix after the chunk. -/
def cPay (ecol : FVec F S256x1 .f32) (last : FVec F S1x1 .f32) (k : Vec F S1x256x256 .bf16) (v : Vec F S1x256x512 .bf16)
    (C : Vec F S1x256x512 .f32) : Vec F S1x256x512 .f32 :=
  k1_pay41 (k1_pay10 k) (k1_pay12 v) ecol last (k1_pay22 C)

/-- The vector after the chunk. -/
def nPay (ecol : FVec F S256x1 .f32) (last : FVec F S1x1 .f32) (k : Vec F S1x256x256 .bf16) (n : Vec F S1x1x256 .f32) : Vec F S1x1x256 .f32 :=
  k1_pay42 (k1_pay10 k) ecol last (k1_pay24 n)

/-- The finishing of a chunk's rows: both directions' sum, normalised, scaled and gated. -/
def fin (a b : FVec F S256x512 .f32) (g : Vec F S1x512 .f32) (o : Vec F S1x256x512 .bf16) : FVec F S1x256x512 .bf16 := k1_pay83 a b g o

/-- The gate columns a direction reads: forwards the first two, backwards the last two. -/
def bF (gc : Vec F S1x1x256x4 .f32) : FVec F S256x1 .f32 := k1_pay16 gc
def bB (gc : Vec F S1x1x256x4 .f32) : FVec F S256x1 .f32 := k1_pay17 gc
def eF (gc : Vec F S1x1x256x4 .f32) : FVec F S256x1 .f32 := k1_pay18 gc
def eB (gc : Vec F S1x1x256x4 .f32) : FVec F S256x1 .f32 := k1_pay19 (k1_pay15 gc)
def lF (gc : Vec F S1x1x256x4 .f32) : FVec F S1x1 .f32 := k1_pay20 (k1_pay16 gc)
def lB (gc : Vec F S1x1x256x4 .f32) : FVec F S1x1 .f32 := k1_pay21 (k1_pay17 gc)

section Chain

variable (x0 x1 : Vec F S1x4096x256 .bf16) (x2 x3 : Vec F S1x4096x512 .bf16) (x4 : Vec F S1x1x4096x4 .f32) (x5 : Vec F S1x1x2x16x1x256 .f32) (x6 : Vec F S1x512 .f32)

/-- The forward state before chunk `j`. -/
def CF : ℕ → Vec F S1x256x512 .f32
  | 0 => cs0 k1_pay3
  | j + 1 => cPay (eF (gcc x4 j)) (lF (gcc x4 j)) (qkc x1 j) (voc x2 j) (CF j)
def NF : ℕ → Vec F S1x1x256 .f32
  | 0 => ns0 k1_pay4
  | j + 1 => nPay (eF (gcc x4 j)) (lF (gcc x4 j)) (qkc x1 j) (NF j)
/-- The backward state before chunk `15 - j`. -/
def CB : ℕ → Vec F S1x256x512 .f32
  | 0 => cs1 k1_pay3
  | j + 1 => cPay (eB (gcc x4 (15 - j))) (lB (gcc x4 (15 - j))) (qkc x1 (15 - j)) (voc x2 (15 - j)) (CB j)
def NB : ℕ → Vec F S1x1x256 .f32
  | 0 => ns1 k1_pay4
  | j + 1 => nPay (eB (gcc x4 (15 - j))) (lB (gcc x4 (15 - j))) (qkc x1 (15 - j)) (NB j)

/-- The forward outputs of chunk `j`, and the backward outputs of chunk `15 - j`. -/
def HF (j : ℕ) : FVec F S256x512 .f32 :=
  hPay k1_pay1 (bF (gcc x4 j)) (qkc x0 j) (qkc x1 j) (voc x2 j) (grF x5 j) (CF x1 x2 x4 j) (NF x1 x4 j)
def HB (j : ℕ) : FVec F S256x512 .f32 :=
  hPay k1_pay2 (bB (gcc x4 (15 - j))) (qkc x0 (15 - j)) (qkc x1 (15 - j)) (voc x2 (15 - j)) (grB x5 (15 - j)) (CB x1 x2 x4 j) (NB x1 x4 j)

/-- The finished rows of chunk `n`: the direction that comes to the chunk second is the first summand. -/
def outChunk (n : ℕ) : FVec F S1x256x512 .bf16 :=
  if n < 8 then fin (HB x0 x1 x2 x4 x5 (15 - n)) (HF x0 x1 x2 x4 x5 n) x6 (voc x3 n)
  else fin (HF x0 x1 x2 x4 x5 n) (HB x0 x1 x2 x4 x5 (15 - n)) x6 (voc x3 n)

/-- The whole block: row `r` is row `r % 256` of chunk `r / 256`. -/
def outBlock : Vec F S1x4096x512 .bf16 := fun y =>
  outChunk x0 x1 x2 x3 x4 x5 x6 ((y 1).val / 256) (ix3 (0 : Fin 1) (⟨(y 1).val % 256, Nat.mod_lt _ (by decide)⟩ : Fin 256) (y 2))

end Chain

/-! ## The trips' offsets in closed form -/

theorem off1 : ∀ k : Fin k1_t1_loop.trips, k1_off1 k = ![0, crow k.val, 0] := by decide +kernel
theorem off2 : ∀ k : Fin k1_t1_loop.trips, k1_off2 k = ![0, crow (15 - k.val), 0] := by decide +kernel
theorem off3 : ∀ k : Fin k1_t1_loop.trips, k1_off3 k = ![0, crow k.val, 0] := by decide +kernel
theorem off4 : ∀ k : Fin k1_t1_loop.trips, k1_off4 k = ![0, crow (15 - k.val), 0] := by decide +kernel
theorem off5 : ∀ k : Fin k1_t1_loop.trips, k1_off5 k = ![0, 0, crow k.val, 0] := by decide +kernel
theorem off6 : ∀ k : Fin k1_t1_loop.trips, k1_off6 k = ![0, 0, crow (15 - k.val), 0] := by decide +kernel
theorem off7 : ∀ k : Fin k1_t1_loop.trips, k1_off7 k = ![0, 0, 0, k.val % 16, 0, 0] := by decide +kernel
theorem off8 : ∀ k : Fin k1_t1_loop.trips, k1_off8 k = ![0, 0, 1, (15 - k.val) % 16, 0, 0] := by decide +kernel
theorem off9 : ∀ k : Fin k1_t1_loop.trips, k1_off9 k = ![crow k.val, 0] := by decide +kernel
theorem off10 : ∀ k : Fin k1_t1_loop.trips, k1_off10 k = ![crow (15 - k.val), 0] := by decide +kernel
theorem off11 : ∀ k : Fin k1_t2_loop.trips, k1_off11 k = ![0, crow (8 + k.val), 0] := by decide +kernel
theorem off12 : ∀ k : Fin k1_t2_loop.trips, k1_off12 k = ![0, crow (15 - (8 + k.val)), 0] := by decide +kernel
theorem off13 : ∀ k : Fin k1_t2_loop.trips, k1_off13 k = ![0, crow (8 + k.val), 0] := by decide +kernel
theorem off14 : ∀ k : Fin k1_t2_loop.trips, k1_off14 k = ![0, crow (15 - (8 + k.val)), 0] := by decide +kernel
theorem off15 : ∀ k : Fin k1_t2_loop.trips, k1_off15 k = ![0, 0, crow (8 + k.val), 0] := by decide +kernel
theorem off16 : ∀ k : Fin k1_t2_loop.trips, k1_off16 k = ![0, 0, crow (15 - (8 + k.val)), 0] := by decide +kernel
theorem off17 : ∀ k : Fin k1_t2_loop.trips, k1_off17 k = ![0, 0, 0, (8 + k.val) % 16, 0, 0] := by decide +kernel
theorem off18 : ∀ k : Fin k1_t2_loop.trips, k1_off18 k = ![0, 0, 1, (15 - (8 + k.val)) % 16, 0, 0] := by decide +kernel
theorem off19 : ∀ k : Fin k1_t2_loop.trips, k1_off19 k = ![crow (8 + k.val), 0] := by decide +kernel
theorem off20 : ∀ k : Fin k1_t2_loop.trips, k1_off20 k = ![crow (15 - (8 + k.val)), 0] := by decide +kernel

/-! ## What one trip leaves -/

section Trips

variable (𝒱 : Variants) (c : Dev nD) (bd : Option 𝒱.V) (i : grid1.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x1x4096x4 .f32) (harg6 : arg6.IsWhole) (arg7 : Memref sig .tc .vmem S1x1x2x16x1x256 .f32) (harg7 : arg7.IsWhole)
  (arg8 : Memref sig .tc .vmem S1x512 .f32) (harg8 : arg8.IsWhole) (arg9 : Memref sig .tc .vmem S1x4096x512 .bf16) (harg9 : arg9.IsWhole)
  (arg10 : Memref sig .tc .vmem S4096x512 .f32) (harg10 : arg10.IsWhole) (arg11 : Memref sig .tc .vmem S2x256x512 .f32) (harg11 : arg11.IsWhole)
  (arg12 : Memref sig .tc .vmem S2x1x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty)
  (f9 : BufTy.Contents (Elt F) arg9.view.ty) (f10 : BufTy.Contents (Elt F) arg10.view.ty) (f11 : BufTy.Contents (Elt F) arg11.view.ty) (f12 : BufTy.Contents (Elt F) arg12.view.ty)

/-- The pieces trip `k` of the first loop writes. -/
abbrev T1 (k : Fin k1_t1_loop.trips) := tripL_k1_t1 (F := F) 𝒱 c bd i arg2 harg2 arg3 harg3 arg4 harg4 arg5 harg5 arg6 harg6 arg7 harg7 arg8 harg8 arg9 harg9 arg10 harg10 arg11 harg11 arg12 harg12 X2 X3 X4 X6 X7 k f10 f11 f12
/-- The pieces trip `k` of the second loop writes. -/
abbrev T2 (k : Fin k1_t2_loop.trips) := tripL_k1_t2 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 f10 k f9 f11 f12

theorem T1_matrix (k : Fin k1_t1_loop.trips) :
    arg11.view.read (Elt F) (arg11.view.writes (Elt F) f11 (T1 𝒱 c bd i arg2 harg2 arg3 harg3 arg4 harg4 arg5 harg5 arg6 harg6 arg7 harg7 arg8 harg8 arg9 harg9 arg10 harg10 arg11 harg11 arg12 harg12 X2 X3 X4 X6 X7 f10 f11 f12 k).2.1)
      = put (s := S2x256x512) (put (s := S2x256x512) (arg11.view.read (Elt F) f11) ![0, 0, 0] ![1, 256, 512]
          (cPay (eF (gcc (arg6.view.read (Elt F) X6) k.val)) (lF (gcc (arg6.view.read (Elt F) X6) k.val)) (qkc (arg3.view.read (Elt F) X3) k.val) (voc (arg4.view.read (Elt F) X4) k.val) (cs0 (arg11.view.read (Elt F) f11))))
          ![1, 0, 0] ![1, 256, 512]
          (cPay (eB (gcc (arg6.view.read (Elt F) X6) (15 - k.val))) (lB (gcc (arg6.view.read (Elt F) X6) (15 - k.val))) (qkc (arg3.view.read (Elt F) X3) (15 - k.val)) (voc (arg4.view.read (Elt F) X4) (15 - k.val)) (cs1 (arg11.view.read (Elt F) f11))) := by
  unfold T1 tripL_k1_t1 trip_k1_t1
  dsimp only
  rw [View.read_writes_cons_put _ _ _ _ _ rfl, View.read_writes_cons_put _ _ _ _ _ rfl, View.writes_nil]
  have e1 := View.readAt_unit (Val := Elt F) arg3.view X3 (k1_off1_inb k) (off1 k) (in3 k.val rfl)
  have e2 := View.readAt_unit (Val := Elt F) arg3.view X3 (k1_off2_inb k) (off2 k) (in3 (15 - k.val) rfl)
  have e3 := View.readAt_unit (Val := Elt F) arg4.view X4 (k1_off3_inb k) (off3 k) (in3 k.val rfl)
  have e4 := View.readAt_unit (Val := Elt F) arg4.view X4 (k1_off4_inb k) (off4 k) (in3 (15 - k.val) rfl)
  have e5 := View.readAt_unit (Val := Elt F) arg6.view X6 (k1_off5_inb k) (off5 k) (inG k.val)
  have e6 := View.readAt_unit (Val := Elt F) arg6.view X6 (k1_off6_inb k) (off6 k) (inG (15 - k.val))
  unfold qkc voc gcc
  rw [← e1, ← e2, ← e3, ← e4, ← e5, ← e6]
  rfl

theorem T1_vector (k : Fin k1_t1_loop.trips) :
    arg12.view.read (Elt F) (arg12.view.writes (Elt F) f12 (T1 𝒱 c bd i arg2 harg2 arg3 harg3 arg4 harg4 arg5 harg5 arg6 harg6 arg7 harg7 arg8 harg8 arg9 harg9 arg10 harg10 arg11 harg11 arg12 harg12 X2 X3 X4 X6 X7 f10 f11 f12 k).2.2)
      = put (s := S2x1x256) (put (s := S2x1x256) (arg12.view.read (Elt F) f12) ![0, 0, 0] ![1, 1, 256]
          (nPay (eF (gcc (arg6.view.read (Elt F) X6) k.val)) (lF (gcc (arg6.view.read (Elt F) X6) k.val)) (qkc (arg3.view.read (Elt F) X3) k.val) (ns0 (arg12.view.read (Elt F) f12))))
          ![1, 0, 0] ![1, 1, 256]
          (nPay (eB (gcc (arg6.view.read (Elt F) X6) (15 - k.val))) (lB (gcc (arg6.view.read (Elt F) X6) (15 - k.val))) (qkc (arg3.view.read (Elt F) X3) (15 - k.val)) (ns1 (arg12.view.read (Elt F) f12))) := by
  unfold T1 tripL_k1_t1 trip_k1_t1
  dsimp only
  rw [View.read_writes_cons_put _ _ _ _ _ rfl, View.read_writes_cons_put _ _ _ _ _ rfl, View.writes_nil]
  have e1 := View.readAt_unit (Val := Elt F) arg3.view X3 (k1_off1_inb k) (off1 k) (in3 k.val rfl)
  have e2 := View.readAt_unit (Val := Elt F) arg3.view X3 (k1_off2_inb k) (off2 k) (in3 (15 - k.val) rfl)
  have e5 := View.readAt_unit (Val := Elt F) arg6.view X6 (k1_off5_inb k) (off5 k) (inG k.val)
  have e6 := View.readAt_unit (Val := Elt F) arg6.view X6 (k1_off6_inb k) (off6 k) (inG (15 - k.val))
  unfold qkc gcc
  rw [← e1, ← e2, ← e5, ← e6]
  rfl

theorem T1_sums (k : Fin k1_t1_loop.trips) :
    arg10.view.read (Elt F) (arg10.view.writes (Elt F) f10 (T1 𝒱 c bd i arg2 harg2 arg3 harg3 arg4 harg4 arg5 harg5 arg6 harg6 arg7 harg7 arg8 harg8 arg9 harg9 arg10 harg10 arg11 harg11 arg12 harg12 X2 X3 X4 X6 X7 f10 f11 f12 k).1)
      = put (s := S4096x512) (put (s := S4096x512) (arg10.view.read (Elt F) f10) ![crow k.val, 0] ![256, 512]
          (hPay k1_pay1 (bF (gcc (arg6.view.read (Elt F) X6) k.val)) (qkc (arg2.view.read (Elt F) X2) k.val) (qkc (arg3.view.read (Elt F) X3) k.val) (voc (arg4.view.read (Elt F) X4) k.val) (grF (arg7.view.read (Elt F) X7) k.val) (cs0 (arg11.view.read (Elt F) f11)) (ns0 (arg12.view.read (Elt F) f12))))
          ![crow (15 - k.val), 0] ![256, 512]
          (hPay k1_pay2 (bB (gcc (arg6.view.read (Elt F) X6) (15 - k.val))) (qkc (arg2.view.read (Elt F) X2) (15 - k.val)) (qkc (arg3.view.read (Elt F) X3) (15 - k.val)) (voc (arg4.view.read (Elt F) X4) (15 - k.val)) (grB (arg7.view.read (Elt F) X7) (15 - k.val)) (cs1 (arg11.view.read (Elt F) f11)) (ns1 (arg12.view.read (Elt F) f12))) := by
  unfold T1 tripL_k1_t1 trip_k1_t1
  dsimp only
  rw [View.read_writes_cons_put _ _ _ _ _ (off10 k), View.read_writes_cons_put _ _ _ _ _ (off9 k), View.writes_nil]
  simp only [k1_pay6, k1_pay7, shapeCast_self]
  have q1 := View.readAt_unit (Val := Elt F) arg2.view X2 (k1_off1_inb k) (off1 k) (in3 k.val rfl)
  have q2 := View.readAt_unit (Val := Elt F) arg2.view X2 (k1_off2_inb k) (off2 k) (in3 (15 - k.val) rfl)
  have e1 := View.readAt_unit (Val := Elt F) arg3.view X3 (k1_off1_inb k) (off1 k) (in3 k.val rfl)
  have e2 := View.readAt_unit (Val := Elt F) arg3.view X3 (k1_off2_inb k) (off2 k) (in3 (15 - k.val) rfl)
  have e3 := View.readAt_unit (Val := Elt F) arg4.view X4 (k1_off3_inb k) (off3 k) (in3 k.val rfl)
  have e4 := View.readAt_unit (Val := Elt F) arg4.view X4 (k1_off4_inb k) (off4 k) (in3 (15 - k.val) rfl)
  have e5 := View.readAt_unit (Val := Elt F) arg6.view X6 (k1_off5_inb k) (off5 k) (inG k.val)
  have e6 := View.readAt_unit (Val := Elt F) arg6.view X6 (k1_off6_inb k) (off6 k) (inG (15 - k.val))
  have e7 := View.readAt_unit (Val := Elt F) arg7.view X7 (k1_off7_inb k) (off7 k) (inR 0 k.val (by decide))
  have e8 := View.readAt_unit (Val := Elt F) arg7.view X7 (k1_off8_inb k) (off8 k) (inR 1 (15 - k.val) (by decide))
  unfold qkc voc gcc grF grB
  rw [← q1, ← q2, ← e1, ← e2, ← e3, ← e4, ← e5, ← e6, ← e7, ← e8]
  rfl

theorem T2_matrix (k : Fin k1_t2_loop.trips) :
    arg11.view.read (Elt F) (arg11.view.writes (Elt F) f11 (T2 𝒱 c bd i arg2 harg2 arg3 harg3 arg4 harg4 arg5 harg5 arg6 harg6 arg7 harg7 arg8 harg8 arg9 harg9 arg10 harg10 arg11 harg11 arg12 harg12 X2 X3 X4 X5 X6 X7 X8 f9 f10 f11 f12 k).2.1)
      = put (s := S2x256x512) (put (s := S2x256x512) (arg11.view.read (Elt F) f11) ![0, 0, 0] ![1, 256, 512]
          (cPay (eF (gcc (arg6.view.read (Elt F) X6) (8 + k.val))) (lF (gcc (arg6.view.read (Elt F) X6) (8 + k.val))) (qkc (arg3.view.read (Elt F) X3) (8 + k.val)) (voc (arg4.view.read (Elt F) X4) (8 + k.val)) (cs0 (arg11.view.read (Elt F) f11))))
          ![1, 0, 0] ![1, 256, 512]
          (cPay (eB (gcc (arg6.view.read (Elt F) X6) (15 - (8 + k.val)))) (lB (gcc (arg6.view.read (Elt F) X6) (15 - (8 + k.val)))) (qkc (arg3.view.read (Elt F) X3) (15 - (8 + k.val))) (voc (arg4.view.read (Elt F) X4) (15 - (8 + k.val))) (cs1 (arg11.view.read (Elt F) f11))) := by
  unfold T2 tripL_k1_t2 trip_k1_t2
  dsimp only
  rw [View.read_writes_cons_put _ _ _ _ _ rfl, View.read_writes_cons_put _ _ _ _ _ rfl, View.writes_nil]
  have e1 := View.readAt_unit (Val := Elt F) arg3.view X3 (k1_off11_inb k) (off11 k) (in3 (8 + k.val) rfl)
  have e2 := View.readAt_unit (Val := Elt F) arg3.view X3 (k1_off12_inb k) (off12 k) (in3 (15 - (8 + k.val)) rfl)
  have e3 := View.readAt_unit (Val := Elt F) arg4.view X4 (k1_off13_inb k) (off13 k) (in3 (8 + k.val) rfl)
  have e4 := View.readAt_unit (Val := Elt F) arg4.view X4 (k1_off14_inb k) (off14 k) (in3 (15 - (8 + k.val)) rfl)
  have e5 := View.readAt_unit (Val := Elt F) arg6.view X6 (k1_off15_inb k) (off15 k) (inG (8 + k.val))
  have e6 := View.readAt_unit (Val := Elt F) arg6.view X6 (k1_off16_inb k) (off16 k) (inG (15 - (8 + k.val)))
  unfold qkc voc gcc
  rw [← e1, ← e2, ← e3, ← e4, ← e5, ← e6]
  rfl

theorem T2_vector (k : Fin k1_t2_loop.trips) :
    arg12.view.read (Elt F) (arg12.view.writes (Elt F) f12 (T2 𝒱 c bd i arg2 harg2 arg3 harg3 arg4 harg4 arg5 harg5 arg6 harg6 arg7 harg7 arg8 harg8 arg9 harg9 arg10 harg10 arg11 harg11 arg12 harg12 X2 X3 X4 X5 X6 X7 X8 f9 f10 f11 f12 k).2.2)
      = put (s := S2x1x256) (put (s := S2x1x256) (arg12.view.read (Elt F) f12) ![0, 0, 0] ![1, 1, 256]
          (nPay (eF (gcc (arg6.view.read (Elt F) X6) (8 + k.val))) (lF (gcc (arg6.view.read (Elt F) X6) (8 + k.val))) (qkc (arg3.view.read (Elt F) X3) (8 + k.val)) (ns0 (arg12.view.read (Elt F) f12))))
          ![1, 0, 0] ![1, 1, 256]
          (nPay (eB (gcc (arg6.view.read (Elt F) X6) (15 - (8 + k.val)))) (lB (gcc (arg6.view.read (Elt F) X6) (15 - (8 + k.val)))) (qkc (arg3.view.read (Elt F) X3) (15 - (8 + k.val))) (ns1 (arg12.view.read (Elt F) f12))) := by
  unfold T2 tripL_k1_t2 trip_k1_t2
  dsimp only
  rw [View.read_writes_cons_put _ _ _ _ _ rfl, View.read_writes_cons_put _ _ _ _ _ rfl, View.writes_nil]
  have e1 := View.readAt_unit (Val := Elt F) arg3.view X3 (k1_off11_inb k) (off11 k) (in3 (8 + k.val) rfl)
  have e2 := View.readAt_unit (Val := Elt F) arg3.view X3 (k1_off12_inb k) (off12 k) (in3 (15 - (8 + k.val)) rfl)
  have e5 := View.readAt_unit (Val := Elt F) arg6.view X6 (k1_off15_inb k) (off15 k) (inG (8 + k.val))
  have e6 := View.readAt_unit (Val := Elt F) arg6.view X6 (k1_off16_inb k) (off16 k) (inG (15 - (8 + k.val)))
  unfold qkc gcc
  rw [← e1, ← e2, ← e5, ← e6]
  rfl

theorem T2_out (k : Fin k1_t2_loop.trips) :
    arg9.view.read (Elt F) (arg9.view.writes (Elt F) f9 (T2 𝒱 c bd i arg2 harg2 arg3 harg3 arg4 harg4 arg5 harg5 arg6 harg6 arg7 harg7 arg8 harg8 arg9 harg9 arg10 harg10 arg11 harg11 arg12 harg12 X2 X3 X4 X5 X6 X7 X8 f9 f10 f11 f12 k).1)
      = put (s := S1x4096x512) (put (s := S1x4096x512) (arg9.view.read (Elt F) f9) ![0, crow (8 + k.val), 0] ![1, 256, 512]
          (fin (hPay k1_pay1 (bF (gcc (arg6.view.read (Elt F) X6) (8 + k.val))) (qkc (arg2.view.read (Elt F) X2) (8 + k.val)) (qkc (arg3.view.read (Elt F) X3) (8 + k.val)) (voc (arg4.view.read (Elt F) X4) (8 + k.val)) (grF (arg7.view.read (Elt F) X7) (8 + k.val)) (cs0 (arg11.view.read (Elt F) f11)) (ns0 (arg12.view.read (Elt F) f12))) (hc (arg10.view.read (Elt F) f10) (8 + k.val)) (arg8.view.read (Elt F) X8) (voc (arg5.view.read (Elt F) X5) (8 + k.val))))
          ![0, crow (15 - (8 + k.val)), 0] ![1, 256, 512]
          (fin (hPay k1_pay2 (bB (gcc (arg6.view.read (Elt F) X6) (15 - (8 + k.val)))) (qkc (arg2.view.read (Elt F) X2) (15 - (8 + k.val))) (qkc (arg3.view.read (Elt F) X3) (15 - (8 + k.val))) (voc (arg4.view.read (Elt F) X4) (15 - (8 + k.val))) (grB (arg7.view.read (Elt F) X7) (15 - (8 + k.val))) (cs1 (arg11.view.read (Elt F) f11)) (ns1 (arg12.view.read (Elt F) f12))) (hc (arg10.view.read (Elt F) f10) (15 - (8 + k.val))) (arg8.view.read (Elt F) X8) (voc (arg5.view.read (Elt F) X5) (15 - (8 + k.val)))) := by
  unfold T2 tripL_k1_t2 trip_k1_t2
  dsimp only
  unfold trip_k1_t2.sl.HW_arg9_1
  rw [View.read_writes_cons_put _ _ _ _ _ (off14 k), View.read_writes_cons_put _ _ _ _ _ (off13 k), View.writes_nil]
  have q1 := View.readAt_unit (Val := Elt F) arg2.view X2 (k1_off11_inb k) (off11 k) (in3 (8 + k.val) rfl)
  have q2 := View.readAt_unit (Val := Elt F) arg2.view X2 (k1_off12_inb k) (off12 k) (in3 (15 - (8 + k.val)) rfl)
  have e1 := View.readAt_unit (Val := Elt F) arg3.view X3 (k1_off11_inb k) (off11 k) (in3 (8 + k.val) rfl)
  have e2 := View.readAt_unit (Val := Elt F) arg3.view X3 (k1_off12_inb k) (off12 k) (in3 (15 - (8 + k.val)) rfl)
  have e3 := View.readAt_unit (Val := Elt F) arg4.view X4 (k1_off13_inb k) (off13 k) (in3 (8 + k.val) rfl)
  have e4 := View.readAt_unit (Val := Elt F) arg4.view X4 (k1_off14_inb k) (off14 k) (in3 (15 - (8 + k.val)) rfl)
  have e5 := View.readAt_unit (Val := Elt F) arg6.view X6 (k1_off15_inb k) (off15 k) (inG (8 + k.val))
  have e6 := View.readAt_unit (Val := Elt F) arg6.view X6 (k1_off16_inb k) (off16 k) (inG (15 - (8 + k.val)))
  have e7 := View.readAt_unit (Val := Elt F) arg7.view X7 (k1_off17_inb k) (off17 k) (inR 0 (8 + k.val) (by decide))
  have e8 := View.readAt_unit (Val := Elt F) arg7.view X7 (k1_off18_inb k) (off18 k) (inR 1 (15 - (8 + k.val)) (by decide))
  have o1 := View.readAt_unit (Val := Elt F) arg5.view X5 (k1_off13_inb k) (off13 k) (in3 (8 + k.val) rfl)
  have o2 := View.readAt_unit (Val := Elt F) arg5.view X5 (k1_off14_inb k) (off14 k) (in3 (15 - (8 + k.val)) rfl)
  have s1 := View.readAt_unit (Val := Elt F) arg10.view f10 (k1_off19_inb k) (off19 k) (inH (8 + k.val))
  have s2 := View.readAt_unit (Val := Elt F) arg10.view f10 (k1_off20_inb k) (off20 k) (inH (15 - (8 + k.val)))
  have g1 := View.readAt_full (Val := Elt F) arg8.view X8 inb_S1x512_S1x512_0_0
  unfold qkc voc gcc grF grB hc
  rw [← q1, ← q2, ← e1, ← e2, ← e3, ← e4, ← e5, ← e6, ← e7, ← e8, ← o1, ← o2, ← s1, ← s2, ← g1]
  rfl

end Trips

end Cert.KernelIdeal.Mlstm
-- ==== Proof.MlstmLoops.lean ====
/-
  The scan's two loops by their pieces, over any float values: after `j` trips of the first loop the carried state is
  the one before chunk `j`, and the sums of the chunks passed are kept; after `j` trips of the second, the finished rows
  of the chunks passed are in the output block.  After all sixteen the output block is `outBlock`, whatever the scratch
  buffers and the block held at the start.
-/
module

public import proofs.«01_k».proof.Proof.MlstmTrip

@[expose] public section

set_option maxRecDepth 8192
set_option maxHeartbeats 4000000

noncomputable section

namespace Cert.KernelIdeal.Mlstm

open Cert.KernelIdeal.Gen
open Idealize.ShloMosaic Idealize.ShloMosaic.TcCoe Idealize.ShloMosaic.Tactic
open Idealize.ShloMosaic.VecWindow

variable {F : FTy → Type} [FloatOps F] [Named F]

/-! ## A chunk of a buffer that two chunks were just put into -/

theorem cs0_put (x : Vec F S2x256x512 .f32) (a b : Vec F S1x256x512 .f32) :
    cs0 (put (s := S2x256x512) (put (s := S2x256x512) x ![0, 0, 0] ![1, 256, 512] a) ![1, 0, 0] ![1, 256, 512] b) = a := by
  unfold cs0
  rw [window_put_of_disjoint _ _ _ _ _ _ _ (0 : Fin 3) (Or.inl (by simp)), window_put_same]

theorem cs1_put (x : Vec F S2x256x512 .f32) (b : Vec F S1x256x512 .f32) :
    cs1 (put (s := S2x256x512) x ![1, 0, 0] ![1, 256, 512] b) = b := by
  unfold cs1
  rw [window_put_same]

theorem ns0_put (x : Vec F S2x1x256 .f32) (a b : Vec F S1x1x256 .f32) :
    ns0 (put (s := S2x1x256) (put (s := S2x1x256) x ![0, 0, 0] ![1, 1, 256] a) ![1, 0, 0] ![1, 1, 256] b) = a := by
  unfold ns0
  rw [window_put_of_disjoint _ _ _ _ _ _ _ (0 : Fin 3) (Or.inl (by simp)), window_put_same]

theorem ns1_put (x : Vec F S2x1x256 .f32) (b : Vec F S1x1x256 .f32) :
    ns1 (put (s := S2x1x256) x ![1, 0, 0] ![1, 1, 256] b) = b := by
  unfold ns1
  rw [window_put_same]

theorem hc_put_same (x : Vec F S4096x512 .f32) (n : ℕ) (a : FVec F S256x512 .f32) : hc (put (s := S4096x512) x ![crow n, 0] ![256, 512] a) n = a := by
  unfold hc
  rw [window_put_same]

theorem hc_put_other (x : Vec F S4096x512 .f32) {n l : ℕ} (a : FVec F S256x512 .f32) (hn : n < 16) (hl : l < 16) (h : l ≠ n) :
    hc (put (s := S4096x512) x ![crow n, 0] ![256, 512] a) l = hc x l := by
  unfold hc
  rw [window_put_of_disjoint _ _ _ _ _ _ _ (0 : Fin 2) ?_]
  simp only [Matrix.cons_val_zero, crow_of_lt hn, crow_of_lt hl]
  omega

theorem voc_put_same (x : Vec F S1x4096x512 .bf16) (n : ℕ) (a : FVec F S1x256x512 .bf16) : voc (put (s := S1x4096x512) x ![0, crow n, 0] ![1, 256, 512] a) n = a := by
  unfold voc
  rw [window_put_same]

theorem voc_put_other (x : Vec F S1x4096x512 .bf16) {n l : ℕ} (a : FVec F S1x256x512 .bf16) (hn : n < 16) (hl : l < 16) (h : l ≠ n) :
    voc (put (s := S1x4096x512) x ![0, crow n, 0] ![1, 256, 512] a) l = voc x l := by
  unfold voc
  rw [window_put_of_disjoint _ _ _ _ _ _ _ (1 : Fin 3) ?_]
  simp only [Matrix.cons_val_one, Matrix.cons_val_zero, crow_of_lt hn, crow_of_lt hl]
  omega

/-- A block is known from its sixteen chunks. -/
theorem eq_of_voc (x y : Vec F S1x4096x512 .bf16) (h : ∀ n < 16, voc x n = voc y n) : x = y := by
  funext z
  have hz : (z 1).val < 4096 := (z 1).isLt
  have h0 : (z 0).val < 1 := (z 0).isLt
  have hn : (z 1).val / 256 < 16 := by omega
  have key : ∀ w : Vec F S1x4096x512 .bf16, w z = voc w ((z 1).val / 256) (ix3 (0 : Fin 1) (⟨(z 1).val % 256, Nat.mod_lt _ (by decide)⟩ : Fin 256) (z 2)) := by
    intro w
    refine congrArg w (funext fun a => Fin.ext ?_)
    fin_cases a
    · show (z 0).val = 0 + 1 * 0
      omega
    · show (z 1).val = crow ((z 1).val / 256) + 1 * ((z 1).val % 256)
      rw [crow_of_lt hn]; omega
    · show (z 2).val = 0 + 1 * (z 2).val
      omega
  rw [key x, key y, h _ hn]

theorem voc_outBlock (x0 x1 : Vec F S1x4096x256 .bf16) (x2 x3 : Vec F S1x4096x512 .bf16) (x4 : Vec F S1x1x4096x4 .f32) (x5 : Vec F S1x1x2x16x1x256 .f32) (x6 : Vec F S1x512 .f32)
    {n : ℕ} (hn : n < 16) : voc (outBlock x0 x1 x2 x3 x4 x5 x6) n = outChunk x0 x1 x2 x3 x4 x5 x6 n := by
  funext z
  have hz : (z 1).val < 256 := (z 1).isLt
  have h0 : (z 0).val < 1 := (z 0).isLt
  have e1 : (crow n + 1 * (z 1).val) / 256 = n := by rw [crow_of_lt hn]; omega
  have e2 : (crow n + 1 * (z 1).val) % 256 = (z 1).val := by rw [crow_of_lt hn]; omega
  show outChunk x0 x1 x2 x3 x4 x5 x6 ((crow n + 1 * (z 1).val) / 256) _ = _
  rw [e1]
  refine congrArg _ (funext fun a => Fin.ext ?_)
  fin_cases a
  · show 0 = (z 0).val
    omega
  · exact e2
  · show 0 + 1 * (z 2).val = (z 2).val
    omega

/-! ## The loops -/

section Loops

variable (𝒱 : Variants) (c : Dev nD) (bd : Option 𝒱.V) (i : grid1.Coords)
  (arg2 : Memref sig .tc .vmem S1x4096x256 .bf16) (harg2 : arg2.IsWhole) (arg3 : Memref sig .tc .vmem S1x4096x256 .bf16) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x1x4096x4 .f32) (harg6 : arg6.IsWhole) (arg7 : Memref sig .tc .vmem S1x1x2x16x1x256 .f32) (harg7 : arg7.IsWhole)
  (arg8 : Memref sig .tc .vmem S1x512 .f32) (harg8 : arg8.IsWhole) (arg9 : Memref sig .tc .vmem S1x4096x512 .bf16) (harg9 : arg9.IsWhole)
  (arg10 : Memref sig .tc .vmem S4096x512 .f32) (harg10 : arg10.IsWhole) (arg11 : Memref sig .tc .vmem S2x256x512 .f32) (harg11 : arg11.IsWhole)
  (arg12 : Memref sig .tc .vmem S2x1x256 .f32) (harg12 : arg12.IsWhole)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (X8 : BufTy.Contents (Elt F) arg8.view.ty)
  (G9 : BufTy.Contents (Elt F) arg9.view.ty) (G10 : BufTy.Contents (Elt F) arg10.view.ty) (G11 : BufTy.Contents (Elt F) arg11.view.ty) (G12 : BufTy.Contents (Elt F) arg12.view.ty)

/-- The pieces the first `j` trips of a loop write. -/
abbrev P1 (j : ℕ) := pb_k1_t1 (F := F) 𝒱 c bd i arg2 harg2 arg3 harg3 arg4 harg4 arg5 harg5 arg6 harg6 arg7 harg7 arg8 harg8 arg9 harg9 arg10 harg10 arg11 harg11 arg12 harg12 X2 X3 X4 X6 X7 G10 G11 G12 j
abbrev P2 (j : ℕ) := pb_k1_t2 (F := F) 𝒱 c bd i arg2 harg2 arg3 harg3 arg4 harg4 arg5 harg5 arg6 harg6 arg7 harg7 arg8 harg8 arg9 harg9 arg10 harg10 arg11 harg11 arg12 harg12 X2 X3 X4 X5 X6 X7 X8 G10 G9 G11 G12 j

variable {x0 x1 : Vec F S1x4096x256 .bf16} {x2 x3 : Vec F S1x4096x512 .bf16} {x4 : Vec F S1x1x4096x4 .f32} {x5 : Vec F S1x1x2x16x1x256 .f32} {x6 : Vec F S1x512 .f32}
  (h2 : arg2.view.read (Elt F) X2 = x0) (h3 : arg3.view.read (Elt F) X3 = x1) (h4 : arg4.view.read (Elt F) X4 = x2) (h5 : arg5.view.read (Elt F) X5 = x3)
  (h6 : arg6.view.read (Elt F) X6 = x4) (h7 : arg7.view.read (Elt F) X7 = x5) (h8 : arg8.view.read (Elt F) X8 = x6)

include h2 h3 h4 h6 h7 in
/-- After `j` trips of the first loop. -/
theorem P1_inv (hC : arg11.view.read (Elt F) G11 = k1_pay3) (hN : arg12.view.read (Elt F) G12 = k1_pay4) : ∀ j ≤ 8,
    (cs0 (arg11.view.read (Elt F) (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.1)) = CF x1 x2 x4 j
      ∧ cs1 (arg11.view.read (Elt F) (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.1)) = CB x1 x2 x4 j
      ∧ ns0 (arg12.view.read (Elt F) (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.2)) = NF x1 x4 j
      ∧ ns1 (arg12.view.read (Elt F) (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.2)) = NB x1 x4 j)
    ∧ ∀ n < j, hc (arg10.view.read (Elt F) (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).1)) n = HF x0 x1 x2 x4 x5 n
      ∧ hc (arg10.view.read (Elt F) (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).1)) (15 - n) = HB x0 x1 x2 x4 x5 n
  | 0, _ => by
    refine ⟨?_, fun n hn => absurd hn (Nat.not_lt_zero _)⟩
    simp only [P1, pb_k1_t1, View.writes_nil, hC, hN]
    exact ⟨rfl, rfl, rfl, rfl⟩
  | j + 1, hj => by
    obtain ⟨⟨i1, i2, i3, i4⟩, ih⟩ := P1_inv hC hN j (by omega)
    have hk : j < k1_t1_loop.trips := lt_of_lt_of_eq (show j < 8 by omega) (by decide +kernel)
    have e := pb_k1_t1_succ (F := F) 𝒱 c bd i arg2 harg2 arg3 harg3 arg4 harg4 arg5 harg5 arg6 harg6 arg7 harg7 arg8 harg8 arg9 harg9 arg10 harg10 arg11 harg11 arg12 harg12 X2 X3 X4 X6 X7 G10 G11 G12 ⟨j, hk⟩
    have m := T1_matrix 𝒱 c bd i arg2 harg2 arg3 harg3 arg4 harg4 arg5 harg5 arg6 harg6 arg7 harg7 arg8 harg8 arg9 harg9 arg10 harg10 arg11 harg11 arg12 harg12 X2 X3 X4 X6 X7 (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).1) (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.1) (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.2) ⟨j, hk⟩
    have v := T1_vector 𝒱 c bd i arg2 harg2 arg3 harg3 arg4 harg4 arg5 harg5 arg6 harg6 arg7 harg7 arg8 harg8 arg9 harg9 arg10 harg10 arg11 harg11 arg12 harg12 X2 X3 X4 X6 X7 (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).1) (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.1) (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.2) ⟨j, hk⟩
    have s := T1_sums 𝒱 c bd i arg2 harg2 arg3 harg3 arg4 harg4 arg5 harg5 arg6 harg6 arg7 harg7 arg8 harg8 arg9 harg9 arg10 harg10 arg11 harg11 arg12 harg12 X2 X3 X4 X6 X7 (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).1) (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.1) (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 j).2.2) ⟨j, hk⟩
    rw [← View.writes_append, h3, h4, h6, i1, i2] at m
    rw [← View.writes_append, h3, h6, i3, i4] at v
    rw [← View.writes_append, h2, h3, h4, h6, h7, i1, i2, i3, i4] at s
    have E : P1 𝒱 c bd i arg2 harg2 arg3 harg3 arg4 harg4 arg5 harg5 arg6 harg6 arg7 harg7 arg8 harg8 arg9 harg9 arg10 harg10 arg11 harg11 arg12 harg12 X2 X3 X4 X6 X7 G10 G11 G12 (j + 1) = _ := e
    rw [E]
    refine ⟨⟨?_, ?_, ?_, ?_⟩, fun n hn => ⟨?_, ?_⟩⟩
    · exact (congrArg cs0 m).trans (cs0_put _ _ _)
    · exact (congrArg cs1 m).trans (cs1_put _ _)
    · exact (congrArg ns0 v).trans (ns0_put _ _ _)
    · exact (congrArg ns1 v).trans (ns1_put _ _)
    · refine (congrArg (fun x => hc x n) s).trans ?_
      refine (hc_put_other _ _ (by show 15 - j < 16; omega) (by omega) (by show n ≠ 15 - j; omega)).trans ?_
      rcases Nat.lt_succ_iff_lt_or_eq.mp hn with h | rfl
      · exact (hc_put_other _ _ (by show j < 16; omega) (by omega) (by show n ≠ j; omega)).trans (ih n h).1
      · exact hc_put_same _ _ _
    · refine (congrArg (fun x => hc x (15 - n)) s).trans ?_
      rcases Nat.lt_succ_iff_lt_or_eq.mp hn with h | rfl
      · refine (hc_put_other _ _ (by show 15 - j < 16; omega) (by omega) (by show 15 - n ≠ 15 - j; omega)).trans ?_
        exact (hc_put_other _ _ (by show j < 16; omega) (by omega) (by show 15 - n ≠ j; omega)).trans (ih n h).2
      · exact hc_put_same _ _ _

include h2 h3 h4 h5 h6 h7 h8 in
/-- After `j` trips of the second loop, from the state and the sums the first one leaves. -/
theorem P2_inv (hC0 : cs0 (arg11.view.read (Elt F) G11) = CF x1 x2 x4 8) (hC1 : cs1 (arg11.view.read (Elt F) G11) = CB x1 x2 x4 8)
    (hN0 : ns0 (arg12.view.read (Elt F) G12) = NF x1 x4 8) (hN1 : ns1 (arg12.view.read (Elt F) G12) = NB x1 x4 8)
    (hH : ∀ n < 8, hc (arg10.view.read (Elt F) G10) n = HF x0 x1 x2 x4 x5 n ∧ hc (arg10.view.read (Elt F) G10) (15 - n) = HB x0 x1 x2 x4 x5 n) : ∀ j ≤ 8,
    (cs0 (arg11.view.read (Elt F) (arg11.view.writes (Elt F) G11 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.1)) = CF x1 x2 x4 (8 + j)
      ∧ cs1 (arg11.view.read (Elt F) (arg11.view.writes (Elt F) G11 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.1)) = CB x1 x2 x4 (8 + j)
      ∧ ns0 (arg12.view.read (Elt F) (arg12.view.writes (Elt F) G12 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.2)) = NF x1 x4 (8 + j)
      ∧ ns1 (arg12.view.read (Elt F) (arg12.view.writes (Elt F) G12 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.2)) = NB x1 x4 (8 + j))
    ∧ ∀ n < j, voc (arg9.view.read (Elt F) (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).1)) (8 + n) = outChunk x0 x1 x2 x3 x4 x5 x6 (8 + n)
      ∧ voc (arg9.view.read (Elt F) (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).1)) (7 - n) = outChunk x0 x1 x2 x3 x4 x5 x6 (7 - n)
  | 0, _ => by
    refine ⟨?_, fun n hn => absurd hn (Nat.not_lt_zero _)⟩
    simp only [P2, pb_k1_t2, View.writes_nil]
    exact ⟨hC0, hC1, hN0, hN1⟩
  | j + 1, hj => by
    obtain ⟨⟨i1, i2, i3, i4⟩, ih⟩ := P2_inv hC0 hC1 hN0 hN1 hH j (by omega)
    have hk : j < k1_t2_loop.trips := lt_of_lt_of_eq (show j < 8 by omega) (by decide +kernel)
    have e := pb_k1_t2_succ (F := F) 𝒱 c bd i arg2 harg2 arg3 harg3 arg4 harg4 arg5 harg5 arg6 harg6 arg7 harg7 arg8 harg8 arg9 harg9 arg10 harg10 arg11 harg11 arg12 harg12 X2 X3 X4 X5 X6 X7 X8 G10 G9 G11 G12 ⟨j, hk⟩
    have m := T2_matrix 𝒱 c bd i arg2 harg2 arg3 harg3 arg4 harg4 arg5 harg5 arg6 harg6 arg7 harg7 arg8 harg8 arg9 harg9 arg10 harg10 arg11 harg11 arg12 harg12 X2 X3 X4 X5 X6 X7 X8 (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).1) G10 (arg11.view.writes (Elt F) G11 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.1) (arg12.view.writes (Elt F) G12 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.2) ⟨j, hk⟩
    have v := T2_vector 𝒱 c bd i arg2 harg2 arg3 harg3 arg4 harg4 arg5 harg5 arg6 harg6 arg7 harg7 arg8 harg8 arg9 harg9 arg10 harg10 arg11 harg11 arg12 harg12 X2 X3 X4 X5 X6 X7 X8 (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).1) G10 (arg11.view.writes (Elt F) G11 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.1) (arg12.view.writes (Elt F) G12 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.2) ⟨j, hk⟩
    have s := T2_out 𝒱 c bd i arg2 harg2 arg3 harg3 arg4 harg4 arg5 harg5 arg6 harg6 arg7 harg7 arg8 harg8 arg9 harg9 arg10 harg10 arg11 harg11 arg12 harg12 X2 X3 X4 X5 X6 X7 X8 (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).1) G10 (arg11.view.writes (Elt F) G11 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.1) (arg12.view.writes (Elt F) G12 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 j).2.2) ⟨j, hk⟩
    rw [← View.writes_append, h3, h4, h6, i1, i2] at m
    rw [← View.writes_append, h3, h6, i3, i4] at v
    have hb : hc (arg10.view.read (Elt F) G10) (8 + j) = HB x0 x1 x2 x4 x5 (15 - (8 + j)) := by
      have := (hH (15 - (8 + j)) (by omega)).2
      rwa [show 15 - (15 - (8 + j)) = 8 + j by omega] at this
    have hf : hc (arg10.view.read (Elt F) G10) (15 - (8 + j)) = HF x0 x1 x2 x4 x5 (15 - (8 + j)) := (hH (15 - (8 + j)) (by omega)).1
    rw [← View.writes_append, h2, h3, h4, h5, h6, h7, h8, i1, i2, i3, i4] at s
    dsimp only at s
    rw [hb, hf] at s
    have o1 : outChunk x0 x1 x2 x3 x4 x5 x6 (8 + j) = fin (HF x0 x1 x2 x4 x5 (8 + j)) (HB x0 x1 x2 x4 x5 (15 - (8 + j))) x6 (voc x3 (8 + j)) := if_neg (by omega)
    have o2 : outChunk x0 x1 x2 x3 x4 x5 x6 (15 - (8 + j)) = fin (HB x0 x1 x2 x4 x5 (8 + j)) (HF x0 x1 x2 x4 x5 (15 - (8 + j))) x6 (voc x3 (15 - (8 + j))) := by
      unfold outChunk
      rw [if_pos (by omega), show 15 - (15 - (8 + j)) = 8 + j by omega]
    have E : P2 𝒱 c bd i arg2 harg2 arg3 harg3 arg4 harg4 arg5 harg5 arg6 harg6 arg7 harg7 arg8 harg8 arg9 harg9 arg10 harg10 arg11 harg11 arg12 harg12 X2 X3 X4 X5 X6 X7 X8 G9 G10 G11 G12 (j + 1) = _ := e
    rw [E]
    refine ⟨⟨?_, ?_, ?_, ?_⟩, fun n hn => ⟨?_, ?_⟩⟩
    · exact (congrArg cs0 m).trans (cs0_put _ _ _)
    · exact (congrArg cs1 m).trans (cs1_put _ _)
    · exact (congrArg ns0 v).trans (ns0_put _ _ _)
    · exact (congrArg ns1 v).trans (ns1_put _ _)
    · refine (congrArg (fun x => voc x (8 + n)) s).trans ?_
      refine (voc_put_other _ _ (by omega) (by omega) (by omega)).trans ?_
      rcases Nat.lt_succ_iff_lt_or_eq.mp hn with h | rfl
      · exact (voc_put_other _ _ (by omega) (by omega) (by omega)).trans (ih n h).1
      · exact (voc_put_same _ _ _).trans o1.symm
    · refine (congrArg (fun x => voc x (7 - n)) s).trans ?_
      rcases Nat.lt_succ_iff_lt_or_eq.mp hn with h | rfl
      · refine (voc_put_other _ _ (by omega) (by omega) (by omega)).trans ?_
        exact (voc_put_other _ _ (by omega) (by omega) (by omega)).trans (ih n h).2
      · rw [show 7 - n = 15 - (8 + n) by omega]
        exact (voc_put_same _ _ _).trans o2.symm

include h2 h3 h4 h5 h6 h7 h8 in
/-- The output block after both loops: `outBlock`, whatever the scratch buffers held. -/
theorem out_read {n1 n2 : ℕ} (hn1 : n1 = 8) (hn2 : n2 = 8) (hC : arg11.view.read (Elt F) G11 = k1_pay3) (hN : arg12.view.read (Elt F) G12 = k1_pay4) :
    arg9.view.read (Elt F) (arg9.view.writes (Elt F) G9 (P2 𝒱 c bd i arg2 harg2 arg3 harg3 arg4 harg4 arg5 harg5 arg6 harg6 arg7 harg7 arg8 harg8 arg9 harg9 arg10 harg10 arg11 harg11 arg12 harg12 X2 X3 X4 X5 X6 X7 X8 G9
        (arg10.view.writes (Elt F) G10 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 n1).1)
        (arg11.view.writes (Elt F) G11 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 n1).2.1)
        (arg12.view.writes (Elt F) G12 (P1 𝒱 c bd i arg2 harg2 arg3 harg3 arg4 harg4 arg5 harg5 arg6 harg6 arg7 harg7 arg8 harg8 arg9 harg9 arg10 harg10 arg11 harg11 arg12 harg12 X2 X3 X4 X6 X7 G10 G11 G12 n1).2.2) n2).1)
      = outBlock x0 x1 x2 x3 x4 x5 x6 := by
  subst hn1 hn2
  obtain ⟨⟨i1, i2, i3, i4⟩, ih⟩ := P1_inv 𝒱 c bd i arg2 harg2 arg3 harg3 arg4 harg4 arg5 harg5 arg6 harg6 arg7 harg7 arg8 harg8 arg9 harg9 arg10 harg10 arg11 harg11 arg12 harg12 X2 X3 X4 X6 X7 G10 G11 G12 h2 h3 h4 h6 h7 hC hN 8 le_rfl
  obtain ⟨-, r⟩ := P2_inv 𝒱 c bd i arg2 harg2 arg3 harg3 arg4 harg4 arg5 harg5 arg6 harg6 arg7 harg7 arg8 harg8 arg9 harg9 arg10 harg10 arg11 harg11 arg12 harg12 X2 X3 X4 X5 X6 X7 X8 G9 _ _ _ h2 h3 h4 h5 h6 h7 h8 i1 i2 i3 i4 ih 8 le_rfl
  refine eq_of_voc _ _ fun n hn => ?_
  rw [voc_outBlock x0 x1 x2 x3 x4 x5 x6 hn]
  rcases Nat.lt_or_ge n 8 with h | h
  · have := (r (7 - n) (by omega)).2
    rwa [show 7 - (7 - n) = n by omega] at this
  · have := (r (n - 8) (by omega)).1
    rwa [show 8 + (n - 8) = n by omega] at this

end Loops

end Cert.KernelIdeal.Mlstm
-- ==== Proof.MlstmRun.lean ====
/-
  THE RUN of the kernel program over any float values, taken over by hand: the generated frame module's region 1 asks for
  an output piece list that does not mention the scratch contents, and the mLSTM kernel's two loops go through the scratch
  memory.  Here the second kernel's body is run to its closed form instead (`Mlstm.outBlock`, what its output block holds
  whatever the scratch held), and the launch set-up around it follows the generated text.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.MlstmLoops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_gate_prep` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x4096x16 := Rect.unit (s := S1x4096x16) ![0, 0, 0] S1x4096x16.size inb_S1x4096x16_S1x4096x16_0_0_0
abbrev r0_1 : Rect S1x16 := Rect.unit (s := S1x16) ![0, 0] S1x16.size inb_S1x16_S1x16_0_0
abbrev r0_2 : Rect S1x4096x16 := Rect.unit (s := S1x4096x16) ![0, 0, 0] S1x256x16.size inb_S1x4096x16_S1x256x16_0_0_0
abbrev r0_3 : Rect S1x4096x16 := Rect.unit (s := S1x4096x16) ![0, 256, 0] S1x256x16.size inb_S1x4096x16_S1x256x16_0_256_0
abbrev r0_4 : Rect S1x4096x16 := Rect.unit (s := S1x4096x16) ![0, 512, 0] S1x256x16.size inb_S1x4096x16_S1x256x16_0_512_0
abbrev r0_5 : Rect S1x4096x16 := Rect.unit (s := S1x4096x16) ![0, 768, 0] S1x256x16.size inb_S1x4096x16_S1x256x16_0_768_0
abbrev r0_6 : Rect S1x4096x16 := Rect.unit (s := S1x4096x16) ![0, 1024, 0] S1x256x16.size inb_S1x4096x16_S1x256x16_0_1024_0
abbrev r0_7 : Rect S1x4096x16 := Rect.unit (s := S1x4096x16) ![0, 1280, 0] S1x256x16.size inb_S1x4096x16_S1x256x16_0_1280_0
abbrev r0_8 : Rect S1x4096x16 := Rect.unit (s := S1x4096x16) ![0, 1536, 0] S1x256x16.size inb_S1x4096x16_S1x256x16_0_1536_0
abbrev r0_9 : Rect S1x4096x16 := Rect.unit (s := S1x4096x16) ![0, 1792, 0] S1x256x16.size inb_S1x4096x16_S1x256x16_0_1792_0
abbrev r0_10 : Rect S1x4096x16 := Rect.unit (s := S1x4096x16) ![0, 2048, 0] S1x256x16.size inb_S1x4096x16_S1x256x16_0_2048_0
abbrev r0_11 : Rect S1x4096x16 := Rect.unit (s := S1x4096x16) ![0, 2304, 0] S1x256x16.size inb_S1x4096x16_S1x256x16_0_2304_0
abbrev r0_12 : Rect S1x4096x16 := Rect.unit (s := S1x4096x16) ![0, 2560, 0] S1x256x16.size inb_S1x4096x16_S1x256x16_0_2560_0
abbrev r0_13 : Rect S1x4096x16 := Rect.unit (s := S1x4096x16) ![0, 2816, 0] S1x256x16.size inb_S1x4096x16_S1x256x16_0_2816_0
abbrev r0_14 : Rect S1x4096x16 := Rect.unit (s := S1x4096x16) ![0, 3072, 0] S1x256x16.size inb_S1x4096x16_S1x256x16_0_3072_0
abbrev r0_15 : Rect S1x4096x16 := Rect.unit (s := S1x4096x16) ![0, 3328, 0] S1x256x16.size inb_S1x4096x16_S1x256x16_0_3328_0
abbrev r0_16 : Rect S1x4096x16 := Rect.unit (s := S1x4096x16) ![0, 3584, 0] S1x256x16.size inb_S1x4096x16_S1x256x16_0_3584_0
abbrev r0_17 : Rect S1x4096x16 := Rect.unit (s := S1x4096x16) ![0, 3840, 0] S1x256x16.size inb_S1x4096x16_S1x256x16_0_3840_0

/-! ## What the body leaves in each output window's buffer -/

/-! ### Values of the body that the stores' payloads, spelt out, would write more than once

    Each is a vector the body binds (often a part call's result), stated over the input windows' blocks and
    numbered on from the skeleton's payload functions (`k0_pay213` …, after `k0_pay212`), so that
    `out0_W` and the values after it name it instead of spelling it out (`unfold_out out0_W` opens a canon
    with them, `unfold_payloads` opens them with the payloads); the comment after each is the printed function's
    name for the value (a count appended where that name is bound again). -/

def k0_pay213 (x0 : Vec F S1x4096x16 .f32) (x1 : Vec F S1x4096x16 .f32) (x2 : Vec F S1x16 .f32) (x3 : Vec F S1x16 .f32) : IVec S256x16 32 :=
  iota .tc S256x16 32 [1] iota_S256x16_d1_w32 -- `v40`
def k0_pay214 (x0 : Vec F S1x4096x16 .f32) (x1 : Vec F S1x4096x16 .f32) (x2 : Vec F S1x16 .f32) (x3 : Vec F S1x16 .f32) : FVec F S4096x16 .f32 :=
  k0_pay3 (View.ld x0 r0_0) (View.ld x2 r0_1) -- `v10`
def k0_pay215 (x0 : Vec F S1x4096x16 .f32) (x1 : Vec F S1x4096x16 .f32) (x2 : Vec F S1x16 .f32) (x3 : Vec F S1x16 .f32) : FVec F S4096x16 .f32 :=
  k0_pay4 (View.ld x1 r0_0) (View.ld x3 r0_1) -- `v29`
def k0_pay216 (x0 : Vec F S1x4096x16 .f32) (x1 : Vec F S1x4096x16 .f32) (x2 : Vec F S1x16 .f32) (x3 : Vec F S1x16 .f32) : FVec F S256x256 .bf16 :=
  k0_pay5 (F := F) -- `v35`
def k0_pay217 (x0 : Vec F S1x4096x16 .f32) (x1 : Vec F S1x4096x16 .f32) (x2 : Vec F S1x16 .f32) (x3 : Vec F S1x16 .f32) : FVec F S256x256 .bf16 :=
  k0_pay6 (F := F) -- `v39`
def k0_pay218 (x0 : Vec F S1x4096x16 .f32) (x1 : Vec F S1x4096x16 .f32) (x2 : Vec F S1x16 .f32) (x3 : Vec F S1x16 .f32) : IVec S256x16 32 :=
  k0_pay7 -- `v41`
def k0_pay219 (x0 : Vec F S1x4096x16 .f32) (x1 : Vec F S1x4096x16 .f32) (x2 : Vec F S1x16 .f32) (x3 : Vec F S1x16 .f32) : IVec S256x16 1 :=
  k0_pay8 (k0_pay213 x0 x1 x2 x3) (k0_pay218 x0 x1 x2 x3) -- `v42`
def k0_pay220 (x0 : Vec F S1x4096x16 .f32) (x1 : Vec F S1x4096x16 .f32) (x2 : Vec F S1x16 .f32) (x3 : Vec F S1x16 .f32) : FVec F S256x16 .f32 :=
  k0_pay197 (k0_pay214 x0 x1 x2 x3) -- `v644`
def k0_pay221 (x0 : Vec F S1x4096x16 .f32) (x1 : Vec F S1x4096x16 .f32) (x2 : Vec F S1x16 .f32) (x3 : Vec F S1x16 .f32) : FVec F S256x16 .f32 :=
  k0_pay209 (k0_pay215 x0 x1 x2 x3) (k0_pay216 x0 x1 x2 x3) (k0_pay217 x0 x1 x2 x3) (k0_pay219 x0 x1 x2 x3) -- `v680`
def k0_pay222 (x0 : Vec F S1x4096x16 .f32) (x1 : Vec F S1x4096x16 .f32) (x2 : Vec F S1x16 .f32) (x3 : Vec F S1x16 .f32) : FVec F S256x16 .f32 :=
  k0_pay210 (k0_pay214 x0 x1 x2 x3) -- `v685`

/-- Window 4's staging buffer after the body, from the input windows' blocks: its 16 stores as pieces, LAST
    FIRST (Lib/Pipeline/FrameBody.lean `View.canon`; the payloads are the skeleton's and the values stated above). -/
def out0_4 (x0 : Vec F S1x4096x16 .f32) (x1 : Vec F S1x4096x16 .f32) (x2 : Vec F S1x16 .f32) (x3 : Vec F S1x16 .f32) : Vec F S1x4096x16 .f32 :=
  View.canon [⟨r0_17, k0_pay211 (k0_pay215 x0 x1 x2 x3) (k0_pay216 x0 x1 x2 x3) (k0_pay217 x0 x1 x2 x3) (k0_pay219 x0 x1 x2 x3)⟩,
    ⟨r0_16, k0_pay198 (k0_pay215 x0 x1 x2 x3) (k0_pay216 x0 x1 x2 x3) (k0_pay217 x0 x1 x2 x3) (k0_pay219 x0 x1 x2 x3)⟩,
    ⟨r0_15, k0_pay185 (k0_pay215 x0 x1 x2 x3) (k0_pay216 x0 x1 x2 x3) (k0_pay217 x0 x1 x2 x3) (k0_pay219 x0 x1 x2 x3)⟩,
    ⟨r0_14, k0_pay172 (k0_pay215 x0 x1 x2 x3) (k0_pay216 x0 x1 x2 x3) (k0_pay217 x0 x1 x2 x3) (k0_pay219 x0 x1 x2 x3)⟩,
    ⟨r0_13, k0_pay159 (k0_pay215 x0 x1 x2 x3) (k0_pay216 x0 x1 x2 x3) (k0_pay217 x0 x1 x2 x3) (k0_pay219 x0 x1 x2 x3)⟩,
    ⟨r0_12, k0_pay146 (k0_pay215 x0 x1 x2 x3) (k0_pay216 x0 x1 x2 x3) (k0_pay217 x0 x1 x2 x3) (k0_pay219 x0 x1 x2 x3)⟩,
    ⟨r0_11, k0_pay133 (k0_pay215 x0 x1 x2 x3) (k0_pay216 x0 x1 x2 x3) (k0_pay217 x0 x1 x2 x3) (k0_pay219 x0 x1 x2 x3)⟩,
    ⟨r0_10, k0_pay120 (k0_pay215 x0 x1 x2 x3) (k0_pay216 x0 x1 x2 x3) (k0_pay217 x0 x1 x2 x3) (k0_pay219 x0 x1 x2 x3)⟩,
    ⟨r0_9, k0_pay108 (k0_pay215 x0 x1 x2 x3) (k0_pay216 x0 x1 x2 x3) (k0_pay217 x0 x1 x2 x3) (k0_pay219 x0 x1 x2 x3)⟩,
    ⟨r0_8, k0_pay96 (k0_pay215 x0 x1 x2 x3) (k0_pay216 x0 x1 x2 x3) (k0_pay217 x0 x1 x2 x3) (k0_pay219 x0 x1 x2 x3)⟩,
    ⟨r0_7, k0_pay83 (k0_pay215 x0 x1 x2 x3) (k0_pay216 x0 x1 x2 x3) (k0_pay217 x0 x1 x2 x3) (k0_pay219 x0 x1 x2 x3)⟩,
    ⟨r0_6, k0_pay70 (k0_pay215 x0 x1 x2 x3) (k0_pay216 x0 x1 x2 x3) (k0_pay217 x0 x1 x2 x3) (k0_pay219 x0 x1 x2 x3)⟩,
    ⟨r0_5, k0_pay57 (k0_pay215 x0 x1 x2 x3) (k0_pay216 x0 x1 x2 x3) (k0_pay217 x0 x1 x2 x3) (k0_pay219 x0 x1 x2 x3)⟩,
    ⟨r0_4, k0_pay44 (k0_pay215 x0 x1 x2 x3) (k0_pay216 x0 x1 x2 x3) (k0_pay217 x0 x1 x2 x3) (k0_pay219 x0 x1 x2 x3)⟩,
    ⟨r0_3, k0_pay31 (k0_pay215 x0 x1 x2 x3) (k0_pay216 x0 x1 x2 x3) (k0_pay217 x0 x1 x2 x3) (k0_pay219 x0 x1 x2 x3)⟩,
    ⟨r0_2, k0_pay18 (k0_pay215 x0 x1 x2 x3) (k0_pay216 x0 x1 x2 x3) (k0_pay217 x0 x1 x2 x3) (k0_pay213 x0 x1 x2 x3) (k0_pay218 x0 x1 x2 x3)⟩]

/-- Its stores tile the buffer (checked by evaluation), so they cover it. -/
theorem cover0_4 (p0 : Vec F S1x256x16 .f32) (p1 : Vec F S1x256x16 .f32) (p2 : Vec F S1x256x16 .f32) (p3 : Vec F S1x256x16 .f32) (p4 : Vec F S1x256x16 .f32) (p5 : Vec F S1x256x16 .f32) (p6 : Vec F S1x256x16 .f32) (p7 : Vec F S1x256x16 .f32) (p8 : Vec F S1x256x16 .f32) (p9 : Vec F S1x256x16 .f32) (p10 : Vec F S1x256x16 .f32) (p11 : Vec F S1x256x16 .f32) (p12 : Vec F S1x256x16 .f32) (p13 : Vec F S1x256x16 .f32) (p14 : Vec F S1x256x16 .f32) (p15 : Vec F S1x256x16 .f32) (y : S1x4096x16.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] : List (View.Piece (Elt F) S1x4096x16 .f32)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] S1x256x16.size (by rfl) y

/-- Window 5's staging buffer after the body, from the input windows' blocks: its 16 stores as pieces, LAST
    FIRST (Lib/Pipeline/FrameBody.lean `View.canon`; the payloads are the skeleton's and the values stated above). -/
def out0_5 (x0 : Vec F S1x4096x16 .f32) (x1 : Vec F S1x4096x16 .f32) (x2 : Vec F S1x16 .f32) (x3 : Vec F S1x16 .f32) : Vec F S1x4096x16 .f32 :=
  View.canon [⟨r0_17, k0_pay1 (k0_pay221 x0 x1 x2 x3) (k0_pay222 x0 x1 x2 x3) (k0_pay212 (k0_pay215 x0 x1 x2 x3) (k0_pay216 x0 x1 x2 x3) (k0_pay217 x0 x1 x2 x3) (k0_pay219 x0 x1 x2 x3))⟩,
    ⟨r0_16, k0_pay200 (k0_pay220 x0 x1 x2 x3) (k0_pay199 (k0_pay215 x0 x1 x2 x3) (k0_pay216 x0 x1 x2 x3) (k0_pay217 x0 x1 x2 x3) (k0_pay219 x0 x1 x2 x3))⟩,
    ⟨r0_15, k0_pay187 (k0_pay186 (k0_pay214 x0 x1 x2 x3) (k0_pay215 x0 x1 x2 x3) (k0_pay216 x0 x1 x2 x3) (k0_pay217 x0 x1 x2 x3) (k0_pay219 x0 x1 x2 x3))⟩,
    ⟨r0_14, k0_pay174 (k0_pay173 (k0_pay214 x0 x1 x2 x3) (k0_pay215 x0 x1 x2 x3) (k0_pay216 x0 x1 x2 x3) (k0_pay217 x0 x1 x2 x3) (k0_pay219 x0 x1 x2 x3))⟩,
    ⟨r0_13, k0_pay161 (k0_pay160 (k0_pay214 x0 x1 x2 x3) (k0_pay215 x0 x1 x2 x3) (k0_pay216 x0 x1 x2 x3) (k0_pay217 x0 x1 x2 x3) (k0_pay219 x0 x1 x2 x3))⟩,
    ⟨r0_12, k0_pay148 (k0_pay147 (k0_pay214 x0 x1 x2 x3) (k0_pay215 x0 x1 x2 x3) (k0_pay216 x0 x1 x2 x3) (k0_pay217 x0 x1 x2 x3) (k0_pay219 x0 x1 x2 x3))⟩,
    ⟨r0_11, k0_pay135 (k0_pay134 (k0_pay214 x0 x1 x2 x3) (k0_pay215 x0 x1 x2 x3) (k0_pay216 x0 x1 x2 x3) (k0_pay217 x0 x1 x2 x3) (k0_pay219 x0 x1 x2 x3))⟩,
    ⟨r0_10, k0_pay122 (k0_pay121 (k0_pay214 x0 x1 x2 x3) (k0_pay215 x0 x1 x2 x3) (k0_pay216 x0 x1 x2 x3) (k0_pay217 x0 x1 x2 x3) (k0_pay219 x0 x1 x2 x3))⟩,
    ⟨r0_9, k0_pay109 (k0_pay214 x0 x1 x2 x3) (k0_pay215 x0 x1 x2 x3) (k0_pay216 x0 x1 x2 x3) (k0_pay217 x0 x1 x2 x3) (k0_pay219 x0 x1 x2 x3)⟩,
    ⟨r0_8, k0_pay97 (k0_pay214 x0 x1 x2 x3) (k0_pay215 x0 x1 x2 x3) (k0_pay216 x0 x1 x2 x3) (k0_pay217 x0 x1 x2 x3) (k0_pay219 x0 x1 x2 x3)⟩,
    ⟨r0_7, k0_pay84 (k0_pay214 x0 x1 x2 x3) (k0_pay215 x0 x1 x2 x3) (k0_pay216 x0 x1 x2 x3) (k0_pay217 x0 x1 x2 x3) (k0_pay219 x0 x1 x2 x3)⟩,
    ⟨r0_6, k0_pay71 (k0_pay214 x0 x1 x2 x3) (k0_pay215 x0 x1 x2 x3) (k0_pay216 x0 x1 x2 x3) (k0_pay217 x0 x1 x2 x3) (k0_pay219 x0 x1 x2 x3)⟩,
    ⟨r0_5, k0_pay58 (k0_pay214 x0 x1 x2 x3) (k0_pay215 x0 x1 x2 x3) (k0_pay216 x0 x1 x2 x3) (k0_pay217 x0 x1 x2 x3) (k0_pay219 x0 x1 x2 x3)⟩,
    ⟨r0_4, k0_pay45 (k0_pay214 x0 x1 x2 x3) (k0_pay215 x0 x1 x2 x3) (k0_pay216 x0 x1 x2 x3) (k0_pay217 x0 x1 x2 x3) (k0_pay219 x0 x1 x2 x3)⟩,
    ⟨r0_3, k0_pay32 (k0_pay214 x0 x1 x2 x3) (k0_pay215 x0 x1 x2 x3) (k0_pay216 x0 x1 x2 x3) (k0_pay217 x0 x1 x2 x3) (k0_pay219 x0 x1 x2 x3)⟩,
    ⟨r0_2, k0_pay19 (k0_pay214 x0 x1 x2 x3) (k0_pay215 x0 x1 x2 x3) (k0_pay216 x0 x1 x2 x3) (k0_pay217 x0 x1 x2 x3) (k0_pay213 x0 x1 x2 x3) (k0_pay218 x0 x1 x2 x3)⟩]

/-- Its stores tile the buffer (checked by evaluation), so they cover it. -/
theorem cover0_5 (p0 : Vec F S1x256x16 .f32) (p1 : Vec F S1x256x16 .f32) (p2 : Vec F S1x256x16 .f32) (p3 : Vec F S1x256x16 .f32) (p4 : Vec F S1x256x16 .f32) (p5 : Vec F S1x256x16 .f32) (p6 : Vec F S1x256x16 .f32) (p7 : Vec F S1x256x16 .f32) (p8 : Vec F S1x256x16 .f32) (p9 : Vec F S1x256x16 .f32) (p10 : Vec F S1x256x16 .f32) (p11 : Vec F S1x256x16 .f32) (p12 : Vec F S1x256x16 .f32) (p13 : Vec F S1x256x16 .f32) (p14 : Vec F S1x256x16 .f32) (p15 : Vec F S1x256x16 .f32) (y : S1x4096x16.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] : List (View.Piece (Elt F) S1x4096x16 .f32)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] S1x256x16.size (by rfl) y

/-- Window 6's staging buffer after the body, from the input windows' blocks: its 16 stores as pieces, LAST
    FIRST (Lib/Pipeline/FrameBody.lean `View.canon`; the payloads are the skeleton's and the values stated above). -/
def out0_6 (x0 : Vec F S1x4096x16 .f32) (x1 : Vec F S1x4096x16 .f32) (x2 : Vec F S1x16 .f32) (x3 : Vec F S1x16 .f32) : Vec F S1x4096x16 .f32 :=
  View.canon [⟨r0_17, k0_pay2 (k0_pay221 x0 x1 x2 x3) (k0_pay222 x0 x1 x2 x3)⟩,
    ⟨r0_16, k0_pay201 (k0_pay196 (k0_pay215 x0 x1 x2 x3) (k0_pay216 x0 x1 x2 x3) (k0_pay217 x0 x1 x2 x3) (k0_pay219 x0 x1 x2 x3)) (k0_pay220 x0 x1 x2 x3)⟩,
    ⟨r0_15, k0_pay188 (k0_pay183 (k0_pay215 x0 x1 x2 x3) (k0_pay216 x0 x1 x2 x3) (k0_pay217 x0 x1 x2 x3) (k0_pay219 x0 x1 x2 x3)) (k0_pay184 (k0_pay214 x0 x1 x2 x3))⟩,
    ⟨r0_14, k0_pay175 (k0_pay170 (k0_pay215 x0 x1 x2 x3) (k0_pay216 x0 x1 x2 x3) (k0_pay217 x0 x1 x2 x3) (k0_pay219 x0 x1 x2 x3)) (k0_pay171 (k0_pay214 x0 x1 x2 x3))⟩,
    ⟨r0_13, k0_pay162 (k0_pay157 (k0_pay215 x0 x1 x2 x3) (k0_pay216 x0 x1 x2 x3) (k0_pay217 x0 x1 x2 x3) (k0_pay219 x0 x1 x2 x3)) (k0_pay158 (k0_pay214 x0 x1 x2 x3))⟩,
    ⟨r0_12, k0_pay149 (k0_pay144 (k0_pay215 x0 x1 x2 x3) (k0_pay216 x0 x1 x2 x3) (k0_pay217 x0 x1 x2 x3) (k0_pay219 x0 x1 x2 x3)) (k0_pay145 (k0_pay214 x0 x1 x2 x3))⟩,
    ⟨r0_11, k0_pay136 (k0_pay131 (k0_pay215 x0 x1 x2 x3) (k0_pay216 x0 x1 x2 x3) (k0_pay217 x0 x1 x2 x3) (k0_pay219 x0 x1 x2 x3)) (k0_pay132 (k0_pay214 x0 x1 x2 x3))⟩,
    ⟨r0_10, k0_pay123 (k0_pay118 (k0_pay215 x0 x1 x2 x3) (k0_pay216 x0 x1 x2 x3) (k0_pay217 x0 x1 x2 x3) (k0_pay219 x0 x1 x2 x3)) (k0_pay119 (k0_pay214 x0 x1 x2 x3))⟩,
    ⟨r0_9, k0_pay110 (k0_pay106 (k0_pay215 x0 x1 x2 x3) (k0_pay216 x0 x1 x2 x3) (k0_pay217 x0 x1 x2 x3) (k0_pay219 x0 x1 x2 x3)) (k0_pay107 (k0_pay214 x0 x1 x2 x3))⟩,
    ⟨r0_8, k0_pay98 (k0_pay94 (k0_pay215 x0 x1 x2 x3) (k0_pay216 x0 x1 x2 x3) (k0_pay217 x0 x1 x2 x3) (k0_pay219 x0 x1 x2 x3)) (k0_pay95 (k0_pay214 x0 x1 x2 x3))⟩,
    ⟨r0_7, k0_pay86 (k0_pay85 (k0_pay214 x0 x1 x2 x3) (k0_pay215 x0 x1 x2 x3) (k0_pay216 x0 x1 x2 x3) (k0_pay217 x0 x1 x2 x3) (k0_pay219 x0 x1 x2 x3))⟩,
    ⟨r0_6, k0_pay73 (k0_pay72 (k0_pay214 x0 x1 x2 x3) (k0_pay215 x0 x1 x2 x3) (k0_pay216 x0 x1 x2 x3) (k0_pay217 x0 x1 x2 x3) (k0_pay219 x0 x1 x2 x3))⟩,
    ⟨r0_5, k0_pay60 (k0_pay59 (k0_pay214 x0 x1 x2 x3) (k0_pay215 x0 x1 x2 x3) (k0_pay216 x0 x1 x2 x3) (k0_pay217 x0 x1 x2 x3) (k0_pay219 x0 x1 x2 x3))⟩,
    ⟨r0_4, k0_pay47 (k0_pay46 (k0_pay214 x0 x1 x2 x3) (k0_pay215 x0 x1 x2 x3) (k0_pay216 x0 x1 x2 x3) (k0_pay217 x0 x1 x2 x3) (k0_pay219 x0 x1 x2 x3))⟩,
    ⟨r0_3, k0_pay34 (k0_pay33 (k0_pay214 x0 x1 x2 x3) (k0_pay215 x0 x1 x2 x3) (k0_pay216 x0 x1 x2 x3) (k0_pay217 x0 x1 x2 x3) (k0_pay219 x0 x1 x2 x3))⟩,
    ⟨r0_2, k0_pay21 (k0_pay20 (k0_pay214 x0 x1 x2 x3) (k0_pay215 x0 x1 x2 x3) (k0_pay216 x0 x1 x2 x3) (k0_pay217 x0 x1 x2 x3) (k0_pay213 x0 x1 x2 x3) (k0_pay218 x0 x1 x2 x3))⟩]

/-- Its stores tile the buffer (checked by evaluation), so they cover it. -/
theorem cover0_6 (p0 : Vec F S1x256x16 .f32) (p1 : Vec F S1x256x16 .f32) (p2 : Vec F S1x256x16 .f32) (p3 : Vec F S1x256x16 .f32) (p4 : Vec F S1x256x16 .f32) (p5 : Vec F S1x256x16 .f32) (p6 : Vec F S1x256x16 .f32) (p7 : Vec F S1x256x16 .f32) (p8 : Vec F S1x256x16 .f32) (p9 : Vec F S1x256x16 .f32) (p10 : Vec F S1x256x16 .f32) (p11 : Vec F S1x256x16 .f32) (p12 : Vec F S1x256x16 .f32) (p13 : Vec F S1x256x16 .f32) (p14 : Vec F S1x256x16 .f32) (p15 : Vec F S1x256x16 .f32) (y : S1x4096x16.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] : List (View.Piece (Elt F) S1x4096x16 .f32)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩, ⟨r0_9, p8⟩, ⟨r0_8, p9⟩, ⟨r0_7, p10⟩, ⟨r0_6, p11⟩, ⟨r0_5, p12⟩, ⟨r0_4, p13⟩, ⟨r0_3, p14⟩, ⟨r0_2, p15⟩] S1x256x16.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x4096x16 .f32) (harg1 : arg1.IsWhole) (arg2 : Memref sig .tc .vmem S1x4096x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x4096x16 .f32) (harg5 : arg5.IsWhole) (arg6 : Memref sig .tc .vmem S1x4096x16 .f32) (harg6 : arg6.IsWhole) (arg7 : Memref sig .tc .vmem S1x4096x16 .f32) (harg7 : arg7.IsWhole)
    (x0 : Vec F S1x4096x16 .f32) (x1 : Vec F S1x4096x16 .f32) (x2 : Vec F S1x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_gate_prep i arg1 harg1 arg2 harg2 arg3 harg3 arg4 harg4 arg5 harg5 arg6 harg6 arg7 harg7) K := by
  simp only [cc0_gate_prep_eq_skeleton]; unfold cc0_gate_prep_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _)).trans ?_
    rfl
  isplitl [H5]
  · iexists _; isplitr
    swap; · iexact H5
    ipureintro
    refine (View.read_writes_eq_canon _ _ _ (cover0_5 _ _ _ _ _ _ _ _ _ _ _ _ _ _ _ _)).trans ?_
    rfl
  iexists _; isplitr
  swap; · iexact H6
  ipureintro
  refine (View.read_writes_eq_canon _ _ _ (cover0_6 _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_mlstm` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 7, through which its contents are stated (`View.read_writes_of_cover`: the
    choice does not matter). -/
abbrev VO1_7 : View sig .tc .vmem S1x4096x512 .bf16 := (Memref.whole cc1_stg7_0 : Memref sig .tc .vmem S1x4096x512 .bf16).view
/-- Each window's current staging memref at point `t`, spelled as the pipeline passes it (`bodyAt1`), and its wholeness. -/
abbrev ms1_0 (t : Fin cfg1.N) : Memref sig .tc .vmem S1x4096x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x4096x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x2x16x1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x4096x512 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S4096x512 .f32 := Memref.whole cc1_scratch0
abbrev scM1_1 : Memref sig .tc .vmem S2x256x512 .f32 := Memref.whole cc1_scratch1
abbrev scM1_2 : Memref sig .tc .vmem S2x1x256 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

set_option maxHeartbeats 4000000 in
/-- The second kernel's body on whole staging memrefs, the inputs' at their contents, the output's and the scratch at
    anything: it ends with the inputs as they were, the scratch at some contents and the output's block at
    `Mlstm.outBlock` of the inputs'. -/
theorem kernelRun1 (c : Dev nD) (i : grid1.Coords) (arg2 : Memref sig .tc .vmem S1x4096x256 .bf16) (harg2 : arg2.IsWhole) (arg3 : Memref sig .tc .vmem S1x4096x256 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x1x4096x4 .f32) (harg6 : arg6.IsWhole) (arg7 : Memref sig .tc .vmem S1x1x2x16x1x256 .f32) (harg7 : arg7.IsWhole) (arg8 : Memref sig .tc .vmem S1x512 .f32) (harg8 : arg8.IsWhole) (arg9 : Memref sig .tc .vmem S1x4096x512 .bf16) (harg9 : arg9.IsWhole) (arg10 : Memref sig .tc .vmem S4096x512 .f32) (harg10 : arg10.IsWhole) (arg11 : Memref sig .tc .vmem S2x256x512 .f32) (harg11 : arg11.IsWhole) (arg12 : Memref sig .tc .vmem S2x1x256 .f32) (harg12 : arg12.IsWhole)
    (x0 : Vec F S1x4096x256 .bf16) (x1 : Vec F S1x4096x256 .bf16) (x2 : Vec F S1x4096x512 .bf16) (x3 : Vec F S1x4096x512 .bf16) (x4 : Vec F S1x1x4096x4 .f32) (x5 : Vec F S1x1x2x16x1x256 .f32) (x6 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (Mlstm.outBlock x0 x1 x2 x3 x4 x5 x6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc1_mlstm i arg2 harg2 arg3 harg3 arg4 harg4 arg5 harg5 arg6 harg6 arg7 harg7 arg8 harg8 arg9 harg9 arg10 harg10 arg11 harg11 arg12 harg12) K := by
  intro E K
  simp only [cc1_mlstm_eq_skeleton]; unfold cc1_mlstm_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.writes_append, View.writes_append]
    exact Mlstm.out_read Variants.none c none i arg2 harg2 arg3 harg3 arg4 harg4 arg5 harg5 arg6 harg6 arg7 harg7 arg8 harg8 arg9 harg9 arg10 harg10 arg11 harg11 arg12 harg12
      (harg2.unread x0) (harg3.unread x1) (harg4.unread x2) (harg5.unread x3) (harg6.unread x4) (harg7.unread x5) (harg8.unread x6) _ _ _ _
      (harg2.read_unread _) (harg3.read_unread _) (harg4.read_unread _) (harg5.read_unread _) (harg6.read_unread _) (harg7.read_unread _) (harg8.read_unread _)
      (by decide +kernel) (by decide +kernel)
      (by unfold kernelRun1.sl.HS1_1; exact View.read_writes_full _ _ _ _ _) (by unfold kernelRun1.sl.HS2_1; exact View.read_writes_full _ _ _ _ _)
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- What the output's staging buffer holds after the body at point `t`. -/
def outsAt1 (c : Dev nD) (t : Fin cfg1.N) : Vec F S1x4096x512 .bf16 :=
  Mlstm.outBlock (iblk1 V c 0 t) (iblk1 V c 1 t) (iblk1 V c 2 t) (iblk1 V c 3 t) (iblk1 V c 4 t) (iblk1 V c 5 t) (iblk1 V c 6 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  iintro ⟨⟨⟨HR0, HR1, HR2, HR3, HR4, HR5, HR6, HR7, HR8, HR9, HR10, HR11, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun1 c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HR0 HR1 HR2 HR3 HR4 HR5 HR6 HR7 HR8 HR9 HR10 HR11 HS0 HS1 HS2 Hg]
  · isplitl [HR0 HR1 HR2 HR3 HR4 HR5 HR6 HR7 HR8 HR9 HR10 HR11 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12, main_v13, main_v14, main_v15, main_v16, main_v17, main_v18, main_v19, main_v20, main_v21, main_v22, main_v23, main_v24, main_v25, main_v26, main_v27, main_v28, main_v29]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and ends
    with every unscoped buffer at the last boundary's contents `W4` and every counter at zero. -/
theorem run_main : θ_run defs (onTc (τ := τ) (main (F := F))) ⟨m, fun _ => 0, ρ⟩ (fun r => (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

end Cert.KernelIdeal.Run

end
-- ==== Proof.MlstmFrames.lean ====
/-
  The frames of the two kernel programs, from one run: the idealised program's run over any float values, at the ideal
  instance and at the bit patterns (there the named constant is read as the literal it stands for, so that the program
  is the printed kernel).
-/
module

public import proofs.«01_k».proof.Defs
public import proofs.«01_k».proof.Proof.Gen.Kernel
public import proofs.«01_k».proof.Proof.MlstmRun
public import proofs.«01_k».proof.Proof.Gen.ReferenceIdeal.Run
public import Idealize.ShloMosaic.Lib.Quiescent
public import Idealize.ShloMosaic.Lib.Tactic

@[expose] public section

set_option maxRecDepth 16384

noncomputable section

namespace Cert.Proof

open Idealize.ShloMosaic Idealize.ShloMosaic.TcCoe Idealize.SL.Sem
open Cert.KernelIdeal Cert.KernelIdeal.Gen Cert.KernelIdeal.Run

/-- The run's post, read at the arguments. -/
theorem frame_of_run {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c)⟩, h.2⟩) (run_main m ρ)

/-- Over the bit patterns a named constant is the pattern it names. -/
local instance namedBits : Named Bits where
  named _ _ {φ} bits := Scalar.ofBits φ bits

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The printed kernel is that text: the two differ by the named constant, which is here the literal. -/
theorem frame_same : Cert.quiescent_Kernel = FrameBits := by sl_kernel_rfl

theorem frame_kernel : Cert.quiescent_Kernel := by
  rw [frame_same]
  exact fun m ρ _ => frame_of_run (F := Bits) m ρ

theorem frame_ideal : Cert.quiescent_KernelIdeal := fun m ρ _ => frame_of_run m ρ

/-- The named constant is the table's value. -/
theorem named_constant : Cert.preserves_Kernel_KernelIdeal :=
  IdealRules.named_const.statement Cert.KernelIdeal.κ "c" .f32 0x3D888889#32 ((15⁻¹ : ℝ) : EReal) rfl

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.RealFacts.lean ====
/-
  The extended-real operations on real numbers: sums, absolute values, masked exponentials, and the two spellings of
  the logistic function and of the log of it.
-/
module

public import Idealize.ShloMosaic.PureOps.Ideal
public import Idealize.ShloMosaic.Lib.Pointwise
public import Idealize.ShloMosaic.Lib.IdealHost

@[expose] public section

namespace Cert.RealFacts

open Idealize.ShloMosaic

/-- A sum of real numbers, taken in the extended reals, is the real sum. -/
theorem coe_sum {ι : Type*} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

theorem coe_max (x y : ℝ) : max (x : EReal) (y : EReal) = ((max x y : ℝ) : EReal) :=
  (Monotone.map_max (fun _ _ h => EReal.coe_le_coe_iff.mpr h)).symm

theorem coe_min (x y : ℝ) : min (x : EReal) (y : EReal) = ((min x y : ℝ) : EReal) :=
  (Monotone.map_min (fun _ _ h => EReal.coe_le_coe_iff.mpr h)).symm

theorem absf_coe (x : ℝ) : (FloatOps.absf (F := Ideal) (φ := .f32) (x : EReal)) = ((|x| : ℝ) : EReal) := by
  show max (x : EReal) (-(x : EReal)) = _
  rw [← EReal.coe_neg, coe_max]; rfl

theorem ofBits_negInf : Ideal.ofBits .f32 0xFF800000#32 = ⊥ := by simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_fifteen : Ideal.ofBits .f32 0x41700000#32 = ((15 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

/-- The exponential of a masked entry: nothing where the mask is off. -/
theorem exp_select (p : Bool) (x : ℝ) :
    Ideal.exp (Scalar.select (BitVec.ofBool p) (x : EReal) ⊥) = ((if p then Real.exp x else 0 : ℝ) : EReal) := by
  cases p <;> simp [Scalar.select]

/-- Half the hyperbolic tangent of half, plus a half, is the logistic function. -/
theorem sigmoid_tanh (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num), Ideal.tanh_bot, EReal.neg_bot, Ideal.exp_top]
    rw [show (1 : EReal) + ⊤ = ⊤ from EReal.add_top_of_ne_bot (by decide), Ideal.div, if_neg (by decide), EReal.inv_top]
    rw [show (-1 : EReal) = ((-1 : ℝ) : EReal) from by simp, ← EReal.coe_mul, ← EReal.coe_add]
    norm_num
  | top =>
    rw [EReal.coe_mul_top_of_pos (by norm_num), Ideal.tanh_top, EReal.neg_top, Ideal.exp_bot]
    rw [show (1 : EReal) = ((1 : ℝ) : EReal) from by simp, add_zero, Ideal.div_coe (by norm_num), ← EReal.coe_mul, ← EReal.coe_add, ← EReal.coe_mul]
    norm_num
  | coe r =>
    rw [← EReal.coe_mul, Ideal.tanh_coe, ← EReal.coe_neg, Ideal.exp_coe]
    have h : (1 : ℝ) + Real.exp (-r) ≠ 0 := by positivity
    rw [show (1 : EReal) = ((1 : ℝ) : EReal) from by simp, ← EReal.coe_add, Ideal.div_coe h]
    rw [← EReal.coe_mul, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    set a := Real.exp (1 / 2 * r) with ha
    set b := Real.exp (-(1 / 2 * r)) with hb
    have pa : 0 < a := Real.exp_pos _
    have pb : 0 < b := Real.exp_pos _
    have : a + b ≠ 0 := by positivity
    have : 1 + b * b ≠ 0 := by positivity
    field_simp
    nlinarith [h2]

/-- A capped value is a real number. -/
theorem softcap_real (x : EReal) : ∃ r : ℝ, ((15 : ℝ) : EReal) * Ideal.tanh x = (r : EReal) := by
  induction x with
  | bot => exact ⟨-15, by rw [Ideal.tanh_bot, show (-1 : EReal) = ((-1 : ℝ) : EReal) from by simp, ← EReal.coe_mul]; norm_num⟩
  | top => exact ⟨15, by rw [Ideal.tanh_top, mul_one]⟩
  | coe r => exact ⟨15 * Real.tanh r, by rw [Ideal.tanh_coe, ← EReal.coe_mul]⟩

theorem log1p_exp (r : ℝ) : Ideal.log1p (Ideal.exp (r : EReal)) = ((Real.log (1 + Real.exp r) : ℝ) : EReal) := by
  rw [Ideal.exp_coe, Ideal.log1p, show (1 : EReal) = ((1 : ℝ) : EReal) from by simp, ← EReal.coe_add]
  show (if _ then _ else _) = _
  rw [if_neg (by have := Real.exp_pos r; linarith)]

/-- A gate's softly capped value, a real number whatever the gate is. -/
noncomputable def capped (g : EReal) : ℝ := (((15 : ℝ) : EReal) * Ideal.tanh (Ideal.div g ((15 : ℝ) : EReal))).toReal

theorem coe_capped (g : EReal) : (capped g : EReal) = ((15 : ℝ) : EReal) * Ideal.tanh (Ideal.div g ((15 : ℝ) : EReal)) := by
  obtain ⟨r, hr⟩ := softcap_real (Ideal.div g ((15 : ℝ) : EReal))
  unfold capped; rw [hr, EReal.toReal_coe]

/-- The logarithm of a forget gate's logistic value. -/
noncomputable def forget (g : EReal) : ℝ := min (capped g) 0 - Real.log (1 + Real.exp (-|capped g|))

end Cert.RealFacts
-- ==== Proof.FinitePre.lean ====
/-
  The precondition read entry by entry: every query, key and value is a real number.
-/
module

public import proofs.«01_k».proof.Pre_finite_qkv
public import proofs.«01_k».proof.Proof.RealFacts
public import Idealize.ShloMosaic.Lib.ReduceAll
public import Idealize.ShloMosaic.Lib.Pointwise
public import Idealize.ShloMosaic.Lib.Decide

@[expose] public section

set_option maxRecDepth 16384

noncomputable section

namespace Cert.Pre_finite_qkv

open Idealize.ShloMosaic

theorem facts : Facts where
  slices_S2x4096x16384_S2x4096x8192_0_0_0 := by decide
  bitsLt_bf16_f32 := by decide
  bcast_S_S2x4096x8192 := by decide
  reducesTo_S2x4096x8192_S_d0_1_2 := by decide
  h_S_ := by decide

/-- An extended real whose absolute value is below infinity is a real number. -/
theorem real_of_abs_lt (x : EReal) (h : max x (-x) < ⊤) : ∃ r : ℝ, x = r := by
  induction x with
  | bot => exact absurd h (by simp)
  | coe r => exact ⟨r, rfl⟩
  | top => exact absurd h (by simp)

theorem ofBits_inf : Ideal.ofBits .f32 0x7F800000#32 = ⊤ := by simp [Ideal.ofBits, Ideal.ieee]

theorem real [Facts] (u : FVec Ideal S2x4096x16384 .bf16) (g : FVec Ideal S2x4096x32 .f32) (bi bf : FVec Ideal S2x8 .f32) (w : FVec Ideal S4096 .f32)
    (h : fn u g bi bf w = fun _ => 1#1) (b : Fin 2) (t : Fin 4096) (x : Fin 16384) (hx : (x : ℕ) < 8192) : ∃ r : ℝ, u (ix3 b t x) = (r : EReal) := by
  have : Subsingleton S_.Idx := ⟨fun a b => funext fun i => i.elim0⟩
  have e := Host.reduce_andi_all _ _ _ _ _ (congrFun h ix0) (ix3 b t (⟨x, hx⟩ : Fin 8192))
  pointwise at e
  rw [ofBits_inf] at e
  refine real_of_abs_lt _ ?_
  by_contra hn
  rw [show decide (FloatOps.absf (F := Ideal) (φ := .f32) (u (ix3 b t x)) < ⊤) = false from decide_eq_false hn] at e
  exact absurd e (by decide)

end Cert.Pre_finite_qkv

end
-- ==== Proof.ScanMath.lean ====
module
public import Mathlib.Analysis.SpecialFunctions.Exp
public import Mathlib.Algebra.BigOperators.Fin
public import Mathlib.Algebra.BigOperators.Ring.Finset
public import Mathlib.Tactic.Ring

@[expose] public section
open scoped BigOperators
open Finset

/-! # The gated recurrence over the reals

One head in one direction is a sequence of log forget gates `lf`, log input gates `li`, queries, keys and values,
taken in the order of the scan. `G` sums the forget gates, `S` is a sum over the past in which position `s` weighs
`exp (G n - G (s+1) + li s)`: the state, the normaliser, the numerator and the denominator are all of this form.
Cutting the sequence at `n` splits `S` into the state carried in and the terms of the chunk. -/

namespace Cert.Scan

/-- The log forget gates summed over the first `n` positions. -/
noncomputable def G (lf : ℕ → ℝ) (n : ℕ) : ℝ := ∑ u ∈ range n, lf u

/-- The weighted sum of `f` over the positions before `n`. -/
noncomputable def S (lf li : ℕ → ℝ) (f : ℕ → ℝ) (n : ℕ) : ℝ :=
  ∑ s ∈ range n, Real.exp (G lf n - G lf (s + 1) + li s) * f s

variable (lf li : ℕ → ℝ)

theorem G_add (n i : ℕ) : G lf (n + i) - G lf n = ∑ u ∈ range i, lf (n + u) := by
  unfold G; rw [sum_range_add]; ring

theorem S_zero (f : ℕ → ℝ) : S lf li f 0 = 0 := by simp [S]

/-- A sum over the past cut at `n`. -/
theorem S_add (f : ℕ → ℝ) (n L : ℕ) :
    S lf li f (n + L) = Real.exp (G lf (n + L) - G lf n) * S lf li f n
      + ∑ j ∈ range L, Real.exp (G lf (n + L) - G lf (n + j + 1) + li (n + j)) * f (n + j) := by
  unfold S
  rw [sum_range_add, mul_sum]
  congr 1
  refine sum_congr rfl fun s _ => ?_
  rw [← mul_assoc, ← Real.exp_add]
  congr 2; ring

/-- The chunk after `n`, its positions met in any order `e`. -/
theorem S_chunk (f : ℕ → ℝ) (n : ℕ) {L : ℕ} (e : Equiv.Perm (Fin L)) :
    S lf li f (n + L) = Real.exp (G lf (n + L) - G lf n) * S lf li f n
      + ∑ j : Fin L, Real.exp (G lf (n + L) - G lf (n + e j + 1) + li (n + e j)) * f (n + e j) := by
  rw [S_add, ← Fin.sum_univ_eq_sum_range
    (fun j => Real.exp (G lf (n + L) - G lf (n + j + 1) + li (n + j)) * f (n + j)) L]
  congr 1
  exact (Equiv.sum_comp e (fun j : Fin L => Real.exp (G lf (n + L) - G lf (n + j + 1) + li (n + j)) * f (n + j))).symm

/-- Row `e i` of the chunk after `n`: the positions up to it. -/
theorem S_row (f : ℕ → ℝ) (n : ℕ) {L : ℕ} (e : Equiv.Perm (Fin L)) (i : Fin L) :
    S lf li f (n + e i + 1) = Real.exp (G lf (n + e i + 1) - G lf n) * S lf li f n
      + ∑ j : Fin L, if e j ≤ e i then
          Real.exp (G lf (n + e i + 1) - G lf (n + e j + 1) + li (n + e j)) * f (n + e j) else 0 := by
  rw [add_assoc n, S_add, ← add_assoc n]
  congr 1
  rw [Equiv.sum_comp e (fun j : Fin L => if j ≤ e i then
    Real.exp (G lf (n + e i + 1) - G lf (n + j + 1) + li (n + j)) * f (n + j) else 0)]
  refine Eq.trans ?_ (Fin.sum_univ_eq_sum_range (fun j : ℕ => if j ≤ (e i : ℕ) then
    Real.exp (G lf (n + e i + 1) - G lf (n + j + 1) + li (n + j)) * f (n + j) else 0) L).symm
  rw [← sum_filter]
  refine sum_congr ?_ fun _ _ => rfl
  ext j; have := (e i).isLt; simp only [mem_filter, mem_range]; omega

/-- A combination of states is the state of the combination. -/
theorem S_comb {ι : Type} [Fintype ι] (c : ι → ℝ) (f : ι → ℕ → ℝ) (n : ℕ) :
    ∑ a, c a * S lf li (f a) n = S lf li (fun s => ∑ a, c a * f a s) n := by
  unfold S
  simp only [mul_sum]
  rw [sum_comm]
  refine sum_congr rfl fun s _ => sum_congr rfl fun a _ => by ring

section Head
variable (q k : ℕ → Fin 256 → ℝ) (v : ℕ → Fin 512 → ℝ)

/-- The matrix state before position `n`. -/
noncomputable def C (n : ℕ) (a : Fin 256) (d : Fin 512) : ℝ := S lf li (fun s => k s a * v s d) n
/-- The normaliser before position `n`. -/
noncomputable def N (n : ℕ) (a : Fin 256) : ℝ := S lf li (fun s => k s a) n
/-- The score of position `s` under the query of position `i`. -/
noncomputable def qk (i s : ℕ) : ℝ := ∑ a, q i a * k s a
/-- The numerator at position `i`. -/
noncomputable def num (i : ℕ) (d : Fin 512) : ℝ := S lf li (fun s => qk q k i s * v s d) (i + 1)
/-- The denominator at position `i`. -/
noncomputable def den (i : ℕ) : ℝ := S lf li (fun s => qk q k i s) (i + 1)
/-- The head's output at position `i`. -/
noncomputable def h (i : ℕ) (d : Fin 512) : ℝ := num lf li q k v i d * (1 / max |den lf li q k i| 1)

theorem q_C (i n : ℕ) (d : Fin 512) :
    ∑ a, q i a * C lf li k v n a d = S lf li (fun s => qk q k i s * v s d) n := by
  unfold C; rw [S_comb]; unfold qk
  congr 1; funext s; rw [sum_mul]; exact sum_congr rfl fun a _ => by ring

theorem q_N (i n : ℕ) : ∑ a, q i a * N lf li k n a = S lf li (fun s => qk q k i s) n := by
  unfold N; rw [S_comb]; rfl

end Head
end Cert.Scan
-- ==== Proof.MlstmPay.lean ====
/-
  One chunk of the scan over the extended reals: when what the chunk reads are real numbers, what it leaves are real
  numbers too, and they are the sums the mathematics writes.
-/
module

public import proofs.«01_k».proof.Proof.MlstmTrip
public import proofs.«01_k».proof.Proof.ScanMath
public import proofs.«01_k».proof.Proof.RealFacts
public import Idealize.ShloMosaic.PureOps.Ideal
public import Idealize.ShloMosaic.Lib.Pointwise
public import Idealize.ShloMosaic.Lib.IdealHost

@[expose] public section

set_option maxRecDepth 8192
set_option maxHeartbeats 4000000

noncomputable section

namespace Cert.KernelIdeal.Mlstm

open Cert.KernelIdeal.Gen
open Idealize.ShloMosaic Idealize.ShloMosaic.TcCoe Idealize.ShloMosaic.Tactic
open Idealize.ShloMosaic.VecWindow
open Cert.RealFacts

/-- The chunk's outputs: the masked scores' part and the carried part, over the clamped denominator. -/
theorem hPay_apply {mask : IVec S256x256 1} {bcol : FVec Ideal S256x1 .f32} {q k : Vec Ideal S1x256x256 .bf16} {v : Vec Ideal S1x256x512 .bf16}
    {gr : Vec Ideal S1x1x1x1x1x256 .f32} {C : Vec Ideal S1x256x512 .f32} {n : Vec Ideal S1x1x256 .f32}
    {p : Fin 256 → Fin 256 → Bool} {b r : Fin 256 → ℝ} {qr kr : Fin 256 → Fin 256 → ℝ} {vr : Fin 256 → Fin 512 → ℝ}
    {Cr : Fin 256 → Fin 512 → ℝ} {nr : Fin 256 → ℝ}
    (hm : ∀ i j, mask (ix2 i j) = BitVec.ofBool (p i j)) (hb : ∀ i, bcol (ix2 i 0) = (b i : EReal))
    (hq : ∀ i a, q (ix3 0 i a) = (qr i a : EReal)) (hk : ∀ i a, k (ix3 0 i a) = (kr i a : EReal))
    (hv : ∀ i d, v (ix3 0 i d) = (vr i d : EReal)) (hr : ∀ j, gr (ix6 0 0 0 0 0 j) = (r j : EReal))
    (hC : ∀ a d, C (ix3 0 a d) = (Cr a d : EReal)) (hn : ∀ a, n (ix3 0 0 a) = (nr a : EReal)) (i : Fin 256) (d : Fin 512) :
    hPay mask bcol q k v gr C n (ix2 i d) =
      (((∑ j, (∑ a, qr i a * (1 / 16) * kr j a) * (if p i j then Real.exp (b i + r j) else 0) * vr j d
          + ∑ a, qr i a * (1 / 16) * Real.exp (b i) * Cr a d)
        * (1 / max |∑ j, (∑ a, qr i a * (1 / 16) * kr j a) * (if p i j then Real.exp (b i + r j) else 0)
              + Real.exp (b i) * ∑ a, qr i a * (1 / 16) * nr a| 1) : ℝ) : EReal) := by
  pointwise [hPay, k1_pay36, k1_pay8, k1_pay12, k1_pay22, k1_pay24, k1_pay26, k1_pay10, k1_pay28, k1_pay30]
  simp only [hm, hb, hq, hk, hv, hr, hC, hn, Ideal.ofBits_sixteenth_bf16, ofBits_negInf, ← EReal.coe_mul, coe_sum,
    ← EReal.coe_add, exp_select, Ideal.exp_coe, dite_eq_ite, ite_self]
  refine Eq.trans (congrArg₂ (· * ·) (?_ : _ = ((_ : ℝ) : EReal)) (?_ : _ = ((_ : ℝ) : EReal))) (EReal.coe_mul _ _).symm
  · refine (Fin.sum_univ_add (a := 256) (b := 256) _).trans ?_
    simp only [Fin.val_castAdd, Fin.val_natAdd, Fin.is_lt, dite_true, Nat.not_lt.mpr (Nat.le_add_right 256 _), dite_false, Nat.add_sub_cancel_left,
      ← EReal.coe_mul, coe_sum, ← EReal.coe_add]
  · refine (congrArg (fun z : ℝ => Ideal.div 1 (max (FloatOps.absf (F := Ideal) (φ := .f32) (z : EReal)) 1)) (congrArg (· + _)
      (Fin.sum_univ_add (a := 128) (b := 128) fun j : Fin 256 => (∑ a, qr i a * (1 / 16) * kr j a) * (if p i j then Real.exp (b i + r j) else 0)).symm)).trans ?_
    rw [absf_coe, ← EReal.coe_one, coe_max, Ideal.div_coe (by positivity), EReal.coe_one, one_mul]

/-- The matrix after the chunk. -/
theorem cPay_apply {ecol : FVec Ideal S256x1 .f32} {last : FVec Ideal S1x1 .f32} {k : Vec Ideal S1x256x256 .bf16} {v : Vec Ideal S1x256x512 .bf16}
    {C : Vec Ideal S1x256x512 .f32} {e : Fin 256 → ℝ} {l : ℝ} {kr : Fin 256 → Fin 256 → ℝ} {vr : Fin 256 → Fin 512 → ℝ} {Cr : Fin 256 → Fin 512 → ℝ}
    (he : ∀ i, ecol (ix2 i 0) = (e i : EReal)) (hl : last (ix2 0 0) = (l : EReal))
    (hk : ∀ i a, k (ix3 0 i a) = (kr i a : EReal)) (hv : ∀ i d, v (ix3 0 i d) = (vr i d : EReal))
    (hC : ∀ a d, C (ix3 0 a d) = (Cr a d : EReal)) (a : Fin 256) (d : Fin 512) :
    cPay ecol last k v C (ix3 0 a d) = ((l * Cr a d + ∑ j, kr j a * Real.exp (e j) * vr j d : ℝ) : EReal) := by
  pointwise [cPay, k1_pay41, k1_pay39, k1_pay12, k1_pay22, k1_pay10]
  simp only [he, hl, hk, hv, hC, Ideal.exp_coe, ← EReal.coe_mul, coe_sum, ← EReal.coe_add]

/-- The vector after the chunk. -/
theorem nPay_apply {ecol : FVec Ideal S256x1 .f32} {last : FVec Ideal S1x1 .f32} {k : Vec Ideal S1x256x256 .bf16}
    {n : Vec Ideal S1x1x256 .f32} {e : Fin 256 → ℝ} {l : ℝ} {kr : Fin 256 → Fin 256 → ℝ} {nr : Fin 256 → ℝ}
    (he : ∀ i, ecol (ix2 i 0) = (e i : EReal)) (hl : last (ix2 0 0) = (l : EReal))
    (hk : ∀ i a, k (ix3 0 i a) = (kr i a : EReal)) (hn : ∀ a, n (ix3 0 0 a) = (nr a : EReal)) (a : Fin 256) :
    nPay ecol last k n (ix3 0 0 a) = ((l * nr a + ∑ j, kr j a * Real.exp (e j) : ℝ) : EReal) := by
  pointwise [nPay, k1_pay42, k1_pay39, k1_pay24, k1_pay10]
  simp only [he, hl, hk, hn, Ideal.exp_coe, ← EReal.coe_mul, coe_sum, ← EReal.coe_add]

/-- The finishing of a row: normalised over the head, scaled, and gated by the logistic function. -/
theorem fin_apply (a b : FVec Ideal S256x512 .f32) (g : Vec Ideal S1x512 .f32) (o : Vec Ideal S1x256x512 .bf16) (i : Fin 256) (d : Fin 512) :
    fin a b g o (ix3 0 i d) =
      (a (ix2 i d) + b (ix2 i d)) * Ideal.rsqrt (Ideal.div (∑ x, (a (ix2 i x) + b (ix2 i x)) * (a (ix2 i x) + b (ix2 i x))) (Ideal.ofBits .f32 0x44000000#32)
        + Ideal.ofBits .f32 0x358637BD#32) * g (ix2 0 d) * Ideal.div 1 (1 + Ideal.exp (-o (ix3 0 i d))) := by
  pointwise [fin, k1_pay83]
  rw [ofBits_half]
  exact congrArg _ (sigmoid_tanh _)

theorem ofNat_toInt {n : ℕ} (h : n < 2 ^ 31) : (BitVec.ofNat 32 n).toInt = n := by
  rw [BitVec.toInt_ofNat', Int.bmod_eq_of_le] <;> omega

/-- The masks: forwards the positions up to the row's, backwards those from it on. -/
theorem mask_F (i j : Fin 256) : k1_pay1 (ix2 i j) = BitVec.ofBool (decide (j ≤ i)) := by
  pointwise [k1_pay1]
  have hi := i.isLt
  have hj := j.isLt
  show BitVec.ofBool (BitVec.sle _ _) = _
  rw [BitVec.sle_eq_decide, ofNat_toInt (by omega), ofNat_toInt (by omega)]
  exact congrArg BitVec.ofBool (decide_eq_decide.mpr (Int.ofNat_le (m := _) (n := _)))

theorem mask_B (i j : Fin 256) : k1_pay2 (ix2 i j) = BitVec.ofBool (decide (i ≤ j)) := by
  pointwise [k1_pay2]
  have hi := i.isLt
  have hj := j.isLt
  show BitVec.ofBool (BitVec.sle _ _) = _
  rw [BitVec.sle_eq_decide, ofNat_toInt (by omega), ofNat_toInt (by omega)]
  exact congrArg BitVec.ofBool (decide_eq_decide.mpr (Int.ofNat_le (m := _) (n := _)))

/-- The first state is zero, in both directions. -/
theorem pay3_zero (y : S2x256x512.Idx) : (k1_pay3 : FVec Ideal S2x256x512 .f32) y = ((0 : ℝ) : EReal) := by
  unfold k1_pay3
  exact (Ideal.ofBits_zero_f32).trans EReal.coe_zero.symm

theorem pay4_zero (y : S2x1x256.Idx) : (k1_pay4 : FVec Ideal S2x1x256 .f32) y = ((0 : ℝ) : EReal) := by
  unfold k1_pay4
  exact (Ideal.ofBits_zero_f32).trans EReal.coe_zero.symm

end Cert.KernelIdeal.Mlstm
-- ==== Proof.MlstmChain.lean ====
/-
  The sixteen chunks over the extended reals. When the blocks hold real numbers and the gate columns are the running
  sums within a chunk, the carried state before chunk `j` is the recurrence's state before position `256 j` of the
  scan, in either direction, and the kept rows are the recurrence's outputs.
-/
module

public import proofs.«01_k».proof.Proof.MlstmPay

@[expose] public section

set_option maxRecDepth 8192
set_option maxHeartbeats 4000000

noncomputable section

namespace Cert.KernelIdeal.Mlstm

open Cert.KernelIdeal.Gen
open Idealize.ShloMosaic Idealize.ShloMosaic.TcCoe Idealize.ShloMosaic.Tactic
open Idealize.ShloMosaic.VecWindow
open Cert.RealFacts Cert

/-! ## One chunk of the scan -/

section Chunk

variable {lf li : ℕ → ℝ} {qs k : ℕ → Fin 256 → ℝ} {v : ℕ → Fin 512 → ℝ}

/-- The chunk's outputs are the recurrence's: chunk rows `i` at scan position `n + e i`. -/
theorem hPay_scan {mask : IVec S256x256 1} {bcol : FVec Ideal S256x1 .f32} {q kk : Vec Ideal S1x256x256 .bf16} {vv : Vec Ideal S1x256x512 .bf16}
    {gr : Vec Ideal S1x1x1x1x1x256 .f32} {C : Vec Ideal S1x256x512 .f32} {N : Vec Ideal S1x1x256 .f32} (n : ℕ) (e : Equiv.Perm (Fin 256))
    (hm : ∀ i j, mask (ix2 i j) = BitVec.ofBool (decide (e j ≤ e i)))
    (hb : ∀ i, bcol (ix2 i 0) = ((Scan.G lf (n + e i + 1) - Scan.G lf n : ℝ) : EReal))
    (hq : ∀ i a, q (ix3 0 i a) = (qs (n + e i) a : EReal)) (hk : ∀ i a, kk (ix3 0 i a) = (k (n + e i) a : EReal))
    (hv : ∀ i d, vv (ix3 0 i d) = (v (n + e i) d : EReal))
    (hr : ∀ j, gr (ix6 0 0 0 0 0 j) = ((li (n + e j) - (Scan.G lf (n + e j + 1) - Scan.G lf n) : ℝ) : EReal))
    (hC : ∀ a d, C (ix3 0 a d) = (Scan.C lf li k v n a d : EReal)) (hn : ∀ a, N (ix3 0 0 a) = (Scan.N lf li k n a : EReal))
    (i : Fin 256) (d : Fin 512) :
    hPay mask bcol q kk vv gr C N (ix2 i d) = (Scan.h lf li (fun p a => qs p a * (1 / 16)) k v (n + e i) d : EReal) := by
  rw [hPay_apply hm hb hq hk hv hr hC hn]
  unfold Scan.h Scan.num Scan.den
  rw [Scan.S_row _ _ _ _ e i, Scan.S_row _ _ _ _ e i, ← Scan.q_C, ← Scan.q_N, Finset.mul_sum, Finset.mul_sum]
  have hx : ∀ j, Scan.G lf (n + e i + 1) - Scan.G lf n + (li (n + e j) - (Scan.G lf (n + e j + 1) - Scan.G lf n))
      = Scan.G lf (n + e i + 1) - Scan.G lf (n + e j + 1) + li (n + e j) := fun j => by ring
  have h1 : ∀ j, (∑ a, qs (n + e i) a * (1 / 16) * k (n + e j) a) * (if decide (e j ≤ e i) = true then
      Real.exp (Scan.G lf (n + e i + 1) - Scan.G lf n + (li (n + e j) - (Scan.G lf (n + e j + 1) - Scan.G lf n))) else 0)
      = if e j ≤ e i then Real.exp (Scan.G lf (n + e i + 1) - Scan.G lf (n + e j + 1) + li (n + e j))
          * Scan.qk (fun p a => qs p a * (1 / 16)) k (n + e i) (n + e j) else 0 := fun j => by
    rw [hx]; unfold Scan.qk
    by_cases h : e j ≤ e i
    · simp only [h, decide_true, if_true]; ring
    · simp only [h, decide_false, if_false, Bool.false_eq_true, mul_zero]
  simp only [h1]
  refine congrArg _ ?_
  congr 1
  · rw [add_comm]
    congr 1
    · exact Finset.sum_congr rfl fun a _ => by ring
    · exact Finset.sum_congr rfl fun j _ => by split <;> ring
  · congr 3
    rw [add_comm]

theorem cPay_scan {ecol : FVec Ideal S256x1 .f32} {last : FVec Ideal S1x1 .f32} {kk : Vec Ideal S1x256x256 .bf16} {vv : Vec Ideal S1x256x512 .bf16}
    {C : Vec Ideal S1x256x512 .f32} (n : ℕ) (e : Equiv.Perm (Fin 256))
    (he : ∀ i, ecol (ix2 i 0) = ((Scan.G lf (n + 256) - Scan.G lf (n + e i + 1) + li (n + e i) : ℝ) : EReal))
    (hl : last (ix2 0 0) = ((Real.exp (Scan.G lf (n + 256) - Scan.G lf n) : ℝ) : EReal))
    (hk : ∀ i a, kk (ix3 0 i a) = (k (n + e i) a : EReal)) (hv : ∀ i d, vv (ix3 0 i d) = (v (n + e i) d : EReal))
    (hC : ∀ a d, C (ix3 0 a d) = (Scan.C lf li k v n a d : EReal)) (a : Fin 256) (d : Fin 512) :
    cPay ecol last kk vv C (ix3 0 a d) = (Scan.C lf li k v (n + 256) a d : EReal) := by
  rw [cPay_apply he hl hk hv hC]
  unfold Scan.C
  rw [Scan.S_chunk _ _ _ _ e]
  exact congrArg _ (congrArg _ (Finset.sum_congr rfl fun j _ => by ring))

theorem nPay_scan {ecol : FVec Ideal S256x1 .f32} {last : FVec Ideal S1x1 .f32} {kk : Vec Ideal S1x256x256 .bf16}
    {N : Vec Ideal S1x1x256 .f32} (n : ℕ) (e : Equiv.Perm (Fin 256))
    (he : ∀ i, ecol (ix2 i 0) = ((Scan.G lf (n + 256) - Scan.G lf (n + e i + 1) + li (n + e i) : ℝ) : EReal))
    (hl : last (ix2 0 0) = ((Real.exp (Scan.G lf (n + 256) - Scan.G lf n) : ℝ) : EReal))
    (hk : ∀ i a, kk (ix3 0 i a) = (k (n + e i) a : EReal))
    (hn : ∀ a, N (ix3 0 0 a) = (Scan.N lf li k n a : EReal)) (a : Fin 256) :
    nPay ecol last kk N (ix3 0 0 a) = (Scan.N lf li k (n + 256) a : EReal) := by
  rw [nPay_apply he hl hk hn]
  unfold Scan.N
  rw [Scan.S_chunk _ _ _ _ e]
  exact congrArg _ (congrArg _ (Finset.sum_congr rfl fun j _ => by ring))

end Chunk

/-! ## The chunks' windows at an index -/

section Windows

variable {F : FTy → Type} [FloatOps F] [Named F]

/-- Row `i` of chunk `n`. -/
def row (n : ℕ) (i : Fin 256) : Fin 4096 := ⟨crow n + i, by have := crow_le n; omega⟩

theorem qkc_apply (x : Vec F S1x4096x256 .bf16) (n : ℕ) (i a : Fin 256) : qkc x n (ix3 0 i a) = x (ix3 0 (row n i) a) := by
  refine congrArg x (funext fun b => Fin.ext ?_)
  fin_cases b
  · rfl
  · show crow n + 1 * i.val = crow n + i.val; omega
  · show 0 + 1 * a.val = a.val; omega

theorem voc_apply (x : Vec F S1x4096x512 .bf16) (n : ℕ) (i : Fin 256) (d : Fin 512) : voc x n (ix3 0 i d) = x (ix3 0 (row n i) d) := by
  refine congrArg x (funext fun b => Fin.ext ?_)
  fin_cases b
  · rfl
  · show crow n + 1 * i.val = crow n + i.val; omega
  · show 0 + 1 * d.val = d.val; omega

theorem gcc_apply (x : Vec F S1x1x4096x4 .f32) (n : ℕ) (i : Fin 256) (d : Fin 4) : gcc x n (ix4 0 0 i d) = x (ix4 0 0 (row n i) d) := by
  refine congrArg x (funext fun b => Fin.ext ?_)
  fin_cases b
  · rfl
  · rfl
  · show crow n + 1 * i.val = crow n + i.val; omega
  · show 0 + 1 * d.val = d.val; omega

theorem grF_apply (x : Vec F S1x1x2x16x1x256 .f32) (n : ℕ) (j : Fin 256) :
    grF x n (ix6 0 0 0 0 0 j) = x (ix6 0 0 0 ⟨n % 16, Nat.mod_lt _ (by decide)⟩ 0 j) := by
  refine congrArg x (funext fun b => Fin.ext ?_)
  fin_cases b
  · rfl
  · rfl
  · rfl
  · show n % 16 + 1 * 0 = n % 16; omega
  · rfl
  · show 0 + 1 * j.val = j.val; omega

theorem grB_apply (x : Vec F S1x1x2x16x1x256 .f32) (n : ℕ) (j : Fin 256) :
    grB x n (ix6 0 0 0 0 0 j) = x (ix6 0 0 1 ⟨n % 16, Nat.mod_lt _ (by decide)⟩ 0 j) := by
  refine congrArg x (funext fun b => Fin.ext ?_)
  fin_cases b
  · rfl
  · rfl
  · rfl
  · show n % 16 + 1 * 0 = n % 16; omega
  · rfl
  · show 0 + 1 * j.val = j.val; omega

theorem bF_apply (g : Vec F S1x1x256x4 .f32) (i : Fin 256) : bF g (ix2 i 0) = g (ix4 0 0 i 0) := by pointwise [bF, k1_pay16, k1_pay14]
theorem bB_apply (g : Vec F S1x1x256x4 .f32) (i : Fin 256) : bB g (ix2 i 0) = g (ix4 0 0 i 2) := by pointwise [bB, k1_pay17, k1_pay15]
theorem eF_apply (g : Vec F S1x1x256x4 .f32) (i : Fin 256) : eF g (ix2 i 0) = g (ix4 0 0 i 1) := by pointwise [eF, k1_pay18, k1_pay14]
theorem eB_apply (g : Vec F S1x1x256x4 .f32) (i : Fin 256) : eB g (ix2 i 0) = g (ix4 0 0 i 3) := by pointwise [eB, k1_pay19, k1_pay15]
theorem lF_apply (g : Vec Ideal S1x1x256x4 .f32) : lF g (ix2 0 0) = Ideal.exp (g (ix4 0 0 255 0)) := by pointwise [lF, k1_pay20, k1_pay16, k1_pay14]
theorem lB_apply (g : Vec Ideal S1x1x256x4 .f32) : lB g (ix2 0 0) = Ideal.exp (g (ix4 0 0 0 2)) := by pointwise [lB, k1_pay21, k1_pay17, k1_pay15]

end Windows

/-! ## The chain -/

section Chain

variable {x0 x1 : Vec Ideal S1x4096x256 .bf16} {x2 x3 : Vec Ideal S1x4096x512 .bf16} {x4 : Vec Ideal S1x1x4096x4 .f32}
  {x5 : Vec Ideal S1x1x2x16x1x256 .f32} {x6 : Vec Ideal S1x512 .f32}
  {lf li : ℕ → ℝ} {q k : ℕ → Fin 256 → ℝ} {v : ℕ → Fin 512 → ℝ}

/-- The blocks hold a scan: row `t` of the blocks is position `pos t` of the sequences, gate column `cb` holds the sums within a
    chunk up to the position, column `ce` what follows it in the chunk with the input gate, and gate row `dr` the input gate less
    the sum up to the position. -/
structure Holds (pos : ℕ → ℕ) (cb ce : Fin 4) (dr : Fin 2) (x0 x1 : Vec Ideal S1x4096x256 .bf16) (x2 : Vec Ideal S1x4096x512 .bf16)
    (x4 : Vec Ideal S1x1x4096x4 .f32) (x5 : Vec Ideal S1x1x2x16x1x256 .f32)
    (lf li : ℕ → ℝ) (q k : ℕ → Fin 256 → ℝ) (v : ℕ → Fin 512 → ℝ) : Prop where
  hq : ∀ (t : Fin 4096) a, x0 (ix3 0 t a) = (q (pos t) a : EReal)
  hk : ∀ (t : Fin 4096) a, x1 (ix3 0 t a) = (k (pos t) a : EReal)
  hv : ∀ (t : Fin 4096) d, x2 (ix3 0 t d) = (v (pos t) d : EReal)
  hb : ∀ t : Fin 4096, x4 (ix4 0 0 t cb) = ((Scan.G lf (pos t + 1) - Scan.G lf (256 * (pos t / 256)) : ℝ) : EReal)
  he : ∀ t : Fin 4096, x4 (ix4 0 0 t ce) = ((Scan.G lf (256 * (pos t / 256) + 256) - Scan.G lf (pos t + 1) + li (pos t) : ℝ) : EReal)
  hr : ∀ (c : Fin 16) (j : Fin 256), x5 (ix6 0 0 dr c 0 j)
    = ((li (pos (256 * c + j)) - (Scan.G lf (pos (256 * c + j) + 1) - Scan.G lf (256 * (pos (256 * c + j) / 256))) : ℝ) : EReal)

/-- The forward order, and the backward one. -/
def fwd (t : ℕ) : ℕ := t
def bwd (t : ℕ) : ℕ := 4095 - t

abbrev HoldsF (x0 x1 : Vec Ideal S1x4096x256 .bf16) (x2 : Vec Ideal S1x4096x512 .bf16)
    (x4 : Vec Ideal S1x1x4096x4 .f32) (x5 : Vec Ideal S1x1x2x16x1x256 .f32)
    (lf li : ℕ → ℝ) (q k : ℕ → Fin 256 → ℝ) (v : ℕ → Fin 512 → ℝ) : Prop := Holds fwd 0 1 0 x0 x1 x2 x4 x5 lf li q k v
abbrev HoldsB (x0 x1 : Vec Ideal S1x4096x256 .bf16) (x2 : Vec Ideal S1x4096x512 .bf16)
    (x4 : Vec Ideal S1x1x4096x4 .f32) (x5 : Vec Ideal S1x1x2x16x1x256 .f32)
    (lf li : ℕ → ℝ) (q k : ℕ → Fin 256 → ℝ) (v : ℕ → Fin 512 → ℝ) : Prop := Holds bwd 2 3 1 x0 x1 x2 x4 x5 lf li q k v

theorem fwd_row {j : ℕ} (h : j < 16) (i : Fin 256) : fwd (row j i) = 256 * j + (Equiv.refl (Fin 256)) i := by
  show crow j + i.val = _; rw [crow_of_lt h]; rfl

theorem bwd_row {j : ℕ} (h : j < 16) (i : Fin 256) : bwd (row (15 - j) i) = 256 * j + Fin.revPerm i := by
  have := i.isLt
  show 4095 - (crow (15 - j) + i.val) = _
  rw [crow_of_lt (by omega), Fin.revPerm_apply, Fin.val_rev]; omega

theorem div_chunk {j : ℕ} (i : Fin 256) : 256 * ((256 * j + i.val) / 256) = 256 * j := by have := i.isLt; omega

/-- The state before chunk `j` in either direction: one statement for both. -/
theorem step_scan {pos : ℕ → ℕ} {cb ce : Fin 4} {dr : Fin 2} (H : Holds pos cb ce dr x0 x1 x2 x4 x5 lf li q k v) {j c : ℕ}
    (e : Equiv.Perm (Fin 256)) (hp : ∀ i : Fin 256, pos (row c i) = 256 * j + e i) (i : Fin 256) :
    x4 (ix4 0 0 (row c i) cb) = ((Scan.G lf (256 * j + e i + 1) - Scan.G lf (256 * j) : ℝ) : EReal)
    ∧ x4 (ix4 0 0 (row c i) ce) = ((Scan.G lf (256 * j + 256) - Scan.G lf (256 * j + e i + 1) + li (256 * j + e i) : ℝ) : EReal)
    ∧ (∀ a, qkc x0 c (ix3 0 i a) = (q (256 * j + e i) a : EReal)) ∧ (∀ a, qkc x1 c (ix3 0 i a) = (k (256 * j + e i) a : EReal))
    ∧ (∀ d, voc x2 c (ix3 0 i d) = (v (256 * j + e i) d : EReal)) := by
  refine ⟨?_, ?_, fun a => ?_, fun a => ?_, fun d => ?_⟩
  · rw [H.hb, hp, div_chunk]
  · rw [H.he, hp, div_chunk]
  · rw [qkc_apply, H.hq, hp]
  · rw [qkc_apply, H.hk, hp]
  · rw [voc_apply, H.hv, hp]

theorem row_scan {pos : ℕ → ℕ} {cb ce : Fin 4} {dr : Fin 2} (H : Holds pos cb ce dr x0 x1 x2 x4 x5 lf li q k v) {j c : ℕ} (hc : c < 16)
    (e : Equiv.Perm (Fin 256)) (hp : ∀ i : Fin 256, pos (row c i) = 256 * j + e i) (i : Fin 256) :
    x5 (ix6 0 0 dr ⟨c % 16, Nat.mod_lt _ (by decide)⟩ 0 i)
      = ((li (256 * j + e i) - (Scan.G lf (256 * j + e i + 1) - Scan.G lf (256 * j)) : ℝ) : EReal) := by
  rw [H.hr]
  have : 256 * (c % 16) + i.val = (row c i).val := rfl
  rw [show ((⟨c % 16, Nat.mod_lt _ (by decide)⟩ : Fin 16) : ℕ) = c % 16 from rfl, this, hp, div_chunk]

theorem CF_scan (H : HoldsF x0 x1 x2 x4 x5 lf li q k v) : ∀ j, j ≤ 16 → ∀ a d, CF x1 x2 x4 j (ix3 0 a d) = (Scan.C lf li k v (256 * j) a d : EReal)
  | 0, _, a, d => by rw [show Scan.C lf li k v (256 * 0) a d = 0 from Scan.S_zero _ _ _]; unfold CF cs0 window; exact pay3_zero _
  | j + 1, h, a, d => by
    have S := step_scan H (Equiv.refl _) (fwd_row (j := j) (by omega))
    refine cPay_scan (256 * j) (Equiv.refl _) (fun i => ?_) ?_ (fun i => (S i).2.2.2.1) (fun i => (S i).2.2.2.2) (CF_scan H j (by omega)) a d
    · rw [eF_apply, gcc_apply, (S i).2.1]
    · rw [lF_apply, gcc_apply, (S 255).1, Ideal.exp_coe]; rfl

theorem NF_scan (H : HoldsF x0 x1 x2 x4 x5 lf li q k v) : ∀ j, j ≤ 16 → ∀ a, NF x1 x4 j (ix3 0 0 a) = (Scan.N lf li k (256 * j) a : EReal)
  | 0, _, a => by rw [show Scan.N lf li k (256 * 0) a = 0 from Scan.S_zero _ _ _]; unfold NF ns0 window; exact pay4_zero _
  | j + 1, h, a => by
    have S := step_scan H (Equiv.refl _) (fwd_row (j := j) (by omega))
    refine nPay_scan (256 * j) (Equiv.refl _) (fun i => ?_) ?_ (fun i => (S i).2.2.2.1) (NF_scan H j (by omega)) a
    · rw [eF_apply, gcc_apply, (S i).2.1]
    · rw [lF_apply, gcc_apply, (S 255).1, Ideal.exp_coe]; rfl

theorem CB_scan (H : HoldsB x0 x1 x2 x4 x5 lf li q k v) : ∀ j, j ≤ 16 → ∀ a d, CB x1 x2 x4 j (ix3 0 a d) = (Scan.C lf li k v (256 * j) a d : EReal)
  | 0, _, a, d => by rw [show Scan.C lf li k v (256 * 0) a d = 0 from Scan.S_zero _ _ _]; unfold CB cs1 window; exact pay3_zero _
  | j + 1, h, a, d => by
    have S := step_scan H Fin.revPerm (bwd_row (j := j) (by omega))
    refine cPay_scan (256 * j) Fin.revPerm (fun i => ?_) ?_ (fun i => (S i).2.2.2.1) (fun i => (S i).2.2.2.2) (CB_scan H j (by omega)) a d
    · rw [eB_apply, gcc_apply, (S i).2.1]
    · rw [lB_apply, gcc_apply, (S 0).1, Ideal.exp_coe]; rfl

theorem NB_scan (H : HoldsB x0 x1 x2 x4 x5 lf li q k v) : ∀ j, j ≤ 16 → ∀ a, NB x1 x4 j (ix3 0 0 a) = (Scan.N lf li k (256 * j) a : EReal)
  | 0, _, a => by rw [show Scan.N lf li k (256 * 0) a = 0 from Scan.S_zero _ _ _]; unfold NB ns1 window; exact pay4_zero _
  | j + 1, h, a => by
    have S := step_scan H Fin.revPerm (bwd_row (j := j) (by omega))
    refine nPay_scan (256 * j) Fin.revPerm (fun i => ?_) ?_ (fun i => (S i).2.2.2.1) (NB_scan H j (by omega)) a
    · rw [eB_apply, gcc_apply, (S i).2.1]
    · rw [lB_apply, gcc_apply, (S 0).1, Ideal.exp_coe]; rfl

/-- The forward outputs of chunk `j`. -/
theorem HF_scan (H : HoldsF x0 x1 x2 x4 x5 lf li q k v) {j : ℕ} (h : j < 16) (i : Fin 256) (d : Fin 512) :
    HF x0 x1 x2 x4 x5 j (ix2 i d) = (Scan.h lf li (fun p a => q p a * (1 / 16)) k v (256 * j + i) d : EReal) := by
  have S := step_scan H (Equiv.refl _) (fwd_row h)
  refine hPay_scan (256 * j) (Equiv.refl _) (fun i j => mask_F i j) (fun i => ?_) (fun i => (S i).2.2.1) (fun i => (S i).2.2.2.1)
    (fun i => (S i).2.2.2.2) (fun i => ?_) (CF_scan H j (by omega)) (NF_scan H j (by omega)) i d
  · rw [bF_apply, gcc_apply, (S i).1]
  · rw [grF_apply]; exact row_scan H h _ (fwd_row h) i

/-- The backward outputs of chunk `15 - j`. -/
theorem HB_scan (H : HoldsB x0 x1 x2 x4 x5 lf li q k v) {j : ℕ} (h : j < 16) (i : Fin 256) (d : Fin 512) :
    HB x0 x1 x2 x4 x5 j (ix2 i d) = (Scan.h lf li (fun p a => q p a * (1 / 16)) k v (256 * j + Fin.revPerm i) d : EReal) := by
  have S := step_scan H Fin.revPerm (bwd_row h)
  refine hPay_scan (256 * j) Fin.revPerm (fun i j => ?_) (fun i => ?_) (fun i => (S i).2.2.1) (fun i => (S i).2.2.2.1)
    (fun i => (S i).2.2.2.2) (fun i => ?_) (CB_scan H j (by omega)) (NB_scan H j (by omega)) i d
  · rw [mask_B]; exact congrArg _ (decide_eq_decide.mpr (by simp [Fin.rev_le_rev]))
  · rw [bB_apply, gcc_apply, (S i).1]
  · rw [grB_apply]; exact row_scan H (by omega) _ (bwd_row h) i

end Chain

/-- A finished row: the two directions' sum `w`, normalised over the head, scaled by `g` and gated by `o`. -/
def finish (w : Fin 512 → EReal) (g o : EReal) (d : Fin 512) : EReal :=
  w d * Ideal.rsqrt (Ideal.div (∑ x, w x * w x) (Ideal.ofBits .f32 0x44000000#32) + Ideal.ofBits .f32 0x358637BD#32) * g
    * Ideal.div 1 (1 + Ideal.exp (-o))

/-- The whole block at an index. -/
theorem outBlock_scan {x0 x1 : Vec Ideal S1x4096x256 .bf16} {x2 x3 : Vec Ideal S1x4096x512 .bf16} {x4 : Vec Ideal S1x1x4096x4 .f32}
    {x5 : Vec Ideal S1x1x2x16x1x256 .f32} {x6 : Vec Ideal S1x512 .f32} {lf li lf' li' : ℕ → ℝ} {q k q' k' : ℕ → Fin 256 → ℝ} {v v' : ℕ → Fin 512 → ℝ}
    (HF' : HoldsF x0 x1 x2 x4 x5 lf li q k v) (HB' : HoldsB x0 x1 x2 x4 x5 lf' li' q' k' v') (t : Fin 4096) (d : Fin 512) :
    outBlock x0 x1 x2 x3 x4 x5 x6 (ix3 0 t d) = finish (fun x =>
      (Scan.h lf li (fun p a => q p a * (1 / 16)) k v t x : EReal) + (Scan.h lf' li' (fun p a => q' p a * (1 / 16)) k' v' (4095 - t) x : EReal))
      (x6 (ix2 0 d)) (x3 (ix3 0 t d)) d := by
  have ht := t.isLt
  show outChunk x0 x1 x2 x3 x4 x5 x6 (t.val / 256) (ix3 0 (⟨t.val % 256, Nat.mod_lt _ (by decide)⟩ : Fin 256) d) = _
  have hn : t.val / 256 < 16 := by omega
  have e1 : ∀ x, HF x0 x1 x2 x4 x5 (t.val / 256) (ix2 (⟨t.val % 256, Nat.mod_lt _ (by decide)⟩ : Fin 256) x)
      = (Scan.h lf li (fun p a => q p a * (1 / 16)) k v t x : EReal) := fun x => by
    rw [HF_scan HF' hn, Nat.div_add_mod]
  have e2 : ∀ x, HB x0 x1 x2 x4 x5 (15 - t.val / 256) (ix2 (⟨t.val % 256, Nat.mod_lt _ (by decide)⟩ : Fin 256) x)
      = (Scan.h lf' li' (fun p a => q' p a * (1 / 16)) k' v' (4095 - t) x : EReal) := fun x => by
    rw [HB_scan HB' (by omega), Fin.revPerm_apply, Fin.val_rev]
    congr 2; show 256 * (15 - t.val / 256) + (256 - (t.val % 256 + 1)) = 4095 - t.val; omega
  have e3 : voc x3 (t.val / 256) (ix3 0 (⟨t.val % 256, Nat.mod_lt _ (by decide)⟩ : Fin 256) d) = x3 (ix3 0 t d) := by
    rw [voc_apply]; congr 2; exact Fin.ext (by show crow _ + _ = _; rw [crow_of_lt hn]; exact Nat.div_add_mod _ _)
  unfold outChunk finish
  split
  · rw [fin_apply]; simp only [e1, e2, e3, add_comm]
  · rw [fin_apply]; simp only [e1, e2, e3]

end Cert.KernelIdeal.Mlstm
-- ==== Proof.Spec.lean ====
/-
  The layer's recurrence as both programs compute it, over the arguments read by coordinates: the two directions' gates,
  queries, keys and values at their places in the scan, and the finished output.
-/
module

public import proofs.«01_k».proof.Proof.MlstmChain

@[expose] public section

noncomputable section

namespace Cert.Spec

open Idealize.ShloMosaic Cert.RealFacts

/-- The arguments by coordinates. -/
structure In where
  u : Fin 2 → Fin 4096 → Fin 16384 → EReal
  gates : Fin 2 → Fin 4096 → Fin 32 → EReal
  bi : Fin 2 → Fin 8 → EReal
  bf : Fin 2 → Fin 8 → EReal
  g : Fin 4096 → EReal

/-- The row at place `p` of direction `d`'s scan. -/
def row (d : Fin 2) (p : ℕ) : Fin 4096 := ⟨(if d = 0 then p else 4095 - p) % 4096, Nat.mod_lt _ (by decide)⟩

/-- The place of row `t` in direction `d`'s scan. -/
def place (d : Fin 2) (t : ℕ) : ℕ := if d = 0 then t else 4095 - t

theorem row_place (d : Fin 2) (t : Fin 4096) : row d (place d t) = t := by
  have := t.isLt
  refine Fin.ext ?_
  unfold row place
  split <;> simp only [] <;> omega

section
variable (I : In) (b : Fin 2) (d : Fin 2) (h : Fin 8)

def q (p : ℕ) (a : Fin 256) : ℝ := (I.u b (row d p) ⟨256 * h + a, by omega⟩).toReal
def k (p : ℕ) (a : Fin 256) : ℝ := (I.u b (row d p) ⟨2048 + (256 * h + a), by omega⟩).toReal
def v (p : ℕ) (x : Fin 512) : ℝ := (I.u b (row d p) ⟨4096 + (512 * h + x), by omega⟩).toReal
def li (p : ℕ) : ℝ := capped (I.gates b (row d p) ⟨16 * d + h, by omega⟩ + I.bi d h)
def lf (p : ℕ) : ℝ := forget (I.gates b (row d p) ⟨16 * d + (8 + h), by omega⟩ + I.bf d h)

/-- A direction's head output at place `p`. -/
def head (p : ℕ) (x : Fin 512) : ℝ :=
  Scan.h (lf I b d h) (li I b d h) (fun p a => q I b d h p a * (1 / 16)) (k I b d h) (v I b d h) p x

/-- What the layer's part leaves at batch `b`, row `t`, head `h`, lane `x`. -/
def out (t : Fin 4096) (x : Fin 512) : EReal :=
  Cert.KernelIdeal.Mlstm.finish (fun x => (head I b 0 h t x : EReal) + (head I b 1 h (4095 - t) x : EReal))
    (I.g ⟨512 * h + x, by omega⟩) (I.u b t ⟨8192 + (512 * h + x), by omega⟩) x

/-- The queries, keys and values are real numbers. -/
def Finite : Prop := ∀ b t (c : Fin 16384), (c : ℕ) < 8192 → ∃ r : ℝ, I.u b t c = (r : EReal)
end

end Cert.Spec
-- ==== Proof.RefEntry.lean ====
/-
  What the reference's loop finds in its buffers when it is entered, over the extended reals: the queries, keys, values
  and gates of the two directions at their places in the scan, cut into chunks of 128.
-/
module

public import proofs.«01_k».proof.Proof.Gen.ReferenceIdeal.Run
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 4000000

noncomputable section

namespace Cert.ReferenceIdeal.RValue

open Cert.ReferenceIdeal.Gen Cert.ReferenceIdeal.Value
open Idealize.ShloMosaic Idealize.ShloMosaic.TcCoe Idealize.ShloMosaic.Tactic Idealize.ShloMosaic.StableHlo
open Cert.RealFacts Cert

variable (m : (ℓ : Loc nD τ sig) → Buf (Elt Ideal) ℓ) (c : Dev nD)

/-- The arguments by coordinates. -/
def args : Spec.In where
  u b t x := m ((c : Thread nD τ).loc main_arg0) (ix3 b t x)
  gates b t x := m ((c : Thread nD τ).loc main_arg1) (ix3 b t x)
  bi d h := m ((c : Thread nD τ).loc main_arg2) (ix2 d h)
  bf d h := m ((c : Thread nD τ).loc main_arg3) (ix2 d h)
  g x := m ((c : Thread nD τ).loc main_arg4) (ix1 x)

theorem coe_u (hfin : Spec.Finite (args m c)) (b : Fin 2) (t : Fin 4096) (x : Fin 16384) (hx : (x : ℕ) < 8192) :
    (((args m c).u b t x).toReal : EReal) = (args m c).u b t x := by
  obtain ⟨r, hr⟩ := hfin b t x hx
  rw [hr, EReal.toReal_coe]

/-- The scans run over two directions of two batches: the batch and the direction of each. -/
def bat (β : Fin 4) : Fin 2 := ⟨β % 2, Nat.mod_lt _ (by decide)⟩
def dir (β : Fin 4) : Fin 2 := ⟨β / 2, by omega⟩

theorem dir_fwd {β : Fin 4} (hβ : (β : ℕ) < 2) : dir β = 0 := Fin.ext (by show (β : ℕ) / 2 = 0; omega)
theorem dir_bwd {β : Fin 4} (hβ : ¬(β : ℕ) < 2) : dir β = 1 := Fin.ext (by show (β : ℕ) / 2 = 1; omega)
theorem bat_fwd {β : Fin 4} (hβ : (β : ℕ) < 2) : bat β = ⟨β, hβ⟩ := Fin.ext (by show (β : ℕ) % 2 = β; omega)
theorem bat_bwd {β : Fin 4} (hβ : ¬(β : ℕ) < 2) : bat β = ⟨β - 2, by omega⟩ :=
  Fin.ext (by show (β : ℕ) % 2 = β - 2; omega)

theorem row_fwd (n : Fin 32) (i : Fin 128) : Spec.row 0 (128 * n + i) = ⟨n * 128 + i, by omega⟩ :=
  Fin.ext (by show (if (0 : Fin 2) = 0 then 128 * (n : ℕ) + i else _) % 4096 = _; rw [if_pos rfl]; simp only []; omega)
theorem row_bwd (n : Fin 32) (i : Fin 128) : Spec.row 1 (128 * n + i) = Fin.rev ⟨n * 128 + i, by omega⟩ :=
  Fin.ext (by
    show (if (1 : Fin 2) = 0 then _ else 4095 - (128 * (n : ℕ) + i)) % 4096 = 4096 - (n * 128 + i + 1)
    rw [if_neg (by decide)]; omega)

/-- The logarithm of the sigmoid as the host operations write it. -/
theorem log_sigmoid (x : EReal) (inst : Decidable (-(Ideal.ofBits .f32 0x41700000#32 * Ideal.tanh (Ideal.div x (Ideal.ofBits .f32 0x41700000#32)))
      ≠ -(Ideal.ofBits .f32 0x41700000#32 * Ideal.tanh (Ideal.div x (Ideal.ofBits .f32 0x41700000#32))))) :
    -(if -(Ideal.ofBits .f32 0x41700000#32 * Ideal.tanh (Ideal.div x (Ideal.ofBits .f32 0x41700000#32)))
        ≠ -(Ideal.ofBits .f32 0x41700000#32 * Ideal.tanh (Ideal.div x (Ideal.ofBits .f32 0x41700000#32))) then
        -(Ideal.ofBits .f32 0x41700000#32 * Ideal.tanh (Ideal.div x (Ideal.ofBits .f32 0x41700000#32)))
      else max (-(Ideal.ofBits .f32 0x41700000#32 * Ideal.tanh (Ideal.div x (Ideal.ofBits .f32 0x41700000#32)))) 0
        + Ideal.log1p (Ideal.exp (-FloatOps.absf (F := Ideal) (φ := .f32)
          (-(Ideal.ofBits .f32 0x41700000#32 * Ideal.tanh (Ideal.div x (Ideal.ofBits .f32 0x41700000#32)))))))
      = (forget x : EReal) := by
  rw [if_neg (fun h => h rfl), ofBits_fifteen, ← coe_capped, ← EReal.coe_neg, absf_coe, ← EReal.coe_neg, log1p_exp,
    ← EReal.coe_zero, coe_max, ← EReal.coe_add, ← EReal.coe_neg, forget, abs_neg]
  refine congrArg _ ?_
  rcases le_total (capped x) 0 with h | h
  · rw [max_eq_left (by linarith), min_eq_left h]; ring
  · rw [max_eq_right (by linarith), min_eq_right h]; ring

theorem toInt_small (i : Fin 128) : (BitVec.ofNat 32 (i : ℕ)).toInt = ((i : ℕ) : ℤ) := by
  have := i.isLt
  rw [BitVec.toInt_ofNat', Int.bmod_eq_of_le] <;> omega

theorem q_fwd (hfin : Spec.Finite (args m c)) (n : Fin 32) {β : Fin 4} (h : Fin 8) (i : Fin 128) (a : Fin 256) (hβ : (β : ℕ) < 2) :
    ((Spec.q (args m c) (bat β) (dir β) h (128 * n + i) a * (1 / 16) : ℝ) : EReal)
      = ((args m c).u ⟨β, hβ⟩ ⟨n * 128 + i, by omega⟩ ⟨h * 256 + a, by omega⟩ * Ideal.ofBits .f32 0x3D800000#32 : EReal) := by
  rw [dir_fwd hβ, bat_fwd hβ, EReal.coe_mul, Spec.q, coe_u m c hfin _ _ _ (by simp only []; omega), row_fwd, ofBits_sixteenth]
  exact congrArg (fun x => (args m c).u ⟨β, hβ⟩ ⟨n * 128 + i, by omega⟩ x * ((1 / 16 : ℝ) : EReal)) (Fin.ext (by simp only []; omega))

theorem q_bwd (hfin : Spec.Finite (args m c)) (n : Fin 32) {β : Fin 4} (h : Fin 8) (i : Fin 128) (a : Fin 256) (hβ : ¬(β : ℕ) < 2) :
    ((Spec.q (args m c) (bat β) (dir β) h (128 * n + i) a * (1 / 16) : ℝ) : EReal)
      = ((args m c).u ⟨β - 2, by omega⟩ (Fin.rev ⟨n * 128 + i, by omega⟩) ⟨h * 256 + a, by omega⟩ * Ideal.ofBits .f32 0x3D800000#32 : EReal) := by
  rw [dir_bwd hβ, bat_bwd hβ, EReal.coe_mul, Spec.q, coe_u m c hfin _ _ _ (by simp only []; omega), row_bwd, ofBits_sixteenth]
  exact congrArg (fun x => (args m c).u ⟨β - 2, by omega⟩ (Fin.rev ⟨n * 128 + i, by omega⟩) x * ((1 / 16 : ℝ) : EReal)) (Fin.ext (by simp only []; omega))

theorem entry_q (hfin : Spec.Finite (args m c)) (n : Fin 32) (β : Fin 4) (h : Fin 8) (i : Fin 128) (a : Fin 256) :
    entryContents preI m c (Proc.devRef .tc main_v71_0) (ix5 n β h i a) = ((Spec.q (args m c) (bat β) (dir β) h (128 * n + i) a * (1 / 16) : ℝ) : EReal) := by
  obtain ⟨r, hr⟩ : ∃ r : EReal, r = ((Spec.q (args m c) (bat β) (dir β) h (128 * n + i) a * (1 / 16) : ℝ) : EReal) := ⟨_, rfl⟩
  refine Eq.trans ?_ hr
  simp only [entryContents, afterL_cons, afterL_nil]
  after_reads_at
  rw [id_eq]
  pointwise
  split
  · rename_i hβ
    after_reads_at
    exact (q_fwd m c hfin n h i a hβ).symm.trans hr.symm
  · rename_i hβ
    after_reads_at
    exact (q_bwd m c hfin n h i a hβ).symm.trans hr.symm

theorem k_fwd (hfin : Spec.Finite (args m c)) (n : Fin 32) {β : Fin 4} (h : Fin 8) (i : Fin 128) (a : Fin 256) (hβ : (β : ℕ) < 2) :
    ((Spec.k (args m c) (bat β) (dir β) h (128 * n + i) a : ℝ) : EReal)
      = ((args m c).u ⟨β, hβ⟩ ⟨n * 128 + i, by omega⟩ ⟨2048 + (h * 256 + a), by omega⟩ : EReal) := by
  rw [dir_fwd hβ, bat_fwd hβ, Spec.k, coe_u m c hfin _ _ _ (by simp only []; omega), row_fwd]
  exact congrArg (fun x => (args m c).u ⟨β, hβ⟩ ⟨n * 128 + i, by omega⟩ x) (Fin.ext (by simp only []; omega))

theorem k_bwd (hfin : Spec.Finite (args m c)) (n : Fin 32) {β : Fin 4} (h : Fin 8) (i : Fin 128) (a : Fin 256) (hβ : ¬(β : ℕ) < 2) :
    ((Spec.k (args m c) (bat β) (dir β) h (128 * n + i) a : ℝ) : EReal)
      = ((args m c).u ⟨β - 2, by omega⟩ (Fin.rev ⟨n * 128 + i, by omega⟩) ⟨2048 + (h * 256 + a), by omega⟩ : EReal) := by
  rw [dir_bwd hβ, bat_bwd hβ, Spec.k, coe_u m c hfin _ _ _ (by simp only []; omega), row_bwd]
  exact congrArg (fun x => (args m c).u ⟨β - 2, by omega⟩ (Fin.rev ⟨n * 128 + i, by omega⟩) x) (Fin.ext (by simp only []; omega))

theorem entry_k (hfin : Spec.Finite (args m c)) (n : Fin 32) (β : Fin 4) (h : Fin 8) (i : Fin 128) (a : Fin 256) :
    entryContents preI m c (Proc.devRef .tc main_v71_1) (ix5 n β h i a) = ((Spec.k (args m c) (bat β) (dir β) h (128 * n + i) a : ℝ) : EReal) := by
  obtain ⟨r, hr⟩ : ∃ r : EReal, r = ((Spec.k (args m c) (bat β) (dir β) h (128 * n + i) a : ℝ) : EReal) := ⟨_, rfl⟩
  refine Eq.trans ?_ hr
  simp only [entryContents, afterL_cons, afterL_nil]
  after_reads_at
  rw [id_eq]
  pointwise
  split
  · rename_i hβ
    after_reads_at
    exact (k_fwd m c hfin n h i a hβ).symm.trans hr.symm
  · rename_i hβ
    after_reads_at
    exact (k_bwd m c hfin n h i a hβ).symm.trans hr.symm

theorem v_fwd (hfin : Spec.Finite (args m c)) (n : Fin 32) {β : Fin 4} (h : Fin 8) (i : Fin 128) (a : Fin 512) (hβ : (β : ℕ) < 2) :
    ((Spec.v (args m c) (bat β) (dir β) h (128 * n + i) a : ℝ) : EReal)
      = ((args m c).u ⟨β, hβ⟩ ⟨n * 128 + i, by omega⟩ ⟨4096 + (h * 512 + a), by omega⟩ : EReal) := by
  rw [dir_fwd hβ, bat_fwd hβ, Spec.v, coe_u m c hfin _ _ _ (by simp only []; omega), row_fwd]
  exact congrArg (fun x => (args m c).u ⟨β, hβ⟩ ⟨n * 128 + i, by omega⟩ x) (Fin.ext (by simp only []; omega))

theorem v_bwd (hfin : Spec.Finite (args m c)) (n : Fin 32) {β : Fin 4} (h : Fin 8) (i : Fin 128) (a : Fin 512) (hβ : ¬(β : ℕ) < 2) :
    ((Spec.v (args m c) (bat β) (dir β) h (128 * n + i) a : ℝ) : EReal)
      = ((args m c).u ⟨β - 2, by omega⟩ (Fin.rev ⟨n * 128 + i, by omega⟩) ⟨4096 + (h * 512 + a), by omega⟩ : EReal) := by
  rw [dir_bwd hβ, bat_bwd hβ, Spec.v, coe_u m c hfin _ _ _ (by simp only []; omega), row_bwd]
  exact congrArg (fun x => (args m c).u ⟨β - 2, by omega⟩ (Fin.rev ⟨n * 128 + i, by omega⟩) x) (Fin.ext (by simp only []; omega))

theorem entry_v (hfin : Spec.Finite (args m c)) (n : Fin 32) (β : Fin 4) (h : Fin 8) (i : Fin 128) (a : Fin 512) :
    entryContents preI m c (Proc.devRef .tc main_v71_2) (ix5 n β h i a) = ((Spec.v (args m c) (bat β) (dir β) h (128 * n + i) a : ℝ) : EReal) := by
  obtain ⟨r, hr⟩ : ∃ r : EReal, r = ((Spec.v (args m c) (bat β) (dir β) h (128 * n + i) a : ℝ) : EReal) := ⟨_, rfl⟩
  refine Eq.trans ?_ hr
  simp only [entryContents, afterL_cons, afterL_nil]
  after_reads_at
  rw [id_eq]
  pointwise
  split
  · rename_i hβ
    after_reads_at
    exact (v_fwd m c hfin n h i a hβ).symm.trans hr.symm
  · rename_i hβ
    after_reads_at
    exact (v_bwd m c hfin n h i a hβ).symm.trans hr.symm

theorem li_fwd (n : Fin 32) {β : Fin 4} (h : Fin 8) (i : Fin 128)  (hβ : (β : ℕ) < 2) :
    ((Spec.li (args m c) (bat β) (dir β) h (128 * n + i) : ℝ) : EReal)
      = Ideal.ofBits .f32 0x41700000#32 * Ideal.tanh (Ideal.div ((args m c).gates ⟨β, hβ⟩ ⟨n * 128 + i, by omega⟩ ⟨h, by omega⟩ + (args m c).bi 0 h : EReal) (Ideal.ofBits .f32 0x41700000#32)) := by
  rw [dir_fwd hβ, bat_fwd hβ, Spec.li, coe_capped, ofBits_fifteen, row_fwd]
  exact congrArg (fun x => ((15 : ℝ) : EReal) * Ideal.tanh (Ideal.div ((args m c).gates ⟨β, hβ⟩ ⟨n * 128 + i, by omega⟩ x + (args m c).bi 0 h) ((15 : ℝ) : EReal))) (Fin.ext (by simp only [Fin.val_zero, Fin.val_one] <;> omega))

theorem li_bwd (n : Fin 32) {β : Fin 4} (h : Fin 8) (i : Fin 128)  (hβ : ¬(β : ℕ) < 2) :
    ((Spec.li (args m c) (bat β) (dir β) h (128 * n + i) : ℝ) : EReal)
      = Ideal.ofBits .f32 0x41700000#32 * Ideal.tanh (Ideal.div ((args m c).gates ⟨β - 2, by omega⟩ (Fin.rev ⟨n * 128 + i, by omega⟩) ⟨16 + h, by omega⟩ + (args m c).bi 1 h : EReal) (Ideal.ofBits .f32 0x41700000#32)) := by
  rw [dir_bwd hβ, bat_bwd hβ, Spec.li, coe_capped, ofBits_fifteen, row_bwd]
  exact congrArg (fun x => ((15 : ℝ) : EReal) * Ideal.tanh (Ideal.div ((args m c).gates ⟨β - 2, by omega⟩ (Fin.rev ⟨n * 128 + i, by omega⟩) x + (args m c).bi 1 h) ((15 : ℝ) : EReal))) (Fin.ext (by simp only [Fin.val_zero, Fin.val_one] <;> omega))

theorem entry_li (n : Fin 32) (β : Fin 4) (h : Fin 8) (i : Fin 128)  :
    entryContents preI m c (Proc.devRef .tc main_v71_3) (ix4 n β h i) = ((Spec.li (args m c) (bat β) (dir β) h (128 * n + i) : ℝ) : EReal) := by
  obtain ⟨r, hr⟩ : ∃ r : EReal, r = ((Spec.li (args m c) (bat β) (dir β) h (128 * n + i) : ℝ) : EReal) := ⟨_, rfl⟩
  refine Eq.trans ?_ hr
  simp only [entryContents, afterL_cons, afterL_nil]
  after_reads_at
  rw [id_eq]
  pointwise
  split
  · rename_i hβ
    after_reads_at
    exact (li_fwd m c n h i hβ).symm.trans hr.symm
  · rename_i hβ
    after_reads_at
    exact (li_bwd m c n h i hβ).symm.trans hr.symm

theorem lf_fwd (n : Fin 32) {β : Fin 4} (h : Fin 8) (i : Fin 128)  (hβ : (β : ℕ) < 2) :
    ((Spec.lf (args m c) (bat β) (dir β) h (128 * n + i) : ℝ) : EReal)
      = ((forget ((args m c).gates ⟨β, hβ⟩ ⟨n * 128 + i, by omega⟩ ⟨8 + h, by omega⟩ + (args m c).bf 0 h : EReal) : ℝ) : EReal) := by
  rw [dir_fwd hβ, bat_fwd hβ, Spec.lf, row_fwd]
  exact congrArg (fun x => ((forget ((args m c).gates ⟨β, hβ⟩ ⟨n * 128 + i, by omega⟩ x + (args m c).bf 0 h) : ℝ) : EReal)) (Fin.ext (by simp only [Fin.val_zero, Fin.val_one] <;> omega))

theorem lf_bwd (n : Fin 32) {β : Fin 4} (h : Fin 8) (i : Fin 128)  (hβ : ¬(β : ℕ) < 2) :
    ((Spec.lf (args m c) (bat β) (dir β) h (128 * n + i) : ℝ) : EReal)
      = ((forget ((args m c).gates ⟨β - 2, by omega⟩ (Fin.rev ⟨n * 128 + i, by omega⟩) ⟨24 + h, by omega⟩ + (args m c).bf 1 h : EReal) : ℝ) : EReal) := by
  rw [dir_bwd hβ, bat_bwd hβ, Spec.lf, row_bwd]
  exact congrArg (fun x => ((forget ((args m c).gates ⟨β - 2, by omega⟩ (Fin.rev ⟨n * 128 + i, by omega⟩) x + (args m c).bf 1 h) : ℝ) : EReal)) (Fin.ext (by simp only [Fin.val_zero, Fin.val_one] <;> omega))

theorem entry_lf (n : Fin 32) (β : Fin 4) (h : Fin 8) (i : Fin 128)  :
    entryContents preI m c (Proc.devRef .tc main_v71_4) (ix4 n β h i) = ((Spec.lf (args m c) (bat β) (dir β) h (128 * n + i) : ℝ) : EReal) := by
  obtain ⟨r, hr⟩ : ∃ r : EReal, r = ((Spec.lf (args m c) (bat β) (dir β) h (128 * n + i) : ℝ) : EReal) := ⟨_, rfl⟩
  refine Eq.trans ?_ hr
  simp only [entryContents, afterL_cons, afterL_nil]
  after_reads_at
  rw [id_eq]
  pointwise
  split
  · rename_i hβ
    after_reads_at
    exact (log_sigmoid _ _).trans ((lf_fwd m c n h i hβ).symm.trans hr.symm)
  · rename_i hβ
    after_reads_at
    exact (log_sigmoid _ _).trans ((lf_bwd m c n h i hβ).symm.trans hr.symm)

theorem entry_mask (i j : Fin 128) :
    entryContents preI m c (Proc.devRef .tc main_v71_5) (ix2 i j) = BitVec.ofBool (decide (j ≤ i)) := by
  simp only [entryContents, afterL_cons, afterL_nil]
  after_reads_at
  rw [id_eq]
  pointwise
  have hi := i.isLt
  have hj := j.isLt
  rw [show IntOp.addi (BitVec.ofNat 32 i) 0#32 = BitVec.ofNat 32 i from BitVec.add_zero _]
  show Scalar.select (BitVec.ofBool (BitVec.sle (BitVec.ofNat 32 j) (BitVec.ofNat 32 i))) _ _ = _
  rw [BitVec.sle_eq_decide, toInt_small j, toInt_small i, decide_eq_decide.mpr (Int.ofNat_le (m := (j : ℕ)) (n := (i : ℕ)))]
  by_cases hij : j ≤ i
  · rw [decide_eq_true (show (j : ℕ) ≤ i from hij), decide_eq_true hij]; rfl
  · rw [decide_eq_false (show ¬(j : ℕ) ≤ i from hij), decide_eq_false hij]; rfl

theorem entry_C (β : Fin 4) (h : Fin 8) (a : Fin 256) (x : Fin 512) :
    entryContents preI m c (Proc.devRef .tc main_v71_7) (ix4 β h a x) = ((0 : ℝ) : EReal) := by
  simp only [entryContents, afterL_cons, afterL_nil]
  after_reads_at
  rw [id_eq]
  pointwise
  rw [EReal.coe_zero]

theorem entry_N (β : Fin 4) (h : Fin 8) (a : Fin 256) :
    entryContents preI m c (Proc.devRef .tc main_v71_8) (ix3 β h a) = ((0 : ℝ) : EReal) := by
  simp only [entryContents, afterL_cons, afterL_nil]
  after_reads_at
  rw [id_eq]
  pointwise
  rw [EReal.coe_zero]

theorem entry_m (β : Fin 4) (h : Fin 8)  :
    entryContents preI m c (Proc.devRef .tc main_v71_9) (ix2 β h) = ((0 : ℝ) : EReal) := by
  simp only [entryContents, afterL_cons, afterL_nil]
  after_reads_at
  rw [id_eq]
  pointwise
  rw [EReal.coe_zero]

theorem entry_ctr : entryContents preI m c (Proc.devRef .tc main_v71_6) = fun _ => Scf.iv 0#32 1#32 0 := by
  rw [ctr_entry, Scf.iv_zero]

end Cert.ReferenceIdeal.RValue
-- ==== Proof.RefCumsum.lean ====
/-
  The reference's running sum along a chunk of 128 positions, over the extended reals.
-/
module

public import proofs.«01_k».proof.Proof.Gen.ReferenceIdeal
public import proofs.«01_k».proof.Proof.RealFacts
public import Idealize.ShloMosaic.Lib.Pipeline.ValueKit
public import Mathlib.Algebra.BigOperators.Fin
public import Mathlib.Tactic.Linarith

@[expose] public section

set_option maxRecDepth 16384

noncomputable section

namespace Cert.ReferenceIdeal.RValue

open Cert.ReferenceIdeal.Gen
open Idealize.ShloMosaic Cert.RealFacts Cert

theorem foldl_real {ι : Type*} (F : ι → EReal) (g : ι → ℝ) (hF : ∀ n, F n = (g n : EReal)) (l : List ι) (z : ℝ) :
    l.foldl (fun r n => r + F n) (z : EReal) = ((z + (l.map g).sum : ℝ) : EReal) := by
  induction l generalizing z with
  | nil => simp
  | cons a l ih => rw [List.foldl_cons, hF, ← EReal.coe_add, ih, List.map_cons, List.sum_cons, add_assoc]

/-- The window's positions that meet a chunk padded by 127 before it are the entries up to the position. -/
theorem window_sum (f : ℕ → ℝ) (j : ℕ) (hj : j < 128) :
    ∑ w ∈ Finset.range 128, (if 127 ≤ j + w then f (j + w - 127) else 0) = ∑ u ∈ Finset.range (j + 1), f u := by
  obtain ⟨d, hd⟩ : ∃ d, 127 = j + d := ⟨127 - j, by omega⟩
  rw [show 128 = d + (j + 1) by omega, Finset.sum_range_add,
    Finset.sum_eq_zero fun w hw => if_neg (by have := Finset.mem_range.1 hw; omega), zero_add]
  refine Finset.sum_congr rfl fun u _ => ?_
  rw [if_pos (by omega), show j + (d + u) - 127 = u by omega]

abbrev Win : Shape := ⟨3, ![1, 1, 128]⟩

theorem win_numel : Win.numel = 128 := by decide

theorem win_coords (n : Fin Win.numel) : (Win.rowMajor.symm n 0).val = 0 ∧ (Win.rowMajor.symm n 1).val = 0
    ∧ (Win.rowMajor.symm n 2).val = n.val := by
  have h0 : (Win.rowMajor.symm n 0).val < 1 := (Win.rowMajor.symm n 0).isLt
  have h1 : (Win.rowMajor.symm n 1).val < 1 := (Win.rowMajor.symm n 1).isLt
  have h2 := Shape.rowMajor_val_three (Win.rowMajor.symm n)
  rw [Equiv.apply_symm_apply] at h2
  refine ⟨by omega, by omega, ?_⟩
  rw [h2]
  simp [show (Win.rowMajor.symm n 0).val = 0 by omega, show (Win.rowMajor.symm n 1).val = 0 by omega]

theorem cumsum_apply (x : S4x8x128.Idx → EReal) (init : S_.Idx → EReal) (hinit : ∀ y, init y = ((0 : ℝ) : EReal))
    (β : Fin 4) (h : Fin 8) (f : ℕ → ℝ) (hx : ∀ i : Fin 128, x (ix3 β h i) = (f i : EReal)) (i : Fin 128) :
    Host.reduceWindowAdd (F := Ideal) (φ := .f32) ![1, 1, 128] ![1, 1, 1] ![0, 0, 127] ![0, 0, 0] x init
      reduceWindows_S4x8x128_S4x8x128_w1s1p0_0_w1s1p0_0_w128s1p127_0 h_S_ (ix3 β h i)
      = ((∑ u ∈ Finset.range (i + 1), f u : ℝ) : EReal) := by
  show Host.reduceWindow (u := ⟨0, ![]⟩) (fun a b : EReal => a + b) ![1, 1, 128] ![1, 1, 1] ![0, 0, 127] ![0, 0, 0] x
    (fun _ => init (Shape.Idx.first h_S_)) reduceWindows_S4x8x128_S4x8x128_w1s1p0_0_w1s1p0_0_w128s1p127_0 (by decide) (ix3 β h i) = _
  unfold Host.reduceWindow
  simp only [hinit]
  refine (foldl_real _ (fun n : Fin Win.numel => if 127 ≤ (i : ℕ) + n.val then f (i + n.val - 127) else 0) (fun n => ?_) _ 0).trans ?_
  · obtain ⟨c0, c1, c2⟩ := win_coords n
    have hn : n.val < 128 := win_numel ▸ n.isLt
    have hii := i.isLt
    have hβ := β.isLt
    have hh := h.isLt
    split
    · next hin =>
      have h2 := (hin 2).1
      change 127 ≤ (i : ℕ) * 1 + (Win.rowMajor.symm n 2).val at h2
      rw [c2] at h2
      rw [if_pos (by omega)]
      refine (congrArg x (funext fun a => Fin.ext ?_)).trans (hx ⟨i + n.val - 127, by omega⟩)
      match a with
      | ⟨0, _⟩ => show (β : ℕ) * 1 + (Win.rowMajor.symm n 0).val - 0 = β; omega
      | ⟨1, _⟩ => show (h : ℕ) * 1 + (Win.rowMajor.symm n 1).val - 0 = h; omega
      | ⟨2, _⟩ => show (i : ℕ) * 1 + (Win.rowMajor.symm n 2).val - 127 = i + n.val - 127; omega
    · next hin =>
      rw [if_neg fun hle => hin fun a => by
        match a with
        | ⟨0, _⟩ => show 0 ≤ (β : ℕ) * 1 + (Win.rowMajor.symm n 0).val ∧ (β : ℕ) * 1 + (Win.rowMajor.symm n 0).val - 0 < 4; omega
        | ⟨1, _⟩ => show 0 ≤ (h : ℕ) * 1 + (Win.rowMajor.symm n 1).val ∧ (h : ℕ) * 1 + (Win.rowMajor.symm n 1).val - 0 < 8; omega
        | ⟨2, _⟩ => show 127 ≤ (i : ℕ) * 1 + (Win.rowMajor.symm n 2).val ∧ (i : ℕ) * 1 + (Win.rowMajor.symm n 2).val - 127 < 128; omega]
  · refine congrArg _ ?_
    rw [zero_add, ← window_sum f i i.isLt, ← Fin.sum_univ_def]
    refine (Fin.sum_univ_eq_sum_range (fun w => if 127 ≤ (i : ℕ) + w then f (i + w - 127) else 0) Win.numel).trans ?_
    rw [win_numel]

end Cert.ReferenceIdeal.RValue
-- ==== Proof.RefStep.lean ====
/-
  One trip of the reference's loop over the extended reals: what it makes of the running state and of the chunk of 128
  positions it stands at, when the chunk's operands and the state are real.
-/
module

public import proofs.«01_k».proof.Proof.RefEntry
public import proofs.«01_k».proof.Proof.RefCumsum
public import Idealize.ShloMosaic.Lib.DynamicIndex
public import Idealize.ShloMosaic.Lib.WordCmp
public import Mathlib.Tactic.FieldSimp

@[expose] public section

set_option maxRecDepth 16384
set_option maxHeartbeats 4000000

noncomputable section

namespace Cert.ReferenceIdeal.RValue

open Cert.ReferenceIdeal.Gen Cert.ReferenceIdeal.Value
open Idealize.ShloMosaic Idealize.ShloMosaic.TcCoe Idealize.ShloMosaic.Tactic Idealize.ShloMosaic.StableHlo
open Cert.RealFacts Cert

/-- The loop's counter read as a whole number. -/
theorem toInt_ctr {t : ℕ} (ht : t < 32) : (Scf.iv 0#32 1#32 t).toInt = (t : ℤ) := by
  rw [show Scf.iv 0#32 1#32 t = BitVec.ofNat 32 t by simp [Scf.iv], BitVec.toInt_ofNat', Int.bmod_eq_of_le] <;> omega

theorem fits5 {t : ℕ} (ht : t < 32) {a b c d : ℕ} : (⟨5, ![32, a, b, c, d]⟩ : Shape).Slices ![t, 0, 0, 0, 0] ⟨5, ![1, a, b, c, d]⟩ :=
  ⟨rfl, fun x => by fin_cases x <;> simp <;> omega⟩
theorem fits4 {t : ℕ} (ht : t < 32) {a b c : ℕ} : (⟨4, ![32, a, b, c]⟩ : Shape).Slices ![t, 0, 0, 0] ⟨4, ![1, a, b, c]⟩ :=
  ⟨rfl, fun x => by fin_cases x <;> simp <;> omega⟩

theorem start5 (V : Valuation τ sig (Elt Ideal)) {t : ℕ} (ht : t < 32)
    (hc : V (Proc.devRef .tc main_v71_6) = fun _ => Scf.iv 0#32 1#32 t) (x : Fin 5) :
    (((![V (Proc.devRef .tc main_v71_6), constantI S_ 32 0#32, constantI S_ 32 0#32, constantI S_ 32 0#32, constantI S_ 32 0#32] : Fin 5 → (⟨S_, .i32⟩ : BufTy).Contents (Elt Ideal))) x (Shape.Idx.first h_S_)).toInt
      = (((![t, 0, 0, 0, 0] : Fin 5 → ℕ) x : ℕ) : ℤ) := by
  fin_cases x
  · show ((V (Proc.devRef .tc main_v71_6)) _).toInt = _
    rw [hc]; exact toInt_ctr ht
  all_goals rfl
theorem start4 (V : Valuation τ sig (Elt Ideal)) {t : ℕ} (ht : t < 32)
    (hc : V (Proc.devRef .tc main_v71_6) = fun _ => Scf.iv 0#32 1#32 t) (x : Fin 4) :
    (((![V (Proc.devRef .tc main_v71_6), constantI S_ 32 0#32, constantI S_ 32 0#32, constantI S_ 32 0#32] : Fin 4 → (⟨S_, .i32⟩ : BufTy).Contents (Elt Ideal))) x (Shape.Idx.first h_S_)).toInt
      = (((![t, 0, 0, 0] : Fin 4 → ℕ) x : ℕ) : ℤ) := by
  fin_cases x
  · show ((V (Proc.devRef .tc main_v71_6)) _).toInt = _
    rw [hc]; exact toInt_ctr ht
  all_goals rfl

theorem v104_apply (V : Valuation τ sig (Elt Ideal)) {t : ℕ} (ht : t < 32)
    (hc : V (Proc.devRef .tc main_v71_6) = fun _ => Scf.iv 0#32 1#32 t) (β : Fin 4) (h : Fin 8) (i : Fin 128) (a : Fin 256) :
    res_main_while0b_v104 V (ix4 β h i a) = V (Proc.devRef .tc main_v71_0) (ix5 ⟨t, ht⟩ β h i a) := by
  unfold res_main_while0b_v104
  rw [Host.dynamicSlice_eq_extractStridedSlice _ _ _ ![t, 0, 0, 0, 0] _ (fits5 ht) (start5 V ht hc)]
  pointwise

theorem v105_apply (V : Valuation τ sig (Elt Ideal)) {t : ℕ} (ht : t < 32)
    (hc : V (Proc.devRef .tc main_v71_6) = fun _ => Scf.iv 0#32 1#32 t) (β : Fin 4) (h : Fin 8) (i : Fin 128) (a : Fin 256) :
    res_main_while0b_v105 V (ix4 β h i a) = V (Proc.devRef .tc main_v71_1) (ix5 ⟨t, ht⟩ β h i a) := by
  unfold res_main_while0b_v105
  rw [Host.dynamicSlice_eq_extractStridedSlice _ _ _ ![t, 0, 0, 0, 0] _ (fits5 ht) (start5 V ht hc)]
  pointwise

theorem v106_apply (V : Valuation τ sig (Elt Ideal)) {t : ℕ} (ht : t < 32)
    (hc : V (Proc.devRef .tc main_v71_6) = fun _ => Scf.iv 0#32 1#32 t) (β : Fin 4) (h : Fin 8) (i : Fin 128) (a : Fin 512) :
    res_main_while0b_v106 V (ix4 β h i a) = V (Proc.devRef .tc main_v71_2) (ix5 ⟨t, ht⟩ β h i a) := by
  unfold res_main_while0b_v106
  rw [Host.dynamicSlice_eq_extractStridedSlice _ _ _ ![t, 0, 0, 0, 0] _ (fits5 ht) (start5 V ht hc)]
  pointwise

theorem v107_apply (V : Valuation τ sig (Elt Ideal)) {t : ℕ} (ht : t < 32)
    (hc : V (Proc.devRef .tc main_v71_6) = fun _ => Scf.iv 0#32 1#32 t) (β : Fin 4) (h : Fin 8) (i : Fin 128) :
    res_main_while0b_v107 V (ix3 β h i) = V (Proc.devRef .tc main_v71_3) (ix4 ⟨t, ht⟩ β h i) := by
  unfold res_main_while0b_v107
  rw [Host.dynamicSlice_eq_extractStridedSlice _ _ _ ![t, 0, 0, 0] _ (fits4 ht) (start4 V ht hc)]
  pointwise

/-- The larger of a real and of the largest of entries none of which is infinite above is real. -/
theorem real_max {ι : Type*} (s : Finset ι) (f : ι → EReal) (x : ℝ) (hf : ∀ y ∈ s, f y < ⊤) :
    ∃ M : ℝ, max (x : EReal) (Finset.fold max ⊥ f s) = (M : EReal) := by
  have h1 : max (x : EReal) (Finset.fold max ⊥ f s) < ⊤ :=
    max_lt (EReal.coe_lt_top x) ((Finset.fold_max_lt _).mpr ⟨bot_lt_top, hf⟩)
  have h2 : max (x : EReal) (Finset.fold max ⊥ f s) ≠ ⊥ := (lt_of_lt_of_le (EReal.bot_lt_coe x) (le_max_left _ _)).ne'
  exact ⟨_, (EReal.coe_toReal h1.ne h2).symm⟩

theorem exp_masked (p : Bool) (x M : ℝ) :
    Ideal.exp (Scalar.select (BitVec.ofBool p) (x : EReal) ⊥ - (M : EReal)) = ((if p then Real.exp (x - M) else 0 : ℝ) : EReal) := by
  cases p
  · show Ideal.exp (⊥ - (M : EReal)) = _
    rw [EReal.bot_sub, Ideal.exp_bot]; simp
  · show Ideal.exp ((x : EReal) - (M : EReal)) = _
    rw [← EReal.coe_sub, Ideal.exp_coe]; simp

/-- A row of the chunk at `n`, scaled by its own exponent: the positions of the chunk and the state before it. -/
theorem row_scaled (lf li f : ℕ → ℝ) (n : ℕ) (i : Fin 128) (μ M : ℝ) :
    ∑ j : Fin 128, f (n + j) * (if j ≤ i then Real.exp ((Scan.G lf (n + i + 1) - Scan.G lf n) - (Scan.G lf (n + j + 1) - Scan.G lf n) + li (n + j) - M) else 0)
      + Real.exp ((Scan.G lf (n + i + 1) - Scan.G lf n) + μ - M) * (Real.exp (-μ) * Scan.S lf li f n)
      = Real.exp (-M) * Scan.S lf li f (n + i + 1) := by
  have : Scan.S lf li f (n + i + 1) = Real.exp (Scan.G lf (n + i + 1) - Scan.G lf n) * Scan.S lf li f n
      + ∑ j : Fin 128, if j ≤ i then Real.exp (Scan.G lf (n + i + 1) - Scan.G lf (n + j + 1) + li (n + j)) * f (n + j) else 0 :=
    Scan.S_row lf li f n (Equiv.refl _) i
  rw [this, mul_add, ← mul_assoc, ← mul_assoc, ← Real.exp_add, ← Real.exp_add, Finset.mul_sum, add_comm]
  congr 1
  · congr 2; ring
  · refine Finset.sum_congr rfl fun j _ => ?_
    by_cases hij : j ≤ i
    · rw [if_pos hij, if_pos hij, mul_comm, ← mul_assoc, ← Real.exp_add]; congr 2; ring
    · rw [if_neg hij, if_neg hij, mul_zero, mul_zero]

/-- The state after the chunk at `n`, scaled by its own exponent. -/
theorem chunk_scaled (lf li f : ℕ → ℝ) (n : ℕ) (μ μ' : ℝ) :
    Real.exp ((Scan.G lf (n + 128) - Scan.G lf n) + μ - μ') * (Real.exp (-μ) * Scan.S lf li f n)
      + ∑ j : Fin 128, Real.exp ((Scan.G lf (n + 128) - Scan.G lf n) - (Scan.G lf (n + j + 1) - Scan.G lf n) + li (n + j) - μ') * f (n + j)
      = Real.exp (-μ') * Scan.S lf li f (n + 128) := by
  have := Scan.S_chunk lf li f n (Equiv.refl (Fin 128))
  simp only [Equiv.refl_apply] at this
  rw [this, mul_add, ← mul_assoc, ← mul_assoc, ← Real.exp_add, ← Real.exp_add, Finset.mul_sum]
  congr 1
  · congr 2; ring
  · refine Finset.sum_congr rfl fun j _ => ?_
    rw [← mul_assoc, ← Real.exp_add]; congr 2; ring

/-- What the loop carries unchanged: the operands of the scans, every one real, and the mask. -/
structure Chunks (V : Valuation τ sig (Elt Ideal)) (lf li : Fin 4 → Fin 8 → ℕ → ℝ) (q k : Fin 4 → Fin 8 → ℕ → Fin 256 → ℝ)
    (v : Fin 4 → Fin 8 → ℕ → Fin 512 → ℝ) : Prop where
  hq : ∀ (n : Fin 32) β h (i : Fin 128) a, V (Proc.devRef .tc main_v71_0) (ix5 n β h i a) = ((q β h (128 * n + i) a : ℝ) : EReal)
  hk : ∀ (n : Fin 32) β h (i : Fin 128) a, V (Proc.devRef .tc main_v71_1) (ix5 n β h i a) = ((k β h (128 * n + i) a : ℝ) : EReal)
  hv : ∀ (n : Fin 32) β h (i : Fin 128) a, V (Proc.devRef .tc main_v71_2) (ix5 n β h i a) = ((v β h (128 * n + i) a : ℝ) : EReal)
  hli : ∀ (n : Fin 32) β h (i : Fin 128), V (Proc.devRef .tc main_v71_3) (ix4 n β h i) = ((li β h (128 * n + i) : ℝ) : EReal)
  hlf : ∀ (n : Fin 32) β h (i : Fin 128), V (Proc.devRef .tc main_v71_4) (ix4 n β h i) = ((lf β h (128 * n + i) : ℝ) : EReal)
  hmask : ∀ i j : Fin 128, V (Proc.devRef .tc main_v71_5) (ix2 i j) = BitVec.ofBool (decide (j ≤ i))

/-- What the loop carries before trip `t`: the counter and the state, scaled by a real exponent per head. -/
structure State (V : Valuation τ sig (Elt Ideal)) (lf li : Fin 4 → Fin 8 → ℕ → ℝ) (k : Fin 4 → Fin 8 → ℕ → Fin 256 → ℝ)
    (v : Fin 4 → Fin 8 → ℕ → Fin 512 → ℝ) (t : ℕ) (μ : Fin 4 → Fin 8 → ℝ) : Prop where
  hc : V (Proc.devRef .tc main_v71_6) = fun _ => Scf.iv 0#32 1#32 t
  hm : ∀ β h, V (Proc.devRef .tc main_v71_9) (ix2 β h) = ((μ β h : ℝ) : EReal)
  hC : ∀ β h a x, V (Proc.devRef .tc main_v71_7) (ix4 β h a x)
    = ((Real.exp (-μ β h) * Scan.C (lf β h) (li β h) (k β h) (v β h) (128 * t) a x : ℝ) : EReal)
  hN : ∀ β h a, V (Proc.devRef .tc main_v71_8) (ix3 β h a)
    = ((Real.exp (-μ β h) * Scan.N (lf β h) (li β h) (k β h) (128 * t) a : ℝ) : EReal)

/-- The forget gates of the chunk at `n` summed up to its entry `i`. -/
def sums (lf : ℕ → ℝ) (n i : ℕ) : ℝ := Scan.G lf (n + i + 1) - Scan.G lf n

theorem sums_last (lf : ℕ → ℝ) (n : ℕ) : sums lf n 127 = Scan.G lf (n + 128) - Scan.G lf n := rfl

/-- The head's output at entry `i` of the chunk at `n`, from the row's scores, the values, the decay of the state, the query and the state. -/
theorem row_out (lf li : ℕ → ℝ) (q k : ℕ → Fin 256 → ℝ) (v : ℕ → Fin 512 → ℝ) (n : ℕ) (i : Fin 128) (x : Fin 512) (μ M : ℝ)
    {A B : Fin 128 → EReal} {e m : EReal} {Q C N : Fin 256 → EReal}
    (hA : ∀ j : Fin 128, A j = ((Scan.qk q k (n + i) (n + j) * (if j ≤ i then Real.exp (sums lf n i - sums lf n j + li (n + j) - M) else 0) : ℝ) : EReal))
    (hB : ∀ j : Fin 128, B j = ((v (n + j) x : ℝ) : EReal)) (he : e = ((Real.exp (sums lf n i + μ - M) : ℝ) : EReal)) (hm : m = ((M : ℝ) : EReal))
    (hQ : ∀ a, Q a = ((q (n + i) a : ℝ) : EReal)) (hC : ∀ a, C a = ((Real.exp (-μ) * Scan.C lf li k v n a x : ℝ) : EReal))
    (hN : ∀ a, N a = ((Real.exp (-μ) * Scan.N lf li k n a : ℝ) : EReal)) :
    Ideal.div (∑ j, A j * B j + e * ∑ a, Q a * C a)
        (max (FloatOps.absf (F := Ideal) (φ := .f32) (∑ j, A j + e * ∑ a, Q a * N a)) (Ideal.exp (-m)))
      = ((Scan.h lf li q k v (n + i) x : ℝ) : EReal) := by
  simp only [hA, hB, he, hm, hQ, hC, hN, ← EReal.coe_mul, coe_sum, ← EReal.coe_add, ← EReal.coe_neg, Ideal.exp_coe, absf_coe, coe_max]
  have e1 := row_scaled lf li (fun s => Scan.qk q k (n + i) s * v s x) n i μ M
  have e2 := row_scaled lf li (fun s => Scan.qk q k (n + i) s) n i μ M
  have f1 : ∑ a : Fin 256, q (n + i) a * (Real.exp (-μ) * Scan.C lf li k v n a x)
      = Real.exp (-μ) * Scan.S lf li (fun s => Scan.qk q k (n + i) s * v s x) n := by
    rw [← Scan.q_C, Finset.mul_sum]; exact Finset.sum_congr rfl fun a _ => by ring
  have f2 : ∑ a : Fin 256, q (n + i) a * (Real.exp (-μ) * Scan.N lf li k n a)
      = Real.exp (-μ) * Scan.S lf li (fun s => Scan.qk q k (n + i) s) n := by
    rw [← Scan.q_N, Finset.mul_sum]; exact Finset.sum_congr rfl fun a _ => by ring
  have g1 : ∑ j : Fin 128, Scan.qk q k (n + i) (n + j)
      * (if j ≤ i then Real.exp (sums lf n i - sums lf n j + li (n + j) - M) else 0) * v (n + j) x
      + Real.exp (sums lf n i + μ - M) * ∑ a : Fin 256, q (n + i) a * (Real.exp (-μ) * Scan.C lf li k v n a x)
      = Real.exp (-M) * Scan.num lf li q k v (n + i) x := by
    rw [f1]; refine Eq.trans ?_ e1
    exact congrArg₂ (· + ·) (Finset.sum_congr rfl fun j _ => by rw [sums, sums]; ring) rfl
  have g2 : ∑ j : Fin 128, Scan.qk q k (n + i) (n + j)
      * (if j ≤ i then Real.exp (sums lf n i - sums lf n j + li (n + j) - M) else 0)
      + Real.exp (sums lf n i + μ - M) * ∑ a : Fin 256, q (n + i) a * (Real.exp (-μ) * Scan.N lf li k n a)
      = Real.exp (-M) * Scan.den lf li q k (n + i) := by
    rw [f2]; exact e2
  rw [g1, g2, abs_mul, abs_of_pos (Real.exp_pos _)]
  have hp := Real.exp_pos (-M)
  rw [show max (Real.exp (-M) * |Scan.den lf li q k (n + i)|) (Real.exp (-M)) = Real.exp (-M) * max |Scan.den lf li q k (n + i)| 1 by
    rw [mul_max_of_nonneg _ _ hp.le, mul_one]]
  have hd : 0 < max |Scan.den lf li q k (n + i)| 1 := lt_of_lt_of_le one_pos (le_max_right _ _)
  rw [Ideal.div_coe (mul_pos hp hd).ne', ← EReal.coe_mul, Scan.h]
  refine congrArg _ ?_
  field_simp

section Trip
variable {V : Valuation τ sig (Elt Ideal)} {lf li : Fin 4 → Fin 8 → ℕ → ℝ} {q k : Fin 4 → Fin 8 → ℕ → Fin 256 → ℝ}
  {v : Fin 4 → Fin 8 → ℕ → Fin 512 → ℝ} {t : ℕ} {μ : Fin 4 → Fin 8 → ℝ} (ht : t < 32)
  (H : Chunks V lf li q k v) (Z : State V lf li k v t μ)
include ht H Z

theorem v109_real (β : Fin 4) (h : Fin 8) (i : Fin 128) :
    res_main_while0b_v109 V (ix3 β h i) = ((sums (lf β h) (128 * t) i : ℝ) : EReal) := by
  unfold res_main_while0b_v109
  rw [Host.dynamicSlice_eq_extractStridedSlice _ _ _ ![t, 0, 0, 0] _ (fits4 ht) (start4 V ht Z.hc)]
  refine (cumsum_apply _ _ (fun y => ?_) β h (fun u => lf β h (128 * t + u)) (fun i => ?_) i).trans (congrArg _ ?_)
  · rw [show y = ix0 from funext fun a => a.elim0]; pointwise; rw [EReal.coe_zero]
  · pointwise; exact H.hlf ⟨t, ht⟩ β h i
  · exact (Scan.G_add (lf β h) (128 * t) (i + 1)).symm

theorem v118_real (β : Fin 4) (h : Fin 8) (i j : Fin 128) :
    res_main_while0b_v118 V (ix4 β h i j) = Scalar.select (BitVec.ofBool (decide (j ≤ i)))
      ((sums (lf β h) (128 * t) i - sums (lf β h) (128 * t) j + li β h (128 * t + j) : ℝ) : EReal) ⊥ := by
  obtain ⟨r, hr⟩ : ∃ r : EReal, r = Scalar.select (BitVec.ofBool (decide (j ≤ i)))
      ((sums (lf β h) (128 * t) i - sums (lf β h) (128 * t) j + li β h (128 * t + j) : ℝ) : EReal) ⊥ := ⟨_, rfl⟩
  refine Eq.trans ?_ hr
  unfold res_main_while0b_v118
  pointwise
  rw [H.hmask, v109_real ht H Z, v109_real ht H Z, v107_apply V ht Z.hc, H.hli, ← EReal.coe_sub, ← EReal.coe_add]
  show Scalar.select (BitVec.ofBool (decide (j ≤ i)))
      ((sums (lf β h) (128 * t) i - sums (lf β h) (128 * t) j + li β h (128 * t + j) : ℝ) : EReal) (Ideal.ofBits .f32 0xFF800000#32) = r
  rw [ofBits_negInf]
  exact hr.symm

theorem v118_lt (y : S4x8x128x128.Idx) : @LT.lt EReal _ (res_main_while0b_v118 V y) ⊤ := by
  obtain ⟨β, h, i, j, rfl⟩ : ∃ β h i j, y = ix4 β h i j := ⟨_, _, _, _, eq_ix4 y⟩
  rw [v118_real ht H Z]
  cases decide (j ≤ i)
  · exact bot_lt_top
  · exact EReal.coe_lt_top _

theorem v121_real (β : Fin 4) (h : Fin 8) (i : Fin 128) :
    res_main_while0b_v121 V (ix3 β h i) = ((sums (lf β h) (128 * t) i + μ β h : ℝ) : EReal) := by
  unfold res_main_while0b_v121
  pointwise
  rw [v109_real ht H Z, Z.hm, EReal.coe_add]

theorem v123_real (β : Fin 4) (h : Fin 8) (i : Fin 128) : ∃ M : ℝ, res_main_while0b_v123 V (ix3 β h i) = (M : EReal) := by
  unfold res_main_while0b_v123
  pointwise
  rw [v121_real ht H Z, ofBits_negInf]
  exact real_max _ _ _ fun y _ => v118_lt ht H Z y

theorem v150_real (β : Fin 4) (h : Fin 8) : res_main_while0b_v150 V (ix2 β h) = ((sums (lf β h) (128 * t) 127 : ℝ) : EReal) := by
  unfold res_main_while0b_v150
  pointwise
  exact v109_real ht H Z β h ⟨127, by omega⟩

theorem v154_real (β : Fin 4) (h : Fin 8) (j : Fin 128) : res_main_while0b_v154 V (ix3 β h j)
    = ((sums (lf β h) (128 * t) 127 - sums (lf β h) (128 * t) j + li β h (128 * t + j) : ℝ) : EReal) := by
  unfold res_main_while0b_v154
  pointwise
  rw [v150_real ht H Z, v109_real ht H Z, v107_apply V ht Z.hc, H.hli, EReal.coe_add, EReal.coe_sub]

theorem v154_lt (y : S4x8x128.Idx) : @LT.lt EReal _ (res_main_while0b_v154 V y) ⊤ := by
  obtain ⟨β, h, j, rfl⟩ : ∃ β h j, y = ix3 β h j := ⟨_, _, _, eq_ix3 y⟩
  rw [v154_real ht H Z]
  exact EReal.coe_lt_top _

theorem v157_real (β : Fin 4) (h : Fin 8) : ∃ M : ℝ, res_main_while0b_v157 V (ix2 β h) = (M : EReal) := by
  unfold res_main_while0b_v157
  pointwise
  rw [v150_real ht H Z, Z.hm, ofBits_negInf, ← EReal.coe_add]
  exact real_max _ _ _ fun y _ => v154_lt ht H Z y

theorem v131_real (β : Fin 4) (h : Fin 8) (i j : Fin 128) {M : ℝ} (hM : res_main_while0b_v123 V (ix3 β h i) = (M : EReal)) :
    res_main_while0b_v131 V (ix4 β h i j) = ((Scan.qk (q β h) (k β h) (128 * t + i) (128 * t + j)
      * (if j ≤ i then Real.exp (sums (lf β h) (128 * t) i - sums (lf β h) (128 * t) j + li β h (128 * t + j) - M) else 0) : ℝ) : EReal) := by
  unfold res_main_while0b_v131
  pointwise
  rw [hM, v118_real ht H Z, exp_masked, EReal.coe_mul]
  simp only [v104_apply V ht Z.hc, v105_apply V ht Z.hc, H.hq, H.hk, ← EReal.coe_mul, coe_sum, decide_eq_true_eq]
  rfl

theorem v129_real (β : Fin 4) (h : Fin 8) (i : Fin 128) {M : ℝ} (hM : res_main_while0b_v123 V (ix3 β h i) = (M : EReal)) :
    res_main_while0b_v129 V (ix3 β h i) = ((Real.exp (sums (lf β h) (128 * t) i + μ β h - M) : ℝ) : EReal) := by
  unfold res_main_while0b_v129
  pointwise
  rw [v121_real ht H Z, hM, ← EReal.coe_sub, Ideal.exp_coe]

theorem v164_real (β : Fin 4) (h : Fin 8) {M : ℝ} (hM : res_main_while0b_v157 V (ix2 β h) = (M : EReal)) :
    res_main_while0b_v164 V (ix2 β h) = ((Real.exp (sums (lf β h) (128 * t) 127 + μ β h - M) : ℝ) : EReal) := by
  unfold res_main_while0b_v164
  pointwise
  rw [v150_real ht H Z, Z.hm, hM, ← EReal.coe_add, ← EReal.coe_sub, Ideal.exp_coe]

theorem v167_real (β : Fin 4) (h : Fin 8) (j : Fin 128) (a : Fin 256) {M : ℝ} (hM : res_main_while0b_v157 V (ix2 β h) = (M : EReal)) :
    res_main_while0b_v167 V (ix4 β h j a) = ((k β h (128 * t + j) a
      * Real.exp (sums (lf β h) (128 * t) 127 - sums (lf β h) (128 * t) j + li β h (128 * t + j) - M) : ℝ) : EReal) := by
  unfold res_main_while0b_v167
  pointwise
  rw [v154_real ht H Z, hM, ← EReal.coe_sub, Ideal.exp_coe, v105_apply V ht Z.hc, H.hk, EReal.coe_mul]

theorem step7 (β : Fin 4) (h : Fin 8) (a : Fin 256) (x : Fin 512) {M : ℝ} (hM : res_main_while0b_v157 V (ix2 β h) = (M : EReal)) :
    step_main_v71_7 V (ix4 β h a x) = ((Real.exp (-M) * Scan.C (lf β h) (li β h) (k β h) (v β h) (128 * (t + 1)) a x : ℝ) : EReal) := by
  obtain ⟨r, hr⟩ : ∃ r : EReal, r = ((Real.exp (-M) * Scan.C (lf β h) (li β h) (k β h) (v β h) (128 * (t + 1)) a x : ℝ) : EReal) := ⟨_, rfl⟩
  refine Eq.trans ?_ hr
  unfold step_main_v71_7
  rw [id_eq]
  pointwise
  rw [v164_real ht H Z β h hM, Z.hC]
  simp only [v167_real ht H Z β h _ _ hM, v106_apply V ht Z.hc, H.hv, ← EReal.coe_mul, coe_sum]
  rw [← EReal.coe_add]
  refine (congrArg _ ?_).trans hr.symm
  rw [Nat.mul_succ, Scan.C, Scan.C, ← chunk_scaled (lf β h) (li β h) _ (128 * t) (μ β h) M]
  exact congrArg₂ (· + ·) rfl (Finset.sum_congr rfl fun j _ => by rw [sums_last, sums]; ring)

theorem step8 (β : Fin 4) (h : Fin 8) (a : Fin 256) {M : ℝ} (hM : res_main_while0b_v157 V (ix2 β h) = (M : EReal)) :
    step_main_v71_8 V (ix3 β h a) = ((Real.exp (-M) * Scan.N (lf β h) (li β h) (k β h) (128 * (t + 1)) a : ℝ) : EReal) := by
  obtain ⟨r, hr⟩ : ∃ r : EReal, r = ((Real.exp (-M) * Scan.N (lf β h) (li β h) (k β h) (128 * (t + 1)) a : ℝ) : EReal) := ⟨_, rfl⟩
  refine Eq.trans ?_ hr
  unfold step_main_v71_8
  rw [id_eq]
  pointwise
  rw [v164_real ht H Z β h hM, Z.hN]
  simp only [v167_real ht H Z β h _ _ hM, coe_sum]
  rw [← EReal.coe_mul, ← EReal.coe_add]
  refine (congrArg _ ?_).trans hr.symm
  rw [Nat.mul_succ, Scan.N, Scan.N, ← chunk_scaled (lf β h) (li β h) _ (128 * t) (μ β h) M]
  exact congrArg₂ (· + ·) rfl (Finset.sum_congr rfl fun j _ => by rw [sums_last, sums]; ring)

theorem step10 (n : Fin 32) (β : Fin 4) (h : Fin 8) (i : Fin 128) (x : Fin 512) :
    ((n : ℕ) = t → step_main_v71_10 V (ix5 n β h i x) = ((Scan.h (lf β h) (li β h) (q β h) (k β h) (v β h) (128 * t + i) x : ℝ) : EReal))
    ∧ ((n : ℕ) ≠ t → step_main_v71_10 V (ix5 n β h i x) = V (Proc.devRef .tc main_v71_10) (ix5 n β h i x)) := by
  obtain ⟨M, hM⟩ := v123_real ht H Z β h i
  obtain ⟨r, hr⟩ : ∃ r : EReal, r = ((Scan.h (lf β h) (li β h) (q β h) (k β h) (v β h) (128 * t + i) x : ℝ) : EReal) := ⟨_, rfl⟩
  refine ⟨fun hn => Eq.trans ?_ hr, fun hn => ?_⟩
  all_goals
   unfold step_main_v71_10
   rw [id_eq, WordCmp.dynamicUpdateSlice_eq_update _ _ _ _ ![t, 0, 0, 0, 0] (fits5 ht) (start5 V ht Z.hc)]
   pointwise
  · split
    · exact (row_out _ _ _ _ _ (128 * t) i x (μ β h) M (fun j => v131_real ht H Z β h i j hM)
        (fun j => (v106_apply V ht Z.hc β h j x).trans (H.hv ⟨t, ht⟩ β h j x)) (v129_real ht H Z β h i hM) hM
        (fun a => (v104_apply V ht Z.hc β h i a).trans (H.hq ⟨t, ht⟩ β h i a)) (fun a => Z.hC β h a x) (fun a => Z.hN β h a)).trans hr.symm
    · rename_i hno
      have hβ := β.isLt
      have hh := h.isLt
      have hi := i.isLt
      have hx := x.isLt
      refine absurd (fun a => ?_) hno
      fin_cases a
      · exact ⟨hn.ge, by show (n : ℕ) < t + 1; omega⟩
      · exact ⟨Nat.zero_le _, by show (β : ℕ) < 0 + 4; omega⟩
      · exact ⟨Nat.zero_le _, by show (h : ℕ) < 0 + 8; omega⟩
      · exact ⟨Nat.zero_le _, by show (i : ℕ) < 0 + 128; omega⟩
      · exact ⟨Nat.zero_le _, by show (x : ℕ) < 0 + 512; omega⟩
  · split
    · rename_i hyes
      have h0 : t ≤ (n : ℕ) ∧ (n : ℕ) < t + 1 := hyes ⟨0, Nat.succ_pos 4⟩
      omega
    · rfl

end Trip

end Cert.ReferenceIdeal.RValue
-- ==== Proof.GatePrep.lean ====
/-
  What the gate kernel leaves, over the extended reals: within each chunk of 256 positions the running sums of the
  logarithms of the forget gates, from the chunk's start for the columns read forwards and to its end for those read
  backwards, what is left of the chunk's total with the input gate added, and the input gate less the running sum.
-/
module

public import proofs.«01_k».proof.Proof.MlstmRun
public import proofs.«01_k».proof.Proof.MlstmPay
public import Idealize.ShloMosaic.Lib.Pipeline.ValueKit

@[expose] public section

set_option maxRecDepth 16384
set_option maxHeartbeats 4000000

noncomputable section

namespace Cert.KernelIdeal.Gates

open Cert.KernelIdeal.Gen Cert.KernelIdeal.Run
open Idealize.ShloMosaic Idealize.ShloMosaic.TcCoe Idealize.ShloMosaic.Tactic
open Cert.RealFacts Cert Cert.KernelIdeal.Mlstm

section Chunk
variable {F : FTy → Type} [FloatOps F]

theorem slices_rows (n : Fin 16) : Shape.Slices S4096x16 ![256 * (n : ℕ), 0] S256x16 := by
  revert n; decide

/-- Chunk `n`'s rows. -/
def rows (x : FVec F S4096x16 .f32) (n : Fin 16) : FVec F S256x16 .f32 :=
  extractStridedSlice S256x16 ![256 * (n : ℕ), 0] x (slices_rows n)

/-- The running sums of a chunk, from its three parts. -/
def cum (M : FVec F S256x256 .bf16) (s : FVec F S256x16 .f32) : FVec F S256x16 .f32 :=
  let hi := truncf .bf16 s bitsLt_bf16_f32
  let r1 := subf s (extf .f32 hi bitsLt_bf16_f32)
  let mid := truncf .bf16 r1 bitsLt_bf16_f32
  let lo := truncf .bf16 (subf r1 (extf .f32 mid bitsLt_bf16_f32)) bitsLt_bf16_f32
  let z := constant (F := F) S256x16 .f32 0x00000000#32
  let d := fun y => matmul dot_S256x256_S256x16_S256x16_1_0_0_1_n_n none M y z
  addf (addf (addf (broadcast S256x16 (Scalar.ofBits .f32 0x00000000#32)) (d hi)) (d mid)) (d lo)

/-- The columns read forwards. -/
def colMask : IVec S256x16 1 :=
  k0_pay8 (iota .tc S256x16 32 [1] iota_S256x16_d1_w32) k0_pay7

/-- The running sums, forwards in the first columns and backwards in the others. -/
def bP (s : FVec F S256x16 .f32) : FVec F S256x16 .f32 :=
  select colMask (cum k0_pay5 s) (cum k0_pay6 s)

/-- The chunk's total less the running sum, plus the input gate. -/
def eP (s l : FVec F S256x16 .f32) : FVec F S256x16 .f32 :=
  addf (subf (broadcastTo S256x16 (select (extractStridedSlice S1x16 ![0, 0] colMask slices_S256x16_o0_0_S1x16)
    (extractStridedSlice S1x16 ![255, 0] (cum k0_pay5 s) slices_S256x16_o255_0_S1x16)
    (extractStridedSlice S1x16 ![0, 0] (cum k0_pay6 s) slices_S256x16_o0_0_S1x16)) broadcasts_S1x16_S256x16) (bP s)) l

/-- The input gate less the running sum. -/
def rP (s l : FVec F S256x16 .f32) : FVec F S256x16 .f32 := subf l (bP s)

def lift3 (x : FVec F S256x16 .f32) : FVec F S1x256x16 .f32 := shapeCast S1x256x16 x shapeCasts_S256x16_S1x256x16

theorem inb_rows (k : Fin 16) (a : Fin 3) : (![0, 256 * (15 - k), 0] : Fin 3 → ℕ) a + S1x256x16.size a ≤ S1x4096x16.size a := by
  revert a k; decide

variable [Named F]

theorem out4_eq (x0 x1 : Vec F S1x4096x16 .f32) (x2 x3 : Vec F S1x16 .f32) :
    out0_4 x0 x1 x2 x3 = View.canon (List.ofFn fun k : Fin 16 => (⟨Rect.unit (s := S1x4096x16) ![0, 256 * (15 - k), 0] S1x256x16.size (inb_rows k),
      lift3 (bP (rows (k0_pay215 x0 x1 x2 x3) (Fin.rev k)))⟩ : View.Piece (Elt F) S1x4096x16 _)) := by
  sl_kernel_rfl

theorem out5_eq (x0 x1 : Vec F S1x4096x16 .f32) (x2 x3 : Vec F S1x16 .f32) :
    out0_5 x0 x1 x2 x3 = View.canon (List.ofFn fun k : Fin 16 => (⟨Rect.unit (s := S1x4096x16) ![0, 256 * (15 - k), 0] S1x256x16.size (inb_rows k),
      lift3 (eP (rows (k0_pay215 x0 x1 x2 x3) (Fin.rev k)) (rows (k0_pay214 x0 x1 x2 x3) (Fin.rev k)))⟩ : View.Piece (Elt F) S1x4096x16 _)) := by
  sl_kernel_rfl

theorem out6_eq (x0 x1 : Vec F S1x4096x16 .f32) (x2 x3 : Vec F S1x16 .f32) :
    out0_6 x0 x1 x2 x3 = View.canon (List.ofFn fun k : Fin 16 => (⟨Rect.unit (s := S1x4096x16) ![0, 256 * (15 - k), 0] S1x256x16.size (inb_rows k),
      lift3 (rP (rows (k0_pay215 x0 x1 x2 x3) (Fin.rev k)) (rows (k0_pay214 x0 x1 x2 x3) (Fin.rev k)))⟩ : View.Piece (Elt F) S1x4096x16 _)) := by
  sl_kernel_rfl

end Chunk

/-! ## One chunk at an index -/

theorem rows_apply (x : FVec Ideal S4096x16 .f32) (n : Fin 16) (i : Fin 256) (c : Fin 16) :
    rows x n (ix2 i c) = x (ix2 ⟨256 * n + i, by omega⟩ c) := by
  unfold rows
  refine congrArg x (funext fun b => Fin.ext ?_)
  fin_cases b
  · rfl
  · exact Nat.zero_add _

theorem bit_real (p : Bool) : (((BitVec.setWidth 32 (BitVec.ofBool p)).toInt : ℝ) : EReal) = ((if p then 1 else 0 : ℝ) : EReal) := by
  cases p <;> simp

theorem tri_F (i j : Fin 256) : (k0_pay5 (F := Ideal)) (ix2 i j) = ((if j ≤ i then 1 else 0 : ℝ) : EReal) := by
  pointwise [k0_pay5]
  have hi := i.isLt
  have hj := j.isLt
  show (((BitVec.setWidth 32 (BitVec.ofBool (BitVec.sle _ _))).toInt : ℝ) : EReal) = _
  rw [BitVec.sle_eq_decide, ofNat_toInt (by omega), ofNat_toInt (by omega), bit_real]
  simp only [decide_eq_true_eq, Nat.cast_le, Fin.val_fin_le]

theorem tri_B (i j : Fin 256) : (k0_pay6 (F := Ideal)) (ix2 i j) = ((if i ≤ j then 1 else 0 : ℝ) : EReal) := by
  pointwise [k0_pay6]
  have hi := i.isLt
  have hj := j.isLt
  show (((BitVec.setWidth 32 (BitVec.ofBool (BitVec.sle _ _))).toInt : ℝ) : EReal) = _
  rw [BitVec.sle_eq_decide, ofNat_toInt (by omega), ofNat_toInt (by omega), bit_real]
  simp only [decide_eq_true_eq, Nat.cast_le, Fin.val_fin_le]

theorem colMask_apply (i : Fin 256) (c : Fin 16) : colMask (ix2 i c) = BitVec.ofBool (decide ((c : ℕ) < 8)) := by
  pointwise [colMask, k0_pay8, k0_pay7]
  have hc := c.isLt
  show BitVec.ofBool (BitVec.slt _ (BitVec.ofNat 32 8)) = _
  rw [BitVec.slt_eq_decide, ofNat_toInt (by omega), ofNat_toInt (by omega)]
  exact congrArg BitVec.ofBool (decide_eq_decide.mpr Nat.cast_lt)

theorem cum_apply {M : FVec Ideal S256x256 .bf16} {s : FVec Ideal S256x16 .f32} {p : Fin 256 → Fin 256 → Prop} [∀ i j, Decidable (p i j)]
    {f : Fin 256 → ℝ} {c : Fin 16} (hM : ∀ i j, M (ix2 i j) = ((if p i j then 1 else 0 : ℝ) : EReal)) (hs : ∀ j, s (ix2 j c) = (f j : EReal)) (i : Fin 256) :
    cum M s (ix2 i c) = ((∑ j, if p i j then f j else 0 : ℝ) : EReal) := by
  pointwise [cum]
  simp only [hM, hs, ← EReal.coe_sub, ← EReal.coe_mul, coe_sum, ← EReal.coe_add, Ideal.ofBits_zero_f32, sub_self]
  refine congrArg _ ?_
  simp only [ite_mul, one_mul, zero_mul, mul_zero, Finset.sum_const_zero, add_zero]

/-- The order of a chunk's rows in the scan of column `c`. -/
def perm (c : Fin 16) : Equiv.Perm (Fin 256) := if (c : ℕ) < 8 then Equiv.refl _ else Fin.revPerm

theorem sum_perm (x : ℕ → ℝ) (N : ℕ) (e : Equiv.Perm (Fin 256)) (i : Fin 256) :
    (∑ j, if e j ≤ e i then x (N + e j) else 0) = Scan.G x (N + e i + 1) - Scan.G x N := by
  rw [add_assoc, Scan.G_add, Equiv.sum_comp e (fun j => if j ≤ e i then x (N + j) else 0)]
  refine (Fin.sum_univ_eq_sum_range (fun j => if j ≤ (e i : ℕ) then x (N + j) else 0) 256).trans ?_
  rw [← Finset.sum_filter]
  refine Finset.sum_congr (Finset.ext fun j => ?_) fun _ _ => rfl
  have := (e i).isLt
  simp only [Finset.mem_filter, Finset.mem_range]
  omega

section Col
variable {s l : FVec Ideal S256x16 .f32} {c : Fin 16} {x y : ℕ → ℝ} {N : ℕ}

/-- The running sums of a column, where it is selected. -/
theorem sel_apply (hs : ∀ j, s (ix2 j c) = (x (N + perm c j) : EReal)) (i : Fin 256) :
    Scalar.select (BitVec.ofBool (decide ((c : ℕ) < 8))) (cum k0_pay5 s (ix2 i c)) (cum k0_pay6 s (ix2 i c))
      = ((Scan.G x (N + perm c i + 1) - Scan.G x N : ℝ) : EReal) := by
  rw [cum_apply tri_F hs, cum_apply tri_B hs, ← sum_perm]
  unfold perm
  by_cases h : (c : ℕ) < 8
  · simp [h, Scalar.select]
  · simp [h, Scalar.select, Fin.rev_le_rev]

theorem bP_apply (hs : ∀ j, s (ix2 j c) = (x (N + perm c j) : EReal)) (i : Fin 256) :
    bP s (ix2 i c) = ((Scan.G x (N + perm c i + 1) - Scan.G x N : ℝ) : EReal) := by
  rw [← sel_apply hs i, ← colMask_apply i c]; rfl

theorem rP_apply (hs : ∀ j, s (ix2 j c) = (x (N + perm c j) : EReal)) (hl : ∀ j, l (ix2 j c) = (y (N + perm c j) : EReal)) (i : Fin 256) :
    rP s l (ix2 i c) = ((y (N + perm c i) - (Scan.G x (N + perm c i + 1) - Scan.G x N) : ℝ) : EReal) := by
  rw [EReal.coe_sub, ← bP_apply hs i, ← hl i]; rfl

/-- A chunk's first and last rows. -/
def first : Fin 256 := ⟨0, by decide⟩
def last : Fin 256 := ⟨255, by decide⟩

theorem select_on (a b : EReal) : Scalar.select (BitVec.ofBool true) a b = a := by simp [Scalar.select]
theorem select_off (a b : EReal) : Scalar.select (BitVec.ofBool false) a b = b := by simp [Scalar.select]

/-- The chunk's total, read off the row that is last in the scan. -/
theorem tot_apply (hs : ∀ j, s (ix2 j c) = (x (N + perm c j) : EReal)) :
    Scalar.select (BitVec.ofBool (decide ((c : ℕ) < 8))) (cum k0_pay5 s (ix2 last c)) (cum k0_pay6 s (ix2 first c))
      = ((Scan.G x (N + 256) - Scan.G x N : ℝ) : EReal) := by
  by_cases h : (c : ℕ) < 8
  · have hp : ((perm c last : Fin 256) : ℕ) = 255 := by rw [perm, if_pos h, Equiv.refl_apply]; rfl
    have := sel_apply hs last
    rw [hp, add_assoc, (by decide : 255 + 1 = 256), decide_eq_true h, select_on] at this
    rw [decide_eq_true h, select_on]
    exact this
  · have hp : ((perm c first : Fin 256) : ℕ) = 255 := by rw [perm, if_neg h, Fin.revPerm_apply, Fin.val_rev]; rfl
    have := sel_apply hs first
    rw [hp, add_assoc, (by decide : 255 + 1 = 256), decide_eq_false h, select_off] at this
    rw [decide_eq_false h, select_off]
    exact this

theorem eP_apply (hs : ∀ j, s (ix2 j c) = (x (N + perm c j) : EReal)) (hl : ∀ j, l (ix2 j c) = (y (N + perm c j) : EReal)) (i : Fin 256) :
    eP s l (ix2 i c) = ((Scan.G x (N + 256) - Scan.G x (N + perm c i + 1) + y (N + perm c i) : ℝ) : EReal) := by
  refine Eq.trans (b := Scalar.select (colMask (ix2 first c)) (cum k0_pay5 s (ix2 last c)) (cum k0_pay6 s (ix2 first c)) - bP s (ix2 i c) + l (ix2 i c)) ?_ ?_
  · pointwise [eP]
    rfl
  · rw [colMask_apply, tot_apply hs, bP_apply hs, hl, ← EReal.coe_sub, ← EReal.coe_add]
    exact congrArg _ (by ring)

end Col

/-! ## The whole outputs -/

/-- The place of row `t` in the scan of column `c`. -/
def pos (c : Fin 16) (t : ℕ) : ℕ := if (c : ℕ) < 8 then t else 4095 - t

/-- The place of chunk `n` in the scan of column `c`. -/
def chunk (c : Fin 16) (n : Fin 16) : ℕ := if (c : ℕ) < 8 then n else 15 - n

theorem pos_chunk (c : Fin 16) (n : Fin 16) (i : Fin 256) : pos c (256 * n + i) = 256 * chunk c n + perm c i := by
  have := n.isLt
  have := i.isLt
  unfold pos perm chunk
  split
  · rfl
  · rw [Fin.revPerm_apply, Fin.val_rev]; omega

theorem pos_div (c : Fin 16) (n : Fin 16) (i : Fin 256) : pos c (256 * n + i) / 256 = chunk c n := by
  have := (perm c i).isLt
  rw [pos_chunk]; omega

section Whole
variable (x0 x1 : Vec Ideal S1x4096x16 .f32) (x2 x3 : Vec Ideal S1x16 .f32) (c : Fin 16) (lf li : ℕ → ℝ)

/-- An output put together from its chunks, at a row. -/
theorem canon_rows (P : Fin 16 → FVec Ideal S256x16 .f32) (v : ℕ → EReal) (h : ∀ (n : Fin 16) (i : Fin 256), P n (ix2 i c) = v (256 * n + i)) (t : Fin 4096) :
    View.canon (List.ofFn fun k : Fin 16 => (⟨Rect.unit (s := S1x4096x16) ![0, 256 * (15 - (k : ℕ)), 0] S1x256x16.size (inb_rows k),
      lift3 (P (Fin.rev k))⟩ : View.Piece (Elt Ideal) S1x4096x16 .f32)) (ix3 0 t c) = v t := by
  refine View.canon_ofFn_unit_eq_of_forall (S := S1x4096x16) (Val := Elt Ideal) (e := .f32) (fun k : Fin 16 => ![0, 256 * (15 - (k : ℕ)), 0]) S1x256x16.size inb_rows (fun k => lift3 (P (Fin.rev k))) _ _ ?_ ?_
  · refine ⟨⟨15 - (t : ℕ) / 256, by omega⟩, fun a => ?_⟩
    have ht := t.isLt
    have hc := c.isLt
    fin_cases a
    · exact ⟨Nat.le_refl 0, Nat.one_pos⟩
    · show 256 * (15 - (15 - (t : ℕ) / 256)) ≤ (t : ℕ) ∧ (t : ℕ) < 256 * (15 - (15 - (t : ℕ) / 256)) + 256
      omega
    · show 0 ≤ (c : ℕ) ∧ (c : ℕ) < 0 + 16
      omega
  · intro k z hz
    obtain ⟨a, i, c', rfl⟩ : ∃ (a : Fin 1) (i : Fin 256) (c' : Fin 16), z = ix3 a i c' := ⟨z 0, z 1, z 2, by ext b; fin_cases b <;> rfl⟩
    have h1 : (t : ℕ) = 256 * (15 - (k : ℕ)) + (i : ℕ) := hz 1
    have h2 : (c : ℕ) = 0 + (c' : ℕ) := hz 2
    obtain rfl : c = c' := Fin.ext (by omega)
    have hk : ((Fin.rev k : Fin 16) : ℕ) = 15 - (k : ℕ) := by rw [Fin.val_rev]; omega
    rw [h1, ← hk, ← h]
    pointwise [lift3]

variable (hlf : ∀ t : Fin 4096, k0_pay215 x0 x1 x2 x3 (ix2 t c) = (lf (pos c t) : EReal))
  (hli : ∀ t : Fin 4096, k0_pay214 x0 x1 x2 x3 (ix2 t c) = (li (pos c t) : EReal)) (t : Fin 4096)

include hlf in
theorem row_lf (n : Fin 16) (j : Fin 256) : rows (k0_pay215 x0 x1 x2 x3) n (ix2 j c) = (lf (256 * chunk c n + perm c j) : EReal) := by
  rw [rows_apply, hlf, ← pos_chunk]

include hli in
theorem row_li (n : Fin 16) (j : Fin 256) : rows (k0_pay214 x0 x1 x2 x3) n (ix2 j c) = (li (256 * chunk c n + perm c j) : EReal) := by
  rw [rows_apply, hli, ← pos_chunk]

include hlf in
theorem out4_apply : out0_4 x0 x1 x2 x3 (ix3 0 t c) =
    ((Scan.G lf (pos c t + 1) - Scan.G lf (256 * (pos c t / 256)) : ℝ) : EReal) := by
  rw [out4_eq]
  refine canon_rows c (fun n => bP (rows (k0_pay215 x0 x1 x2 x3) n))
    (fun t => ((Scan.G lf (pos c t + 1) - Scan.G lf (256 * (pos c t / 256)) : ℝ) : EReal)) (fun n i => ?_) t
  rw [pos_div, pos_chunk]
  exact bP_apply (row_lf x0 x1 x2 x3 c lf hlf n) i

include hlf hli in
theorem out5_apply : out0_5 x0 x1 x2 x3 (ix3 0 t c) =
    ((Scan.G lf (256 * (pos c t / 256) + 256) - Scan.G lf (pos c t + 1) + li (pos c t) : ℝ) : EReal) := by
  rw [out5_eq]
  refine canon_rows c (fun n => eP (rows (k0_pay215 x0 x1 x2 x3) n) (rows (k0_pay214 x0 x1 x2 x3) n))
    (fun t => ((Scan.G lf (256 * (pos c t / 256) + 256) - Scan.G lf (pos c t + 1) + li (pos c t) : ℝ) : EReal)) (fun n i => ?_) t
  rw [pos_div, pos_chunk]
  exact eP_apply (row_lf x0 x1 x2 x3 c lf hlf n) (row_li x0 x1 x2 x3 c li hli n) i

include hlf hli in
theorem out6_apply : out0_6 x0 x1 x2 x3 (ix3 0 t c) =
    ((li (pos c t) - (Scan.G lf (pos c t + 1) - Scan.G lf (256 * (pos c t / 256))) : ℝ) : EReal) := by
  rw [out6_eq]
  refine canon_rows c (fun n => rP (rows (k0_pay215 x0 x1 x2 x3) n) (rows (k0_pay214 x0 x1 x2 x3) n))
    (fun t => ((li (pos c t) - (Scan.G lf (pos c t + 1) - Scan.G lf (256 * (pos c t / 256))) : ℝ) : EReal)) (fun n i => ?_) t
  rw [pos_div, pos_chunk]
  exact rP_apply (row_lf x0 x1 x2 x3 c lf hlf n) (row_li x0 x1 x2 x3 c li hli n) i

end Whole

/-! ## The gates themselves -/

section Gate
variable (x0 x1 : Vec Ideal S1x4096x16 .f32) (x2 x3 : Vec Ideal S1x16 .f32) (t : Fin 4096) (c : Fin 16)

/-- A gate times the named fifteenth is the gate over fifteen. -/
theorem cap_eq (g : EReal) : Ideal.ofBits .f32 0x41700000#32 * Ideal.tanh (g * Named.named (F := Ideal) (φ := .f32) κ "c" 0x3D888889#32) = (capped g : EReal) := by
  rw [coe_capped, IdealRules.named_const.ideal_named_scalar (φ := .f32) κ "c" 0x3D888889#32 ((15⁻¹ : ℝ) : EReal) rfl, ofBits_fifteen,
    Ideal.div_coe (by norm_num), one_div]

theorem pay214_apply : k0_pay214 x0 x1 x2 x3 (ix2 t c) = (capped (x0 (ix3 0 t c) + x2 (ix2 0 c)) : EReal) := by
  rw [← cap_eq]
  pointwise [k0_pay214, k0_pay3]

theorem pay215_apply : k0_pay215 x0 x1 x2 x3 (ix2 t c) = (forget (x1 (ix3 0 t c) + x3 (ix2 0 c)) : EReal) := by
  unfold forget
  pointwise [k0_pay215, k0_pay4]
  simp only [cap_eq]
  rw [absf_coe, ← EReal.coe_zero, coe_min, ← EReal.coe_sub, zero_sub, log1p_exp, ← EReal.coe_sub]

end Gate

end Cert.KernelIdeal.Gates
-- ==== Proof.KernelValue.lean ====
/-
  What the kernel program leaves in its result, over the extended reals, as the layer's recurrence.
-/
module

public import proofs.«01_k».proof.Proof.GatePrep
public import proofs.«01_k».proof.Proof.MlstmChain
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 4000000

noncomputable section

namespace Cert.KernelIdeal.KValue

open Cert.KernelIdeal.Gen Cert.KernelIdeal.Run
open Idealize.ShloMosaic Idealize.ShloMosaic.TcCoe Idealize.ShloMosaic.Tactic
open Cert.RealFacts Cert

variable (m : (ℓ : Loc nD τ sig) → Buf (Elt Ideal) ℓ) (ρ : Dev nD → PrngReg) (c : Dev nD)

/-- The arguments by coordinates. -/
def args : Spec.In where
  u b t x := m ((c : Thread nD τ).loc main_arg0) (ix3 b t x)
  gates b t x := m ((c : Thread nD τ).loc main_arg1) (ix3 b t x)
  bi d h := m ((c : Thread nD τ).loc main_arg2) (ix2 d h)
  bf d h := m ((c : Thread nD τ).loc main_arg3) (ix2 d h)
  g x := m ((c : Thread nD τ).loc main_arg4) (ix1 x)

/-! ## The host operations before the gate kernel -/

theorem V1_v3 (b : Fin 2) (t : Fin 4096) (col : Fin 16) :
    V1 m ρ c main_v3 (ix3 b t col) = (args m c).gates b t ⟨col / 8 * 16 + col % 8, by omega⟩ := by
  unfold args V1 W1
  after_reads_at

theorem V1_v6 (b : Fin 2) (t : Fin 4096) (col : Fin 16) :
    V1 m ρ c main_v6 (ix3 b t col) = (args m c).gates b t ⟨col / 8 * 16 + 8 + col % 8, by omega⟩ := by
  unfold args V1 W1
  after_reads_at

theorem V1_v7 (col : Fin 16) : V1 m ρ c main_v7 (ix2 0 col) = (args m c).bi ⟨col / 8, by omega⟩ ⟨col % 8, by omega⟩ := by
  unfold args V1 W1
  after_reads_at

theorem V1_v8 (col : Fin 16) : V1 m ρ c main_v8 (ix2 0 col) = (args m c).bf ⟨col / 8, by omega⟩ ⟨col % 8, by omega⟩ := by
  unfold args V1 W1
  after_reads_at

/-! ## The host operations between the two kernels -/

section Between
variable (b : Fin 2) (h : Fin 8) (t : Fin 4096)

theorem V3_v25_0 : V3 m ρ c main_v25 (ix4 b h t 0) = V2 m ρ c main_v9_0 (ix3 b t ⟨h, by omega⟩) := by
  unfold V3 W3
  after_reads_at
  after_reads_at

theorem V3_v25_1 : V3 m ρ c main_v25 (ix4 b h t 1) = V2 m ρ c main_v9_1 (ix3 b t ⟨h, by omega⟩) := by
  unfold V3 W3
  after_reads_at
  after_reads_at

theorem V3_v25_2 : V3 m ρ c main_v25 (ix4 b h t 2) = V2 m ρ c main_v9_0 (ix3 b t ⟨8 + h, by omega⟩) := by
  unfold V3 W3
  after_reads_at
  after_reads_at

theorem V3_v25_3 : V3 m ρ c main_v25 (ix4 b h t 3) = V2 m ρ c main_v9_1 (ix3 b t ⟨8 + h, by omega⟩) := by
  unfold V3 W3
  after_reads_at
  after_reads_at

theorem V3_v28 (dr : Fin 2) (n : Fin 16) (j : Fin 256) :
    V3 m ρ c main_v28 (ix6 b h dr n 0 j) = V2 m ρ c main_v9_2 (ix3 b ⟨n * 256 + j, by omega⟩ ⟨dr * 8 + h, by omega⟩) := by
  unfold V3 W3
  after_reads_at

theorem V3_v29 (x : Fin 4096) : V3 m ρ c main_v29 (ix2 0 x) = (args m c).g x := by
  refine Eq.trans (b := W2 m ρ c (Proc.devRef .tc main_arg4) (ix1 x)) ?_ ?_
  · unfold V3 W3
    after_reads_at
  · rw [W2_args m ρ c main_arg4 (by simp)]; rfl

theorem V3_arg0 : V3 m ρ c main_arg0 = m ((c : Thread nD τ).loc main_arg0) := W3_args m ρ c main_arg0 (by simp)

end Between

/-! ## The gate kernel's blocks and outputs -/

theorem idx0 : ∀ t : Fin grid0.N, win0_0.index t = ![(t : ℕ), 0, 0] ∧ win0_1.index t = ![(t : ℕ), 0, 0] ∧ win0_2.index t = ![0, 0] ∧
    win0_3.index t = ![0, 0] ∧ win0_4.index t = ![(t : ℕ), 0, 0] ∧ win0_5.index t = ![(t : ℕ), 0, 0] ∧ win0_6.index t = ![(t : ℕ), 0, 0] := by
  decide +kernel

section Blocks0
variable (p : Fin cfg0.N) (t : Fin 4096) (col : Fin 16)

theorem iblk0_0 : iblk0 (V1 m ρ) c 0 p (ix3 0 t col) = V1 m ρ c main_v3 (ix3 ⟨p, p.isLt⟩ t col) := by
  blk_ext [iblk0, idx0 p]
theorem iblk0_1 : iblk0 (V1 m ρ) c 1 p (ix3 0 t col) = V1 m ρ c main_v6 (ix3 ⟨p, p.isLt⟩ t col) := by
  blk_ext [iblk0, idx0 p]
theorem iblk0_2 : iblk0 (V1 m ρ) c 2 p (ix2 0 col) = V1 m ρ c main_v7 (ix2 0 col) := by
  blk_ext [iblk0, idx0 p]
theorem iblk0_3 : iblk0 (V1 m ρ) c 3 p (ix2 0 col) = V1 m ρ c main_v8 (ix2 0 col) := by
  blk_ext [iblk0, idx0 p]

end Blocks0

/-- The gates of batch `b` in the scan of column `col`. -/
def glf (b : Fin 2) (col : Fin 16) : ℕ → ℝ := Spec.lf (args m c) b ⟨col / 8, by omega⟩ ⟨col % 8, by omega⟩
def gli (b : Fin 2) (col : Fin 16) : ℕ → ℝ := Spec.li (args m c) b ⟨col / 8, by omega⟩ ⟨col % 8, by omega⟩

theorem row_pos (col : Fin 16) (t : Fin 4096) : Spec.row ⟨col / 8, by omega⟩ (Gates.pos col t) = t := by
  have := t.isLt
  refine Fin.ext ?_
  unfold Spec.row Gates.pos
  by_cases h : (col : ℕ) < 8
  · have h0 : (⟨col / 8, by omega⟩ : Fin 2) = 0 := Fin.ext (by show (col : ℕ) / 8 = 0; omega)
    simp only [h, h0, if_true]; omega
  · have h0 : (⟨col / 8, by omega⟩ : Fin 2) ≠ 0 := fun hh => by have : (col : ℕ) / 8 = 0 := congrArg Fin.val hh; omega
    simp only [h, h0, if_false]; omega

section Gates0
variable (p : Fin cfg0.N) (t : Fin 4096) (col : Fin 16)

theorem pay215_eq : k0_pay215 (iblk0 (V1 m ρ) c 0 p) (iblk0 (V1 m ρ) c 1 p) (iblk0 (V1 m ρ) c 2 p) (iblk0 (V1 m ρ) c 3 p) (ix2 t col)
    = (glf m c ⟨p, p.isLt⟩ col (Gates.pos col t) : EReal) := by
  rw [Gates.pay215_apply, iblk0_1, iblk0_3, V1_v6, V1_v8]
  unfold glf Spec.lf
  rw [row_pos]
  refine congrArg (fun z => ((forget ((args m c).gates _ t z + _) : ℝ) : EReal)) (Fin.ext ?_)
  simp only []; omega

theorem pay214_eq : k0_pay214 (iblk0 (V1 m ρ) c 0 p) (iblk0 (V1 m ρ) c 1 p) (iblk0 (V1 m ρ) c 2 p) (iblk0 (V1 m ρ) c 3 p) (ix2 t col)
    = (gli m c ⟨p, p.isLt⟩ col (Gates.pos col t) : EReal) := by
  rw [Gates.pay214_apply, iblk0_0, iblk0_2, V1_v3, V1_v7]
  unfold gli Spec.li
  rw [row_pos]
  refine congrArg (fun z => ((capped ((args m c).gates _ t z + _) : ℝ) : EReal)) (Fin.ext ?_)
  simp only []; omega

end Gates0

/-- The running sums, at every row and column. -/
def G4 : S2x4096x16.Idx → EReal := fun y =>
  ((Scan.G (glf m c (y 0) (y 2)) (Gates.pos (y 2) (y 1) + 1) - Scan.G (glf m c (y 0) (y 2)) (256 * (Gates.pos (y 2) (y 1) / 256)) : ℝ) : EReal)
/-- What is left of the chunk, and the input gate. -/
def G5 : S2x4096x16.Idx → EReal := fun y =>
  ((Scan.G (glf m c (y 0) (y 2)) (256 * (Gates.pos (y 2) (y 1) / 256) + 256) - Scan.G (glf m c (y 0) (y 2)) (Gates.pos (y 2) (y 1) + 1)
    + gli m c (y 0) (y 2) (Gates.pos (y 2) (y 1)) : ℝ) : EReal)
/-- The input gate less the running sum. -/
def G6 : S2x4096x16.Idx → EReal := fun y =>
  ((gli m c (y 0) (y 2) (Gates.pos (y 2) (y 1)) - (Scan.G (glf m c (y 0) (y 2)) (Gates.pos (y 2) (y 1) + 1)
    - Scan.G (glf m c (y 0) (y 2)) (256 * (Gates.pos (y 2) (y 1) / 256))) : ℝ) : EReal)

theorem split3 (y : S1x4096x16.Idx) : ∃ (t : Fin 4096) (col : Fin 16), y = ix3 0 t col :=
  ⟨y 1, y 2, by ext b; fin_cases b; · exact Nat.lt_one_iff.mp (y 0).isLt
                · rfl
                · rfl⟩

theorem V2_v9_0 : V2 m ρ c main_v9_0 = G4 m c := by
  refine (W2_arr m ρ c 4).trans ?_
  refine (dat0 (V1 m ρ) c).arrAt_eq_of_covers 4 _ (by decide +kernel) fun p hf y => ?_
  obtain ⟨t, col, rfl⟩ := split3 y
  blk_simp
  rw [after0_4]
  refine (Gates.out4_apply _ _ _ _ col (glf m c ⟨p, p.isLt⟩ col) (fun t => pay215_eq m ρ c p t col) t).trans ?_
  refine Eq.trans (b := G4 m c (ix3 ⟨p, p.isLt⟩ t col)) rfl (congrArg (G4 m c) ?_)
  blk_ext [idx0 p]

theorem V2_v9_1 : V2 m ρ c main_v9_1 = G5 m c := by
  refine (W2_arr m ρ c 5).trans ?_
  refine (dat0 (V1 m ρ) c).arrAt_eq_of_covers 5 _ (by decide +kernel) fun p hf y => ?_
  obtain ⟨t, col, rfl⟩ := split3 y
  blk_simp
  rw [after0_5]
  refine (Gates.out5_apply _ _ _ _ col (glf m c ⟨p, p.isLt⟩ col) (gli m c ⟨p, p.isLt⟩ col) (fun t => pay215_eq m ρ c p t col) (fun t => pay214_eq m ρ c p t col) t).trans ?_
  refine Eq.trans (b := G5 m c (ix3 ⟨p, p.isLt⟩ t col)) rfl (congrArg (G5 m c) ?_)
  blk_ext [idx0 p]

theorem V2_v9_2 : V2 m ρ c main_v9_2 = G6 m c := by
  refine (W2_arr m ρ c 6).trans ?_
  refine (dat0 (V1 m ρ) c).arrAt_eq_of_covers 6 _ (by decide +kernel) fun p hf y => ?_
  obtain ⟨t, col, rfl⟩ := split3 y
  blk_simp
  rw [after0_6]
  refine (Gates.out6_apply _ _ _ _ col (glf m c ⟨p, p.isLt⟩ col) (gli m c ⟨p, p.isLt⟩ col) (fun t => pay215_eq m ρ c p t col) (fun t => pay214_eq m ρ c p t col) t).trans ?_
  refine Eq.trans (b := G6 m c (ix3 ⟨p, p.isLt⟩ t col)) rfl (congrArg (G6 m c) ?_)
  blk_ext [idx0 p]

/-! ## The second kernel's blocks -/

theorem idx1 : ∀ t : Fin grid1.N, win1_0.index t = ![(t : ℕ) / 8, 0, (t : ℕ) % 8] ∧ win1_1.index t = ![(t : ℕ) / 8, 0, 8 + (t : ℕ) % 8] ∧
    win1_2.index t = ![(t : ℕ) / 8, 0, 8 + (t : ℕ) % 8] ∧ win1_3.index t = ![(t : ℕ) / 8, 0, 16 + (t : ℕ) % 8] ∧
    win1_4.index t = ![(t : ℕ) / 8, (t : ℕ) % 8, 0, 0] ∧ win1_5.index t = ![(t : ℕ) / 8, (t : ℕ) % 8, 0, 0, 0, 0] ∧
    win1_6.index t = ![0, (t : ℕ) % 8] ∧ win1_7.index t = ![(t : ℕ) / 8, 0, (t : ℕ) % 8] := by
  decide +kernel

theorem lt1 (p : Fin cfg1.N) : (p : ℕ) < 16 := p.isLt

/-- A point's batch and head. -/
def pb (p : Fin cfg1.N) : Fin 2 := ⟨p / 8, by have := lt1 p; omega⟩
def ph (p : Fin cfg1.N) : Fin 8 := ⟨p % 8, by omega⟩

section Blocks1
variable (p : Fin cfg1.N) (t : Fin 4096)

theorem iblk1_0 (a : Fin 256) : iblk1 (V3 m ρ) c 0 p (ix3 0 t a) = (args m c).u (pb p) t ⟨256 * ph p + a, by omega⟩ := by
  refine Eq.trans (b := V3 m ρ c main_arg0 (ix3 (pb p) t ⟨256 * ph p + a, by omega⟩)) ?_ (congrFun (V3_arg0 m ρ c) _)
  blk_ext [iblk1, idx1 p, pb, ph]
theorem iblk1_1 (a : Fin 256) : iblk1 (V3 m ρ) c 1 p (ix3 0 t a) = (args m c).u (pb p) t ⟨2048 + (256 * ph p + a), by omega⟩ := by
  refine Eq.trans (b := V3 m ρ c main_arg0 (ix3 (pb p) t ⟨2048 + (256 * ph p + a), by omega⟩)) ?_ (congrFun (V3_arg0 m ρ c) _)
  blk_ext [iblk1, idx1 p, pb, ph]
theorem iblk1_2 (x : Fin 512) : iblk1 (V3 m ρ) c 2 p (ix3 0 t x) = (args m c).u (pb p) t ⟨4096 + (512 * ph p + x), by omega⟩ := by
  refine Eq.trans (b := V3 m ρ c main_arg0 (ix3 (pb p) t ⟨4096 + (512 * ph p + x), by omega⟩)) ?_ (congrFun (V3_arg0 m ρ c) _)
  blk_ext [iblk1, idx1 p, pb, ph]
theorem iblk1_3 (x : Fin 512) : iblk1 (V3 m ρ) c 3 p (ix3 0 t x) = (args m c).u (pb p) t ⟨8192 + (512 * ph p + x), by omega⟩ := by
  refine Eq.trans (b := V3 m ρ c main_arg0 (ix3 (pb p) t ⟨8192 + (512 * ph p + x), by omega⟩)) ?_ (congrFun (V3_arg0 m ρ c) _)
  blk_ext [iblk1, idx1 p, pb, ph]
theorem iblk1_4 (a : Fin 4) : iblk1 (V3 m ρ) c 4 p (ix4 0 0 t a) = V3 m ρ c main_v25 (ix4 (pb p) (ph p) t a) := by
  blk_ext [iblk1, idx1 p, pb, ph]
theorem iblk1_5 (dr : Fin 2) (n : Fin 16) (j : Fin 256) :
    iblk1 (V3 m ρ) c 5 p (ix6 0 0 dr n 0 j) = V3 m ρ c main_v28 (ix6 (pb p) (ph p) dr n 0 j) := by
  blk_ext [iblk1, idx1 p, pb, ph]
theorem iblk1_6 (x : Fin 512) : iblk1 (V3 m ρ) c 6 p (ix2 0 x) = (args m c).g ⟨512 * ph p + x, by omega⟩ := by
  rw [← V3_v29 m ρ c]
  blk_ext [iblk1, idx1 p, pb, ph]

end Blocks1

/-! ## The recurrence in the second kernel -/

/-- Direction `d`'s gate column of head `h`. -/
def dcol (d : Fin 2) (h : Fin 8) : Fin 16 := ⟨8 * d + h, by omega⟩

theorem glf_dcol (b d : Fin 2) (h : Fin 8) : glf m c b (dcol d h) = Spec.lf (args m c) b d h := by
  unfold glf
  have e1 : (⟨dcol d h / 8, by unfold dcol; simp only []; omega⟩ : Fin 2) = d := Fin.ext (by unfold dcol; simp only []; omega)
  have e2 : (⟨dcol d h % 8, by omega⟩ : Fin 8) = h := Fin.ext (by unfold dcol; simp only []; omega)
  rw [e1, e2]

theorem gli_dcol (b d : Fin 2) (h : Fin 8) : gli m c b (dcol d h) = Spec.li (args m c) b d h := by
  unfold gli
  have e1 : (⟨dcol d h / 8, by unfold dcol; simp only []; omega⟩ : Fin 2) = d := Fin.ext (by unfold dcol; simp only []; omega)
  have e2 : (⟨dcol d h % 8, by omega⟩ : Fin 8) = h := Fin.ext (by unfold dcol; simp only []; omega)
  rw [e1, e2]

theorem pos_dcol (d : Fin 2) (h : Fin 8) (t : ℕ) : Gates.pos (dcol d h) t = Spec.place d t := by
  unfold Gates.pos Spec.place dcol
  have := d.isLt
  by_cases h0 : d = 0
  · subst h0; simp
  · have h1 : (d : ℕ) = 1 := by have : (d : ℕ) ≠ 0 := fun h => h0 (Fin.ext h); omega
    simp [h0, h1]

theorem v25_b (b d : Fin 2) (h : Fin 8) (t : Fin 4096) :
    V3 m ρ c main_v25 (ix4 b h t ⟨2 * d, by omega⟩) = V2 m ρ c main_v9_0 (ix3 b t (dcol d h)) := by
  fin_cases d
  · refine (V3_v25_0 m ρ c b h t).trans (congrArg _ (congrArg (ix3 b t) (Fin.ext ?_)))
    show (h : ℕ) = 8 * 0 + h; omega
  · exact V3_v25_2 m ρ c b h t

theorem v25_e (b d : Fin 2) (h : Fin 8) (t : Fin 4096) :
    V3 m ρ c main_v25 (ix4 b h t ⟨2 * d + 1, by omega⟩) = V2 m ρ c main_v9_1 (ix3 b t (dcol d h)) := by
  fin_cases d
  · refine (V3_v25_1 m ρ c b h t).trans (congrArg _ (congrArg (ix3 b t) (Fin.ext ?_)))
    show (h : ℕ) = 8 * 0 + h; omega
  · exact V3_v25_3 m ρ c b h t

theorem v28_r (b d : Fin 2) (h : Fin 8) (n : Fin 16) (j : Fin 256) :
    V3 m ρ c main_v28 (ix6 b h d n 0 j) = V2 m ρ c main_v9_2 (ix3 b ⟨256 * n + j, by omega⟩ (dcol d h)) := by
  refine (V3_v28 m ρ c b h d n j).trans (congrArg _ (congrArg₂ (ix3 b) (Fin.ext ?_) (Fin.ext ?_)))
  · simp only []; omega
  · unfold dcol; simp only []; omega

section Value
variable (hfin : Spec.Finite (args m c)) (p : Fin cfg1.N)

theorem coe_u (hfin : Spec.Finite (args m c)) (b : Fin 2) (t : Fin 4096) (x : Fin 16384) (hx : (x : ℕ) < 8192) :
    (((args m c).u b t x).toReal : EReal) = (args m c).u b t x := by
  obtain ⟨r, hr⟩ := hfin b t x hx
  rw [hr, EReal.toReal_coe]

include hfin in
theorem holds (d : Fin 2) : Mlstm.Holds (Spec.place d) ⟨2 * d, by omega⟩ ⟨2 * d + 1, by omega⟩ d
    (iblk1 (V3 m ρ) c 0 p) (iblk1 (V3 m ρ) c 1 p) (iblk1 (V3 m ρ) c 2 p) (iblk1 (V3 m ρ) c 4 p) (iblk1 (V3 m ρ) c 5 p)
    (Spec.lf (args m c) (pb p) d (ph p)) (Spec.li (args m c) (pb p) d (ph p))
    (Spec.q (args m c) (pb p) d (ph p)) (Spec.k (args m c) (pb p) d (ph p)) (Spec.v (args m c) (pb p) d (ph p)) where
  hq t a := by
    rw [iblk1_0, Spec.q, Spec.row_place, coe_u m c hfin _ _ _ (by simp only []; omega)]
  hk t a := by
    rw [iblk1_1, Spec.k, Spec.row_place, coe_u m c hfin _ _ _ (by simp only []; omega)]
  hv t a := by
    rw [iblk1_2, Spec.v, Spec.row_place, coe_u m c hfin _ _ _ (by simp only []; omega)]
  hb t := by
    rw [iblk1_4, v25_b, V2_v9_0, ← glf_dcol, ← pos_dcol d (ph p)]; rfl
  he t := by
    rw [iblk1_4, v25_e, V2_v9_1, ← glf_dcol, ← gli_dcol, ← pos_dcol d (ph p)]; rfl
  hr n j := by
    rw [iblk1_5, v28_r, V2_v9_2, ← glf_dcol, ← gli_dcol, ← pos_dcol d (ph p)]; rfl

include hfin in
theorem outsAt_eq (t : Fin 4096) (x : Fin 512) : outsAt1 (V3 m ρ) c p (ix3 0 t x) = Spec.out (args m c) (pb p) (ph p) t x := by
  refine (Mlstm.outBlock_scan (holds m ρ c hfin p 0) (holds m ρ c hfin p 1) t x).trans ?_
  rw [iblk1_6, iblk1_3]
  rfl

theorem split3' (y : S1x4096x512.Idx) : ∃ (t : Fin 4096) (x : Fin 512), y = ix3 0 t x :=
  ⟨y 1, y 2, by ext b; fin_cases b; · exact Nat.lt_one_iff.mp (y 0).isLt
                · rfl
                · rfl⟩

/-- The result array. -/
def result (I : Spec.In) : S2x4096x4096.Idx → EReal := fun y =>
  Spec.out I (y 0) ⟨(y 2 : ℕ) / 512, by have : (y 2 : ℕ) < 4096 := (y 2).isLt; omega⟩ (y 1) ⟨(y 2 : ℕ) % 512, by omega⟩

include hfin in
theorem result_eq : W4 m ρ c (Proc.devRef .tc main_v30) = result (args m c) := by
  refine (W4_arr m ρ c 7).trans ?_
  refine (dat1 (V3 m ρ) c).arrAt_eq_of_covers 7 _ (by decide +kernel) fun p hf y => ?_
  obtain ⟨t, x, rfl⟩ := split3' y
  blk_simp
  rw [after1_7]
  refine (outsAt_eq m ρ c hfin p t x).trans ?_
  have hx := x.isLt
  have hh := (ph p).isLt
  refine Eq.trans (b := result (args m c) (ix3 (pb p) t ⟨512 * ph p + x, by omega⟩)) ?_ (congrArg (result (args m c)) ?_)
  · unfold result
    refine congrArg₂ (fun h x => Spec.out (args m c) (pb p) h t x) (Fin.ext ?_) (Fin.ext ?_)
    · show _ = (512 * (ph p : ℕ) + x) / 512; omega
    · show _ = (512 * (ph p : ℕ) + x) % 512; omega
  · blk_ext [idx1 p, pb, ph]

end Value

end Cert.KernelIdeal.KValue
-- ==== Proof.RefValue.lean ====
/-
  The reference's result over the extended reals: the loop's 32 trips one after another, and the layer's last operations.
-/
module

public import proofs.«01_k».proof.Proof.RefStep
public import proofs.«01_k».proof.Proof.KernelValue

@[expose] public section

set_option maxRecDepth 16384
set_option maxHeartbeats 4000000

noncomputable section

namespace Cert.ReferenceIdeal.RValue

open Cert.ReferenceIdeal.Gen Cert.ReferenceIdeal.Value
open Idealize.ShloMosaic Idealize.ShloMosaic.TcCoe Idealize.ShloMosaic.Tactic Idealize.ShloMosaic.StableHlo
open Cert.RealFacts Cert

section Loop
variable {V : Valuation τ sig (Elt Ideal)} {lf li : Fin 4 → Fin 8 → ℕ → ℝ} {q k : Fin 4 → Fin 8 → ℕ → Fin 256 → ℝ}
  {v : Fin 4 → Fin 8 → ℕ → Fin 512 → ℝ} {t : ℕ} {μ : Fin 4 → Fin 8 → ℝ}

theorem chunks_step (H : Chunks V lf li q k v) : Chunks (STEP V) lf li q k v where
  hq := by rw [STEP_main_v71_0]; exact H.hq
  hk := by rw [STEP_main_v71_1]; exact H.hk
  hv := by rw [STEP_main_v71_2]; exact H.hv
  hli := by rw [STEP_main_v71_3]; exact H.hli
  hlf := by rw [STEP_main_v71_4]; exact H.hlf
  hmask := by rw [STEP_main_v71_5]; exact H.hmask

theorem state_step (ht : t < 32) (H : Chunks V lf li q k v) (Z : State V lf li k v t μ) : ∃ μ', State (STEP V) lf li k v (t + 1) μ' := by
  choose M hM using fun β h => v157_real ht H Z β h
  refine ⟨M, ?_, fun β h => ?_, fun β h a x => ?_, fun β h a => ?_⟩
  · rw [STEP_main_v71_6, Scf.iv_succ]
    unfold step_main_v71_6
    rw [Z.hc]; rfl
  · rw [STEP_main_v71_9]; exact hM β h
  · rw [STEP_main_v71_7]; exact step7 ht H Z β h a x (hM β h)
  · rw [STEP_main_v71_8]; exact step8 ht H Z β h a (hM β h)

/-- After `t` trips: the operands as they were, the state before chunk `t`, and the outputs of the chunks before it. -/
theorem loop (H : Chunks V lf li q k v) (Z : State V lf li k v 0 μ) : ∀ t ≤ 32, Chunks (STEP^[t] V) lf li q k v
    ∧ (∃ μ', State (STEP^[t] V) lf li k v t μ')
    ∧ ∀ (n : Fin 32) (β : Fin 4) (h : Fin 8) (i : Fin 128) (x : Fin 512), (n : ℕ) < t →
      (STEP^[t] V) (Proc.devRef .tc main_v71_10) (ix5 n β h i x)
        = ((Scan.h (lf β h) (li β h) (q β h) (k β h) (v β h) (128 * n + i) x : ℝ) : EReal)
  | 0, _ => ⟨H, ⟨μ, Z⟩, fun n _ _ _ _ hn => absurd hn (Nat.not_lt_zero _)⟩
  | t + 1, ht => by
    obtain ⟨H', ⟨μ', Z'⟩, h'⟩ := loop H Z t (by omega)
    rw [Function.iterate_succ_apply']
    refine ⟨chunks_step H', state_step (by omega) H' Z', fun n β h i x hn => ?_⟩
    rw [STEP_main_v71_10]
    by_cases e : (n : ℕ) = t
    · rw [(step10 (by omega) H' Z' n β h i x).1 e, e]
    · rw [(step10 (by omega) H' Z' n β h i x).2 e]; exact h' n β h i x (by omega)

end Loop

section Value
variable (m : (ℓ : Loc nD τ sig) → Buf (Elt Ideal) ℓ) (c : Dev nD) (hfin : Spec.Finite (args m c))
include hfin

theorem entry_chunks : Chunks (entryContents preI m c) (fun β h => Spec.lf (args m c) (bat β) (dir β) h)
    (fun β h => Spec.li (args m c) (bat β) (dir β) h) (fun β h p a => Spec.q (args m c) (bat β) (dir β) h p a * (1 / 16))
    (fun β h => Spec.k (args m c) (bat β) (dir β) h) (fun β h => Spec.v (args m c) (bat β) (dir β) h) :=
  ⟨fun n β h i a => entry_q m c hfin n β h i a, fun n β h i a => entry_k m c hfin n β h i a, fun n β h i a => entry_v m c hfin n β h i a,
    fun n β h i => entry_li m c n β h i, fun n β h i => entry_lf m c n β h i, fun i j => entry_mask m c i j⟩

omit hfin in
theorem entry_state : State (entryContents preI m c) (fun β h => Spec.lf (args m c) (bat β) (dir β) h)
    (fun β h => Spec.li (args m c) (bat β) (dir β) h)
    (fun β h => Spec.k (args m c) (bat β) (dir β) h) (fun β h => Spec.v (args m c) (bat β) (dir β) h) 0 (fun _ _ => 0) :=
  ⟨entry_ctr m c, fun β h => entry_m m c β h,
    fun β h a x => (entry_C m c β h a x).trans (congrArg _ (by rw [Nat.mul_zero, Scan.C, Scan.S_zero, mul_zero])),
    fun β h a => (entry_N m c β h a).trans (congrArg _ (by rw [Nat.mul_zero, Scan.N, Scan.S_zero, mul_zero]))⟩

/-- The scans' outputs after the loop. -/
theorem heads (n : Fin 32) (β : Fin 4) (h : Fin 8) (i : Fin 128) (x : Fin 512) :
    (STEP^[32] (entryContents preI m c)) (Proc.devRef .tc main_v71_10) (ix5 n β h i x)
      = ((Spec.head (args m c) (bat β) (dir β) h (128 * n + i) x : ℝ) : EReal) :=
  (loop (entry_chunks m c hfin) (entry_state m c) 32 le_rfl).2.2 n β h i x n.isLt

omit hfin in
/-- The last operations: the two directions added, normed, scaled and gated. -/
theorem out_apply (V : Valuation τ sig (Elt Ideal)) (b : Fin 2) (t : Fin 4096) (y : Fin 4096) (A B : Fin 512 → ℝ)
    (hA : ∀ x, V (Proc.devRef .tc main_v71_10) (ix5 (⟨t / 128, by omega⟩ : Fin 32) (⟨b, by omega⟩ : Fin 4) (⟨y / 512, by omega⟩ : Fin 8)
      (⟨t % 128, by omega⟩ : Fin 128) x) = ((A x : ℝ) : EReal))
    (hB : ∀ x, V (Proc.devRef .tc main_v71_10) (ix5 (⟨t.rev / 128, by omega⟩ : Fin 32) (⟨2 + b, by omega⟩ : Fin 4) (⟨y / 512, by omega⟩ : Fin 8)
      (⟨t.rev % 128, by omega⟩ : Fin 128) x) = ((B x : ℝ) : EReal)) (g o : EReal)
    (hg : V (Proc.devRef .tc main_arg4) (ix1 y) = g)
    (ho : V (Proc.devRef .tc main_arg0) (ix3 b t (⟨8192 + y, by omega⟩ : Fin 16384)) = o) :
    out_main_v103 V (ix3 b t y) = KernelIdeal.Mlstm.finish (fun x => (A x : EReal) + (B x : EReal)) g o ⟨y % 512, by omega⟩ := by
  obtain ⟨r, hr⟩ : ∃ r : EReal, r = KernelIdeal.Mlstm.finish (fun x => (A x : EReal) + (B x : EReal)) g o ⟨y % 512, by omega⟩ := ⟨_, rfl⟩
  refine Eq.trans ?_ hr
  unfold out_main_v103
  pointwise
  simp (decide := true) only [↓reduceIte, hA, hB, hg, ho]
  exact hr.symm

/-- The reference's result: its value at every index is the layer's. -/
theorem result_eq : out_main_v103 (STEP^[32] (entryContents preI m c)) = KernelIdeal.KValue.result (args m c) := by
  refine funext fun (y : S2x4096x4096.Idx) => ?_
  obtain ⟨b, t, z, rfl⟩ : ∃ (b : Fin 2) (t : Fin 4096) (z : Fin 4096), y = ix3 b t z := ⟨y 0, y 1, y 2, eq_ix3 y⟩
  have hb : bat (⟨b, by omega⟩ : Fin 4) = b ∧ dir (⟨b, by omega⟩ : Fin 4) = 0 := by revert b; decide
  have hb' : bat (⟨2 + b, by omega⟩ : Fin 4) = b ∧ dir (⟨2 + b, by omega⟩ : Fin 4) = 1 := by revert b; decide
  refine (out_apply _ b t z (fun x => Spec.head (args m c) b 0 ⟨z / 512, by omega⟩ t x)
    (fun x => Spec.head (args m c) b 1 ⟨z / 512, by omega⟩ (4095 - t) x) (fun x => ?_) (fun x => ?_) _ _
    (congrFun (iter_main_arg4 m c 32) _) (congrFun (iter_main_arg0 m c 32) _)).trans ?_
  · refine (heads m c hfin _ _ _ _ _).trans (congrArg _ ?_)
    rw [hb.1, hb.2]
    exact congrArg (fun p => Spec.head (args m c) b 0 ⟨z / 512, by omega⟩ p x) (Nat.div_add_mod _ _)
  · refine (heads m c hfin _ _ _ _ _).trans (congrArg _ ?_)
    rw [hb'.1, hb'.2]
    exact congrArg (fun p => Spec.head (args m c) b 1 ⟨z / 512, by omega⟩ p x) ((Nat.div_add_mod _ _).trans (by rw [Fin.val_rev]; omega))
  · have e : ∀ w : Fin 4096, w = z → KernelIdeal.Mlstm.finish
          (fun x => ((Spec.head (args m c) b 0 ⟨z / 512, by omega⟩ t x : ℝ) : EReal)
            + ((Spec.head (args m c) b 1 ⟨z / 512, by omega⟩ (4095 - t) x : ℝ) : EReal))
          ((args m c).g z) ((args m c).u b t ⟨8192 + z, by omega⟩) ⟨z % 512, by omega⟩
        = KernelIdeal.Mlstm.finish
          (fun x => ((Spec.head (args m c) b 0 ⟨z / 512, by omega⟩ t x : ℝ) : EReal)
            + ((Spec.head (args m c) b 1 ⟨z / 512, by omega⟩ (4095 - t) x : ℝ) : EReal))
          ((args m c).g w) ((args m c).u b t ⟨8192 + w, by omega⟩) ⟨z % 512, by omega⟩ := fun w hw => by rw [hw]
    exact e ⟨512 * (z / 512) + z % 512, by omega⟩ (Fin.ext (Nat.div_add_mod _ _))

end Value

end Cert.ReferenceIdeal.RValue
-- ==== Proof.DownValue.lean ====
/-
  The down projection at the ideal instance: a block of the result is swept along the long axis in four pieces, the
  carried block collecting the pieces' products; what is written back is the whole row's sum, which is what the
  reference's one product is.
-/
module

public import proofs.«01_k».proof.Proof.Gen.Kernel2Ideal.Value
public import proofs.«01_k».proof.Proof.Gen.Reference2Ideal.Run
public import Idealize.ShloMosaic.PureOps.Ideal
public import Idealize.ShloMosaic.Lib.Pointwise
public import Idealize.ShloMosaic.Lib.IdealHost

@[expose] public section

set_option maxRecDepth 16384

noncomputable section

namespace Cert.Kernel2Ideal.Down

open Cert.Kernel2Ideal Cert.Kernel2Ideal.Gen Cert.Kernel2Ideal.Value
open Idealize.ShloMosaic Idealize.ShloMosaic.TcCoe Idealize.ShloMosaic.Tactic

theorem off_zero : (![0, 0] : Fin 2 → Nat) = fun _ => 0 := funext fun a => by fin_cases a <;> rfl

section Cases

variable {F : FTy → Type} [FloatOps F]
variable (c : Dev nD) (i : grid0.Coords) (a3 : Memref sig .tc .vmem S1024x4096 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)

/-- The first piece of a sweep leaves the zero block plus its product. -/
theorem carried_first (hc0 : cond0_0 i) (hc1 : ¬cond0_1 i) (x : Vec F S1024x4096 .bf16) (w : Vec F S4096x1024 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) off_zero, View.readCov_unit_zero (S := S1024x1024) _ off_zero]
  simp only [View.readAt_eq_ld, h3.read_unread, h4.read_unread, View.ld_unit_zero (S := S1024x4096) off_zero,
    View.ld_unit_zero (S := S4096x1024) off_zero]

/-- A middle piece adds its product to what is carried. -/
theorem carried_mid (hc0 : ¬cond0_0 i) (hc1 : ¬cond0_1 i) (x : Vec F S1024x4096 .bf16) (w : Vec F S4096x1024 .bf16) (s : Vec F S1024x1024 .f32) :
    sout0_B_0 c i a3 h3 a4 h4 a5 h5 a6 h6 hc0 hc1 x w s = k0_pay2 s x w := by
  unfold sout0_B_0
  rw [View.read_writes_eq_canon _ _ _ (scover0_B_0 c i a3 h3 a4 h4 a5 h5 a6 h6 hc0 hc1 x w s)]
  unfold kernelRun0_B
  dsimp only
  rw [View.canon_unit_zero off_zero]
  simp only [View.readAt_eq_ld, h3.read_unread, h4.read_unread, h6.read_unread, View.ld_unit_zero (S := S1024x4096) off_zero,
    View.ld_unit_zero (S := S4096x1024) off_zero, View.ld_unit_zero (S := S1024x1024) off_zero]

/-- So does the last. -/
theorem carried_last (hc0 : ¬cond0_0 i) (hc1 : cond0_1 i) (x : Vec F S1024x4096 .bf16) (w : Vec F S4096x1024 .bf16) (s : Vec F S1024x1024 .f32) :
    sout0_C_0 c i a3 h3 a4 h4 a5 h5 a6 h6 hc0 hc1 x w s = k0_pay2 s x w := by
  unfold sout0_C_0
  rw [View.read_writes_eq_canon _ _ _ (scover0_C_0 c i a3 h3 a4 h4 a5 h5 a6 h6 hc0 hc1 x w s)]
  unfold kernelRun0_C
  dsimp only
  sl_unfold_words
  rw [View.canon_unit_zero off_zero]
  simp only [View.readAt_eq_ld, h3.read_unread, h4.read_unread, h6.read_unread, View.ld_unit_zero (S := S1024x4096) off_zero,
    View.ld_unit_zero (S := S4096x1024) off_zero, View.ld_unit_zero (S := S1024x1024) off_zero]

/-- And the block written back after the last piece is the carried one, narrowed. -/
theorem written_last (hc0 : ¬cond0_0 i) (hc1 : cond0_1 i) (x : Vec F S1024x4096 .bf16) (w : Vec F S4096x1024 .bf16) (s : Vec F S1024x1024 .f32) :
    out0_C_2 c i a3 h3 a4 h4 a5 h5 a6 h6 hc0 hc1 x w s = k0_pay3 (k0_pay2 s x w) := by
  unfold out0_C_2
  rw [View.read_writes_eq_canon _ _ _ (cover0_C_2 c i a3 h3 a4 h4 a5 h5 a6 h6 hc0 hc1 x w s)]
  unfold kernelRun0_C
  dsimp only
  sl_unfold_words
  rw [View.canon_unit_zero off_zero, View.readCov_unit_zero (S := S1024x1024) _ off_zero]
  simp only [View.readAt_eq_ld, h3.read_unread, h4.read_unread, h6.read_unread, View.ld_unit_zero (S := S1024x4096) off_zero,
    View.ld_unit_zero (S := S4096x1024) off_zero, View.ld_unit_zero (S := S1024x1024) off_zero]

end Cases

/-! ## The step at an index, over the extended reals -/

theorem reset_apply (a b : Fin 1024) : k0_pay1 (F := Ideal) (ix2 a b) = (0 : EReal) := by
  pointwise [k0_pay1]

theorem step_apply (s : Vec Ideal S1024x1024 .f32) (x : Vec Ideal S1024x4096 .bf16) (w : Vec Ideal S4096x1024 .bf16) (a b : Fin 1024) :
    k0_pay2 s x w (ix2 a b) = (s (ix2 a b) + ∑ k : Fin 4096, x (ix2 a k) * w (ix2 k b) : EReal) := by
  pointwise [k0_pay2]

theorem narrow_apply (s : Vec Ideal S1024x1024 .f32) (a b : Fin 1024) : k0_pay3 s (ix2 a b) = (s (ix2 a b) : EReal) := by
  pointwise [k0_pay3]

/-! ## The arguments by their positions -/

variable (m : (ℓ : Loc nD τ sig) → Buf (Elt Ideal) ℓ)

/-- The activations at a row and a column, zero outside them. -/
def act (c : Dev nD) (r k : ℕ) : EReal :=
  if h : r < 8192 ∧ k < 16384 then (m ((c : Thread nD τ).loc main_arg0) (ix2 ⟨r, h.1⟩ ⟨k, h.2⟩ : S8192x16384.Idx)) else 0

/-- The weights at a row and a column, zero outside them. -/
def wgt (c : Dev nD) (k n : ℕ) : EReal :=
  if h : k < 16384 ∧ n < 4096 then (m ((c : Thread nD τ).loc main_arg1) (ix2 ⟨k, h.1⟩ ⟨n, h.2⟩ : S16384x4096.Idx)) else 0

theorem act_index : ∀ t : Fin cfg0.N, win0_0.index t (0 : Fin 2) = t.val / 16 ∧ win0_0.index t (1 : Fin 2) = t.val % 4 :=
  (by decide +kernel : ∀ t : Fin grid0.N, _)

theorem wgt_index : ∀ t : Fin cfg0.N, win0_1.index t (0 : Fin 2) = t.val % 4 ∧ win0_1.index t (1 : Fin 2) = t.val / 4 % 4 :=
  (by decide +kernel : ∀ t : Fin grid0.N, _)

theorem act_block (c : Dev nD) (t : Fin cfg0.N) (a : Fin 1024) (k : Fin 4096) :
    (iblk m c 0 t : Vec Ideal S1024x4096 .bf16) (ix2 a k) = act m c (1024 * (t.val / 16) + a) (4096 * (t.val % 4) + k) := by
  have ht : t.val < 128 := lt_of_lt_of_eq t.isLt N_0
  obtain ⟨e0, e1⟩ := act_index t
  unfold act
  rw [dif_pos (by omega)]
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val / 16) + a.val; rw [e0]; omega
  | ⟨1, _⟩ => show win0_0.index t 1 * 4096 + 1 * k.val = 4096 * (t.val % 4) + k.val; rw [e1]; omega

theorem wgt_block (c : Dev nD) (t : Fin cfg0.N) (k : Fin 4096) (b : Fin 1024) :
    (iblk m c 1 t : Vec Ideal S4096x1024 .bf16) (ix2 k b) = wgt m c (4096 * (t.val % 4) + k) (1024 * (t.val / 4 % 4) + b) := by
  have ht : t.val < 128 := lt_of_lt_of_eq t.isLt N_0
  obtain ⟨e0, e1⟩ := wgt_index t
  unfold wgt
  rw [dif_pos (by omega)]
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 4) + k.val; rw [e0]; omega
  | ⟨1, _⟩ => show win0_1.index t 1 * 1024 + 1 * b.val = 1024 * (t.val / 4 % 4) + b.val; rw [e1]; omega

/-! ## The sweep -/

/-- The terms of the row's sum that have been added when the first `n` are. -/
def part (c : Dev nD) (r q n : ℕ) : EReal := ∑ k ∈ Finset.range n, act m c r k * wgt m c k q

/-- A piece adds its 4096 terms to those carried. -/
theorem step_part (c : Dev nD) {r q n : ℕ} {s : Vec Ideal S1024x1024 .f32} {x : Vec Ideal S1024x4096 .bf16} {w : Vec Ideal S4096x1024 .bf16}
    {a b : Fin 1024} (hs : s (ix2 a b) = part m c r q (4096 * n)) (hx : ∀ k : Fin 4096, x (ix2 a k) = act m c r (4096 * n + k))
    (hw : ∀ k : Fin 4096, w (ix2 k b) = wgt m c (4096 * n + k) q) :
    k0_pay2 s x w (ix2 a b) = part m c r q (4096 * (n + 1)) := by
  rw [step_apply, hs]
  unfold part
  rw [Nat.mul_add, Nat.mul_one, Finset.sum_range_add, Finset.sum_range (n := 4096)]
  simp only [hx, hw]

theorem carried_A (c : Dev nD) (t : Fin cfg0.N) (h0 : t.val % 4 = 0) (h1 : ¬t.val % 4 = 3) :
    (outsAt0 m c t.val t.isLt).2 = k0_pay2 k0_pay1 (iblk m c 0 t) (iblk m c 1 t) := by
  rw [outsAt0_A m c t h0 h1]; dsimp only; rw [carried_first]

theorem carried_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]; dsimp only; rw [carried_mid]

theorem carried_C (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]; dsimp only; rw [carried_last]

theorem written_C (c : Dev nD) (t : Fin cfg0.N) (h0 : ¬t.val % 4 = 0) (h1 : t.val % 4 = 3) :
    (outsAt0 m c t.val t.isLt).1 = k0_pay3 (outsAt0 m c t.val t.isLt).2 := by
  rw [outsAt0_C m c t h0 h1]; dsimp only; rw [carried_last, written_last]

/-- What is carried after a point is the sum of the terms up to the end of its piece. -/
theorem carried (c : Dev nD) (a b : Fin 1024) (n : ℕ) : ∀ hn : n < cfg0.N,
    (outsAt0 m c n hn).2 (ix2 a b) = part m c (1024 * (n / 16) + a) (1024 * (n / 4 % 4) + b) (4096 * (n % 4 + 1)) := by
  induction n using Nat.strong_induction_on with
  | _ n ih =>
    intro hn
    by_cases h0 : n % 4 = 0
    · have h1 : ¬n % 4 = 3 := by omega
      rw [carried_A m c ⟨n, hn⟩ h0 h1]
      refine step_part m c ((reset_apply a b).trans ?_) (act_block m c ⟨n, hn⟩ a) (fun k => wgt_block m c ⟨n, hn⟩ k b)
      show _ = part m c _ _ (4096 * (n % 4))
      rw [h0]; rfl
    · have hp : (outsAt0 m c (n - 1) (by omega)).2 (ix2 a b)
          = part m c (1024 * (n / 16) + a) (1024 * (n / 4 % 4) + b) (4096 * (n % 4)) := by
        rw [ih (n - 1) (by omega)]
        congr 1 <;> omega
      by_cases h1 : n % 4 = 3
      · rw [carried_C m c ⟨n, hn⟩ h0 h1]
        exact step_part m c hp (act_block m c ⟨n, hn⟩ a) (fun k => wgt_block m c ⟨n, hn⟩ k b)
      · rw [carried_B m c ⟨n, hn⟩ h0 h1]
        exact step_part m c hp (act_block m c ⟨n, hn⟩ a) (fun k => wgt_block m c ⟨n, hn⟩ k b)

/-- What a last piece writes back is the whole sum. -/
theorem written (c : Dev nD) (t : Fin cfg0.N) (h1 : t.val % 4 = 3) (a b : Fin 1024) :
    (outsAt0 m c t.val t.isLt).1 (ix2 a b) = part m c (1024 * (t.val / 16) + a) (1024 * (t.val / 4 % 4) + b) 16384 := by
  rw [written_C m c t (by omega) h1, narrow_apply, carried, h1]

/-- The result at an index. -/
theorem result_apply (c : Dev nD) (r : Fin 8192) (q : Fin 4096) :
    (G2 m c (ix2 r q : S8192x4096.Idx) : EReal) = part m c r q 16384 := by
  have hr := r.isLt
  have hq := q.isLt
  have hN : cfg0.N = 128 := N_0
  have hp : 4 * (4 * (r.val / 1024) + q.val / 1024) + 3 < cfg0.N := by omega
  have e : (G2 m c (ix2 r q : S8192x4096.Idx) : EReal)
      = (outsAt0 m c (4 * (4 * (r.val / 1024) + q.val / 1024) + 3) hp).1
          (ix2 (⟨r.val % 1024, Nat.mod_lt _ (by decide)⟩ : Fin 1024) (⟨q.val % 1024, Nat.mod_lt _ (by decide)⟩ : Fin 1024)) := by
    have hp' : pt2Of (ix2 r q : S8192x4096.Idx) = 4 * (4 * (r.val / 1024) + q.val / 1024) + 3 := by
      show 4 * (4 * (r.val / 1024 - 0) + 1 * (q.val / 1024 - 0)) + 3 = _
      omega
    unfold G2
    rw [dif_pos (by omega), outsAt0_sweep, fold0_congr m c _ _ _ (by omega) hp']
    refine congrArg _ (funext fun d => ?_)
    match d with
    | ⟨0, _⟩ => rfl
    | ⟨1, _⟩ => rfl
  rw [e, written m c ⟨_, hp⟩ (by dsimp only; omega)]
  dsimp only
  congr 1 <;> omega

/-! ## The reference's product -/

theorem reference_apply (x : FVec Ideal Cert.Reference2Ideal.S8192x16384 .bf16) (w : FVec Ideal Cert.Reference2Ideal.S16384x4096 .bf16)
    (h1 h2 h3) (r : Fin 8192) (q : Fin 4096) :
    (truncf (F := Ideal) .bf16 (Host.dotGeneral Cert.Reference2Ideal.dot_S8192x16384_S16384x4096_S8192x4096_1_0_0_1_n_n none
      (extf .f32 x h1) (extf .f32 w h2)) h3 : FVec Ideal Cert.Reference2Ideal.S8192x4096 .bf16) (ix2 r q)
      = (∑ k : Fin 16384, x (ix2 r k) * w (ix2 k q) : EReal) := by
  pointwise

/-- The kernel's result is the reference's. -/
theorem result_eq (c : Dev nD) {x : FVec Ideal Cert.Reference2Ideal.S8192x16384 .bf16} {w : FVec Ideal Cert.Reference2Ideal.S16384x4096 .bf16}
    (hx : x = m ((c : Thread nD τ).loc main_arg0)) (hw : w = m ((c : Thread nD τ).loc main_arg1)) (h1 h2 h3) :
    (truncf (F := Ideal) .bf16 (Host.dotGeneral Cert.Reference2Ideal.dot_S8192x16384_S16384x4096_S8192x4096_1_0_0_1_n_n none
      (extf .f32 x h1) (extf .f32 w h2)) h3 : FVec Ideal Cert.Reference2Ideal.S8192x4096 .bf16) = G2 m c := by
  funext y
  obtain ⟨r, q, rfl⟩ : ∃ (r : Fin 8192) (q : Fin 4096), y = ix2 r q := ⟨y 0, y 1, eq_ix2 y⟩
  refine (reference_apply x w h1 h2 h3 r q).trans (Eq.trans ?_ (result_apply m c r q).symm)
  unfold part
  rw [Finset.sum_range]
  refine Finset.sum_congr rfl fun k _ => ?_
  unfold act wgt
  rw [dif_pos ⟨r.isLt, k.isLt⟩, dif_pos ⟨k.isLt, q.isLt⟩, hx, hw]

end Cert.Kernel2Ideal.Down
-- ==== Proof.UpBody.lean ====
/-
  THE BODY of the up-projection's kernel, at any float values and on any staging buffers.  A point stages one slab of the
  weight's panel in one of two scratch panels, casts one block of the side operand, and (after the first panel) multiplies
  a block of rows by the whole of the other scratch panel.  The three cases: the first panel, a panel staged in the first
  buffer, a panel staged in the second.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Up

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A panel with one slab of 512 rows, the `i`-th, replaced. -/
def putSlab (s : Vec F S4096x1024 .bf16) (i : ℕ) (w : FVec F S512x1024 .bf16) : Vec F S4096x1024 .bf16 :=
  VecWindow.put (s := S4096x1024) s ![512 * i, 0] S512x1024.size w

/-- The row offset a point stages at, as the kernel computes it, is 512 times its inner coordinate. -/
theorem word_off (k : ℕ) (hk : k < 8) :
    (Scalar.indexCast (Scalar.muli (BitVec.ofNat 32 k) 512#32) : Index).toNat = 512 * k := by
  have h : ∀ k : Fin 8, (Scalar.indexCast (Scalar.muli (BitVec.ofNat 32 k.val) 512#32) : Index).toNat = 512 * k.val := by
    decide +kernel
  exact h ⟨k, hk⟩

theorem off1_eq (i : grid0.Coords) : k0_off1 i = ![512 * (i 1).val, 0] := by
  unfold k0_off1; dsimp only; rw [word_off _ (i 1).isLt]
theorem off2_eq (i : grid0.Coords) : k0_off2 i = ![512 * (i 1).val, 0] := off1_eq i
theorem off3_eq (i : grid0.Coords) : k0_off3 i = ![512 * (i 1).val, 0] := off1_eq i

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1x128x4096 .f32) (harg4 : arg4.IsWhole) (arg5 : Memref sig .tc .vmem S1024x1024 .bf16) (harg5 : arg5.IsWhole) (arg6 : Memref sig .tc .vmem S128x4096 .bf16) (harg6 : arg6.IsWhole) (arg7 : Memref sig .tc .vmem S4096x1024 .bf16) (harg7 : arg7.IsWhole) (arg8 : Memref sig .tc .vmem S4096x1024 .bf16) (harg8 : arg8.IsWhole)
  (x0 : Vec F S1024x4096 .bf16) (x1 : Vec F S1x512x1024 .f32) (x2 : Vec F S1x128x4096 .f32)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg4 fullShare x2 ∗ (∃ d, owns (c : Thread nD τ) arg6 fullShare d) ∗ owns (c : Thread nD τ) arg7 fullShare s0
        ∗ (iprop(owns (c : Thread nD τ) arg3 fullShare x1 ∗ owns (c : Thread nD τ) arg4 fullShare x2 ∗ owns (c : Thread nD τ) arg6 fullShare (k0_pay2 x2) ∗ owns (c : Thread nD τ) arg7 fullShare (putSlab s0 (i 1).val (k0_pay1 x1))) -∗ K ⟨⟩))
      ⊢ wp frame (wpE (defs₀ (F := F)) Variants.none c none) E (cc0_mlp_up i arg2 harg2 arg3 harg3 arg4 harg4 arg5 harg5 arg6 harg6 arg7 harg7 arg8 harg8) K := by
  simp only [cc0_mlp_up_eq_skeleton]; unfold cc0_mlp_up_skel
  simp only [k0_part1_eq_skeleton]; unfold k0_part1_skel
  unfold owns
  iintro ⟨⟨%f1, %hf1, H1⟩, ⟨%f2, %hf2, H2⟩, ⟨%d4, %f4, -, H4⟩, ⟨%fs, %hfs, HS7⟩, Hk⟩
  obtain rfl := harg3.eq_unread hf1; obtain rfl := harg4.eq_unread hf2; obtain rfl := harg7.eq_unread hfs
  sl_exec (disch := first | sl_exact h1 | sl_exact h2 | sl_exact h3)
  sl_step
  iapply Hk
  isplitl [H1]
  · iexists _; isplitr; · ipureintro; exact harg3.read_unread _
    iexact H1
  isplitl [H2]
  · iexists _; isplitr; · ipureintro; exact harg4.read_unread _
    iexact H2
  isplitl [H4]
  · iexists _; isplitr
    swap; · iexact H4
    ipureintro
    rw [View.read_writes_full (s := S128x4096), View.readAt_full (s := S1x128x4096), harg4.read_unread]
    rfl
  iexists _; isplitr
  swap; · iexact HS7
  ipureintro
  rw [View.read_writes_cons_put (s := S4096x1024) arg7.view _ _ _ _ (off1_eq i), View.readAt_full]
  simp only [harg3.read_unread]
  rw [show arg7.view.read (Elt F) (arg7.view.writes (Elt F) (harg7.unread s0) []) = s0 from harg7.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare x2 ∗ owns (c : Thread nD τ) arg5 fullShare (k0_pay3 s1 x0) ∗ owns (c : Thread nD τ) arg6 fullShare (k0_pay2 x2) ∗ owns (c : Thread nD τ) arg7 fullShare (putSlab s0 (i 1).val (k0_pay1 x1)) ∗ owns (c : Thread nD τ) arg8 fullShare s1) -∗ K ⟨⟩))
      ⊢ wp frame (wpE (defs₀ (F := F)) Variants.none c none) E (cc0_mlp_up i arg2 harg2 arg3 harg3 arg4 harg4 arg5 harg5 arg6 harg6 arg7 harg7 arg8 harg8) K := by
  simp only [cc0_mlp_up_eq_skeleton]; unfold cc0_mlp_up_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS7⟩, ⟨%fu, %hfu, HS8⟩, Hk⟩
  obtain rfl := harg2.eq_unread hf0; obtain rfl := harg3.eq_unread hf1; obtain rfl := harg4.eq_unread hf2
  obtain rfl := harg7.eq_unread hfs; obtain rfl := harg8.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full (s := S1024x1024), View.readAt_full (s := S4096x1024), View.readAt_full (s := S1024x4096), harg2.read_unread, harg8.read_unread]
    rfl
  isplitl [H4]
  · iexists _; isplitr
    swap; · iexact H4
    ipureintro
    rw [View.read_writes_full (s := S128x4096), View.readAt_full (s := S1x128x4096), harg4.read_unread]
    rfl
  isplitl [HS7]
  · iexists _; isplitr
    swap; · iexact HS7
    ipureintro
    rw [View.read_writes_cons_put (s := S4096x1024) arg7.view _ _ _ _ (off2_eq i), View.readAt_full]
    simp only [harg3.read_unread]
    rw [show arg7.view.read (Elt F) (arg7.view.writes (Elt F) (harg7.unread s0) []) = s0 from harg7.read_unread _]
    rfl
  iexists _; isplitr; · ipureintro; exact harg8.read_unread _
  iexact HS8

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg8 fullShare s1 ∗ owns (c : Thread nD τ) arg7 fullShare s0
        ∗ (iprop(owns (c : Thread nD τ) arg2 fullShare x0 ∗ owns (c : Thread nD τ) arg3 fullShare x1 ∗ owns (c : Thread nD τ) arg4 fullShare x2 ∗ owns (c : Thread nD τ) arg5 fullShare (k0_pay3 s0 x0) ∗ owns (c : Thread nD τ) arg6 fullShare (k0_pay2 x2) ∗ owns (c : Thread nD τ) arg8 fullShare (putSlab s1 (i 1).val (k0_pay1 x1)) ∗ owns (c : Thread nD τ) arg7 fullShare s0) -∗ K ⟨⟩))
      ⊢ wp frame (wpE (defs₀ (F := F)) Variants.none c none) E (cc0_mlp_up i arg2 harg2 arg3 harg3 arg4 harg4 arg5 harg5 arg6 harg6 arg7 harg7 arg8 harg8) K := by
  simp only [cc0_mlp_up_eq_skeleton]; unfold cc0_mlp_up_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS8⟩, ⟨%fu, %hfu, HS7⟩, Hk⟩
  obtain rfl := harg2.eq_unread hf0; obtain rfl := harg3.eq_unread hf1; obtain rfl := harg4.eq_unread hf2
  obtain rfl := harg8.eq_unread hfs; obtain rfl := harg7.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full (s := S1024x1024), View.readAt_full (s := S4096x1024), View.readAt_full (s := S1024x4096), harg2.read_unread, harg7.read_unread]
  isplitl [H4]
  · iexists _; isplitr
    swap; · iexact H4
    ipureintro
    rw [View.read_writes_full (s := S128x4096), View.readAt_full (s := S1x128x4096), harg4.read_unread]
  isplitl [HS8]
  · iexists _; isplitr
    swap; · iexact HS8
    ipureintro
    rw [View.read_writes_cons_put (s := S4096x1024) arg8.view _ _ _ _ (off3_eq i), View.readAt_full]
    simp only [harg3.read_unread]
    rw [show arg8.view.read (Elt F) (arg8.view.writes (Elt F) (harg8.unread s1) []) = s1 from harg8.read_unread _]
    rfl
  iexists _; isplitr; · ipureintro; exact harg7.read_unread _
  iexact HS7

end Runs

end Cert.Kernel3Ideal.Up

end
-- ==== Proof.UpRun.lean ====
/-
  THE RUN of the up-projection's kernel at any float values.  What the launch carries from point to point is not the exact
  contents of the two scratch panels but what is known of them: each slab staged within the last sixteen points is still
  in place.  At the start of a later panel this says that the other buffer holds the whole panel before, so each output
  block has a closed form (`outBlock`).  The launch set-up around it follows the generated text of the other programs.
-/
module

public import proofs.«01_k».proof.Proof.UpBody
public import Idealize.ShloMosaic.Lib.Pointwise
public import Idealize.ShloMosaic.Lib.Claim

@[expose] public section

set_option maxRecDepth 16384

noncomputable section

namespace Cert.Kernel3Ideal.Up

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: as launched, the program being the region alone. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The slab of the weight's panel a point stages. -/
def staged (c : Dev nD) (t : Fin cfg0.N) : FVec F S512x1024 .bf16 := k0_pay1 (iblk m c 1 t)

/-- A panel's index within its slab. -/
def inSlab (y : S4096x1024.Idx) : S512x1024.Idx := ix2 (n0 := 512) (n1 := 1024) ⟨(y 0).val % 512, Nat.mod_lt _ (by decide)⟩ (y 1)

/-- The point of the `p`-th panel that stages the slab of an index. -/
def stager (p : ℕ) (y : S4096x1024.Idx) : Fin cfg0.N :=
  ⟨(8 * p + (y 0).val / 512) % 136, lt_of_lt_of_eq (Nat.mod_lt _ (by decide)) N_0.symm⟩

/-- The `p`-th panel, once all of its slabs are staged. -/
def panel (c : Dev nD) (p : ℕ) : Vec F S4096x1024 .bf16 := fun y => staged m c (stager p y) (inSlab y)

/-- What is known of the two buffers before point `n`: a slab staged in the last sixteen points is in place. -/
def Known (c : Dev nD) (n : ℕ) (s0 s1 : Vec F S4096x1024 .bf16) : Prop :=
  ∀ t : Fin cfg0.N, t.val < n → n ≤ t.val + 16 → ∀ y : S4096x1024.Idx, (y 0).val / 512 = t.val % 8 →
    (t.val / 8 % 2 = 0 → s0 y = staged m c t (inSlab y)) ∧ (t.val / 8 % 2 = 1 → s1 y = staged m c t (inSlab y))

theorem putSlab_hit (s : Vec F S4096x1024 .bf16) (i : ℕ) (w : FVec F S512x1024 .bf16) (y : S4096x1024.Idx)
    (h : (y 0).val / 512 = i) : putSlab s i w y = w (inSlab y) := by
  have hy1 : (y 1).val < 1024 := (y 1).isLt
  have hin : ∀ a : Fin 2, (![512 * i, 0] : Fin 2 → ℕ) a ≤ (y a).val ∧ (y a).val < (![512 * i, 0] : Fin 2 → ℕ) a + S512x1024.size a :=
    Fin.forall_fin_two.mpr ⟨⟨by show 512 * i ≤ (y 0).val; omega, by show (y 0).val < 512 * i + 512; omega⟩,
      ⟨Nat.zero_le _, by show (y 1).val < 0 + 1024; omega⟩⟩
  unfold putSlab VecWindow.put
  rw [dif_pos hin]
  refine congrArg w (funext fun a => Fin.ext ?_)
  revert a
  refine Fin.forall_fin_two.mpr ⟨?_, ?_⟩
  · rw [Rect.unitLocal_val]
    show (y 0).val - 512 * i = (y 0).val % 512
    omega
  · rw [Rect.unitLocal_val]
    show (y 1).val - 0 = (y 1).val
    omega

theorem putSlab_miss (s : Vec F S4096x1024 .bf16) (i : ℕ) (w : FVec F S512x1024 .bf16) (y : S4096x1024.Idx)
    (h : (y 0).val / 512 ≠ i) : putSlab s i w y = s y := by
  unfold putSlab VecWindow.put
  refine dif_neg fun hin => h ?_
  have h0 := hin 0
  have h1 : 512 * i ≤ (y 0).val := h0.1
  have h2 : (y 0).val < 512 * i + 512 := h0.2
  omega

theorem known_zero (c : Dev nD) (s0 s1 : Vec F S4096x1024 .bf16) : Known m c 0 s0 s1 :=
  fun t h => absurd h (Nat.not_lt_zero _)

/-- A point of an even panel keeps what is known. -/
theorem known_even (c : Dev nD) (t : Fin cfg0.N) (s0 s1 : Vec F S4096x1024 .bf16) (h : Known m c t.val s0 s1)
    (he : t.val / 8 % 2 = 0) : Known m c (t.val + 1) (putSlab s0 (t.val % 8) (staged m c t)) s1 := by
  intro u hu hn y hy
  by_cases e : u = t
  · subst e
    exact ⟨fun _ => putSlab_hit _ _ _ _ hy, fun h1 => absurd h1 (by omega)⟩
  · have hne : u.val ≠ t.val := fun h => e (Fin.ext h)
    have hk := h u (by omega) (by omega) y hy
    exact ⟨fun h0 => (putSlab_miss _ _ _ _ (by omega)).trans (hk.1 h0), hk.2⟩

/-- A point of an odd panel keeps what is known. -/
theorem known_odd (c : Dev nD) (t : Fin cfg0.N) (s0 s1 : Vec F S4096x1024 .bf16) (h : Known m c t.val s0 s1)
    (he : t.val / 8 % 2 = 1) : Known m c (t.val + 1) s0 (putSlab s1 (t.val % 8) (staged m c t)) := by
  intro u hu hn y hy
  by_cases e : u = t
  · subst e
    exact ⟨fun h0 => absurd h0 (by omega), fun _ => putSlab_hit _ _ _ _ hy⟩
  · have hne : u.val ≠ t.val := fun h => e (Fin.ext h)
    have hk := h u (by omega) (by omega) y hy
    exact ⟨hk.1, fun h1 => (putSlab_miss _ _ _ _ (by omega)).trans (hk.2 h1)⟩

/-- At a point of a later panel the buffer not staged into holds the panel before. -/
theorem panel_at (c : Dev nD) (t : Fin cfg0.N) (s0 s1 : Vec F S4096x1024 .bf16) (h : Known m c t.val s0 s1)
    (h8 : 8 ≤ t.val) : (t.val / 8 % 2 = 0 → s1 = panel m c (t.val / 8 - 1)) ∧ (t.val / 8 % 2 = 1 → s0 = panel m c (t.val / 8 - 1)) := by
  have hN : t.val < 136 := lt_of_lt_of_eq t.isLt N_0
  have key : ∀ y : S4096x1024.Idx, (stager (t.val / 8 - 1) y).val = 8 * (t.val / 8 - 1) + (y 0).val / 512 ∧ (y 0).val / 512 < 8 := fun y => by
    have hy : (y 0).val < 4096 := (y 0).isLt
    have e : (stager (t.val / 8 - 1) y).val = (8 * (t.val / 8 - 1) + (y 0).val / 512) % 136 := rfl
    constructor
    · rw [e, Nat.mod_eq_of_lt (by omega)]
    · omega
  refine ⟨fun he => funext fun y => ?_, fun he => funext fun y => ?_⟩
  · obtain ⟨e, hy⟩ := key y
    exact (h (stager (t.val / 8 - 1) y) (by omega) (by omega) y (by omega)).2 (by omega)
  · obtain ⟨e, hy⟩ := key y
    exact (h (stager (t.val / 8 - 1) y) (by omega) (by omega) y (by omega)).1 (by omega)

/-- The output block a point of a later panel writes. -/
def outBlock (c : Dev nD) (t : Fin cfg0.N) : FVec F S1024x1024 .bf16 :=
  k0_pay3 (panel m c (t.val / 8 - 1)) (iblk m c 0 t)

/-- The block of the side operand a point casts. -/
def sideBlock (c : Dev nD) (t : Fin cfg0.N) : FVec F S128x4096 .bf16 := k0_pay2 (iblk m c 2 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known m c n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
    | ⟨4, _⟩ => sideBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock m c t := by dsimp only [dats]
theorem after_4 (c : Dev nD) (t : Fin cfg0.N) : (dats m 0 c).after 4 t = sideBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## Where the output windows are idle -/

theorem idle_first : ∀ t : Fin cfg0.N, t.val < 8 → cfg0.idle 3 (grid0.coords t) = true :=
  (by decide +kernel : ∀ t : Fin grid0.N, t.val < 8 → idle0 3 (grid0.coords t) = true)
theorem noFlush_first : ∀ t : Fin cfg0.N, t.val < 8 → (cfg0.win 3).flush t = false :=
  (by decide +kernel : ∀ t : Fin grid0.N, t.val < 8 → win0_3.flush t = false)
theorem live_out : ∀ t : Fin cfg0.N, 8 ≤ t.val → cfg0.idle 3 (grid0.coords t) = false :=
  (by decide +kernel : ∀ t : Fin grid0.N, 8 ≤ t.val → idle0 3 (grid0.coords t) = false)
theorem live_side : ∀ t : Fin cfg0.N, cfg0.idle 4 (grid0.coords t) = false :=
  (by decide +kernel : ∀ t : Fin grid0.N, idle0 4 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, leaves_live m c 2 t rfl, leaves_live m c 4 t (live_side t),
    after_0, after_1, after_2, after_4]
  unfold Carried sideBlock
  have hi := inner_val t
  by_cases h8 : t.val < 8
  · rw [Dat.leavesExact_idle (dats m 0 c) 3 t (idle_first t h8) (noFlush_first t h8)]
    iintro ⟨⟨%s0, %s1, %hk, HS0, HS1, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ (iblk m c 1 t) (iblk m c 2 t) s0
      ((cond1_iff t).mpr h8) (fun h => by have := (cond2_iff t).mp h; omega) (fun h => by have := (cond3_iff t).mp h; omega) Set.univ _)
    isplitl [H1]; · iexact H1
    isplitl [H2]; · iexact H2
    isplitl [H4]; · iexists _; iexact H4
    isplitl [HS0]; · iexact HS0
    iintro ⟨H1, H2, H4, HS0⟩
    isplitl [HS0 HS1 Hg]
    · iexists _; iexists _
      isplitr
      · ipureintro; exact known_even m c t s0 s1 hk (by omega)
      isplitl [HS0]
      · rw [hi]; iexact HS0
      isplitl [HS1]; · iexact HS1
      iexact Hg
    isplitl [Ho]; · iexact Ho
    isplitl [H0]; · iexact H0
    isplitl [H1]; · iexact H1
    isplitl [H2]; · iexact H2
    isplitl [H3]; · iexists _; iexact H3
    iexact H4
  · rw [leaves_live m c 3 t (live_out t (by omega)), after_3]
    unfold outBlock
    by_cases he : t.val / 8 % 2 = 0
    · iintro ⟨⟨%s0, %s1, %hk, HS0, HS1, Hg⟩, Ho, ⟨%d0, H0⟩, ⟨%d1, H1⟩, ⟨%d2, H2⟩, ⟨%d3, H3⟩, ⟨%d4, H4⟩⟩
      rw [← (panel_at m c t s0 s1 hk (by omega)).1 he]
      iapply (run_even c (grid0.coords t) _ _ _ _ _ _ _ _ _ _ _ _ _ _ (iblk m c 0 t) (iblk m c 1 t) (iblk m c 2 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hg]
      · iexists _; iexists _
        isplitr
        · ipureintro; exact known_even m c t s0 s1 hk he
        isplitl [HS0]
        · rw [hi]; iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · have ho : t.val / 8 % 2 = 1 := by omega
      iintro ⟨⟨%s0, %s1, %hk, HS0, HS1, Hg⟩, Ho, ⟨%d0, H0⟩, ⟨%d1, H1⟩, ⟨%d2, H2⟩, ⟨%d3, H3⟩, ⟨%d4, H4⟩⟩
      rw [← (panel_at m c t s0 s1 hk (by omega)).2 ho]
      iapply (run_odd c (grid0.coords t) _ _ _ _ _ _ _ _ _ _ _ _ _ _ (iblk m c 0 t) (iblk m c 1 t) (iblk m c 2 t) s0 s1
        (fun h => by have := (cond1_iff t).mp h; omega) (fun h => by have := (cond2_iff t).mp h; omega) ((cond3_iff t).mpr ho) Set.univ _)
      isplitl [H0]; · iexact H0
      isplitl [H1]; · iexact H1
      isplitl [H2]; · iexact H2
      isplitl [H3]; · iexists _; iexact H3
      isplitl [H4]; · iexists _; iexact H4
      isplitl [HS1]; · iexact HS1
      isplitl [HS0]; · iexact HS0
      iintro ⟨H0, H1, H2, H3, H4, HS1, HS0⟩
      isplitl [HS0 HS1 Hg]
      · iexists _; iexists _
        isplitr
        · ipureintro; exact known_odd m c t s0 s1 hk ho
        isplitl [HS0]; · iexact HS0
        isplitl [HS1]
        · rw [hi]; iexact HS1
        iexact Hg
      isplitl [Ho]; · iexact Ho
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero m c s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (run_main_quiescent m ρ)

end Cert.Kernel3Ideal.Up

end
-- ==== Proof.UpValue.lean ====
/-
  THE VALUE of the up-projection's kernel over exact values: entry (r, q) of its first result is the square of the positive
  part of the sum over k of hn(r, k) · w_up(0, k, q), and its second result is the first layer of w_down.  Both are the
  reference's.
-/
module

public import proofs.«01_k».proof.Proof.UpRun
public import proofs.«01_k».proof.Proof.Gen.Reference3Ideal.Run
public import Idealize.ShloMosaic.PureOps.Ideal
public import Idealize.ShloMosaic.Lib.Pipeline.Value
public import Idealize.ShloMosaic.Lib.IdealHost

@[expose] public section

noncomputable section

namespace Cert.Kernel3Ideal.Up

open Cert.Kernel3Ideal.Gen

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

theorem side_apply (w : Vec Ideal S1x128x4096 .f32) (a : Fin 128) (b : Fin 4096) :
    (k0_pay2 w : FVec Ideal S128x4096 .bf16) (ix2 a b) = (w (ix3 0 a b) : EReal) := by
  pointwise [k0_pay2]

theorem product_apply (p : FVec Ideal S4096x1024 .bf16) (x : FVec Ideal S1024x4096 .bf16) (a b : Fin 1024) :
    (k0_pay3 p x : FVec Ideal S1024x1024 .bf16) (ix2 a b)
      = (max (∑ k : Fin 4096, x (ix2 a k) * p (ix2 k b)) 0 * max (∑ k : Fin 4096, x (ix2 a k) * p (ix2 k b)) 0 : EReal) := by
  pointwise [k0_pay3]

/-! ## The two results -/

/-- The row of activations times the column of weights. -/
def dotAt (x : Vec Ideal S8192x4096 .bf16) (w : Vec Ideal S2x4096x16384 .f32) (r : Fin 8192) (q : Fin 16384) : EReal :=
  ∑ k : Fin 4096, x (ix2 r k) * w (ix3 0 k q)

/-- The first result: the square of the positive part. -/
def upOut (x : Vec Ideal S8192x4096 .bf16) (w : Vec Ideal S2x4096x16384 .f32) : Vec Ideal S8192x16384 .bf16 :=
  fun y => (max (dotAt x w (y 0) (y 1)) 0 * max (dotAt x w (y 0) (y 1)) 0 : EReal)

/-- The second result: the first layer of the side operand. -/
def sideOut (w : Vec Ideal S2x16384x4096 .f32) : Vec Ideal S16384x4096 .bf16 :=
  fun y => (w (ix3 0 (y 0) (y 1)) : EReal)

/-- The arguments of core `c`. -/
abbrev argX (c : Dev nD) : Vec Ideal S8192x4096 .bf16 := m ((c : Thread nD τ).loc main_arg0)
abbrev argW (c : Dev nD) : Vec Ideal S2x4096x16384 .f32 := m ((c : Thread nD τ).loc main_arg1)
abbrev argD (c : Dev nD) : Vec Ideal S2x16384x4096 .f32 := m ((c : Thread nD τ).loc main_arg2)

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 128 → win0_1.index t (0 : Fin 3) = 0 ∧ win0_1.index t (1 : Fin 3) = t.val % 8 ∧ win0_1.index t (2 : Fin 3) = t.val / 8 :=
  (by decide +kernel : ∀ t : Fin grid0.N, _)
theorem place_side : ∀ t : Fin cfg0.N, win0_2.index t (0 : Fin 3) = 0 ∧ win0_2.index t (1 : Fin 3) = min t.val 127 ∧ win0_2.index t (2 : Fin 3) = 0 :=
  (by decide +kernel : ∀ t : Fin grid0.N, _)
theorem place_out : ∀ t : Fin cfg0.N, 8 ≤ t.val → win0_3.index t (0 : Fin 2) = t.val % 8 ∧ win0_3.index t (1 : Fin 2) = t.val / 8 - 1 :=
  (by decide +kernel : ∀ t : Fin grid0.N, _)
theorem place_cast : ∀ t : Fin cfg0.N, win0_4.index t (0 : Fin 2) = min t.val 127 ∧ win0_4.index t (1 : Fin 2) = 0 :=
  (by decide +kernel : ∀ t : Fin grid0.N, _)
theorem flush_out : ∀ t : Fin cfg0.N, (cfg0.win 3).flush t = true ↔ 8 ≤ t.val :=
  (by decide +kernel : ∀ t : Fin grid0.N, win0_3.flush t = true ↔ 8 ≤ t.val)
theorem flush_cast : ∀ t : Fin cfg0.N, (cfg0.win 4).flush t = true ↔ (t.val < 127 ∨ t.val = 135) :=
  (by decide +kernel : ∀ t : Fin grid0.N, win0_4.flush t = true ↔ (t.val < 127 ∨ t.val = 135))

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 128) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  unfold V
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

theorem side_block (c : Dev nD) (t : Fin cfg0.N) (a : Fin 128) (b : Fin 4096) :
    (iblk m c 2 t : Vec Ideal S1x128x4096 .f32) (ix3 0 a b) = argD m c (ix3 0 ⟨128 * min t.val 127 + a.val, by omega⟩ b) := by
  obtain ⟨e0, e1, e2⟩ := place_side t
  unfold iblk
  rw [View.read_apply]
  show V m c main_arg2 _ = m (c.tc.loc main_arg2) _
  unfold V
  congr 1
  funext d
  apply Fin.ext
  match d with
  | ⟨0, _⟩ => show win0_2.index t 0 * 1 + 1 * 0 = 0; rw [e0]
  | ⟨1, _⟩ => show win0_2.index t 1 * 128 + 1 * a.val = 128 * min t.val 127 + a.val; rw [e1]; omega
  | ⟨2, _⟩ => show win0_2.index t 2 * 4096 + 1 * b.val = b.val; rw [e2]; omega

/-- A whole panel is a column block of the weights. -/
theorem panel_apply (c : Dev nD) (p : ℕ) (hp : p < 16) (k : Fin 4096) (b : Fin 1024) :
    (panel m c p : Vec Ideal S4096x1024 .bf16) (ix2 k b) = argW m c (ix3 0 k ⟨1024 * p + b.val, by omega⟩) := by
  have hk := k.isLt
  have e : (stager p (ix2 k b)).val = 8 * p + k.val / 512 := by
    show (8 * p + k.val / 512) % 136 = _
    rw [Nat.mod_eq_of_lt (by omega)]
  unfold panel staged
  show k0_pay1 _ (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((stager p (ix2 k b)).val % 8) + k.val % 512 = k.val; omega
  | ⟨2, _⟩ => show 1024 * ((stager p (ix2 k b)).val / 8) + b.val = 1024 * p + b.val; omega

/-- The output block of a point is a block of the first result. -/
theorem outBlock_apply (c : Dev nD) (t : Fin cfg0.N) (h8 : 8 ≤ t.val) (a b : Fin 1024) :
    (outBlock m c t : Vec Ideal S1024x1024 .bf16) (ix2 a b)
      = upOut (argX m c) (argW m c) (ix2 ⟨1024 * (t.val % 8) + a.val, by omega⟩
          ⟨1024 * (t.val / 8 - 1) + b.val, by have := lt_of_lt_of_eq t.isLt N_0; omega⟩) := by
  have hN : t.val < 136 := lt_of_lt_of_eq t.isLt N_0
  unfold outBlock
  refine (product_apply _ _ a b).trans ?_
  have e : ∀ (x : FVec Ideal S1024x4096 .bf16) (p : FVec Ideal S4096x1024 .bf16),
      (∀ k, x (ix2 a k) = argX m c (ix2 ⟨1024 * (t.val % 8) + a.val, by omega⟩ k)) →
      (∀ k, p (ix2 k b) = argW m c (ix3 0 k ⟨1024 * (t.val / 8 - 1) + b.val, by omega⟩)) →
      (∑ k : Fin 4096, x (ix2 a k) * p (ix2 k b) : EReal)
        = dotAt (argX m c) (argW m c) ⟨1024 * (t.val % 8) + a.val, by omega⟩ ⟨1024 * (t.val / 8 - 1) + b.val, by omega⟩ := by
    intro x p hx hp
    unfold dotAt
    refine Finset.sum_congr rfl fun k _ => ?_
    rw [hx k, hp k]
  rw [e _ _ (x_block m c t h8 a) (fun k => panel_apply m c _ (by omega) k b)]
  rfl

theorem sideBlock_apply (c : Dev nD) (t : Fin cfg0.N) (a : Fin 128) (b : Fin 4096) :
    (sideBlock m c t : Vec Ideal S128x4096 .bf16) (ix2 a b)
      = sideOut (argD m c) (ix2 ⟨128 * min t.val 127 + a.val, by omega⟩ b) := by
  unfold sideBlock
  exact (side_apply _ a b).trans (side_block m c t a b)

/-! ## The final arrays -/

theorem flushed_out (c : Dev nD) (t : Fin cfg0.N) (hf : (cfg0.win 3).flush t = true) :
    (dats m 0 c).flushed 3 t = ((cfg0.win 3).blk t).view.read (Elt Ideal) (upOut (argX m c) (argW m c)) := by
  have h8 := (flush_out t).mp hf
  obtain ⟨e0, e1⟩ := place_out t h8
  show (cfg0.win 3).cut (grid0.coords t) ((dats m 0 c).after 3 t) = _
  rw [after_3]
  funext y
  obtain ⟨a, b, rfl⟩ : ∃ a b : Fin 1024, y = ix2 a b := ⟨y 0, y 1, eq_ix2 y⟩
  rw [View.read_apply]
  refine (outBlock_apply m c t h8 a b).trans (congrArg (upOut (argX m c) (argW m c)) (funext fun d => Fin.ext ?_))
  match d with
  | ⟨0, _⟩ => show 1024 * (t.val % 8) + a.val = win0_3.index t (0 : Fin 2) * 1024 + 1 * a.val; rw [e0]; omega
  | ⟨1, _⟩ => show 1024 * (t.val / 8 - 1) + b.val = win0_3.index t (1 : Fin 2) * 1024 + 1 * b.val; rw [e1]; omega

theorem flushed_cast (c : Dev nD) (t : Fin cfg0.N) :
    (dats m 0 c).flushed 4 t = ((cfg0.win 4).blk t).view.read (Elt Ideal) (sideOut (argD m c)) := by
  obtain ⟨e0, e1⟩ := place_cast t
  show (cfg0.win 4).cut (grid0.coords t) ((dats m 0 c).after 4 t) = _
  rw [after_4]
  funext y
  obtain ⟨a, b, rfl⟩ : ∃ (a : Fin 128) (b : Fin 4096), y = ix2 a b := ⟨y 0, y 1, eq_ix2 y⟩
  rw [View.read_apply]
  refine (sideBlock_apply m c t a b).trans (congrArg (sideOut (argD m c)) (funext fun d => Fin.ext ?_))
  match d with
  | ⟨0, _⟩ => show 128 * min t.val 127 + a.val = win0_4.index t (0 : Fin 2) * 128 + 1 * a.val; rw [e0]; omega
  | ⟨1, _⟩ => show b.val = win0_4.index t (1 : Fin 2) * 4096 + 1 * b.val; rw [e1]; omega

/-- An index is in a point's block where each coordinate is in the block's range. -/
theorem mem_block3 (t : Fin cfg0.N) (i : S8192x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0_0).slice (win0_3.rect t)).set ↔ _
  rw [View.set_slice_whole, Rect.mem_set_unit]
  exact Iff.rfl
theorem mem_block4 (t : Fin cfg0.N) (i : S16384x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_1).slice (win0_4.rect t)).set ↔ _
  rw [View.set_slice_whole, Rect.mem_set_unit]
  exact Iff.rfl

/-- Every index of the first result is in a block some point writes back. -/
theorem cover_out (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block3]
  intro a
  match a with
  | ⟨0, _⟩ => show win0_3.index ⟨_, ht⟩ (0 : Fin 2) * 1024 ≤ (i 0).val ∧ (i 0).val < win0_3.index ⟨_, ht⟩ (0 : Fin 2) * 1024 + 1024; omega
  | ⟨1, _⟩ => show win0_3.index ⟨_, ht⟩ (1 : Fin 2) * 1024 ≤ (i 1).val ∧ (i 1).val < win0_3.index ⟨_, ht⟩ (1 : Fin 2) * 1024 + 1024; omega

/-- And so is every index of the second: the last block by the last point, every other by the point of its number. -/
theorem cover_cast (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨n, hn, hmin, hfl⟩ : ∃ n, n < 136 ∧ min n 127 = (i 0).val / 128 ∧ (n < 127 ∨ n = 135) := by
    by_cases h : (i 0).val / 128 = 127
    · exact ⟨135, by omega, by omega, .inr rfl⟩
    · exact ⟨(i 0).val / 128, by omega, by omega, .inl (by omega)⟩
  have ht : n < cfg0.N := lt_of_lt_of_eq hn N_0.symm
  obtain ⟨e0, e1⟩ := place_cast ⟨n, ht⟩
  dsimp only at e0 e1
  refine ⟨⟨n, ht⟩, (flush_cast _).mpr hfl, ?_⟩
  rw [mem_block4]
  intro a
  match a with
  | ⟨0, _⟩ => show win0_4.index ⟨n, ht⟩ (0 : Fin 2) * 128 ≤ (i 0).val ∧ (i 0).val < win0_4.index ⟨n, ht⟩ (0 : Fin 2) * 128 + 128; omega
  | ⟨1, _⟩ => show win0_4.index ⟨n, ht⟩ (1 : Fin 2) * 4096 ≤ (i 1).val ∧ (i 1).val < win0_4.index ⟨n, ht⟩ (1 : Fin 2) * 4096 + 4096; omega

theorem final_out (c : Dev nD) : (dats m 0 c).arrAt 3 cfg0.N = upOut (argX m c) (argW m c) :=
  (dats m 0 c).arrAt_eq_of_cover 3 _ (fun t hf => flushed_out m c t hf) (fun i => cover_out i)

theorem final_cast (c : Dev nD) : (dats m 0 c).arrAt 4 cfg0.N = sideOut (argD m c) :=
  (dats m 0 c).arrAt_eq_of_cover 4 _ (fun t _ => flushed_cast m c t) (fun i => cover_cast i)

/-- The run with both results named. -/
theorem run_results : θ_run defs (onTc (τ := τ) (main (F := Ideal))) ⟨m, fun _ => 0, ρ⟩ fun r => ∀ c : Dev nD,
      r.2.mem ((c.tc : Thread nD τ).loc main_v0_0) = upOut (argX m c) (argW m c)
      ∧ r.2.mem ((c.tc : Thread nD τ).loc main_v0_1) = sideOut (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final_out m c), ((h c).1 4).trans (final_cast m c), kept m r h c⟩)
    (run_main m ρ)

/-! ## The reference's results -/

section Reference

open Cert.Reference3Ideal.Gen

theorem reference_out (x : FVec Ideal Cert.Reference3Ideal.S8192x4096 .bf16) (w : FVec Ideal Cert.Reference3Ideal.S2x4096x16384 .f32)
    (h1 h2 h3 h4 h5) :
    (truncf (F := Ideal) .bf16 (mulf
      (maximumf (Host.dotGeneral Cert.Reference3Ideal.dot_S8192x4096_S4096x16384_S8192x16384_1_0_0_1_n_n none (extf .f32 x h1)
        (shapeCast Cert.Reference3Ideal.S4096x16384 (extractStridedSlice Cert.Reference3Ideal.S1x4096x16384 ![0, 0, 0] w h2) h3))
        (broadcastInDim Cert.Reference3Ideal.S8192x16384 ![] h4 (constant Cert.Reference3Ideal.S_ .f32 0x00000000#32)))
      (maximumf (Host.dotGeneral Cert.Reference3Ideal.dot_S8192x4096_S4096x16384_S8192x16384_1_0_0_1_n_n none (extf .f32 x h1)
        (shapeCast Cert.Reference3Ideal.S4096x16384 (extractStridedSlice Cert.Reference3Ideal.S1x4096x16384 ![0, 0, 0] w h2) h3))
        (broadcastInDim Cert.Reference3Ideal.S8192x16384 ![] h4 (constant Cert.Reference3Ideal.S_ .f32 0x00000000#32)))) h5
      : FVec Ideal Cert.Reference3Ideal.S8192x16384 .bf16) = upOut x w := by
  funext y
  obtain ⟨r, q, rfl⟩ : ∃ (r : Fin 8192) (q : Fin 16384), y = ix2 r q := ⟨y 0, y 1, eq_ix2 y⟩
  refine Eq.trans (b := (max (∑ k : Fin 4096, x (ix2 r k) * w (ix3 0 k q)) 0 * max (∑ k : Fin 4096, x (ix2 r k) * w (ix3 0 k q)) 0 : EReal)) ?_ rfl
  pointwise

theorem reference_cast (w : FVec Ideal Cert.Reference3Ideal.S2x16384x4096 .f32) (h1 h2 h3) :
    (truncf (F := Ideal) .bf16 (shapeCast Cert.Reference3Ideal.S16384x4096
      (extractStridedSlice Cert.Reference3Ideal.S1x16384x4096 ![0, 0, 0] w h1) h2) h3 : FVec Ideal Cert.Reference3Ideal.S16384x4096 .bf16)
      = sideOut w := by
  funext y
  obtain ⟨r, q, rfl⟩ : ∃ (r : Fin 16384) (q : Fin 4096), y = ix2 r q := ⟨y 0, y 1, eq_ix2 y⟩
  refine Eq.trans (b := (w (ix3 0 r q) : EReal)) ?_ rfl
  pointwise

end Reference

end Cert.Kernel3Ideal.Up

end
-- ==== Proof.UpFrames.lean ====
/-
  The frames of the up-projection's programs and the equality of its results with the reference's.  The printed kernel is
  the idealised text read over the bit patterns, so both kernel frames are one run.
-/
module

public import proofs.«01_k».proof.Defs
public import proofs.«01_k».proof.Proof.Gen.Kernel3
public import proofs.«01_k».proof.Proof.UpValue
public import Idealize.ShloMosaic.Lib.Quiescent
public import Idealize.ShloMosaic.Lib.Tactic

@[expose] public section

set_option maxRecDepth 16384

noncomputable section

namespace Cert.Proof.Up

open Idealize.ShloMosaic Idealize.ShloMosaic.TcCoe Idealize.SL.Sem
open Cert.Kernel3Ideal Cert.Kernel3Ideal.Gen Cert.Kernel3Ideal.Up

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_same : Cert.quiescent_Kernel3 = FrameBits := by sl_kernel_rfl

theorem frame_kernel_up : Cert.quiescent_Kernel3 := by
  rw [frame_same]
  exact fun m ρ _ => frame_main m ρ

theorem frame_ideal_up : Cert.quiescent_Kernel3Ideal := fun m ρ _ => frame_main m ρ

theorem frame_reference_up : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The up projection and its reference end with the same two results. -/
theorem same_result_up : Cert.algebraic_Kernel3Ideal_Reference3Ideal := fun m ρ m' ρ' _ hargs =>
  ⟨fun c => upOut (argX m c) (argW m c), fun c => sideOut (argD m c), run_results m ρ,
    (θ_run Cert.Reference3Ideal.defs _ _).mono (fun _ h c =>
      ⟨(h c).1.trans ((reference_out _ _ _ _ _ _ _).trans (congrArg₂ upOut (hargs c).1 (hargs c).2.1)),
       (h c).2.1.trans ((reference_cast _ _ _ _).trans (congrArg sideOut (hargs c).2.2)), (h c).2.2⟩)
      (Cert.Reference3Ideal.Value.run (F := Ideal) m' ρ')⟩

end Cert.Proof.Up

end
-- ==== Proof.Panel.lean ====
/-
  TWO BUFFERS STAGED IN TURN.  The panel products of the version multiply by a panel of 4096 x 1024 weights that an earlier
  row of the grid staged, a slab of 512 rows a point, in one of two scratch buffers, while the next panel is staged in the
  other.  What is known of the two buffers before a point is that each slab staged within the last sixteen points is still
  in place; so at a point of a later panel the buffer not staged into holds the whole panel before.  Pure facts, of any slabs.
-/
module

public import Idealize.ShloMosaic.Lib.Pointwise
public import Idealize.ShloMosaic.Lib.VecWindow

@[expose] public section

noncomputable section

namespace Cert.Panel

open Idealize.ShloMosaic

variable {F : FTy → Type} [FloatOps F]

/-- The shape of a panel, and of a slab of it. -/
abbrev Whole : Shape := ⟨2, ![4096, 1024]⟩
abbrev Slab : Shape := ⟨2, ![512, 1024]⟩

/-- A panel with one slab of 512 rows, the `i`-th, replaced. -/
def putSlab (s : Vec F Whole .bf16) (i : ℕ) (w : FVec F Slab .bf16) : Vec F Whole .bf16 :=
  VecWindow.put (s := Whole) s ![512 * i, 0] Slab.size w

/-- A panel's index within its slab. -/
def inSlab (y : Whole.Idx) : Slab.Idx := ix2 (n0 := 512) (n1 := 1024) ⟨(y 0).val % 512, Nat.mod_lt _ (by decide)⟩ (y 1)

theorem putSlab_hit (s : Vec F Whole .bf16) (i : ℕ) (w : FVec F Slab .bf16) (y : Whole.Idx)
    (h : (y 0).val / 512 = i) : putSlab s i w y = w (inSlab y) := by
  have hy1 : (y 1).val < 1024 := (y 1).isLt
  have hin : ∀ a : Fin 2, (![512 * i, 0] : Fin 2 → ℕ) a ≤ (y a).val ∧ (y a).val < (![512 * i, 0] : Fin 2 → ℕ) a + Slab.size a :=
    Fin.forall_fin_two.mpr ⟨⟨by show 512 * i ≤ (y 0).val; omega, by show (y 0).val < 512 * i + 512; omega⟩,
      ⟨Nat.zero_le _, by show (y 1).val < 0 + 1024; omega⟩⟩
  unfold putSlab VecWindow.put
  rw [dif_pos hin]
  refine congrArg w (funext fun a => Fin.ext ?_)
  revert a
  refine Fin.forall_fin_two.mpr ⟨?_, ?_⟩
  · rw [Rect.unitLocal_val]
    show (y 0).val - 512 * i = (y 0).val % 512
    omega
  · rw [Rect.unitLocal_val]
    show (y 1).val - 0 = (y 1).val
    omega

theorem putSlab_miss (s : Vec F Whole .bf16) (i : ℕ) (w : FVec F Slab .bf16) (y : Whole.Idx)
    (h : (y 0).val / 512 ≠ i) : putSlab s i w y = s y := by
  unfold putSlab VecWindow.put
  refine dif_neg fun hin => h ?_
  have h0 := hin 0
  have h1 : 512 * i ≤ (y 0).val := h0.1
  have h2 : (y 0).val < 512 * i + 512 := h0.2
  omega

variable (st : ℕ → FVec F Slab .bf16)

/-- The `p`-th panel, once all of its slabs (`st n` the one of point `n`) are staged. -/
def panel (p : ℕ) : Vec F Whole .bf16 := fun y => st (8 * p + (y 0).val / 512) (inSlab y)

/-- What is known of the two buffers before point `n`: a slab staged in the last sixteen points is in place. -/
def Known (n : ℕ) (s0 s1 : Vec F Whole .bf16) : Prop :=
  ∀ t : ℕ, t < n → n ≤ t + 16 → ∀ y : Whole.Idx, (y 0).val / 512 = t % 8 →
    (t / 8 % 2 = 0 → s0 y = st t (inSlab y)) ∧ (t / 8 % 2 = 1 → s1 y = st t (inSlab y))

theorem known_zero (s0 s1 : Vec F Whole .bf16) : Known st 0 s0 s1 :=
  fun t h => absurd h (Nat.not_lt_zero t)

/-- A point of an even panel keeps what is known. -/
theorem known_even (t : ℕ) (s0 s1 : Vec F Whole .bf16) (h : Known st t s0 s1) (he : t / 8 % 2 = 0) :
    Known st (t + 1) (putSlab s0 (t % 8) (st t)) s1 := by
  intro u hu hn y hy
  by_cases e : u = t
  · subst e
    exact ⟨fun _ => putSlab_hit _ _ _ _ hy, fun h1 => absurd h1 (by omega)⟩
  · have hk := h u (by omega) (by omega) y hy
    exact ⟨fun h0 => (putSlab_miss _ _ _ _ (by omega)).trans (hk.1 h0), hk.2⟩

/-- A point of an odd panel keeps what is known. -/
theorem known_odd (t : ℕ) (s0 s1 : Vec F Whole .bf16) (h : Known st t s0 s1) (he : t / 8 % 2 = 1) :
    Known st (t + 1) s0 (putSlab s1 (t % 8) (st t)) := by
  intro u hu hn y hy
  by_cases e : u = t
  · subst e
    exact ⟨fun h0 => absurd h0 (by omega), fun _ => putSlab_hit _ _ _ _ hy⟩
  · have hk := h u (by omega) (by omega) y hy
    exact ⟨hk.1, fun h1 => (putSlab_miss _ _ _ _ (by omega)).trans (hk.2 h1)⟩

/-- At a point of a later panel the buffer not staged into holds the panel before. -/
theorem panel_at (t : ℕ) (s0 s1 : Vec F Whole .bf16) (h : Known st t s0 s1) (h8 : 8 ≤ t) :
    (t / 8 % 2 = 0 → s1 = panel st (t / 8 - 1)) ∧ (t / 8 % 2 = 1 → s0 = panel st (t / 8 - 1)) := by
  have key : ∀ y : Whole.Idx, (y 0).val / 512 < 8 := fun y => by
    have hy : (y 0).val < 4096 := (y 0).isLt
    omega
  refine ⟨fun he => funext fun y => ?_, fun he => funext fun y => ?_⟩
  · have hy := key y
    exact (h (8 * (t / 8 - 1) + (y 0).val / 512) (by omega) (by omega) y (by omega)).2 (by omega)
  · have hy := key y
    exact (h (8 * (t / 8 - 1) + (y 0).val / 512) (by omega) (by omega) y (by omega)).1 (by omega)

end Cert.Panel

end
-- ==== Proof.InBody.lean ====
/-
  THE BODY of the input projection's kernel, at any float values and on any staging buffers.  A point turns one slab of the
  weight's panel (the weights come transposed) and stages it in one of two scratch panels, and (after the first panel)
  multiplies a block of rows by the whole of the other scratch panel.
-/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel4Ideal.Inp

open Cert.Kernel4Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x1024x512 .f32) (harg3 : arg3.IsWhole) (arg4 : Memref sig .tc .vmem S1024x1024 .bf16) (harg4 : arg4.IsWhole) (arg5 : Memref sig .tc .vmem S4096x1024 .bf16) (harg5 : arg5.IsWhole) (arg6 : Memref sig .tc .vmem S4096x1024 .bf16) (harg6 : arg6.IsWhole)
  (x0 : Vec F S1024x4096 .bf16) (x1 : Vec F S1x1024x512 .f32)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg5 fullShare s0
        ∗ (iprop(owns (c : Thread nD τ) arg3 fullShare x1 ∗ owns (c : Thread nD τ) arg5 fullShare (putSlab s0 (i 1).val (k0_pay1 x1))) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg5.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg5.view _ _ _ _ (k0_off1_eq i), View.readAt_full]
  simp only [harg3.read_unread]
  rw [show arg5.view.read (Elt F) (arg5.view.writes (Elt F) (harg5.unread s0) []) = s0 from harg5.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (k0_pay2 s1 x0) ∗ owns (c : Thread nD τ) arg5 fullShare (putSlab s0 (i 1).val (k0_pay1 x1)) ∗ owns (c : Thread nD τ) arg6 fullShare s1) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%d3, %f3, -, H3⟩, ⟨%fs, %hfs, HS5⟩, ⟨%fu, %hfu, HS6⟩, Hk⟩
  obtain rfl := harg2.eq_unread hf0; obtain rfl := harg3.eq_unread hf1
  obtain rfl := harg5.eq_unread hfs; obtain rfl := harg6.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr
    swap; · iexact H3
    ipureintro
    rw [View.read_writes_full (s := S1024x1024), View.readAt_full (s := S4096x1024), View.readAt_full (s := S1024x4096), harg2.read_unread, harg6.read_unread]
    rfl
  isplitl [HS5]
  · iexists _; isplitr
    swap; · iexact HS5
    ipureintro
    rw [View.read_writes_cons_put (s := S4096x1024) arg5.view _ _ _ _ (k0_off2_eq i), View.readAt_full]
    simp only [harg3.read_unread]
    rw [show arg5.view.read (Elt F) (arg5.view.writes (Elt F) (harg5.unread s0) []) = s0 from harg5.read_unread _]
    rfl
  iexists _; isplitr; · ipureintro; exact harg6.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg6 fullShare s1 ∗ owns (c : Thread nD τ) arg5 fullShare s0
        ∗ (iprop(owns (c : Thread nD τ) arg2 fullShare x0 ∗ owns (c : Thread nD τ) arg3 fullShare x1 ∗ owns (c : Thread nD τ) arg4 fullShare (k0_pay2 s0 x0) ∗ owns (c : Thread nD τ) arg6 fullShare (putSlab s1 (i 1).val (k0_pay1 x1)) ∗ owns (c : Thread nD τ) arg5 fullShare s0) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%d3, %f3, -, H3⟩, ⟨%fs, %hfs, HS6⟩, ⟨%fu, %hfu, HS5⟩, Hk⟩
  obtain rfl := harg2.eq_unread hf0; obtain rfl := harg3.eq_unread hf1
  obtain rfl := harg6.eq_unread hfs; obtain rfl := harg5.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr
    swap; · iexact H3
    ipureintro
    rw [View.read_writes_full (s := S1024x1024), View.readAt_full (s := S4096x1024), View.readAt_full (s := S1024x4096), harg2.read_unread, harg5.read_unread]
  isplitl [HS6]
  · iexists _; isplitr
    swap; · iexact HS6
    ipureintro
    rw [View.read_writes_cons_put (s := S4096x1024) arg6.view _ _ _ _ (k0_off3_eq i), View.readAt_full]
    simp only [harg3.read_unread]
    rw [show arg6.view.read (Elt F) (arg6.view.writes (Elt F) (harg6.unread s1) []) = s1 from harg6.read_unread _]
    rfl
  iexists _; isplitr; · ipureintro; exact harg5.read_unread _
  iexact HS5

end Runs

end Cert.Kernel4Ideal.Inp

end
-- ==== Proof.InRun.lean ====
/-
  THE RUN of the input projection's kernel at any float values: the weights are transposed, then the grid is run.  What is
  carried from point to point is what is known of the two scratch panels (Proof/Panel.lean), so each output block has a
  closed form (`outBlock`).  The launch set-up around it follows the generated text of the other programs.
-/
module

public import proofs.«01_k».proof.Proof.InBody
public import Idealize.ShloMosaic.Lib.Claim

@[expose] public section

set_option maxRecDepth 16384

noncomputable section

namespace Cert.Kernel4Ideal.Inp

open Cert.Kernel4Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: after the transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host line writes: its result alone. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- A reference the host line does not write is entered as launched. -/
theorem V_of (c : Dev nD) (r : Ref sig .tc) (h : r ∉ hostOps0_W) : V m c r = m ((c : Thread nD τ).loc r) :=
  StableHlo.after_of_writes_sub hostOps0 _ hostOps0_writes h

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 136, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 2 (grid0.coords t) = true :=
  (by decide +kernel : ∀ t : Fin grid0.N, t.val < 8 → idle0 2 (grid0.coords t) = true)
theorem noFlush_first : ∀ t : Fin cfg0.N, t.val < 8 → (cfg0.win 2).flush t = false :=
  (by decide +kernel : ∀ t : Fin grid0.N, t.val < 8 → win0_2.flush t = false)
theorem live_out : ∀ t : Fin cfg0.N, 8 ≤ t.val → cfg0.idle 2 (grid0.coords t) = false :=
  (by decide +kernel : ∀ t : Fin grid0.N, 8 ≤ t.val → idle0 2 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, after_0, after_1]
  unfold Carried
  have hi := inner_val t
  have hs := staged_at m c t
  by_cases h8 : t.val < 8
  · rw [Dat.leavesExact_idle (dats m 0 c) 2 t (idle_first t h8) (noFlush_first t h8)]
    iintro ⟨⟨%s0, %s1, %hk, HS0, HS1, Hg⟩, Ho, ⟨%d0, H0⟩, ⟨%d1, H1⟩, ⟨%d2, H2⟩⟩
    iapply (run_first c (grid0.coords t) _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    iexists _; iexact H2
  · rw [leaves_live m c 2 t (live_out t (by omega)), after_2]
    unfold outBlock
    by_cases he : t.val / 8 % 2 = 0
    · iintro ⟨⟨%s0, %s1, %hk, HS0, HS1, Hg⟩, Ho, ⟨%d0, H0⟩, ⟨%d1, H1⟩, ⟨%d2, H2⟩⟩
      rw [← (panel_at _ t.val s0 s1 hk (by omega)).1 he]
      iapply (run_even c (grid0.coords t) _ _ _ _ _ _ _ _ _ _ (iblk m c 0 t) (iblk m c 1 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      iexact H2
    · have ho : t.val / 8 % 2 = 1 := by omega
      iintro ⟨⟨%s0, %s1, %hk, HS0, HS1, Hg⟩, Ho, ⟨%d0, H0⟩, ⟨%d1, H1⟩, ⟨%d2, H2⟩⟩
      rw [← (panel_at _ t.val s0 s1 hk (by omega)).2 ho]
      iapply (run_odd c (grid0.coords t) _ _ _ _ _ _ _ _ _ _ (iblk m c 0 t) (iblk m c 1 t) s0 s1
        (fun h => by have := (cond1_iff t).mp h; omega) (fun h => by have := (cond2_iff t).mp h; omega) ((cond3_iff t).mpr ho) Set.univ _)
      isplitl [H0]; · iexact H0
      isplitl [H1]; · iexact H1
      isplitl [H2]; · iexists _; iexact H2
      isplitl [HS1]; · iexact HS1
      isplitl [HS0]; · iexact HS0
      iintro ⟨H0, H1, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched: the rows are a window's array, the weights no window's. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(((h c).1 0).trans (((dats m 0 c).arrAt_in 0 rfl _).trans (A_eq m c 0))).trans (V_of m c main_arg0 (by decide)),
    ((h c).2 main_arg1 (by decide)).trans (V_of m c main_arg1 (by decide))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept m r h.1, h.2⟩) (run_main_quiescent m ρ)

end Cert.Kernel4Ideal.Inp

end
-- ==== Proof.InValue.lean ====
/-
  THE VALUE of the input projection's kernel over exact values: entry (r, q) of its result is the sum over k of
  xn(r, k) · w_in(0, k, q'), with q' the q-th column once the 32 gate columns are left out.  So is the reference's.
-/
module

public import proofs.«01_k».proof.Proof.InRun
public import proofs.«01_k».proof.Proof.Gen.Reference4Ideal.Run
public import Idealize.ShloMosaic.PureOps.Ideal
public import Idealize.ShloMosaic.Lib.Pipeline.Value
public import Idealize.ShloMosaic.Lib.IdealHost

@[expose] public section

noncomputable section

namespace Cert.Kernel4Ideal.Inp

open Cert.Kernel4Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x1024x512 .f32) (a : Fin 512) (b : Fin 1024) :
    (k0_pay1 w : FVec Ideal S512x1024 .bf16) (ix2 a b) = (w (ix3 0 b a) : EReal) := by
  pointwise [k0_pay1]

theorem product_apply (p : FVec Ideal S4096x1024 .bf16) (x : FVec Ideal S1024x4096 .bf16) (a b : Fin 1024) :
    (k0_pay2 p x : FVec Ideal S1024x1024 .bf16) (ix2 a b) = (∑ k : Fin 4096, x (ix2 a k) * p (ix2 k b) : EReal) := by
  pointwise [k0_pay2]

/-! ## The result -/

/-- The weight's column a result's column is of: the gate columns, 12288 to 12319, are left out. -/
def column (q : Fin 16384) : Fin 16416 := ⟨q.val + (if q.val < 12288 then 0 else 32), by split <;> omega⟩

/-- The result. -/
def inOut (x : Vec Ideal S8192x4096 .bf16) (w : Vec Ideal S2x4096x16416 .f32) : Vec Ideal S8192x16384 .bf16 :=
  fun y => (∑ k : Fin 4096, x (ix2 (y 0) k) * w (ix3 0 k (column (y 1))) : EReal)

/-- The arguments of core `c`. -/
abbrev argX (c : Dev nD) : Vec Ideal S8192x4096 .bf16 := m ((c : Thread nD τ).loc main_arg0)
abbrev argW (c : Dev nD) : Vec Ideal S2x4096x16416 .f32 := m ((c : Thread nD τ).loc main_arg1)

/-- The transposed weights, as the region finds them. -/
theorem V_weights (c : Dev nD) : V m c main_v0
    = (transpose S2x16416x4096 [0, 2, 1] (argW m c) transposes_S2x4096x16416_S2x16416x4096_0_2_1 : Vec Ideal S2x16416x4096 .f32) := by
  unfold_abbrev_sides
  after_results

theorem turned_apply (w : FVec Ideal S2x4096x16416 .f32) (q : Fin 16416) (k : Fin 4096) :
    (transpose S2x16416x4096 [0, 2, 1] w transposes_S2x4096x16416_S2x16416x4096_0_2_1 : FVec Ideal S2x16416x4096 .f32) (ix3 0 q k)
      = (w (ix3 0 k q) : EReal) := by
  pointwise

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 128 → win0_1.index t (0 : Fin 3) = 0
    ∧ win0_1.index t (1 : Fin 3) = 1024 * (t.val / 8) + (if t.val / 8 < 12 then 0 else 32) ∧ win0_1.index t (2 : Fin 3) = 512 * (t.val % 8) :=
  (by decide +kernel : ∀ t : Fin grid0.N, _)
theorem place_out : ∀ t : Fin cfg0.N, 8 ≤ t.val → win0_2.index t (0 : Fin 2) = t.val % 8 ∧ win0_2.index t (1 : Fin 2) = t.val / 8 - 1 :=
  (by decide +kernel : ∀ t : Fin grid0.N, _)
theorem flush_out : ∀ t : Fin cfg0.N, (cfg0.win 2).flush t = true ↔ 8 ≤ t.val :=
  (by decide +kernel : ∀ t : Fin grid0.N, win0_2.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  rw [V_of m c main_arg0 (by decide)]
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 128) (a : Fin 512) (b : Fin 1024) :
    (iblk m c 1 t : Vec Ideal S1x1024x512 .f32) (ix3 0 b a)
      = argW m c (ix3 0 ⟨512 * (t.val % 8) + a.val, by omega⟩ (column ⟨1024 * (t.val / 8) + b.val, by omega⟩)) := by
  obtain ⟨e0, e1, e2⟩ := place_w t h
  unfold iblk
  rw [View.read_apply]
  show V m c main_v0 _ = _
  rw [V_weights]
  refine Eq.trans (congrArg _ (funext fun d => Fin.ext ?_)) (turned_apply (argW m c) _ _)
  match d with
  | ⟨0, _⟩ => show win0_1.index t 0 + 1 * 0 = 0; rw [e0]
  | ⟨1, _⟩ =>
    show win0_1.index t 1 + 1 * b.val = (1024 * (t.val / 8) + b.val) + (if 1024 * (t.val / 8) + b.val < 12288 then 0 else 32)
    rw [e1]
    split <;> split <;> omega
  | ⟨2, _⟩ => show win0_1.index t 2 + 1 * a.val = 512 * (t.val % 8) + a.val; rw [e2]; omega

/-- A whole panel is a column block of the weights. -/
theorem panel_apply (c : Dev nD) (p : ℕ) (hp : p < 16) (k : Fin 4096) (b : Fin 1024) :
    (panel (staged m c) p : Vec Ideal S4096x1024 .bf16) (ix2 k b) = argW m c (ix3 0 k (column ⟨1024 * p + b.val, by omega⟩)) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  have ek : (⟨512 * ((pt (8 * p + k.val / 512)).val % 8) + k.val % 512, by omega⟩ : Fin 4096) = k := Fin.ext (by dsimp only; omega)
  have eb : (⟨1024 * ((pt (8 * p + k.val / 512)).val / 8) + b.val, by omega⟩ : Fin 16384) = ⟨1024 * p + b.val, by omega⟩ := Fin.ext (by dsimp only; omega)
  rw [eb]
  exact congrArg (fun z => argW m c (ix3 0 z _)) ek

/-- The output block of a point is a block of the result. -/
theorem outBlock_apply (c : Dev nD) (t : Fin cfg0.N) (h8 : 8 ≤ t.val) (a b : Fin 1024) :
    (outBlock m c t : Vec Ideal S1024x1024 .bf16) (ix2 a b)
      = inOut (argX m c) (argW m c) (ix2 ⟨1024 * (t.val % 8) + a.val, by omega⟩
          ⟨1024 * (t.val / 8 - 1) + b.val, by have := lt_of_lt_of_eq t.isLt N_0; omega⟩) := by
  have hN : t.val < 136 := lt_of_lt_of_eq t.isLt N_0
  unfold outBlock
  refine (product_apply _ _ a b).trans ?_
  have e : ∀ (x : FVec Ideal S1024x4096 .bf16) (p : FVec Ideal S4096x1024 .bf16),
      (∀ k, x (ix2 a k) = argX m c (ix2 ⟨1024 * (t.val % 8) + a.val, by omega⟩ k)) →
      (∀ k, p (ix2 k b) = argW m c (ix3 0 k (column ⟨1024 * (t.val / 8 - 1) + b.val, by omega⟩))) →
      (∑ k : Fin 4096, x (ix2 a k) * p (ix2 k b) : EReal)
        = inOut (argX m c) (argW m c) (ix2 ⟨1024 * (t.val % 8) + a.val, by omega⟩ ⟨1024 * (t.val / 8 - 1) + b.val, by omega⟩) := by
    intro x p hx hp
    unfold inOut
    refine Finset.sum_congr rfl fun k _ => ?_
    rw [hx k, hp k]
    rfl
  exact e _ _ (x_block m c t h8 a) (fun k => panel_apply m c _ (by omega) k b)

/-! ## The final array -/

theorem flushed_out (c : Dev nD) (t : Fin cfg0.N) (hf : (cfg0.win 2).flush t = true) :
    (dats m 0 c).flushed 2 t = ((cfg0.win 2).blk t).view.read (Elt Ideal) (inOut (argX m c) (argW m c)) := by
  have h8 := (flush_out t).mp hf
  obtain ⟨e0, e1⟩ := place_out t h8
  show (cfg0.win 2).cut (grid0.coords t) ((dats m 0 c).after 2 t) = _
  rw [after_2]
  funext y
  obtain ⟨a, b, rfl⟩ : ∃ a b : Fin 1024, y = ix2 a b := ⟨y 0, y 1, eq_ix2 y⟩
  rw [View.read_apply]
  refine (outBlock_apply m c t h8 a b).trans (congrArg (inOut (argX m c) (argW m c)) (funext fun d => Fin.ext ?_))
  match d with
  | ⟨0, _⟩ => show 1024 * (t.val % 8) + a.val = win0_2.index t (0 : Fin 2) * 1024 + 1 * a.val; rw [e0]; omega
  | ⟨1, _⟩ => show 1024 * (t.val / 8 - 1) + b.val = win0_2.index t (1 : Fin 2) * 1024 + 1 * b.val; rw [e1]; omega

/-- An index is in a point's block where each coordinate is in the block's range. -/
theorem mem_block (t : Fin cfg0.N) (i : S8192x16384.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every index of the result is in a block some point writes back. -/
theorem cover_out (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_2.index ⟨_, ht⟩ (0 : Fin 2) * 1024 ≤ (i 0).val ∧ (i 0).val < win0_2.index ⟨_, ht⟩ (0 : Fin 2) * 1024 + 1024; omega
  | ⟨1, _⟩ => show win0_2.index ⟨_, ht⟩ (1 : Fin 2) * 1024 ≤ (i 1).val ∧ (i 1).val < win0_2.index ⟨_, ht⟩ (1 : Fin 2) * 1024 + 1024; omega

theorem final_out (c : Dev nD) : (dats m 0 c).arrAt 2 cfg0.N = inOut (argX m c) (argW m c) :=
  (dats m 0 c).arrAt_eq_of_cover 2 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v1) = inOut (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final_out m c), kept m r h c⟩)
    (run_main m ρ)

/-! ## The reference's result -/

section Reference

open Cert.Reference4Ideal.Gen

/-- The five pieces of the reference's projection, laid end to end without the gates, are its kept columns. -/
theorem kept_columns (u : FVec Ideal Cert.Reference4Ideal.S8192x16416 .f32) (h1 h2 h3 h4 h5 h6 h7) (r : Fin 8192) (q : Fin 16384) :
    (truncf (F := Ideal) .bf16 (concatenate Cert.Reference4Ideal.S8192x16384 1
      [⟨Cert.Reference4Ideal.S8192x2048, (extractStridedSlice Cert.Reference4Ideal.S8192x2048 ![0, 0] u h1 : FVec Ideal Cert.Reference4Ideal.S8192x2048 .f32)⟩,
       ⟨Cert.Reference4Ideal.S8192x2048, (extractStridedSlice Cert.Reference4Ideal.S8192x2048 ![0, 2048] u h2 : FVec Ideal Cert.Reference4Ideal.S8192x2048 .f32)⟩,
       ⟨Cert.Reference4Ideal.S8192x4096, (extractStridedSlice Cert.Reference4Ideal.S8192x4096 ![0, 4096] u h3 : FVec Ideal Cert.Reference4Ideal.S8192x4096 .f32)⟩,
       ⟨Cert.Reference4Ideal.S8192x4096, (extractStridedSlice Cert.Reference4Ideal.S8192x4096 ![0, 8192] u h4 : FVec Ideal Cert.Reference4Ideal.S8192x4096 .f32)⟩,
       ⟨Cert.Reference4Ideal.S8192x4096, (extractStridedSlice Cert.Reference4Ideal.S8192x4096 ![0, 12320] u h5 : FVec Ideal Cert.Reference4Ideal.S8192x4096 .f32)⟩] h6 : FVec Ideal Cert.Reference4Ideal.S8192x16384 .f32) h7
      : FVec Ideal Cert.Reference4Ideal.S8192x16384 .bf16) (ix2 r q) = (u (ix2 r (column q)) : EReal) := by
  pointwise
  have e : ∀ (n : ℕ) (hn : n < 16416), n = q.val + (if q.val < 12288 then 0 else 32) → u (ix2 r ⟨n, hn⟩) = u (ix2 r (column q)) :=
    fun n hn h => congrArg (fun z => u (ix2 r z)) (Fin.ext h)
  split_ifs <;> exact e _ _ (by split <;> omega)

/-- An entry of the reference's projection. -/
theorem projected (x : FVec Ideal Cert.Reference4Ideal.S8192x4096 .bf16) (w : FVec Ideal Cert.Reference4Ideal.S2x4096x16416 .f32) (h1 h2 h3)
    (r : Fin 8192) (q : Fin 16416) :
    (Host.dotGeneral Cert.Reference4Ideal.dot_S8192x4096_S4096x16416_S8192x16416_1_0_0_1_n_n none (extf .f32 x h1)
        (shapeCast Cert.Reference4Ideal.S4096x16416 (extractStridedSlice Cert.Reference4Ideal.S1x4096x16416 ![0, 0, 0] w h2) h3)
      : FVec Ideal Cert.Reference4Ideal.S8192x16416 .f32) (ix2 r q) = (∑ k : Fin 4096, x (ix2 r k) * w (ix3 0 k q) : EReal) := by
  pointwise

/-- The reference's result, from its projection `u` and what its kept columns are. -/
theorem reference_out (x : FVec Ideal Cert.Reference4Ideal.S8192x4096 .bf16) (w : FVec Ideal Cert.Reference4Ideal.S2x4096x16416 .f32)
    (u : FVec Ideal Cert.Reference4Ideal.S8192x16416 .f32) (h1 h2 h3)
    (hu : u = Host.dotGeneral Cert.Reference4Ideal.dot_S8192x4096_S4096x16416_S8192x16416_1_0_0_1_n_n none (extf .f32 x h1)
        (shapeCast Cert.Reference4Ideal.S4096x16416 (extractStridedSlice Cert.Reference4Ideal.S1x4096x16416 ![0, 0, 0] w h2) h3))
    (z : FVec Ideal Cert.Reference4Ideal.S8192x16384 .bf16) (hz : ∀ r q, z (ix2 r q) = (u (ix2 r (column q)) : EReal)) : z = inOut x w := by
  funext y
  obtain ⟨r, q, rfl⟩ : ∃ (r : Fin 8192) (q : Fin 16384), y = ix2 r q := ⟨y 0, y 1, eq_ix2 y⟩
  rw [hz r q, hu]
  exact projected x w h1 h2 h3 r (column q)

end Reference

end Cert.Kernel4Ideal.Inp

end
-- ==== Proof.InFrames.lean ====
/-
  The frames of the input projection's programs and the equality of its result with the reference's.  The printed kernel is
  the idealised text read over the bit patterns, so both kernel frames are one run.
-/
module

public import proofs.«01_k».proof.Defs
public import proofs.«01_k».proof.Proof.Gen.Kernel4
public import proofs.«01_k».proof.Proof.InValue
public import Idealize.ShloMosaic.Lib.Quiescent
public import Idealize.ShloMosaic.Lib.Tactic

@[expose] public section

set_option maxRecDepth 16384

noncomputable section

namespace Cert.Proof.Inp

open Idealize.ShloMosaic Idealize.ShloMosaic.TcCoe Idealize.SL.Sem
open Cert.Kernel4Ideal Cert.Kernel4Ideal.Gen Cert.Kernel4Ideal.Inp

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_same : Cert.quiescent_Kernel4 = FrameBits := by sl_kernel_rfl

theorem frame_kernel_in : Cert.quiescent_Kernel4 := by
  rw [frame_same]
  exact fun m ρ _ => frame_main m ρ

theorem frame_ideal_in : Cert.quiescent_Kernel4Ideal := fun m ρ _ => frame_main m ρ

theorem frame_reference_in : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The input projection and its reference end with the same result. -/
theorem same_result_in : Cert.algebraic_Kernel4Ideal_Reference4Ideal := fun m ρ m' ρ' _ hargs =>
  ⟨fun c => inOut (argX m c) (argW m c), run_results m ρ,
    (θ_run Cert.Reference4Ideal.defs _ _).mono (fun _ h c =>
      ⟨(h c).1.trans ((reference_out _ _ _ _ _ _ rfl _ (kept_columns _ _ _ _ _ _ _ _)).trans (congrArg₂ inOut (hargs c).1 (hargs c).2)),
       (h c).2⟩)
      (Cert.Reference4Ideal.Value.run (F := Ideal) m' ρ')⟩

end Cert.Proof.Inp

end
-- ==== Proof.MergeBody.lean ====
/-
  THE BODY of the merge gates' kernel, at any float values and on any staging buffers.  A point stages one slab of the
  weight's panel in one of two scratch panels, and (after the first panel) multiplies a block of rows by the whole of the
  other scratch panel, and finishes the product with its block of biases.
-/
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel5Ideal.Merge

open Cert.Kernel5Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S4096x1024 .bf16) (harg6 : arg6.IsWhole) (arg7 : Memref sig .tc .vmem S4096x1024 .bf16) (harg7 : arg7.IsWhole)
  (x0 : Vec F S1024x4096 .bf16) (x1 : Vec F S1x512x1024 .f32) (e0 : Vec F S1x1024 .f32)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg6 fullShare s0
        ∗ (iprop(owns (c : Thread nD τ) arg3 fullShare x1 ∗ owns (c : Thread nD τ) arg6 fullShare (putSlab s0 (i 1).val (k0_pay1 x1))) -∗ K ⟨⟩))
      ⊢ wp frame (wpE (defs₀ (F := F)) Variants.none c none) E (cc0_merge_gate i arg2 harg2 arg3 harg3 arg4 harg4 arg5 harg5 arg6 harg6 arg7 harg7) K := by
  simp only [cc0_merge_gate_eq_skeleton]; unfold cc0_merge_gate_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg6.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg6.view _ _ _ _ (k0_off1_eq i), View.readAt_full]
  simp only [harg3.read_unread]
  rw [show arg6.view.read (Elt F) (arg6.view.writes (Elt F) (harg6.unread s0) []) = s0 from harg6.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare e0 ∗ owns (c : Thread nD τ) arg5 fullShare (k0_pay2 s1 x0 e0) ∗ owns (c : Thread nD τ) arg6 fullShare (putSlab s0 (i 1).val (k0_pay1 x1)) ∗ owns (c : Thread nD τ) arg7 fullShare s1) -∗ K ⟨⟩))
      ⊢ wp frame (wpE (defs₀ (F := F)) Variants.none c none) E (cc0_merge_gate i arg2 harg2 arg3 harg3 arg4 harg4 arg5 harg5 arg6 harg6 arg7 harg7) K := by
  simp only [cc0_merge_gate_eq_skeleton]; unfold cc0_merge_gate_skel
  simp only [k0_part1_eq_skeleton]; unfold k0_part1_skel
  unfold owns
  iintro ⟨⟨%f0, %hf0, H0⟩, ⟨%f1, %hf1, H1⟩, ⟨%fe0, %hfe0, HE0⟩, ⟨%d3, %f3, -, H3⟩, ⟨%fs, %hfs, HS5⟩, ⟨%fu, %hfu, HS6⟩, Hk⟩
  obtain rfl := harg2.eq_unread hf0; obtain rfl := harg3.eq_unread hf1; obtain rfl := harg4.eq_unread hfe0
  obtain rfl := harg6.eq_unread hfs; obtain rfl := harg7.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [H3]
  · iexists _; isplitr
    swap; · iexact H3
    ipureintro
    rw [View.read_writes_full (s := S1024x1024), View.readAt_full (s := S4096x1024), View.readAt_full (s := S1024x4096), View.readAt_full (s := S1x1024), harg2.read_unread, harg7.read_unread, harg4.read_unread]
    rfl
  isplitl [HS5]
  · iexists _; isplitr
    swap; · iexact HS5
    ipureintro
    rw [View.read_writes_cons_put (s := S4096x1024) arg6.view _ _ _ _ (k0_off2_eq i), View.readAt_full]
    simp only [harg3.read_unread]
    rw [show arg6.view.read (Elt F) (arg6.view.writes (Elt F) (harg6.unread s0) []) = s0 from harg6.read_unread _]
    rfl
  iexists _; isplitr; · ipureintro; exact harg7.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ (∃ d, owns (c : Thread nD τ) arg5 fullShare d) ∗ owns (c : Thread nD τ) arg7 fullShare s1 ∗ owns (c : Thread nD τ) arg6 fullShare s0
        ∗ (iprop(owns (c : Thread nD τ) arg2 fullShare x0 ∗ owns (c : Thread nD τ) arg3 fullShare x1 ∗ owns (c : Thread nD τ) arg4 fullShare e0 ∗ owns (c : Thread nD τ) arg5 fullShare (k0_pay2 s0 x0 e0) ∗ owns (c : Thread nD τ) arg7 fullShare (putSlab s1 (i 1).val (k0_pay1 x1)) ∗ owns (c : Thread nD τ) arg6 fullShare s0) -∗ K ⟨⟩))
      ⊢ wp frame (wpE (defs₀ (F := F)) Variants.none c none) E (cc0_merge_gate i arg2 harg2 arg3 harg3 arg4 harg4 arg5 harg5 arg6 harg6 arg7 harg7) K := by
  simp only [cc0_merge_gate_eq_skeleton]; unfold cc0_merge_gate_skel
  simp only [k0_part1_eq_skeleton]; unfold k0_part1_skel
  unfold owns
  iintro ⟨⟨%f0, %hf0, H0⟩, ⟨%f1, %hf1, H1⟩, ⟨%fe0, %hfe0, HE0⟩, ⟨%d3, %f3, -, H3⟩, ⟨%fs, %hfs, HS6⟩, ⟨%fu, %hfu, HS5⟩, Hk⟩
  obtain rfl := harg2.eq_unread hf0; obtain rfl := harg3.eq_unread hf1; obtain rfl := harg4.eq_unread hfe0
  obtain rfl := harg7.eq_unread hfs; obtain rfl := harg6.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [H3]
  · iexists _; isplitr
    swap; · iexact H3
    ipureintro
    rw [View.read_writes_full (s := S1024x1024), View.readAt_full (s := S4096x1024), View.readAt_full (s := S1024x4096), View.readAt_full (s := S1x1024), harg2.read_unread, harg6.read_unread, harg4.read_unread]
  isplitl [HS6]
  · iexists _; isplitr
    swap; · iexact HS6
    ipureintro
    rw [View.read_writes_cons_put (s := S4096x1024) arg7.view _ _ _ _ (k0_off3_eq i), View.readAt_full]
    simp only [harg3.read_unread]
    rw [show arg7.view.read (Elt F) (arg7.view.writes (Elt F) (harg7.unread s1) []) = s1 from harg7.read_unread _]
    rfl
  iexists _; isplitr; · ipureintro; exact harg6.read_unread _
  iexact HS5

end Runs

end Cert.Kernel5Ideal.Merge

end
-- ==== Proof.MergeRun.lean ====
/-
  THE RUN of the merge gates' kernel at any float values: the first layer's biases are cut out, then the grid is run.  What is
  carried from point to point is what is known of the two scratch panels (Proof/Panel.lean), so each output block has a
  closed form (`outBlock`).  The launch set-up around it follows the generated text of the other programs.
-/
module

public import proofs.«01_k».proof.Proof.MergeBody
public import Idealize.ShloMosaic.Lib.Claim

@[expose] public section

set_option maxRecDepth 16384

noncomputable section

namespace Cert.Kernel5Ideal.Merge

open Cert.Kernel5Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: after the biases are cut out. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The references the host lines write: their results. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- A reference the host lines do not write is entered as launched. -/
theorem V_of (c : Dev nD) (r : Ref sig .tc) (h : r ∉ hostOps0_W) : V m c r = m ((c : Thread nD τ).loc r) :=
  StableHlo.after_of_writes_sub hostOps0 _ hostOps0_writes h

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 72, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t) (iblk m c 2 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 3 (grid0.coords t) = true :=
  (by decide +kernel : ∀ t : Fin grid0.N, t.val < 8 → idle0 3 (grid0.coords t) = true)
theorem noFlush_first : ∀ t : Fin cfg0.N, t.val < 8 → (cfg0.win 3).flush t = false :=
  (by decide +kernel : ∀ t : Fin grid0.N, t.val < 8 → win0_3.flush t = false)
theorem live_out : ∀ t : Fin cfg0.N, 8 ≤ t.val → cfg0.idle 3 (grid0.coords t) = false :=
  (by decide +kernel : ∀ t : Fin grid0.N, 8 ≤ t.val → idle0 3 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, leaves_live m c 2 t rfl, after_0, after_1, after_2]
  unfold Carried
  have hi := inner_val t
  have hs := staged_at m c t
  by_cases h8 : t.val < 8
  · rw [Dat.leavesExact_idle (dats m 0 c) 3 t (idle_first t h8) (noFlush_first t h8)]
    iintro ⟨⟨%s0, %s1, %hk, HS0, HS1, Hg⟩, Ho, ⟨%d0, H0⟩, ⟨%d1, H1⟩, ⟨%de0, HE0⟩, ⟨%d2, H2⟩⟩
    iapply (run_first c (grid0.coords t) _ _ _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    isplitl [HE0]; · iexact HE0
    iexists _; iexact H2
  · rw [leaves_live m c 3 t (live_out t (by omega)), after_3]
    unfold outBlock
    by_cases he : t.val / 8 % 2 = 0
    · iintro ⟨⟨%s0, %s1, %hk, HS0, HS1, Hg⟩, Ho, ⟨%d0, H0⟩, ⟨%d1, H1⟩, ⟨%de0, HE0⟩, ⟨%d2, H2⟩⟩
      rw [← (panel_at _ t.val s0 s1 hk (by omega)).1 he]
      iapply (run_even c (grid0.coords t) _ _ _ _ _ _ _ _ _ _ _ _ (iblk m c 0 t) (iblk m c 1 t) (iblk m c 2 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [HE0]; · iexact HE0
      isplitl [H2]; · iexists _; iexact H2
      isplitl [HS0]; · iexact HS0
      isplitl [HS1]; · iexact HS1
      iintro ⟨H0, H1, HE0, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      isplitl [HE0]; · iexact HE0
      iexact H2
    · have ho : t.val / 8 % 2 = 1 := by omega
      iintro ⟨⟨%s0, %s1, %hk, HS0, HS1, Hg⟩, Ho, ⟨%d0, H0⟩, ⟨%d1, H1⟩, ⟨%de0, HE0⟩, ⟨%d2, H2⟩⟩
      rw [← (panel_at _ t.val s0 s1 hk (by omega)).2 ho]
      iapply (run_odd c (grid0.coords t) _ _ _ _ _ _ _ _ _ _ _ _ (iblk m c 0 t) (iblk m c 1 t) (iblk m c 2 t) s0 s1
        (fun h => by have := (cond1_iff t).mp h; omega) (fun h => by have := (cond2_iff t).mp h; omega) ((cond3_iff t).mpr ho) Set.univ _)
      isplitl [H0]; · iexact H0
      isplitl [H1]; · iexact H1
      isplitl [HE0]; · iexact HE0
      isplitl [H2]; · iexists _; iexact H2
      isplitl [HS1]; · iexact HS1
      isplitl [HS0]; · iexact HS0
      iintro ⟨H0, H1, HE0, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      isplitl [HE0]; · iexact HE0
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched: the rows and the weights are windows' arrays, the biases no window's. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).1 0).trans (((dats m 0 c).arrAt_in 0 rfl _).trans (A_eq m c 0))).trans (V_of m c main_arg0 (by decide)),
    (((h c).1 1).trans (((dats m 0 c).arrAt_in 1 rfl _).trans (A_eq m c 1))).trans (V_of m c main_arg1 (by decide)),
    ((h c).2 main_arg2 (by decide)).trans (V_of m c main_arg2 (by decide))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (run_main_quiescent m ρ)

end Cert.Kernel5Ideal.Merge

end
-- ==== Proof.MergeValue.lean ====
/-
  THE VALUE of the merge gates' kernel over exact values, and its reference's: entry (r, q) of the result is the logistic
  function of the sum over k of xn(r, k) · w_merge(0, k, q), plus b_merge(0, q).
-/
module

public import proofs.«01_k».proof.Defs
public import proofs.«01_k».proof.Proof.Gen.Kernel5
public import proofs.«01_k».proof.Proof.MergeRun
public import proofs.«01_k».proof.Proof.Gen.Reference5Ideal.Run
public import proofs.«01_k».proof.Proof.RealFacts
public import Idealize.ShloMosaic.PureOps.Ideal
public import Idealize.ShloMosaic.Lib.Pipeline.Value
public import Idealize.ShloMosaic.Lib.IdealHost
public import Idealize.ShloMosaic.Lib.Quiescent
public import Idealize.ShloMosaic.Lib.Tactic

@[expose] public section

set_option maxRecDepth 16384

noncomputable section

namespace Cert.Kernel5Ideal.Merge

open Cert.Kernel5Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

/-- The logistic function. -/
def logistic (s : EReal) : EReal := Ideal.div 1 (1 + Ideal.exp (-s))

theorem product_apply (p : FVec Ideal S4096x1024 .bf16) (x : FVec Ideal S1024x4096 .bf16) (g : FVec Ideal S1x1024 .f32) (a b : Fin 1024) :
    (k0_pay2 p x g : FVec Ideal S1024x1024 .bf16) (ix2 a b) = (logistic ((∑ k : Fin 4096, x (ix2 a k) * p (ix2 k b)) + g (ix2 0 b)) : EReal) := by
  pointwise [k0_pay2]
  rw [Cert.RealFacts.ofBits_half]
  exact Cert.RealFacts.sigmoid_tanh _

/-! ## The result -/

/-- The row of `x` times the column of the first layer's weights. -/
def dotAt (x : Vec Ideal S8192x4096 .bf16) (w : Vec Ideal S2x4096x8192 .f32) (r : Fin 8192) (q : Fin 8192) : EReal :=
  ∑ k : Fin 4096, x (ix2 r k) * w (ix3 0 k q)

/-- The result. -/
def result (x : Vec Ideal S8192x4096 .bf16) (w : Vec Ideal S2x4096x8192 .f32) (g : Vec Ideal S2x8192 .f32) : Vec Ideal S8192x8192 .bf16 :=
  fun y => (logistic (dotAt x w (y 0) (y 1) + g (ix2 0 (y 1))) : EReal)

/-- The arguments of core `c`. -/
abbrev argX (c : Dev nD) : Vec Ideal S8192x4096 .bf16 := m ((c : Thread nD τ).loc main_arg0)
abbrev argW (c : Dev nD) : Vec Ideal S2x4096x8192 .f32 := m ((c : Thread nD τ).loc main_arg1)
abbrev argB (c : Dev nD) : Vec Ideal S2x8192 .f32 := m ((c : Thread nD τ).loc main_arg2)

/-- The result of core `c`'s arguments. -/
abbrev resultOf (c : Dev nD) : Vec Ideal S8192x8192 .bf16 := result (argX m c) (argW m c) (argB m c)

/-- The first layer's biases, as the region finds them. -/
theorem V_biases (c : Dev nD) : V m c main_v2
    = (shapeCast S1x8192 (shapeCast S8192 (extractStridedSlice S1x8192 ![0, 0] (argB m c) slices_S2x8192_S1x8192_0_0) shapeCasts_S1x8192_S8192)
        shapeCasts_S8192_S1x8192 : Vec Ideal S1x8192 .f32) := by
  unfold_abbrev_sides
  after_results <;> rfl

theorem cut_apply (g : FVec Ideal S2x8192 .f32) (q : Fin 8192) :
    (shapeCast S1x8192 (shapeCast S8192 (extractStridedSlice S1x8192 ![0, 0] g slices_S2x8192_S1x8192_0_0) shapeCasts_S1x8192_S8192)
        shapeCasts_S8192_S1x8192 : FVec Ideal S1x8192 .f32) (ix2 0 q) = (g (ix2 0 q) : EReal) := by
  pointwise

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 64 → win0_1.index t (0 : Fin 3) = 0 ∧ win0_1.index t (1 : Fin 3) = t.val % 8 ∧ win0_1.index t (2 : Fin 3) = t.val / 8 :=
  (by decide +kernel : ∀ t : Fin grid0.N, _)
theorem place_b : ∀ t : Fin cfg0.N, 8 ≤ t.val → win0_2.index t (0 : Fin 2) = 0 ∧ win0_2.index t (1 : Fin 2) = t.val / 8 - 1 :=
  (by decide +kernel : ∀ t : Fin grid0.N, _)
theorem place_out : ∀ t : Fin cfg0.N, 8 ≤ t.val → win0_3.index t (0 : Fin 2) = t.val % 8 ∧ win0_3.index t (1 : Fin 2) = t.val / 8 - 1 :=
  (by decide +kernel : ∀ t : Fin grid0.N, _)
theorem flush_out : ∀ t : Fin cfg0.N, (cfg0.win 3).flush t = true ↔ 8 ≤ t.val :=
  (by decide +kernel : ∀ t : Fin grid0.N, win0_3.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  rw [V_of m c main_arg0 (by decide)]
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 64) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  rw [V_of m c main_arg1 (by decide)]
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

theorem b_block (c : Dev nD) (t : Fin cfg0.N) (h8 : 8 ≤ t.val) (hN : t.val < 72) (b : Fin 1024) :
    (iblk m c 2 t : Vec Ideal S1x1024 .f32) (ix2 0 b) = argB m c (ix2 0 ⟨1024 * (t.val / 8 - 1) + b.val, by omega⟩) := by
  obtain ⟨e0, e1⟩ := place_b t h8
  unfold iblk
  rw [View.read_apply]
  show V m c main_v2 _ = _
  rw [V_biases]
  refine Eq.trans (congrArg _ (funext fun d => Fin.ext ?_)) (cut_apply (argB m c) _)
  match d with
  | ⟨0, _⟩ => show win0_2.index t 0 * 1 + 1 * 0 = 0; rw [e0]
  | ⟨1, _⟩ => show win0_2.index t 1 * 1024 + 1 * b.val = 1024 * (t.val / 8 - 1) + b.val; rw [e1]; omega

/-- A whole panel is a column block of the weights. -/
theorem panel_apply (c : Dev nD) (p : ℕ) (hp : p < 8) (k : Fin 4096) (b : Fin 1024) :
    (panel (staged m c) p : Vec Ideal S4096x1024 .bf16) (ix2 k b) = argW m c (ix3 0 k ⟨1024 * p + b.val, by omega⟩) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((pt (8 * p + k.val / 512)).val % 8) + k.val % 512 = k.val; omega
  | ⟨2, _⟩ => show 1024 * ((pt (8 * p + k.val / 512)).val / 8) + b.val = 1024 * p + b.val; omega

/-- The sum of a point's block is the dot product of the row and the column. -/
theorem sum_apply (c : Dev nD) (t : Fin cfg0.N) (h8 : 8 ≤ t.val) (hN : t.val < 72) (a b : Fin 1024)
    (x : FVec Ideal S1024x4096 .bf16) (p : FVec Ideal S4096x1024 .bf16)
    (hx : ∀ k, x (ix2 a k) = argX m c (ix2 ⟨1024 * (t.val % 8) + a.val, by omega⟩ k))
    (hp : ∀ k, p (ix2 k b) = argW m c (ix3 0 k ⟨1024 * (t.val / 8 - 1) + b.val, by omega⟩)) :
    (∑ k : Fin 4096, x (ix2 a k) * p (ix2 k b) : EReal)
      = dotAt (argX m c) (argW m c) ⟨1024 * (t.val % 8) + a.val, by omega⟩ ⟨1024 * (t.val / 8 - 1) + b.val, by omega⟩ := by
  unfold dotAt
  refine Finset.sum_congr rfl fun k _ => ?_
  rw [hx k, hp k]

/-- The output block of a point is a block of the result. -/
theorem outBlock_apply (c : Dev nD) (t : Fin cfg0.N) (h8 : 8 ≤ t.val) (a b : Fin 1024) :
    (outBlock m c t : Vec Ideal S1024x1024 .bf16) (ix2 a b)
      = resultOf m c (ix2 ⟨1024 * (t.val % 8) + a.val, by omega⟩
          ⟨1024 * (t.val / 8 - 1) + b.val, by have := lt_of_lt_of_eq t.isLt N_0; omega⟩) := by
  have hN : t.val < 72 := lt_of_lt_of_eq t.isLt N_0
  have hs := sum_apply m c t h8 hN a b (iblk m c 0 t) (panel (staged m c) (t.val / 8 - 1)) (x_block m c t h8 a) (fun k => panel_apply m c _ (by omega) k b)
  unfold outBlock
  refine (product_apply _ _ _ a b).trans ?_
  rw [hs, b_block m c t h8 hN b]
  rfl

/-! ## The final array -/

theorem flushed_out (c : Dev nD) (t : Fin cfg0.N) (hf : (cfg0.win 3).flush t = true) :
    (dats m 0 c).flushed 3 t = ((cfg0.win 3).blk t).view.read (Elt Ideal) (resultOf m c) := by
  have h8 := (flush_out t).mp hf
  obtain ⟨e0, e1⟩ := place_out t h8
  show (cfg0.win 3).cut (grid0.coords t) ((dats m 0 c).after 3 t) = _
  rw [after_3]
  funext y
  obtain ⟨a, b, rfl⟩ : ∃ a b : Fin 1024, y = ix2 a b := ⟨y 0, y 1, eq_ix2 y⟩
  rw [View.read_apply]
  refine (outBlock_apply m c t h8 a b).trans (congrArg (resultOf m c) (funext fun d => Fin.ext ?_))
  match d with
  | ⟨0, _⟩ => show 1024 * (t.val % 8) + a.val = win0_3.index t (0 : Fin 2) * 1024 + 1 * a.val; rw [e0]; omega
  | ⟨1, _⟩ => show 1024 * (t.val / 8 - 1) + b.val = win0_3.index t (1 : Fin 2) * 1024 + 1 * b.val; rw [e1]; omega

/-- An index is in a point's block where each coordinate is in the block's range. -/
theorem mem_block (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every index of the result is in a block some point writes back. -/
theorem cover_out (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_3.index ⟨_, ht⟩ (0 : Fin 2) * 1024 ≤ (i 0).val ∧ (i 0).val < win0_3.index ⟨_, ht⟩ (0 : Fin 2) * 1024 + 1024; omega
  | ⟨1, _⟩ => show win0_3.index ⟨_, ht⟩ (1 : Fin 2) * 1024 ≤ (i 1).val ∧ (i 1).val < win0_3.index ⟨_, ht⟩ (1 : Fin 2) * 1024 + 1024; omega

theorem final_out (c : Dev nD) : (dats m 0 c).arrAt 3 cfg0.N = resultOf m c :=
  (dats m 0 c).arrAt_eq_of_cover 3 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v3) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final_out m c), kept m r h c⟩)
    (run_main m ρ)

/-! ## The reference's result -/

theorem reference_out (x : FVec Ideal Cert.Reference5Ideal.S8192x4096 .bf16) (w : FVec Ideal Cert.Reference5Ideal.S2x4096x8192 .f32) (g : FVec Ideal Cert.Reference5Ideal.S2x8192 .f32) (h1 h2 h3 h4 h5 h6 h7 h8 h9) :
    (truncf (F := Ideal) .bf16 (Host.divf (broadcastInDim Cert.Reference5Ideal.S8192x8192 ![] h5 (constant Cert.Reference5Ideal.S_ .f32 0x3F800000#32))
      (addf (broadcastInDim Cert.Reference5Ideal.S8192x8192 ![] h5 (constant Cert.Reference5Ideal.S_ .f32 0x3F800000#32)) (Host.exp (Host.negf (addf
      (Host.dotGeneral Cert.Reference5Ideal.dot_S8192x4096_S4096x8192_S8192x8192_1_0_0_1_n_n none (extf .f32 x h1)
        (shapeCast Cert.Reference5Ideal.S4096x8192 (extractStridedSlice Cert.Reference5Ideal.S1x4096x8192 ![0, 0, 0] w h2) h3))
      (broadcastInDim Cert.Reference5Ideal.S8192x8192 ![0, 1] h4 (broadcastInDim Cert.Reference5Ideal.S1x8192 ![1] h6
        (shapeCast Cert.Reference5Ideal.S8192 (extractStridedSlice Cert.Reference5Ideal.S1x8192 ![0, 0] g h7) h8)))))))) h9 : FVec Ideal Cert.Reference5Ideal.S8192x8192 .bf16) = result x w g := by
  funext y
  obtain ⟨r, q, rfl⟩ : ∃ (r : Fin 8192) (q : Fin 8192), y = ix2 r q := ⟨y 0, y 1, eq_ix2 y⟩
  refine Eq.trans (b := (logistic ((∑ k : Fin 4096, x (ix2 r k) * w (ix3 0 k q)) + g (ix2 0 q)) : EReal)) ?_ rfl
  unfold logistic
  pointwise

/-! ## The frames, and the two results are one -/

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_same : Cert.quiescent_Kernel5 = FrameBits := by sl_kernel_rfl

theorem frame_kernel : Cert.quiescent_Kernel5 := by
  rw [frame_same]
  exact fun m ρ _ => frame_main m ρ

theorem frame_ideal : Cert.quiescent_Kernel5Ideal := fun m ρ _ => frame_main m ρ

theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem same_result : Cert.algebraic_Kernel5Ideal_Reference5Ideal := fun m ρ m' ρ' _ hargs =>
  ⟨fun c => resultOf m c, run_results m ρ,
    (θ_run Cert.Reference5Ideal.defs _ _).mono (fun _ h c =>
      ⟨(h c).1.trans ((reference_out _ _ _ _ _ _ _ _ _ _ _ _).trans (by rw [(hargs c).1, (hargs c).2.1, (hargs c).2.2])), (h c).2⟩)
      (Cert.Reference5Ideal.Value.run (F := Ideal) m' ρ')⟩

end Cert.Kernel5Ideal.Merge

end
-- ==== Proof.BrMBody.lean ====
/-
  THE BODY of the mLSTM branch's kernel, at any float values and on any staging buffers.  A point stages one slab of the
  weight's panel in one of two scratch panels, and (after the first panel) multiplies a block of rows by the whole of the
  other scratch panel, and finishes the product with its block of gates.
-/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel6Ideal.BrM

open Cert.Kernel6Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4096x1024 .bf16) (harg6 : arg6.IsWhole) (arg7 : Memref sig .tc .vmem S4096x1024 .bf16) (harg7 : arg7.IsWhole)
  (x0 : Vec F S1024x4096 .bf16) (x1 : Vec F S1x512x1024 .f32) (e0 : Vec F S1024x1024 .bf16)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg6 fullShare s0
        ∗ (iprop(owns (c : Thread nD τ) arg3 fullShare x1 ∗ owns (c : Thread nD τ) arg6 fullShare (putSlab s0 (i 1).val (k0_pay1 x1))) -∗ K ⟨⟩))
      ⊢ wp frame (wpE (defs₀ (F := F)) Variants.none c none) E (cc0_branch_m i arg2 harg2 arg3 harg3 arg4 harg4 arg5 harg5 arg6 harg6 arg7 harg7) K := by
  simp only [cc0_branch_m_eq_skeleton]; unfold cc0_branch_m_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg6.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg6.view _ _ _ _ (k0_off1_eq i), View.readAt_full]
  simp only [harg3.read_unread]
  rw [show arg6.view.read (Elt F) (arg6.view.writes (Elt F) (harg6.unread s0) []) = s0 from harg6.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare e0 ∗ owns (c : Thread nD τ) arg5 fullShare (k0_pay2 s1 x0 e0) ∗ owns (c : Thread nD τ) arg6 fullShare (putSlab s0 (i 1).val (k0_pay1 x1)) ∗ owns (c : Thread nD τ) arg7 fullShare s1) -∗ K ⟨⟩))
      ⊢ wp frame (wpE (defs₀ (F := F)) Variants.none c none) E (cc0_branch_m i arg2 harg2 arg3 harg3 arg4 harg4 arg5 harg5 arg6 harg6 arg7 harg7) K := by
  simp only [cc0_branch_m_eq_skeleton]; unfold cc0_branch_m_skel
  simp only [k0_part1_eq_skeleton]; unfold k0_part1_skel
  unfold owns
  iintro ⟨⟨%f0, %hf0, H0⟩, ⟨%f1, %hf1, H1⟩, ⟨%fe0, %hfe0, HE0⟩, ⟨%d3, %f3, -, H3⟩, ⟨%fs, %hfs, HS5⟩, ⟨%fu, %hfu, HS6⟩, Hk⟩
  obtain rfl := harg2.eq_unread hf0; obtain rfl := harg3.eq_unread hf1; obtain rfl := harg4.eq_unread hfe0
  obtain rfl := harg6.eq_unread hfs; obtain rfl := harg7.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [H3]
  · iexists _; isplitr
    swap; · iexact H3
    ipureintro
    rw [View.read_writes_full (s := S1024x1024), View.readAt_full (s := S4096x1024), View.readAt_full (s := S1024x4096), View.readAt_full (s := S1024x1024), harg2.read_unread, harg7.read_unread, harg4.read_unread]
    rfl
  isplitl [HS5]
  · iexists _; isplitr
    swap; · iexact HS5
    ipureintro
    rw [View.read_writes_cons_put (s := S4096x1024) arg6.view _ _ _ _ (k0_off2_eq i), View.readAt_full]
    simp only [harg3.read_unread]
    rw [show arg6.view.read (Elt F) (arg6.view.writes (Elt F) (harg6.unread s0) []) = s0 from harg6.read_unread _]
    rfl
  iexists _; isplitr; · ipureintro; exact harg7.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ (∃ d, owns (c : Thread nD τ) arg5 fullShare d) ∗ owns (c : Thread nD τ) arg7 fullShare s1 ∗ owns (c : Thread nD τ) arg6 fullShare s0
        ∗ (iprop(owns (c : Thread nD τ) arg2 fullShare x0 ∗ owns (c : Thread nD τ) arg3 fullShare x1 ∗ owns (c : Thread nD τ) arg4 fullShare e0 ∗ owns (c : Thread nD τ) arg5 fullShare (k0_pay2 s0 x0 e0) ∗ owns (c : Thread nD τ) arg7 fullShare (putSlab s1 (i 1).val (k0_pay1 x1)) ∗ owns (c : Thread nD τ) arg6 fullShare s0) -∗ K ⟨⟩))
      ⊢ wp frame (wpE (defs₀ (F := F)) Variants.none c none) E (cc0_branch_m i arg2 harg2 arg3 harg3 arg4 harg4 arg5 harg5 arg6 harg6 arg7 harg7) K := by
  simp only [cc0_branch_m_eq_skeleton]; unfold cc0_branch_m_skel
  simp only [k0_part1_eq_skeleton]; unfold k0_part1_skel
  unfold owns
  iintro ⟨⟨%f0, %hf0, H0⟩, ⟨%f1, %hf1, H1⟩, ⟨%fe0, %hfe0, HE0⟩, ⟨%d3, %f3, -, H3⟩, ⟨%fs, %hfs, HS6⟩, ⟨%fu, %hfu, HS5⟩, Hk⟩
  obtain rfl := harg2.eq_unread hf0; obtain rfl := harg3.eq_unread hf1; obtain rfl := harg4.eq_unread hfe0
  obtain rfl := harg7.eq_unread hfs; obtain rfl := harg6.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [H3]
  · iexists _; isplitr
    swap; · iexact H3
    ipureintro
    rw [View.read_writes_full (s := S1024x1024), View.readAt_full (s := S4096x1024), View.readAt_full (s := S1024x4096), View.readAt_full (s := S1024x1024), harg2.read_unread, harg6.read_unread, harg4.read_unread]
  isplitl [HS6]
  · iexists _; isplitr
    swap; · iexact HS6
    ipureintro
    rw [View.read_writes_cons_put (s := S4096x1024) arg7.view _ _ _ _ (k0_off3_eq i), View.readAt_full]
    simp only [harg3.read_unread]
    rw [show arg7.view.read (Elt F) (arg7.view.writes (Elt F) (harg7.unread s1) []) = s1 from harg7.read_unread _]
    rfl
  iexists _; isplitr; · ipureintro; exact harg6.read_unread _
  iexact HS5

end Runs

end Cert.Kernel6Ideal.BrM

end
-- ==== Proof.BrMRun.lean ====
/-
  THE RUN of the mLSTM branch's kernel at any float values: the grid is run.  What is carried from point to point is what is known of the two scratch panels (Proof/Panel.lean), so each output block has a
  closed form (`outBlock`).  The launch set-up around it follows the generated text of the other programs.
-/
module

public import proofs.«01_k».proof.Proof.BrMBody
public import Idealize.ShloMosaic.Lib.Claim

@[expose] public section

set_option maxRecDepth 16384

noncomputable section

namespace Cert.Kernel6Ideal.BrM

open Cert.Kernel6Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: as launched, the program being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 40, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t) (iblk m c 2 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 3 (grid0.coords t) = true :=
  (by decide +kernel : ∀ t : Fin grid0.N, t.val < 8 → idle0 3 (grid0.coords t) = true)
theorem noFlush_first : ∀ t : Fin cfg0.N, t.val < 8 → (cfg0.win 3).flush t = false :=
  (by decide +kernel : ∀ t : Fin grid0.N, t.val < 8 → win0_3.flush t = false)
theorem live_out : ∀ t : Fin cfg0.N, 8 ≤ t.val → cfg0.idle 3 (grid0.coords t) = false :=
  (by decide +kernel : ∀ t : Fin grid0.N, 8 ≤ t.val → idle0 3 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, leaves_live m c 2 t rfl, after_0, after_1, after_2]
  unfold Carried
  have hi := inner_val t
  have hs := staged_at m c t
  by_cases h8 : t.val < 8
  · rw [Dat.leavesExact_idle (dats m 0 c) 3 t (idle_first t h8) (noFlush_first t h8)]
    iintro ⟨⟨%s0, %s1, %hk, HS0, HS1, Hg⟩, Ho, ⟨%d0, H0⟩, ⟨%d1, H1⟩, ⟨%de0, HE0⟩, ⟨%d2, H2⟩⟩
    iapply (run_first c (grid0.coords t) _ _ _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    isplitl [HE0]; · iexact HE0
    iexists _; iexact H2
  · rw [leaves_live m c 3 t (live_out t (by omega)), after_3]
    unfold outBlock
    by_cases he : t.val / 8 % 2 = 0
    · iintro ⟨⟨%s0, %s1, %hk, HS0, HS1, Hg⟩, Ho, ⟨%d0, H0⟩, ⟨%d1, H1⟩, ⟨%de0, HE0⟩, ⟨%d2, H2⟩⟩
      rw [← (panel_at _ t.val s0 s1 hk (by omega)).1 he]
      iapply (run_even c (grid0.coords t) _ _ _ _ _ _ _ _ _ _ _ _ (iblk m c 0 t) (iblk m c 1 t) (iblk m c 2 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [HE0]; · iexact HE0
      isplitl [H2]; · iexists _; iexact H2
      isplitl [HS0]; · iexact HS0
      isplitl [HS1]; · iexact HS1
      iintro ⟨H0, H1, HE0, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      isplitl [HE0]; · iexact HE0
      iexact H2
    · have ho : t.val / 8 % 2 = 1 := by omega
      iintro ⟨⟨%s0, %s1, %hk, HS0, HS1, Hg⟩, Ho, ⟨%d0, H0⟩, ⟨%d1, H1⟩, ⟨%de0, HE0⟩, ⟨%d2, H2⟩⟩
      rw [← (panel_at _ t.val s0 s1 hk (by omega)).2 ho]
      iapply (run_odd c (grid0.coords t) _ _ _ _ _ _ _ _ _ _ _ _ (iblk m c 0 t) (iblk m c 1 t) (iblk m c 2 t) s0 s1
        (fun h => by have := (cond1_iff t).mp h; omega) (fun h => by have := (cond2_iff t).mp h; omega) ((cond3_iff t).mpr ho) Set.univ _)
      isplitl [H0]; · iexact H0
      isplitl [H1]; · iexact H1
      isplitl [HE0]; · iexact HE0
      isplitl [H2]; · iexists _; iexact H2
      isplitl [HS1]; · iexact HS1
      isplitl [HS0]; · iexact HS0
      iintro ⟨H0, H1, HE0, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      isplitl [HE0]; · iexact HE0
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (run_main_quiescent m ρ)

end Cert.Kernel6Ideal.BrM

end
-- ==== Proof.BrMValue.lean ====
/-
  THE VALUE of the mLSTM branch's kernel over exact values, and its reference's: entry (r, q) of the result is g(r, q) times
  the sum over k of h(r, k) · w_branch_m(0, k, q).
-/
module

public import proofs.«01_k».proof.Defs
public import proofs.«01_k».proof.Proof.Gen.Kernel6
public import proofs.«01_k».proof.Proof.BrMRun
public import proofs.«01_k».proof.Proof.Gen.Reference6Ideal.Run
public import Idealize.ShloMosaic.PureOps.Ideal
public import Idealize.ShloMosaic.Lib.Pipeline.Value
public import Idealize.ShloMosaic.Lib.IdealHost
public import Idealize.ShloMosaic.Lib.Quiescent
public import Idealize.ShloMosaic.Lib.Tactic

@[expose] public section

set_option maxRecDepth 16384

noncomputable section

namespace Cert.Kernel6Ideal.BrM

open Cert.Kernel6Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

theorem product_apply (p : FVec Ideal S4096x1024 .bf16) (x : FVec Ideal S1024x4096 .bf16) (g : FVec Ideal S1024x1024 .bf16) (a b : Fin 1024) :
    (k0_pay2 p x g : FVec Ideal S1024x1024 .bf16) (ix2 a b) = (g (ix2 a b) * (∑ k : Fin 4096, x (ix2 a k) * p (ix2 k b)) : EReal) := by
  pointwise [k0_pay2]

/-! ## The result -/

/-- The row of `x` times the column of the first layer's weights. -/
def dotAt (x : Vec Ideal S8192x4096 .bf16) (w : Vec Ideal S2x4096x4096 .f32) (r : Fin 8192) (q : Fin 4096) : EReal :=
  ∑ k : Fin 4096, x (ix2 r k) * w (ix3 0 k q)

/-- The result. -/
def result (x : Vec Ideal S8192x4096 .bf16) (w : Vec Ideal S2x4096x4096 .f32) (g : Vec Ideal S8192x8192 .bf16) : Vec Ideal S8192x4096 .bf16 :=
  fun y => (g (ix2 (y 0) ⟨(y 1).val, lt_trans (y 1).isLt (by decide : 4096 < 8192)⟩) * dotAt x w (y 0) (y 1) : EReal)

/-- The arguments of core `c`. -/
abbrev argX (c : Dev nD) : Vec Ideal S8192x4096 .bf16 := m ((c : Thread nD τ).loc main_arg0)
abbrev argW (c : Dev nD) : Vec Ideal S2x4096x4096 .f32 := m ((c : Thread nD τ).loc main_arg1)
abbrev argG (c : Dev nD) : Vec Ideal S8192x8192 .bf16 := m ((c : Thread nD τ).loc main_arg2)

/-- The result of core `c`'s arguments. -/
abbrev resultOf (c : Dev nD) : Vec Ideal S8192x4096 .bf16 := result (argX m c) (argW m c) (argG m c)

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 32 → win0_1.index t (0 : Fin 3) = 0 ∧ win0_1.index t (1 : Fin 3) = t.val % 8 ∧ win0_1.index t (2 : Fin 3) = t.val / 8 :=
  (by decide +kernel : ∀ t : Fin grid0.N, _)
theorem place_g : ∀ t : Fin cfg0.N, 8 ≤ t.val → win0_2.index t (0 : Fin 2) = t.val % 8 ∧ win0_2.index t (1 : Fin 2) = t.val / 8 - 1 :=
  (by decide +kernel : ∀ t : Fin grid0.N, _)
theorem place_out : ∀ t : Fin cfg0.N, 8 ≤ t.val → win0_3.index t (0 : Fin 2) = t.val % 8 ∧ win0_3.index t (1 : Fin 2) = t.val / 8 - 1 :=
  (by decide +kernel : ∀ t : Fin grid0.N, _)
theorem flush_out : ∀ t : Fin cfg0.N, (cfg0.win 3).flush t = true ↔ 8 ≤ t.val :=
  (by decide +kernel : ∀ t : Fin grid0.N, win0_3.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 32) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  unfold V
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

theorem g_block (c : Dev nD) (t : Fin cfg0.N) (h8 : 8 ≤ t.val) (hN : t.val < 40) (a b : Fin 1024) :
    (iblk m c 2 t : Vec Ideal S1024x1024 .bf16) (ix2 a b)
      = argG m c (ix2 ⟨1024 * (t.val % 8) + a.val, by omega⟩ ⟨(1024 * (t.val / 8 - 1) + b.val), by omega⟩) := by
  obtain ⟨e0, e1⟩ := place_g t h8
  unfold iblk
  rw [View.read_apply]
  show V m c main_arg2 _ = m (c.tc.loc main_arg2) _
  unfold V
  congr 1
  funext d
  apply Fin.ext
  match d with
  | ⟨0, _⟩ => show win0_2.index t 0 * 1024 + 1 * a.val = 1024 * (t.val % 8) + a.val; rw [e0]; omega
  | ⟨1, _⟩ => show win0_2.index t 1 * 1024 + 1 * b.val = 1024 * (t.val / 8 - 1) + b.val; rw [e1]; omega

/-- A whole panel is a column block of the weights. -/
theorem panel_apply (c : Dev nD) (p : ℕ) (hp : p < 4) (k : Fin 4096) (b : Fin 1024) :
    (panel (staged m c) p : Vec Ideal S4096x1024 .bf16) (ix2 k b) = argW m c (ix3 0 k ⟨1024 * p + b.val, by omega⟩) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((pt (8 * p + k.val / 512)).val % 8) + k.val % 512 = k.val; omega
  | ⟨2, _⟩ => show 1024 * ((pt (8 * p + k.val / 512)).val / 8) + b.val = 1024 * p + b.val; omega

/-- The sum of a point's block is the dot product of the row and the column. -/
theorem sum_apply (c : Dev nD) (t : Fin cfg0.N) (h8 : 8 ≤ t.val) (hN : t.val < 40) (a b : Fin 1024)
    (x : FVec Ideal S1024x4096 .bf16) (p : FVec Ideal S4096x1024 .bf16)
    (hx : ∀ k, x (ix2 a k) = argX m c (ix2 ⟨1024 * (t.val % 8) + a.val, by omega⟩ k))
    (hp : ∀ k, p (ix2 k b) = argW m c (ix3 0 k ⟨1024 * (t.val / 8 - 1) + b.val, by omega⟩)) :
    (∑ k : Fin 4096, x (ix2 a k) * p (ix2 k b) : EReal)
      = dotAt (argX m c) (argW m c) ⟨1024 * (t.val % 8) + a.val, by omega⟩ ⟨1024 * (t.val / 8 - 1) + b.val, by omega⟩ := by
  unfold dotAt
  refine Finset.sum_congr rfl fun k _ => ?_
  rw [hx k, hp k]

/-- The output block of a point is a block of the result. -/
theorem outBlock_apply (c : Dev nD) (t : Fin cfg0.N) (h8 : 8 ≤ t.val) (a b : Fin 1024) :
    (outBlock m c t : Vec Ideal S1024x1024 .bf16) (ix2 a b)
      = resultOf m c (ix2 ⟨1024 * (t.val % 8) + a.val, by omega⟩
          ⟨1024 * (t.val / 8 - 1) + b.val, by have := lt_of_lt_of_eq t.isLt N_0; omega⟩) := by
  have hN : t.val < 40 := lt_of_lt_of_eq t.isLt N_0
  have hs := sum_apply m c t h8 hN a b (iblk m c 0 t) (panel (staged m c) (t.val / 8 - 1)) (x_block m c t h8 a) (fun k => panel_apply m c _ (by omega) k b)
  unfold outBlock
  refine (product_apply _ _ _ a b).trans ?_
  rw [hs, g_block m c t h8 hN a b]
  rfl

/-! ## The final array -/

theorem flushed_out (c : Dev nD) (t : Fin cfg0.N) (hf : (cfg0.win 3).flush t = true) :
    (dats m 0 c).flushed 3 t = ((cfg0.win 3).blk t).view.read (Elt Ideal) (resultOf m c) := by
  have h8 := (flush_out t).mp hf
  obtain ⟨e0, e1⟩ := place_out t h8
  show (cfg0.win 3).cut (grid0.coords t) ((dats m 0 c).after 3 t) = _
  rw [after_3]
  funext y
  obtain ⟨a, b, rfl⟩ : ∃ a b : Fin 1024, y = ix2 a b := ⟨y 0, y 1, eq_ix2 y⟩
  rw [View.read_apply]
  refine (outBlock_apply m c t h8 a b).trans (congrArg (resultOf m c) (funext fun d => Fin.ext ?_))
  match d with
  | ⟨0, _⟩ => show 1024 * (t.val % 8) + a.val = win0_3.index t (0 : Fin 2) * 1024 + 1 * a.val; rw [e0]; omega
  | ⟨1, _⟩ => show 1024 * (t.val / 8 - 1) + b.val = win0_3.index t (1 : Fin 2) * 1024 + 1 * b.val; rw [e1]; omega

/-- An index is in a point's block where each coordinate is in the block's range. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the result is in a block some point writes back. -/
theorem cover_out (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_3.index ⟨_, ht⟩ (0 : Fin 2) * 1024 ≤ (i 0).val ∧ (i 0).val < win0_3.index ⟨_, ht⟩ (0 : Fin 2) * 1024 + 1024; omega
  | ⟨1, _⟩ => show win0_3.index ⟨_, ht⟩ (1 : Fin 2) * 1024 ≤ (i 1).val ∧ (i 1).val < win0_3.index ⟨_, ht⟩ (1 : Fin 2) * 1024 + 1024; omega

theorem final_out (c : Dev nD) : (dats m 0 c).arrAt 3 cfg0.N = resultOf m c :=
  (dats m 0 c).arrAt_eq_of_cover 3 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final_out m c), kept m r h c⟩)
    (run_main m ρ)

/-! ## The reference's result -/

theorem reference_out (x : FVec Ideal Cert.Reference6Ideal.S8192x4096 .bf16) (w : FVec Ideal Cert.Reference6Ideal.S2x4096x4096 .f32) (g : FVec Ideal Cert.Reference6Ideal.S8192x8192 .bf16) (h1 h2 h3 h4 h5 h6) :
    (truncf (F := Ideal) .bf16 (mulf (extractStridedSlice Cert.Reference6Ideal.S8192x4096 ![0, 0] (extf .f32 g h4) h5)
      (Host.dotGeneral Cert.Reference6Ideal.dot_S8192x4096_S4096x4096_S8192x4096_1_0_0_1_n_n none (extf .f32 x h1)
        (shapeCast Cert.Reference6Ideal.S4096x4096 (extractStridedSlice Cert.Reference6Ideal.S1x4096x4096 ![0, 0, 0] w h2) h3))) h6 : FVec Ideal Cert.Reference6Ideal.S8192x4096 .bf16) = result x w g := by
  funext y
  obtain ⟨r, q, rfl⟩ : ∃ (r : Fin 8192) (q : Fin 4096), y = ix2 r q := ⟨y 0, y 1, eq_ix2 y⟩
  refine Eq.trans (b := (g (ix2 r ⟨q.val, by omega⟩) * (∑ k : Fin 4096, x (ix2 r k) * w (ix3 0 k q)) : EReal)) ?_ rfl
  pointwise

/-! ## The frames, and the two results are one -/

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_same : Cert.quiescent_Kernel6 = FrameBits := by sl_kernel_rfl

theorem frame_kernel : Cert.quiescent_Kernel6 := by
  rw [frame_same]
  exact fun m ρ _ => frame_main m ρ

theorem frame_ideal : Cert.quiescent_Kernel6Ideal := fun m ρ _ => frame_main m ρ

theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem same_result : Cert.algebraic_Kernel6Ideal_Reference6Ideal := fun m ρ m' ρ' _ hargs =>
  ⟨fun c => resultOf m c, run_results m ρ,
    (θ_run Cert.Reference6Ideal.defs _ _).mono (fun _ h c =>
      ⟨(h c).1.trans ((reference_out _ _ _ _ _ _ _ _ _).trans (by rw [(hargs c).1, (hargs c).2.1, (hargs c).2.2])), (h c).2⟩)
      (Cert.Reference6Ideal.Value.run (F := Ideal) m' ρ')⟩

end Cert.Kernel6Ideal.BrM

end
-- ==== Proof.BrFBody.lean ====
/-
  THE BODY of the Fourier branch's kernel, at any float values and on any staging buffers.  A point stages one slab of the
  weight's panel in one of two scratch panels, and (after the first panel) multiplies a block of rows by the whole of the
  other scratch panel, and finishes the product with its blocks of gates and of the other branch.
-/
module

public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel7Ideal.BrF

open Cert.Kernel7Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S4096x1024 .bf16) (harg7 : arg7.IsWhole) (arg8 : Memref sig .tc .vmem S4096x1024 .bf16) (harg8 : arg8.IsWhole)
  (x0 : Vec F S1024x4096 .bf16) (x1 : Vec F S1x512x1024 .f32) (e0 : Vec F S1024x1024 .bf16) (e1 : Vec F S1024x1024 .bf16)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg7 fullShare s0
        ∗ (iprop(owns (c : Thread nD τ) arg3 fullShare x1 ∗ owns (c : Thread nD τ) arg7 fullShare (putSlab s0 (i 1).val (k0_pay1 x1))) -∗ K ⟨⟩))
      ⊢ wp frame (wpE (defs₀ (F := F)) Variants.none c none) E (cc0_branch_f i arg2 harg2 arg3 harg3 arg4 harg4 arg5 harg5 arg6 harg6 arg7 harg7 arg8 harg8) K := by
  simp only [cc0_branch_f_eq_skeleton]; unfold cc0_branch_f_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg7.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg7.view _ _ _ _ (k0_off1_eq i), View.readAt_full]
  simp only [harg3.read_unread]
  rw [show arg7.view.read (Elt F) (arg7.view.writes (Elt F) (harg7.unread s0) []) = s0 from harg7.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ owns (c : Thread nD τ) arg5 fullShare e1 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare e0 ∗ owns (c : Thread nD τ) arg5 fullShare e1 ∗ owns (c : Thread nD τ) arg6 fullShare (k0_pay2 s1 x0 e0 e1) ∗ owns (c : Thread nD τ) arg7 fullShare (putSlab s0 (i 1).val (k0_pay1 x1)) ∗ owns (c : Thread nD τ) arg8 fullShare s1) -∗ K ⟨⟩))
      ⊢ wp frame (wpE (defs₀ (F := F)) Variants.none c none) E (cc0_branch_f i arg2 harg2 arg3 harg3 arg4 harg4 arg5 harg5 arg6 harg6 arg7 harg7 arg8 harg8) K := by
  simp only [cc0_branch_f_eq_skeleton]; unfold cc0_branch_f_skel
  simp only [k0_part1_eq_skeleton]; unfold k0_part1_skel
  unfold owns
  iintro ⟨⟨%f0, %hf0, H0⟩, ⟨%f1, %hf1, H1⟩, ⟨%fe0, %hfe0, HE0⟩, ⟨%fe1, %hfe1, HE1⟩, ⟨%d3, %f3, -, H3⟩, ⟨%fs, %hfs, HS5⟩, ⟨%fu, %hfu, HS6⟩, Hk⟩
  obtain rfl := harg2.eq_unread hf0; obtain rfl := harg3.eq_unread hf1; obtain rfl := harg4.eq_unread hfe0; obtain rfl := harg5.eq_unread hfe1
  obtain rfl := harg7.eq_unread hfs; obtain rfl := harg8.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [HE1]
  · iexists _; isplitr; · ipureintro; exact harg5.read_unread _
    iexact HE1
  isplitl [H3]
  · iexists _; isplitr
    swap; · iexact H3
    ipureintro
    rw [View.read_writes_full (s := S1024x1024), View.readAt_full (s := S4096x1024), View.readAt_full (s := S1024x4096), View.readAt_full (s := S1024x1024), View.readAt_full (s := S1024x1024), harg2.read_unread, harg8.read_unread, harg4.read_unread, harg5.read_unread]
    rfl
  isplitl [HS5]
  · iexists _; isplitr
    swap; · iexact HS5
    ipureintro
    rw [View.read_writes_cons_put (s := S4096x1024) arg7.view _ _ _ _ (k0_off2_eq i), View.readAt_full]
    simp only [harg3.read_unread]
    rw [show arg7.view.read (Elt F) (arg7.view.writes (Elt F) (harg7.unread s0) []) = s0 from harg7.read_unread _]
    rfl
  iexists _; isplitr; · ipureintro; exact harg8.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ owns (c : Thread nD τ) arg5 fullShare e1 ∗ (∃ d, owns (c : Thread nD τ) arg6 fullShare d) ∗ owns (c : Thread nD τ) arg8 fullShare s1 ∗ owns (c : Thread nD τ) arg7 fullShare s0
        ∗ (iprop(owns (c : Thread nD τ) arg2 fullShare x0 ∗ owns (c : Thread nD τ) arg3 fullShare x1 ∗ owns (c : Thread nD τ) arg4 fullShare e0 ∗ owns (c : Thread nD τ) arg5 fullShare e1 ∗ owns (c : Thread nD τ) arg6 fullShare (k0_pay2 s0 x0 e0 e1) ∗ owns (c : Thread nD τ) arg8 fullShare (putSlab s1 (i 1).val (k0_pay1 x1)) ∗ owns (c : Thread nD τ) arg7 fullShare s0) -∗ K ⟨⟩))
      ⊢ wp frame (wpE (defs₀ (F := F)) Variants.none c none) E (cc0_branch_f i arg2 harg2 arg3 harg3 arg4 harg4 arg5 harg5 arg6 harg6 arg7 harg7 arg8 harg8) K := by
  simp only [cc0_branch_f_eq_skeleton]; unfold cc0_branch_f_skel
  simp only [k0_part1_eq_skeleton]; unfold k0_part1_skel
  unfold owns
  iintro ⟨⟨%f0, %hf0, H0⟩, ⟨%f1, %hf1, H1⟩, ⟨%fe0, %hfe0, HE0⟩, ⟨%fe1, %hfe1, HE1⟩, ⟨%d3, %f3, -, H3⟩, ⟨%fs, %hfs, HS6⟩, ⟨%fu, %hfu, HS5⟩, Hk⟩
  obtain rfl := harg2.eq_unread hf0; obtain rfl := harg3.eq_unread hf1; obtain rfl := harg4.eq_unread hfe0; obtain rfl := harg5.eq_unread hfe1
  obtain rfl := harg8.eq_unread hfs; obtain rfl := harg7.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [HE1]
  · iexists _; isplitr; · ipureintro; exact harg5.read_unread _
    iexact HE1
  isplitl [H3]
  · iexists _; isplitr
    swap; · iexact H3
    ipureintro
    rw [View.read_writes_full (s := S1024x1024), View.readAt_full (s := S4096x1024), View.readAt_full (s := S1024x4096), View.readAt_full (s := S1024x1024), View.readAt_full (s := S1024x1024), harg2.read_unread, harg7.read_unread, harg4.read_unread, harg5.read_unread]
  isplitl [HS6]
  · iexists _; isplitr
    swap; · iexact HS6
    ipureintro
    rw [View.read_writes_cons_put (s := S4096x1024) arg8.view _ _ _ _ (k0_off3_eq i), View.readAt_full]
    simp only [harg3.read_unread]
    rw [show arg8.view.read (Elt F) (arg8.view.writes (Elt F) (harg8.unread s1) []) = s1 from harg8.read_unread _]
    rfl
  iexists _; isplitr; · ipureintro; exact harg7.read_unread _
  iexact HS5

end Runs

end Cert.Kernel7Ideal.BrF

end
-- ==== Proof.BrFRun.lean ====
/-
  THE RUN of the Fourier branch's kernel at any float values: the grid is run.  What is carried from point to point is what is known of the two scratch panels (Proof/Panel.lean), so each output block has a
  closed form (`outBlock`).  The launch set-up around it follows the generated text of the other programs.
-/
module

public import proofs.«01_k».proof.Proof.BrFBody
public import Idealize.ShloMosaic.Lib.Claim

@[expose] public section

set_option maxRecDepth 16384

noncomputable section

namespace Cert.Kernel7Ideal.BrF

open Cert.Kernel7Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: as launched, the program being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 40, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t) (iblk m c 2 t) (iblk m c 3 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 4 (grid0.coords t) = true :=
  (by decide +kernel : ∀ t : Fin grid0.N, t.val < 8 → idle0 4 (grid0.coords t) = true)
theorem noFlush_first : ∀ t : Fin cfg0.N, t.val < 8 → (cfg0.win 4).flush t = false :=
  (by decide +kernel : ∀ t : Fin grid0.N, t.val < 8 → win0_4.flush t = false)
theorem live_out : ∀ t : Fin cfg0.N, 8 ≤ t.val → cfg0.idle 4 (grid0.coords t) = false :=
  (by decide +kernel : ∀ t : Fin grid0.N, 8 ≤ t.val → idle0 4 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, leaves_live m c 2 t rfl, leaves_live m c 3 t rfl, after_0, after_1, after_2, after_3]
  unfold Carried
  have hi := inner_val t
  have hs := staged_at m c t
  by_cases h8 : t.val < 8
  · rw [Dat.leavesExact_idle (dats m 0 c) 4 t (idle_first t h8) (noFlush_first t h8)]
    iintro ⟨⟨%s0, %s1, %hk, HS0, HS1, Hg⟩, Ho, ⟨%d0, H0⟩, ⟨%d1, H1⟩, ⟨%de0, HE0⟩, ⟨%de1, HE1⟩, ⟨%d2, H2⟩⟩
    iapply (run_first c (grid0.coords t) _ _ _ _ _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    isplitl [HE0]; · iexact HE0
    isplitl [HE1]; · iexact HE1
    iexists _; iexact H2
  · rw [leaves_live m c 4 t (live_out t (by omega)), after_4]
    unfold outBlock
    by_cases he : t.val / 8 % 2 = 0
    · iintro ⟨⟨%s0, %s1, %hk, HS0, HS1, Hg⟩, Ho, ⟨%d0, H0⟩, ⟨%d1, H1⟩, ⟨%de0, HE0⟩, ⟨%de1, HE1⟩, ⟨%d2, H2⟩⟩
      rw [← (panel_at _ t.val s0 s1 hk (by omega)).1 he]
      iapply (run_even c (grid0.coords t) _ _ _ _ _ _ _ _ _ _ _ _ _ _ (iblk m c 0 t) (iblk m c 1 t) (iblk m c 2 t) (iblk m c 3 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [HE0]; · iexact HE0
      isplitl [HE1]; · iexact HE1
      isplitl [H2]; · iexists _; iexact H2
      isplitl [HS0]; · iexact HS0
      isplitl [HS1]; · iexact HS1
      iintro ⟨H0, H1, HE0, HE1, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      isplitl [HE0]; · iexact HE0
      isplitl [HE1]; · iexact HE1
      iexact H2
    · have ho : t.val / 8 % 2 = 1 := by omega
      iintro ⟨⟨%s0, %s1, %hk, HS0, HS1, Hg⟩, Ho, ⟨%d0, H0⟩, ⟨%d1, H1⟩, ⟨%de0, HE0⟩, ⟨%de1, HE1⟩, ⟨%d2, H2⟩⟩
      rw [← (panel_at _ t.val s0 s1 hk (by omega)).2 ho]
      iapply (run_odd c (grid0.coords t) _ _ _ _ _ _ _ _ _ _ _ _ _ _ (iblk m c 0 t) (iblk m c 1 t) (iblk m c 2 t) (iblk m c 3 t) s0 s1
        (fun h => by have := (cond1_iff t).mp h; omega) (fun h => by have := (cond2_iff t).mp h; omega) ((cond3_iff t).mpr ho) Set.univ _)
      isplitl [H0]; · iexact H0
      isplitl [H1]; · iexact H1
      isplitl [HE0]; · iexact HE0
      isplitl [HE1]; · iexact HE1
      isplitl [H2]; · iexists _; iexact H2
      isplitl [HS1]; · iexact HS1
      isplitl [HS0]; · iexact HS0
      iintro ⟨H0, H1, HE0, HE1, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      isplitl [HE0]; · iexact HE0
      isplitl [HE1]; · iexact HE1
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m r h.1, h.2⟩) (run_main_quiescent m ρ)

end Cert.Kernel7Ideal.BrF

end
-- ==== Proof.BrFValue.lean ====
/-
  THE VALUE of the Fourier branch's kernel over exact values, and its reference's: entry (r, q) of the result is g(r, 4096 + q)
  times the sum over k of z(r, k) · w_branch_f(0, k, q), plus the other branch's entry.
-/
module

public import proofs.«01_k».proof.Defs
public import proofs.«01_k».proof.Proof.Gen.Kernel7
public import proofs.«01_k».proof.Proof.BrFRun
public import proofs.«01_k».proof.Proof.Gen.Reference7Ideal.Run
public import Idealize.ShloMosaic.PureOps.Ideal
public import Idealize.ShloMosaic.Lib.Pipeline.Value
public import Idealize.ShloMosaic.Lib.IdealHost
public import Idealize.ShloMosaic.Lib.Quiescent
public import Idealize.ShloMosaic.Lib.Tactic

@[expose] public section

set_option maxRecDepth 16384

noncomputable section

namespace Cert.Kernel7Ideal.BrF

open Cert.Kernel7Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

theorem product_apply (p : FVec Ideal S4096x1024 .bf16) (x : FVec Ideal S1024x4096 .bf16) (g u : FVec Ideal S1024x1024 .bf16) (a b : Fin 1024) :
    (k0_pay2 p x g u : FVec Ideal S1024x1024 .bf16) (ix2 a b) = (g (ix2 a b) * (∑ k : Fin 4096, x (ix2 a k) * p (ix2 k b)) + u (ix2 a b) : EReal) := by
  pointwise [k0_pay2]

/-! ## The result -/

/-- The row of `x` times the column of the first layer's weights. -/
def dotAt (x : Vec Ideal S8192x4096 .bf16) (w : Vec Ideal S2x4096x4096 .f32) (r : Fin 8192) (q : Fin 4096) : EReal :=
  ∑ k : Fin 4096, x (ix2 r k) * w (ix3 0 k q)

/-- The result. -/
def result (x : Vec Ideal S8192x4096 .bf16) (w : Vec Ideal S2x4096x4096 .f32) (g : Vec Ideal S8192x8192 .bf16) (u : Vec Ideal S8192x4096 .bf16) : Vec Ideal S8192x4096 .bf16 :=
  fun y => (g (ix2 (y 0) ⟨4096 + (y 1).val, Nat.add_lt_add_left (y 1).isLt 4096⟩) * dotAt x w (y 0) (y 1) + u (ix2 (y 0) (y 1)) : EReal)

/-- The arguments of core `c`. -/
abbrev argX (c : Dev nD) : Vec Ideal S8192x4096 .bf16 := m ((c : Thread nD τ).loc main_arg0)
abbrev argW (c : Dev nD) : Vec Ideal S2x4096x4096 .f32 := m ((c : Thread nD τ).loc main_arg1)
abbrev argG (c : Dev nD) : Vec Ideal S8192x8192 .bf16 := m ((c : Thread nD τ).loc main_arg2)
abbrev argU (c : Dev nD) : Vec Ideal S8192x4096 .bf16 := m ((c : Thread nD τ).loc main_arg3)

/-- The result of core `c`'s arguments. -/
abbrev resultOf (c : Dev nD) : Vec Ideal S8192x4096 .bf16 := result (argX m c) (argW m c) (argG m c) (argU m c)

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 32 → win0_1.index t (0 : Fin 3) = 0 ∧ win0_1.index t (1 : Fin 3) = t.val % 8 ∧ win0_1.index t (2 : Fin 3) = t.val / 8 :=
  (by decide +kernel : ∀ t : Fin grid0.N, _)
theorem place_g : ∀ t : Fin cfg0.N, 8 ≤ t.val → win0_2.index t (0 : Fin 2) = t.val % 8 ∧ win0_2.index t (1 : Fin 2) = 4 + (t.val / 8 - 1) :=
  (by decide +kernel : ∀ t : Fin grid0.N, _)
theorem place_u : ∀ t : Fin cfg0.N, 8 ≤ t.val → win0_3.index t (0 : Fin 2) = t.val % 8 ∧ win0_3.index t (1 : Fin 2) = t.val / 8 - 1 :=
  (by decide +kernel : ∀ t : Fin grid0.N, _)
theorem place_out : ∀ t : Fin cfg0.N, 8 ≤ t.val → win0_4.index t (0 : Fin 2) = t.val % 8 ∧ win0_4.index t (1 : Fin 2) = t.val / 8 - 1 :=
  (by decide +kernel : ∀ t : Fin grid0.N, _)
theorem flush_out : ∀ t : Fin cfg0.N, (cfg0.win 4).flush t = true ↔ 8 ≤ t.val :=
  (by decide +kernel : ∀ t : Fin grid0.N, win0_4.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 32) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  unfold V
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

theorem g_block (c : Dev nD) (t : Fin cfg0.N) (h8 : 8 ≤ t.val) (hN : t.val < 40) (a b : Fin 1024) :
    (iblk m c 2 t : Vec Ideal S1024x1024 .bf16) (ix2 a b)
      = argG m c (ix2 ⟨1024 * (t.val % 8) + a.val, by omega⟩ ⟨4096 + (1024 * (t.val / 8 - 1) + b.val), by omega⟩) := by
  obtain ⟨e0, e1⟩ := place_g t h8
  unfold iblk
  rw [View.read_apply]
  show V m c main_arg2 _ = m (c.tc.loc main_arg2) _
  unfold V
  congr 1
  funext d
  apply Fin.ext
  match d with
  | ⟨0, _⟩ => show win0_2.index t 0 * 1024 + 1 * a.val = 1024 * (t.val % 8) + a.val; rw [e0]; omega
  | ⟨1, _⟩ => show win0_2.index t 1 * 1024 + 1 * b.val = 4096 + (1024 * (t.val / 8 - 1) + b.val); rw [e1]; omega

theorem u_block (c : Dev nD) (t : Fin cfg0.N) (h8 : 8 ≤ t.val) (hN : t.val < 40) (a b : Fin 1024) :
    (iblk m c 3 t : Vec Ideal S1024x1024 .bf16) (ix2 a b)
      = argU m c (ix2 ⟨1024 * (t.val % 8) + a.val, by omega⟩ ⟨(1024 * (t.val / 8 - 1) + b.val), by omega⟩) := by
  obtain ⟨e0, e1⟩ := place_u t h8
  unfold iblk
  rw [View.read_apply]
  show V m c main_arg3 _ = m (c.tc.loc main_arg3) _
  unfold V
  congr 1
  funext d
  apply Fin.ext
  match d with
  | ⟨0, _⟩ => show win0_3.index t 0 * 1024 + 1 * a.val = 1024 * (t.val % 8) + a.val; rw [e0]; omega
  | ⟨1, _⟩ => show win0_3.index t 1 * 1024 + 1 * b.val = 1024 * (t.val / 8 - 1) + b.val; rw [e1]; omega

/-- A whole panel is a column block of the weights. -/
theorem panel_apply (c : Dev nD) (p : ℕ) (hp : p < 4) (k : Fin 4096) (b : Fin 1024) :
    (panel (staged m c) p : Vec Ideal S4096x1024 .bf16) (ix2 k b) = argW m c (ix3 0 k ⟨1024 * p + b.val, by omega⟩) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((pt (8 * p + k.val / 512)).val % 8) + k.val % 512 = k.val; omega
  | ⟨2, _⟩ => show 1024 * ((pt (8 * p + k.val / 512)).val / 8) + b.val = 1024 * p + b.val; omega

/-- The sum of a point's block is the dot product of the row and the column. -/
theorem sum_apply (c : Dev nD) (t : Fin cfg0.N) (h8 : 8 ≤ t.val) (hN : t.val < 40) (a b : Fin 1024)
    (x : FVec Ideal S1024x4096 .bf16) (p : FVec Ideal S4096x1024 .bf16)
    (hx : ∀ k, x (ix2 a k) = argX m c (ix2 ⟨1024 * (t.val % 8) + a.val, by omega⟩ k))
    (hp : ∀ k, p (ix2 k b) = argW m c (ix3 0 k ⟨1024 * (t.val / 8 - 1) + b.val, by omega⟩)) :
    (∑ k : Fin 4096, x (ix2 a k) * p (ix2 k b) : EReal)
      = dotAt (argX m c) (argW m c) ⟨1024 * (t.val % 8) + a.val, by omega⟩ ⟨1024 * (t.val / 8 - 1) + b.val, by omega⟩ := by
  unfold dotAt
  refine Finset.sum_congr rfl fun k _ => ?_
  rw [hx k, hp k]

/-- The output block of a point is a block of the result. -/
theorem outBlock_apply (c : Dev nD) (t : Fin cfg0.N) (h8 : 8 ≤ t.val) (a b : Fin 1024) :
    (outBlock m c t : Vec Ideal S1024x1024 .bf16) (ix2 a b)
      = resultOf m c (ix2 ⟨1024 * (t.val % 8) + a.val, by omega⟩
          ⟨1024 * (t.val / 8 - 1) + b.val, by have := lt_of_lt_of_eq t.isLt N_0; omega⟩) := by
  have hN : t.val < 40 := lt_of_lt_of_eq t.isLt N_0
  have hs := sum_apply m c t h8 hN a b (iblk m c 0 t) (panel (staged m c) (t.val / 8 - 1)) (x_block m c t h8 a) (fun k => panel_apply m c _ (by omega) k b)
  unfold outBlock
  refine (product_apply _ _ _ _ a b).trans ?_
  rw [hs, g_block m c t h8 hN a b, u_block m c t h8 hN a b]
  rfl

/-! ## The final array -/

theorem flushed_out (c : Dev nD) (t : Fin cfg0.N) (hf : (cfg0.win 4).flush t = true) :
    (dats m 0 c).flushed 4 t = ((cfg0.win 4).blk t).view.read (Elt Ideal) (resultOf m c) := by
  have h8 := (flush_out t).mp hf
  obtain ⟨e0, e1⟩ := place_out t h8
  show (cfg0.win 4).cut (grid0.coords t) ((dats m 0 c).after 4 t) = _
  rw [after_4]
  funext y
  obtain ⟨a, b, rfl⟩ : ∃ a b : Fin 1024, y = ix2 a b := ⟨y 0, y 1, eq_ix2 y⟩
  rw [View.read_apply]
  refine (outBlock_apply m c t h8 a b).trans (congrArg (resultOf m c) (funext fun d => Fin.ext ?_))
  match d with
  | ⟨0, _⟩ => show 1024 * (t.val % 8) + a.val = win0_4.index t (0 : Fin 2) * 1024 + 1 * a.val; rw [e0]; omega
  | ⟨1, _⟩ => show 1024 * (t.val / 8 - 1) + b.val = win0_4.index t (1 : Fin 2) * 1024 + 1 * b.val; rw [e1]; omega

/-- An index is in a point's block where each coordinate is in the block's range. -/
theorem mem_block (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index of the result is in a block some point writes back. -/
theorem cover_out (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_4.index ⟨_, ht⟩ (0 : Fin 2) * 1024 ≤ (i 0).val ∧ (i 0).val < win0_4.index ⟨_, ht⟩ (0 : Fin 2) * 1024 + 1024; omega
  | ⟨1, _⟩ => show win0_4.index ⟨_, ht⟩ (1 : Fin 2) * 1024 ≤ (i 1).val ∧ (i 1).val < win0_4.index ⟨_, ht⟩ (1 : Fin 2) * 1024 + 1024; omega

theorem final_out (c : Dev nD) : (dats m 0 c).arrAt 4 cfg0.N = resultOf m c :=
  (dats m 0 c).arrAt_eq_of_cover 4 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final_out m c), kept m r h c⟩)
    (run_main m ρ)

/-! ## The reference's result -/

theorem reference_out (x : FVec Ideal Cert.Reference7Ideal.S8192x4096 .bf16) (w : FVec Ideal Cert.Reference7Ideal.S2x4096x4096 .f32) (g : FVec Ideal Cert.Reference7Ideal.S8192x8192 .bf16) (u : FVec Ideal Cert.Reference7Ideal.S8192x4096 .bf16) (h1 h2 h3 h4 h5 h6 h7) :
    (truncf (F := Ideal) .bf16 (addf (extf .f32 u h6) (mulf (extractStridedSlice Cert.Reference7Ideal.S8192x4096 ![0, 4096] (extf .f32 g h4) h5)
      (Host.dotGeneral Cert.Reference7Ideal.dot_S8192x4096_S4096x4096_S8192x4096_1_0_0_1_n_n none (extf .f32 x h1)
        (shapeCast Cert.Reference7Ideal.S4096x4096 (extractStridedSlice Cert.Reference7Ideal.S1x4096x4096 ![0, 0, 0] w h2) h3)))) h7 : FVec Ideal Cert.Reference7Ideal.S8192x4096 .bf16) = result x w g u := by
  funext y
  obtain ⟨r, q, rfl⟩ : ∃ (r : Fin 8192) (q : Fin 4096), y = ix2 r q := ⟨y 0, y 1, eq_ix2 y⟩
  refine Eq.trans (b := (g (ix2 r ⟨4096 + q.val, by omega⟩) * (∑ k : Fin 4096, x (ix2 r k) * w (ix3 0 k q)) + u (ix2 r q) : EReal)) ?_ rfl
  refine Eq.trans ?_ (add_comm _ _)
  pointwise

/-! ## The frames, and the two results are one -/

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_same : Cert.quiescent_Kernel7 = FrameBits := by sl_kernel_rfl

theorem frame_kernel : Cert.quiescent_Kernel7 := by
  rw [frame_same]
  exact fun m ρ _ => frame_main m ρ

theorem frame_ideal : Cert.quiescent_Kernel7Ideal := fun m ρ _ => frame_main m ρ

theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem same_result : Cert.algebraic_Kernel7Ideal_Reference7Ideal := fun m ρ m' ρ' _ hargs =>
  ⟨fun c => resultOf m c, run_results m ρ,
    (θ_run Cert.Reference7Ideal.defs _ _).mono (fun _ h c =>
      ⟨(h c).1.trans ((reference_out _ _ _ _ _ _ _ _ _ _ _).trans (by rw [(hargs c).1, (hargs c).2.1, (hargs c).2.2.1, (hargs c).2.2.2])), (h c).2⟩)
      (Cert.Reference7Ideal.Value.run (F := Ideal) m' ρ')⟩

end Cert.Kernel7Ideal.BrF

end
-- ==== Proof.OutBody.lean ====
/-
  THE BODY of the output projection's kernel, at any float values and on any staging buffers.  A point stages one slab of the
  weight's panel in one of two scratch panels, and (after the first panel) multiplies a block of rows by the whole of the
  other scratch panel.
-/
module

public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel8Ideal.Out

open Cert.Kernel8Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S4096x1024 .bf16) (harg5 : arg5.IsWhole) (arg6 : Memref sig .tc .vmem S4096x1024 .bf16) (harg6 : arg6.IsWhole)
  (x0 : Vec F S1024x4096 .bf16) (x1 : Vec F S1x512x1024 .f32)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg5 fullShare s0
        ∗ (iprop(owns (c : Thread nD τ) arg3 fullShare x1 ∗ owns (c : Thread nD τ) arg5 fullShare (putSlab s0 (i 1).val (k0_pay1 x1))) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg5.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg5.view _ _ _ _ (k0_off1_eq i), View.readAt_full]
  simp only [harg3.read_unread]
  rw [show arg5.view.read (Elt F) (arg5.view.writes (Elt F) (harg5.unread s0) []) = s0 from harg5.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s0 ∗ owns (c : Thread nD τ) arg6 fullShare s1
        ∗ (iprop(owns (c : Thread nD τ) arg2 fullShare x0 ∗ owns (c : Thread nD τ) arg3 fullShare x1 ∗ owns (c : Thread nD τ) arg4 fullShare (k0_pay2 s1 x0) ∗ owns (c : Thread nD τ) arg5 fullShare (putSlab s0 (i 1).val (k0_pay1 x1)) ∗ owns (c : Thread nD τ) arg6 fullShare s1) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  simp only [k0_part1_eq_skeleton]; unfold k0_part1_skel
  unfold owns
  iintro ⟨⟨%f0, %hf0, H0⟩, ⟨%f1, %hf1, H1⟩, ⟨%d3, %f3, -, H3⟩, ⟨%fs, %hfs, HS5⟩, ⟨%fu, %hfu, HS6⟩, Hk⟩
  obtain rfl := harg2.eq_unread hf0; obtain rfl := harg3.eq_unread hf1
  obtain rfl := harg5.eq_unread hfs; obtain rfl := harg6.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr
    swap; · iexact H3
    ipureintro
    rw [View.read_writes_full (s := S1024x1024), View.readAt_full (s := S4096x1024), View.readAt_full (s := S1024x4096), harg2.read_unread, harg6.read_unread]
    rfl
  isplitl [HS5]
  · iexists _; isplitr
    swap; · iexact HS5
    ipureintro
    rw [View.read_writes_cons_put (s := S4096x1024) arg5.view _ _ _ _ (k0_off2_eq i), View.readAt_full]
    simp only [harg3.read_unread]
    rw [show arg5.view.read (Elt F) (arg5.view.writes (Elt F) (harg5.unread s0) []) = s0 from harg5.read_unread _]
    rfl
  iexists _; isplitr; · ipureintro; exact harg6.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg6 fullShare s1 ∗ owns (c : Thread nD τ) arg5 fullShare s0
        ∗ (iprop(owns (c : Thread nD τ) arg2 fullShare x0 ∗ owns (c : Thread nD τ) arg3 fullShare x1 ∗ owns (c : Thread nD τ) arg4 fullShare (k0_pay2 s0 x0) ∗ owns (c : Thread nD τ) arg6 fullShare (putSlab s1 (i 1).val (k0_pay1 x1)) ∗ owns (c : Thread nD τ) arg5 fullShare s0) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  simp only [k0_part1_eq_skeleton]; unfold k0_part1_skel
  unfold owns
  iintro ⟨⟨%f0, %hf0, H0⟩, ⟨%f1, %hf1, H1⟩, ⟨%d3, %f3, -, H3⟩, ⟨%fs, %hfs, HS6⟩, ⟨%fu, %hfu, HS5⟩, Hk⟩
  obtain rfl := harg2.eq_unread hf0; obtain rfl := harg3.eq_unread hf1
  obtain rfl := harg6.eq_unread hfs; obtain rfl := harg5.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr
    swap; · iexact H3
    ipureintro
    rw [View.read_writes_full (s := S1024x1024), View.readAt_full (s := S4096x1024), View.readAt_full (s := S1024x4096), harg2.read_unread, harg5.read_unread]
  isplitl [HS6]
  · iexists _; isplitr
    swap; · iexact HS6
    ipureintro
    rw [View.read_writes_cons_put (s := S4096x1024) arg6.view _ _ _ _ (k0_off3_eq i), View.readAt_full]
    simp only [harg3.read_unread]
    rw [show arg6.view.read (Elt F) (arg6.view.writes (Elt F) (harg6.unread s1) []) = s1 from harg6.read_unread _]
    rfl
  iexists _; isplitr; · ipureintro; exact harg5.read_unread _
  iexact HS5

end Runs

end Cert.Kernel8Ideal.Out

end
-- ==== Proof.OutRun.lean ====
/-
  THE RUN of the output projection's kernel at any float values: the grid is run.  What is carried from point to point is what is known of the two scratch panels (Proof/Panel.lean), so each output block has a
  closed form (`outBlock`).  The launch set-up around it follows the generated text of the other programs.
-/
module

public import proofs.«01_k».proof.Proof.OutBody
public import Idealize.ShloMosaic.Lib.Claim

@[expose] public section

set_option maxRecDepth 16384

noncomputable section

namespace Cert.Kernel8Ideal.Out

open Cert.Kernel8Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: as launched, the program being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 40, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 2 (grid0.coords t) = true :=
  (by decide +kernel : ∀ t : Fin grid0.N, t.val < 8 → idle0 2 (grid0.coords t) = true)
theorem noFlush_first : ∀ t : Fin cfg0.N, t.val < 8 → (cfg0.win 2).flush t = false :=
  (by decide +kernel : ∀ t : Fin grid0.N, t.val < 8 → win0_2.flush t = false)
theorem live_out : ∀ t : Fin cfg0.N, 8 ≤ t.val → cfg0.idle 2 (grid0.coords t) = false :=
  (by decide +kernel : ∀ t : Fin grid0.N, 8 ≤ t.val → idle0 2 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, after_0, after_1]
  unfold Carried
  have hi := inner_val t
  have hs := staged_at m c t
  by_cases h8 : t.val < 8
  · rw [Dat.leavesExact_idle (dats m 0 c) 2 t (idle_first t h8) (noFlush_first t h8)]
    iintro ⟨⟨%s0, %s1, %hk, HS0, HS1, Hg⟩, Ho, ⟨%d0, H0⟩, ⟨%d1, H1⟩, ⟨%d2, H2⟩⟩
    iapply (run_first c (grid0.coords t) _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    iexists _; iexact H2
  · rw [leaves_live m c 2 t (live_out t (by omega)), after_2]
    unfold outBlock
    by_cases he : t.val / 8 % 2 = 0
    · iintro ⟨⟨%s0, %s1, %hk, HS0, HS1, Hg⟩, Ho, ⟨%d0, H0⟩, ⟨%d1, H1⟩, ⟨%d2, H2⟩⟩
      rw [← (panel_at _ t.val s0 s1 hk (by omega)).1 he]
      iapply (run_even c (grid0.coords t) _ _ _ _ _ _ _ _ _ _ (iblk m c 0 t) (iblk m c 1 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      iexact H2
    · have ho : t.val / 8 % 2 = 1 := by omega
      iintro ⟨⟨%s0, %s1, %hk, HS0, HS1, Hg⟩, Ho, ⟨%d0, H0⟩, ⟨%d1, H1⟩, ⟨%d2, H2⟩⟩
      rw [← (panel_at _ t.val s0 s1 hk (by omega)).2 ho]
      iapply (run_odd c (grid0.coords t) _ _ _ _ _ _ _ _ _ _ (iblk m c 0 t) (iblk m c 1 t) s0 s1
        (fun h => by have := (cond1_iff t).mp h; omega) (fun h => by have := (cond2_iff t).mp h; omega) ((cond3_iff t).mpr ho) Set.univ _)
      isplitl [H0]; · iexact H0
      isplitl [H1]; · iexact H1
      isplitl [H2]; · iexists _; iexact H2
      isplitl [HS1]; · iexact HS1
      isplitl [HS0]; · iexact HS0
      iintro ⟨H0, H1, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans (A_eq m c 0)),
    ((h c).1 1).trans (((dats m 0 c).arrAt_in 1 rfl _).trans (A_eq m c 1))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept m r h.1, h.2⟩) (run_main_quiescent m ρ)

end Cert.Kernel8Ideal.Out

end
-- ==== Proof.OutValue.lean ====
/-
  THE VALUE of the output projection's kernel over exact values, and its reference's: entry (r, q) of the result is the sum over k
  of mix(r, k) · w_out(0, k, q).
-/
module

public import proofs.«01_k».proof.Defs
public import proofs.«01_k».proof.Proof.Gen.Kernel8
public import proofs.«01_k».proof.Proof.OutRun
public import proofs.«01_k».proof.Proof.Gen.Reference8Ideal.Run
public import Idealize.ShloMosaic.PureOps.Ideal
public import Idealize.ShloMosaic.Lib.Pipeline.Value
public import Idealize.ShloMosaic.Lib.IdealHost
public import Idealize.ShloMosaic.Lib.Quiescent
public import Idealize.ShloMosaic.Lib.Tactic

@[expose] public section

set_option maxRecDepth 16384

noncomputable section

namespace Cert.Kernel8Ideal.Out

open Cert.Kernel8Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

theorem product_apply (p : FVec Ideal S4096x1024 .bf16) (x : FVec Ideal S1024x4096 .bf16) (a b : Fin 1024) :
    (k0_pay2 p x : FVec Ideal S1024x1024 .bf16) (ix2 a b) = (∑ k : Fin 4096, x (ix2 a k) * p (ix2 k b) : EReal) := by
  pointwise [k0_pay2]

/-! ## The result -/

/-- The row of `x` times the column of the first layer's weights. -/
def dotAt (x : Vec Ideal S8192x4096 .bf16) (w : Vec Ideal S2x4096x4096 .f32) (r : Fin 8192) (q : Fin 4096) : EReal :=
  ∑ k : Fin 4096, x (ix2 r k) * w (ix3 0 k q)

/-- The result. -/
def result (x : Vec Ideal S8192x4096 .bf16) (w : Vec Ideal S2x4096x4096 .f32) : Vec Ideal S8192x4096 .bf16 :=
  fun y => (dotAt x w (y 0) (y 1) : EReal)

/-- The arguments of core `c`. -/
abbrev argX (c : Dev nD) : Vec Ideal S8192x4096 .bf16 := m ((c : Thread nD τ).loc main_arg0)
abbrev argW (c : Dev nD) : Vec Ideal S2x4096x4096 .f32 := m ((c : Thread nD τ).loc main_arg1)

/-- The result of core `c`'s arguments. -/
abbrev resultOf (c : Dev nD) : Vec Ideal S8192x4096 .bf16 := result (argX m c) (argW m c)

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 32 → win0_1.index t (0 : Fin 3) = 0 ∧ win0_1.index t (1 : Fin 3) = t.val % 8 ∧ win0_1.index t (2 : Fin 3) = t.val / 8 :=
  (by decide +kernel : ∀ t : Fin grid0.N, _)
theorem place_out : ∀ t : Fin cfg0.N, 8 ≤ t.val → win0_2.index t (0 : Fin 2) = t.val % 8 ∧ win0_2.index t (1 : Fin 2) = t.val / 8 - 1 :=
  (by decide +kernel : ∀ t : Fin grid0.N, _)
theorem flush_out : ∀ t : Fin cfg0.N, (cfg0.win 2).flush t = true ↔ 8 ≤ t.val :=
  (by decide +kernel : ∀ t : Fin grid0.N, win0_2.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 32) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  unfold V
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

/-- A whole panel is a column block of the weights. -/
theorem panel_apply (c : Dev nD) (p : ℕ) (hp : p < 4) (k : Fin 4096) (b : Fin 1024) :
    (panel (staged m c) p : Vec Ideal S4096x1024 .bf16) (ix2 k b) = argW m c (ix3 0 k ⟨1024 * p + b.val, by omega⟩) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((pt (8 * p + k.val / 512)).val % 8) + k.val % 512 = k.val; omega
  | ⟨2, _⟩ => show 1024 * ((pt (8 * p + k.val / 512)).val / 8) + b.val = 1024 * p + b.val; omega

/-- The sum of a point's block is the dot product of the row and the column. -/
theorem sum_apply (c : Dev nD) (t : Fin cfg0.N) (h8 : 8 ≤ t.val) (hN : t.val < 40) (a b : Fin 1024)
    (x : FVec Ideal S1024x4096 .bf16) (p : FVec Ideal S4096x1024 .bf16)
    (hx : ∀ k, x (ix2 a k) = argX m c (ix2 ⟨1024 * (t.val % 8) + a.val, by omega⟩ k))
    (hp : ∀ k, p (ix2 k b) = argW m c (ix3 0 k ⟨1024 * (t.val / 8 - 1) + b.val, by omega⟩)) :
    (∑ k : Fin 4096, x (ix2 a k) * p (ix2 k b) : EReal)
      = dotAt (argX m c) (argW m c) ⟨1024 * (t.val % 8) + a.val, by omega⟩ ⟨1024 * (t.val / 8 - 1) + b.val, by omega⟩ := by
  unfold dotAt
  refine Finset.sum_congr rfl fun k _ => ?_
  rw [hx k, hp k]

/-- The output block of a point is a block of the result. -/
theorem outBlock_apply (c : Dev nD) (t : Fin cfg0.N) (h8 : 8 ≤ t.val) (a b : Fin 1024) :
    (outBlock m c t : Vec Ideal S1024x1024 .bf16) (ix2 a b)
      = resultOf m c (ix2 ⟨1024 * (t.val % 8) + a.val, by omega⟩
          ⟨1024 * (t.val / 8 - 1) + b.val, by have := lt_of_lt_of_eq t.isLt N_0; omega⟩) := by
  have hN : t.val < 40 := lt_of_lt_of_eq t.isLt N_0
  have hs := sum_apply m c t h8 hN a b (iblk m c 0 t) (panel (staged m c) (t.val / 8 - 1)) (x_block m c t h8 a) (fun k => panel_apply m c _ (by omega) k b)
  unfold outBlock
  exact (product_apply _ _ a b).trans hs

/-! ## The final array -/

theorem flushed_out (c : Dev nD) (t : Fin cfg0.N) (hf : (cfg0.win 2).flush t = true) :
    (dats m 0 c).flushed 2 t = ((cfg0.win 2).blk t).view.read (Elt Ideal) (resultOf m c) := by
  have h8 := (flush_out t).mp hf
  obtain ⟨e0, e1⟩ := place_out t h8
  show (cfg0.win 2).cut (grid0.coords t) ((dats m 0 c).after 2 t) = _
  rw [after_2]
  funext y
  obtain ⟨a, b, rfl⟩ : ∃ a b : Fin 1024, y = ix2 a b := ⟨y 0, y 1, eq_ix2 y⟩
  rw [View.read_apply]
  refine (outBlock_apply m c t h8 a b).trans (congrArg (resultOf m c) (funext fun d => Fin.ext ?_))
  match d with
  | ⟨0, _⟩ => show 1024 * (t.val % 8) + a.val = win0_2.index t (0 : Fin 2) * 1024 + 1 * a.val; rw [e0]; omega
  | ⟨1, _⟩ => show 1024 * (t.val / 8 - 1) + b.val = win0_2.index t (1 : Fin 2) * 1024 + 1 * b.val; rw [e1]; omega

/-- An index is in a point's block where each coordinate is in the block's range. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in a block some point writes back. -/
theorem cover_out (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_2.index ⟨_, ht⟩ (0 : Fin 2) * 1024 ≤ (i 0).val ∧ (i 0).val < win0_2.index ⟨_, ht⟩ (0 : Fin 2) * 1024 + 1024; omega
  | ⟨1, _⟩ => show win0_2.index ⟨_, ht⟩ (1 : Fin 2) * 1024 ≤ (i 1).val ∧ (i 1).val < win0_2.index ⟨_, ht⟩ (1 : Fin 2) * 1024 + 1024; omega

theorem final_out (c : Dev nD) : (dats m 0 c).arrAt 2 cfg0.N = resultOf m c :=
  (dats m 0 c).arrAt_eq_of_cover 2 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final_out m c), kept m r h c⟩)
    (run_main m ρ)

/-! ## The reference's result -/

theorem reference_out (x : FVec Ideal Cert.Reference8Ideal.S8192x4096 .bf16) (w : FVec Ideal Cert.Reference8Ideal.S2x4096x4096 .f32) (h1 h2 h3 h4) :
    (truncf (F := Ideal) .bf16 (Host.dotGeneral Cert.Reference8Ideal.dot_S8192x4096_S4096x4096_S8192x4096_1_0_0_1_n_n none (extf .f32 x h1)
        (shapeCast Cert.Reference8Ideal.S4096x4096 (extractStridedSlice Cert.Reference8Ideal.S1x4096x4096 ![0, 0, 0] w h2) h3)) h4 : FVec Ideal Cert.Reference8Ideal.S8192x4096 .bf16) = result x w := by
  funext y
  obtain ⟨r, q, rfl⟩ : ∃ (r : Fin 8192) (q : Fin 4096), y = ix2 r q := ⟨y 0, y 1, eq_ix2 y⟩
  refine Eq.trans (b := (∑ k : Fin 4096, x (ix2 r k) * w (ix3 0 k q) : EReal)) ?_ rfl
  pointwise

/-! ## The frames, and the two results are one -/

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_same : Cert.quiescent_Kernel8 = FrameBits := by sl_kernel_rfl

theorem frame_kernel : Cert.quiescent_Kernel8 := by
  rw [frame_same]
  exact fun m ρ _ => frame_main m ρ

theorem frame_ideal : Cert.quiescent_Kernel8Ideal := fun m ρ _ => frame_main m ρ

theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem same_result : Cert.algebraic_Kernel8Ideal_Reference8Ideal := fun m ρ m' ρ' _ hargs =>
  ⟨fun c => resultOf m c, run_results m ρ,
    (θ_run Cert.Reference8Ideal.defs _ _).mono (fun _ h c =>
      ⟨(h c).1.trans ((reference_out _ _ _ _ _ _).trans (congrArg₂ result (hargs c).1 (hargs c).2)), (h c).2⟩)
      (Cert.Reference8Ideal.Value.run (F := Ideal) m' ρ')⟩

end Cert.Kernel8Ideal.Out

end
-- ==== Proof.PleBody.lean ====
/-
  THE BODY of the layer embedding's kernel, at any float values and on any staging buffers.  A point stages one slab of the
  weight's panel in one of two scratch panels, and (after the first panel) multiplies a block of rows by the whole of the
  other scratch panel, and finishes the product with its block of the embeddings times its block of their weights.
-/
module

public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Panel
public import Idealize.ShloMosaic.Lib.Pipeline.FrameBody
public import Idealize.ShloMosaic.Lib.Ring
public import Idealize.ShloMosaic.Lib.Tactic

@[expose] public section

set_option maxRecDepth 16384

noncomputable section

namespace Cert.Kernel9Ideal.Ple

open Cert.Kernel9Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches taken, by the point -/

/-- The first branch: the points of the first panel. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The second: a later panel of even number. -/
theorem cond2_iff : ∀ t : Fin cfg0.N, k0_cond2 (grid0.coords t) = 1#1 ↔ (8 ≤ t.val ∧ t.val / 8 % 2 = 0) :=
  (by decide +kernel : ∀ t : Fin grid0.N, k0_cond2 (grid0.coords t) = 1#1 ↔ (8 ≤ t.val ∧ t.val / 8 % 2 = 0))
/-- The third: a panel of odd number. -/
theorem cond3_iff : ∀ t : Fin cfg0.N, k0_cond3 (grid0.coords t) = 1#1 ↔ t.val / 8 % 2 = 1 :=
  (by decide +kernel : ∀ t : Fin grid0.N, k0_cond3 (grid0.coords t) = 1#1 ↔ t.val / 8 % 2 = 1)
/-- The inner coordinate of a point. -/
theorem inner_val : ∀ t : Fin cfg0.N, (grid0.coords t 1).val = t.val % 8 :=
  (by decide +kernel : ∀ t : Fin grid0.N, (grid0.coords t 1).val = t.val % 8)

/-! ## The three cases, run -/

section Runs

variable (c : Dev nD) (i : grid0.Coords) (arg2 : Memref sig .tc .vmem S1024x4096 .bf16) (harg2 : arg2.IsWhole) (arg3 : Memref sig .tc .vmem S1x512x1024 .f32) (harg3 : arg3.IsWhole) (arg4 : Memref sig .tc .vmem S1024x256 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S4096x1024 .bf16) (harg7 : arg7.IsWhole) (arg8 : Memref sig .tc .vmem S4096x1024 .bf16) (harg8 : arg8.IsWhole)
  (x0 : Vec F S1024x4096 .bf16) (x1 : Vec F S1x512x1024 .f32) (e0 : Vec F S1024x256 .f32) (e1 : Vec F S1x256x1024 .f32)
  (s0 s1 : Vec F S4096x1024 .bf16)

set_option maxHeartbeats 1000000 in
/-- The first panel: its slab goes to the first buffer, and nothing is multiplied. -/
theorem run_first (h1 : k0_cond1 i = 1#1) (h2 : ¬k0_cond2 i = 1#1) (h3 : ¬k0_cond3 i = 1#1) (E : Set ℕ) (K : PUnit → sProp 𝕄) :
    iprop(owns (c : Thread nD τ) arg3 fullShare x1 ∗ owns (c : Thread nD τ) arg7 fullShare s0
        ∗ (iprop(owns (c : Thread nD τ) arg3 fullShare x1 ∗ owns (c : Thread nD τ) arg7 fullShare (putSlab s0 (i 1).val (k0_pay1 x1))) -∗ K ⟨⟩))
      ⊢ wp frame (wpE (defs₀ (F := F)) Variants.none c none) E (cc0_ple i arg2 harg2 arg3 harg3 arg4 harg4 arg5 harg5 arg6 harg6 arg7 harg7 arg8 harg8) K := by
  simp only [cc0_ple_eq_skeleton]; unfold cc0_ple_skel
  simp only [k0_part1_eq_skeleton]; unfold k0_part1_skel
  unfold owns
  iintro ⟨⟨%f1, %hf1, H1⟩, ⟨%fs, %hfs, HS5⟩, Hk⟩
  obtain rfl := harg3.eq_unread hf1; obtain rfl := harg7.eq_unread hfs
  sl_exec (disch := first | sl_exact h1 | sl_exact h2 | sl_exact h3)
  sl_step
  iapply Hk
  isplitl [H1]
  · iexists _; isplitr; · ipureintro; exact harg3.read_unread _
    iexact H1
  iexists _; isplitr
  swap; · iexact HS5
  ipureintro
  rw [View.read_writes_cons_put (s := S4096x1024) arg7.view _ _ _ _ (k0_off1_eq i), View.readAt_full]
  simp only [harg3.read_unread]
  rw [show arg7.view.read (Elt F) (arg7.view.writes (Elt F) (harg7.unread s0) []) = s0 from harg7.read_unread _]
  rfl

set_option maxHeartbeats 1000000 in
/-- A later panel of even number: its slab goes to the first buffer, and the second is multiplied by. -/
theorem run_even (h1 : ¬k0_cond1 i = 1#1) (h2 : k0_cond2 i = 1#1) (h3 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ owns (c : Thread nD τ) arg5 fullShare e1 ∗ (∃ d, owns (c : Thread nD τ) arg6 fullShare d) ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare e0 ∗ owns (c : Thread nD τ) arg5 fullShare e1 ∗ owns (c : Thread nD τ) arg6 fullShare (k0_pay2 s1 x0 e1 e0) ∗ owns (c : Thread nD τ) arg7 fullShare (putSlab s0 (i 1).val (k0_pay1 x1)) ∗ owns (c : Thread nD τ) arg8 fullShare s1) -∗ K ⟨⟩))
      ⊢ wp frame (wpE (defs₀ (F := F)) Variants.none c none) E (cc0_ple i arg2 harg2 arg3 harg3 arg4 harg4 arg5 harg5 arg6 harg6 arg7 harg7 arg8 harg8) K := by
  simp only [cc0_ple_eq_skeleton]; unfold cc0_ple_skel
  simp only [k0_part1_eq_skeleton]; unfold k0_part1_skel
  unfold owns
  iintro ⟨⟨%f0, %hf0, H0⟩, ⟨%f1, %hf1, H1⟩, ⟨%fe0, %hfe0, HE0⟩, ⟨%fe1, %hfe1, HE1⟩, ⟨%d3, %f3, -, H3⟩, ⟨%fs, %hfs, HS5⟩, ⟨%fu, %hfu, HS6⟩, Hk⟩
  obtain rfl := harg2.eq_unread hf0; obtain rfl := harg3.eq_unread hf1; obtain rfl := harg4.eq_unread hfe0; obtain rfl := harg5.eq_unread hfe1
  obtain rfl := harg7.eq_unread hfs; obtain rfl := harg8.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [HE1]
  · iexists _; isplitr; · ipureintro; exact harg5.read_unread _
    iexact HE1
  isplitl [H3]
  · iexists _; isplitr
    swap; · iexact H3
    ipureintro
    rw [View.read_writes_full (s := S1024x1024), View.readAt_full (s := S4096x1024), View.readAt_full (s := S1024x4096), View.readAt_full (s := S1024x256), View.readAt_full (s := S1x256x1024), harg2.read_unread, harg8.read_unread, harg4.read_unread, harg5.read_unread]
    rfl
  isplitl [HS5]
  · iexists _; isplitr
    swap; · iexact HS5
    ipureintro
    rw [View.read_writes_cons_put (s := S4096x1024) arg7.view _ _ _ _ (k0_off2_eq i), View.readAt_full]
    simp only [harg3.read_unread]
    rw [show arg7.view.read (Elt F) (arg7.view.writes (Elt F) (harg7.unread s0) []) = s0 from harg7.read_unread _]
    rfl
  iexists _; isplitr; · ipureintro; exact harg8.read_unread _
  iexact HS6

set_option maxHeartbeats 1000000 in
/-- A panel of odd number: its slab goes to the second buffer, and the first is multiplied by. -/
theorem run_odd (h1 : ¬k0_cond1 i = 1#1) (h2 : ¬k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare e0 ∗ owns (c : Thread nD τ) arg5 fullShare e1 ∗ (∃ d, owns (c : Thread nD τ) arg6 fullShare d) ∗ owns (c : Thread nD τ) arg8 fullShare s1 ∗ owns (c : Thread nD τ) arg7 fullShare s0
        ∗ (iprop(owns (c : Thread nD τ) arg2 fullShare x0 ∗ owns (c : Thread nD τ) arg3 fullShare x1 ∗ owns (c : Thread nD τ) arg4 fullShare e0 ∗ owns (c : Thread nD τ) arg5 fullShare e1 ∗ owns (c : Thread nD τ) arg6 fullShare (k0_pay2 s0 x0 e1 e0) ∗ owns (c : Thread nD τ) arg8 fullShare (putSlab s1 (i 1).val (k0_pay1 x1)) ∗ owns (c : Thread nD τ) arg7 fullShare s0) -∗ K ⟨⟩))
      ⊢ wp frame (wpE (defs₀ (F := F)) Variants.none c none) E (cc0_ple i arg2 harg2 arg3 harg3 arg4 harg4 arg5 harg5 arg6 harg6 arg7 harg7 arg8 harg8) K := by
  simp only [cc0_ple_eq_skeleton]; unfold cc0_ple_skel
  simp only [k0_part1_eq_skeleton]; unfold k0_part1_skel
  unfold owns
  iintro ⟨⟨%f0, %hf0, H0⟩, ⟨%f1, %hf1, H1⟩, ⟨%fe0, %hfe0, HE0⟩, ⟨%fe1, %hfe1, HE1⟩, ⟨%d3, %f3, -, H3⟩, ⟨%fs, %hfs, HS6⟩, ⟨%fu, %hfu, HS5⟩, Hk⟩
  obtain rfl := harg2.eq_unread hf0; obtain rfl := harg3.eq_unread hf1; obtain rfl := harg4.eq_unread hfe0; obtain rfl := harg5.eq_unread hfe1
  obtain rfl := harg8.eq_unread hfs; obtain rfl := harg7.eq_unread hfu
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [HE0]
  · iexists _; isplitr; · ipureintro; exact harg4.read_unread _
    iexact HE0
  isplitl [HE1]
  · iexists _; isplitr; · ipureintro; exact harg5.read_unread _
    iexact HE1
  isplitl [H3]
  · iexists _; isplitr
    swap; · iexact H3
    ipureintro
    rw [View.read_writes_full (s := S1024x1024), View.readAt_full (s := S4096x1024), View.readAt_full (s := S1024x4096), View.readAt_full (s := S1024x256), View.readAt_full (s := S1x256x1024), harg2.read_unread, harg7.read_unread, harg4.read_unread, harg5.read_unread]
  isplitl [HS6]
  · iexists _; isplitr
    swap; · iexact HS6
    ipureintro
    rw [View.read_writes_cons_put (s := S4096x1024) arg8.view _ _ _ _ (k0_off3_eq i), View.readAt_full]
    simp only [harg3.read_unread]
    rw [show arg8.view.read (Elt F) (arg8.view.writes (Elt F) (harg8.unread s1) []) = s1 from harg8.read_unread _]
    rfl
  iexists _; isplitr; · ipureintro; exact harg7.read_unread _
  iexact HS5

end Runs

end Cert.Kernel9Ideal.Ple

end
-- ==== Proof.PleRun.lean ====
/-
  THE RUN of the layer embedding's kernel at any float values: the grid is run.  What is carried from point to point is what is known of the two scratch panels (Proof/Panel.lean), so each output block has a
  closed form (`outBlock`).  The launch set-up around it follows the generated text of the other programs.
-/
module

public import proofs.«01_k».proof.Proof.PleBody
public import Idealize.ShloMosaic.Lib.Claim

@[expose] public section

set_option maxRecDepth 16384

noncomputable section

namespace Cert.Kernel9Ideal.Ple

open Cert.Kernel9Ideal.Gen Cert.Panel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry and the windows' blocks -/

/-- Core `c`'s buffers when the region is entered: as launched, the program being the region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, of its array as entered. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the scratch panels hold -/

/-- The point of a number. -/
def pt (n : ℕ) : Fin cfg0.N := ⟨n % 40, lt_of_lt_of_eq (Nat.mod_lt _ (by decide)) N_0.symm⟩

theorem pt_val (t : Fin cfg0.N) : pt t.val = t := Fin.ext (Nat.mod_eq_of_lt (lt_of_lt_of_eq t.isLt N_0))

/-- The slab of the weight's panel the `n`-th point stages. -/
def staged (c : Dev nD) (n : ℕ) : FVec F S512x1024 .bf16 := k0_pay1 (iblk m c 1 (pt n))

theorem staged_at (c : Dev nD) (t : Fin cfg0.N) : staged m c t.val = k0_pay1 (iblk m c 1 t) := by
  unfold staged; rw [pt_val]

/-- The output block a point of a later panel writes. -/
def outBlock (c : Dev nD) (t : Fin cfg0.N) : FVec F S1024x1024 .bf16 :=
  k0_pay2 (panel (staged m c) (t.val / 8 - 1)) (iblk m c 0 t) (iblk m c 3 t) (iblk m c 2 t)

/-! ## The pipeline's proof data -/

abbrev sc0 : Memref sig .tc .vmem S4096x1024 .bf16 := Memref.whole cc0_scratch0
abbrev sc1 : Memref sig .tc .vmem S4096x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What is carried before point `n`. -/
def Carried (c : Dev nD) (n : ℕ) : sProp 𝕄 :=
  iprop(∃ s0 s1, ⌜Known (staged m c) n s0 s1⌝ ∗ owns (c : Thread nD τ) sc0 fullShare s0 ∗ owns (c : Thread nD τ) sc1 fullShare s1
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ t := Carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlock m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## Where the output window is idle -/

theorem idle_first : ∀ t : Fin cfg0.N, t.val < 8 → cfg0.idle 4 (grid0.coords t) = true :=
  (by decide +kernel : ∀ t : Fin grid0.N, t.val < 8 → idle0 4 (grid0.coords t) = true)
theorem noFlush_first : ∀ t : Fin cfg0.N, t.val < 8 → (cfg0.win 4).flush t = false :=
  (by decide +kernel : ∀ t : Fin grid0.N, t.val < 8 → win0_4.flush t = false)
theorem live_out : ∀ t : Fin cfg0.N, 8 ≤ t.val → cfg0.idle 4 (grid0.coords t) = false :=
  (by decide +kernel : ∀ t : Fin grid0.N, 8 ≤ t.val → idle0 4 (grid0.coords t) = false)

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body at any point: which branch it takes is the point's panel; the scratch comes in with what is known of it and
    goes back with the point's slab staged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = Carried m c (t.val + 1) from rfl]
  rw [show (dats m 0 c).Φ t.castSucc = Carried m c t.val from rfl]
  rw [leaves_live m c 0 t rfl, leaves_live m c 1 t rfl, leaves_live m c 2 t rfl, leaves_live m c 3 t rfl, after_0, after_1, after_2, after_3]
  unfold Carried
  have hi := inner_val t
  have hs := staged_at m c t
  by_cases h8 : t.val < 8
  · rw [Dat.leavesExact_idle (dats m 0 c) 4 t (idle_first t h8) (noFlush_first t h8)]
    iintro ⟨⟨%s0, %s1, %hk, HS0, HS1, Hg⟩, Ho, ⟨%d0, H0⟩, ⟨%d1, H1⟩, ⟨%de0, HE0⟩, ⟨%de1, HE1⟩, ⟨%d2, H2⟩⟩
    iapply (run_first c (grid0.coords t) _ _ _ _ _ _ _ _ _ _ _ _ _ _ (iblk m c 1 t) s0
      ((cond1_iff t).mpr h8) (fun h => by have := (cond2_iff t).mp h; omega) (fun h => by have := (cond3_iff t).mp h; omega) Set.univ _)
    isplitl [H1]; · iexact H1
    isplitl [HS0]; · iexact HS0
    iintro ⟨H1, HS0⟩
    isplitl [HS0 HS1 Hg]
    · iexists _; iexists _
      isplitr
      · ipureintro; exact known_even _ t.val s0 s1 hk (by omega)
      isplitl [HS0]
      · rw [hi, hs]; iexact HS0
      isplitl [HS1]; · iexact HS1
      iexact Hg
    isplitl [Ho]; · iexact Ho
    isplitl [H0]; · iexact H0
    isplitl [H1]; · iexact H1
    isplitl [HE0]; · iexact HE0
    isplitl [HE1]; · iexact HE1
    iexists _; iexact H2
  · rw [leaves_live m c 4 t (live_out t (by omega)), after_4]
    unfold outBlock
    by_cases he : t.val / 8 % 2 = 0
    · iintro ⟨⟨%s0, %s1, %hk, HS0, HS1, Hg⟩, Ho, ⟨%d0, H0⟩, ⟨%d1, H1⟩, ⟨%de0, HE0⟩, ⟨%de1, HE1⟩, ⟨%d2, H2⟩⟩
      rw [← (panel_at _ t.val s0 s1 hk (by omega)).1 he]
      iapply (run_even c (grid0.coords t) _ _ _ _ _ _ _ _ _ _ _ _ _ _ (iblk m c 0 t) (iblk m c 1 t) (iblk m c 2 t) (iblk m c 3 t) s0 s1
        (fun h => by have := (cond1_iff t).mp h; omega) ((cond2_iff t).mpr ⟨by omega, he⟩) (fun h => by have := (cond3_iff t).mp h; omega) Set.univ _)
      isplitl [H0]; · iexact H0
      isplitl [H1]; · iexact H1
      isplitl [HE0]; · iexact HE0
      isplitl [HE1]; · iexact HE1
      isplitl [H2]; · iexists _; iexact H2
      isplitl [HS0]; · iexact HS0
      isplitl [HS1]; · iexact HS1
      iintro ⟨H0, H1, HE0, HE1, H2, HS0, HS1⟩
      isplitl [HS0 HS1 Hg]
      · iexists _; iexists _
        isplitr
        · ipureintro; exact known_even _ t.val s0 s1 hk he
        isplitl [HS0]
        · rw [hi, hs]; iexact HS0
        isplitl [HS1]; · iexact HS1
        iexact Hg
      isplitl [Ho]; · iexact Ho
      isplitl [H0]; · iexact H0
      isplitl [H1]; · iexact H1
      isplitl [HE0]; · iexact HE0
      isplitl [HE1]; · iexact HE1
      iexact H2
    · have ho : t.val / 8 % 2 = 1 := by omega
      iintro ⟨⟨%s0, %s1, %hk, HS0, HS1, Hg⟩, Ho, ⟨%d0, H0⟩, ⟨%d1, H1⟩, ⟨%de0, HE0⟩, ⟨%de1, HE1⟩, ⟨%d2, H2⟩⟩
      rw [← (panel_at _ t.val s0 s1 hk (by omega)).2 ho]
      iapply (run_odd c (grid0.coords t) _ _ _ _ _ _ _ _ _ _ _ _ _ _ (iblk m c 0 t) (iblk m c 1 t) (iblk m c 2 t) (iblk m c 3 t) s0 s1
        (fun h => by have := (cond1_iff t).mp h; omega) (fun h => by have := (cond2_iff t).mp h; omega) ((cond3_iff t).mpr ho) Set.univ _)
      isplitl [H0]; · iexact H0
      isplitl [H1]; · iexact H1
      isplitl [HE0]; · iexact HE0
      isplitl [HE1]; · iexact HE1
      isplitl [H2]; · iexists _; iexact H2
      isplitl [HS1]; · iexact HS1
      isplitl [HS0]; · iexact HS0
      iintro ⟨H0, H1, HE0, HE1, H2, HS1, HS0⟩
      isplitl [HS0 HS1 Hg]
      · iexists _; iexists _
        isplitr
        · ipureintro; exact known_odd _ t.val s0 s1 hk ho
        isplitl [HS0]; · iexact HS0
        isplitl [HS1]
        · rw [hi, hs]; iexact HS1
        iexact Hg
      isplitl [Ho]; · iexact Ho
      isplitl [H0]; · iexact H0
      isplitl [H1]; · iexact H1
      isplitl [HE0]; · iexact HE0
      isplitl [HE1]; · iexact HE1
      iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point, and nothing need be. -/
theorem hin (c : Dev nD) : Pipeline.ΦA spec0 c ⊢ (dats m 0 c).Φ 0 := by
  rw [show (dats m 0 c).Φ 0 = Carried m c 0 from rfl, PhiA_eq]
  unfold Carried
  iintro ⟨⟨⟨%s0, HS0⟩, ⟨%s1, HS1⟩⟩, Hg⟩
  iexists s0; iexists s1
  isplitr; · ipureintro; exact known_zero _ s0 s1
  isplitl [HS0]; · iexact HS0
  isplitl [HS1]; · iexact HS1
  iexact Hg

/-- What is known is forgotten after the last point. -/
theorem hout (c : Dev nD) : (dats m 0 c).Φ (Fin.last cfg0.N) ⊢ Pipeline.ΦA spec0 c := by
  rw [show (dats m 0 c).Φ (Fin.last cfg0.N) = Carried m c cfg0.N from rfl, PhiA_eq]
  unfold Carried
  iintro ⟨%s0, %s1, -, HS0, HS1, Hg⟩
  isplitl [HS0 HS1]
  · isplitl [HS0]
    · iexists _; iexact HS0
    iexists _; iexact HS1
  iexact Hg

/-! ## The run and the frame -/

-- the launch theorem's implicit arguments are found by unifying its conclusion with this one, through plain definitions
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m r h.1, h.2⟩) (run_main_quiescent m ρ)

end Cert.Kernel9Ideal.Ple

end
-- ==== Proof.PleValue.lean ====
/-
  THE VALUE of the layer embedding's kernel over exact values, and its reference's: entry (r, q) of the result is the logistic
  function of the sum over k of x(r, k) · w_ple_gate(0, k, q), times the sum over k of p(r, k) · w_ple_in(0, k, q).
-/
module

public import proofs.«01_k».proof.Defs
public import proofs.«01_k».proof.Proof.Gen.Kernel9
public import proofs.«01_k».proof.Proof.PleRun
public import proofs.«01_k».proof.Proof.Gen.Reference9Ideal.Run
public import proofs.«01_k».proof.Proof.RealFacts
public import Idealize.ShloMosaic.PureOps.Ideal
public import Idealize.ShloMosaic.Lib.Pipeline.Value
public import Idealize.ShloMosaic.Lib.IdealHost
public import Idealize.ShloMosaic.Lib.Quiescent
public import Idealize.ShloMosaic.Lib.Tactic

@[expose] public section

set_option maxRecDepth 16384

noncomputable section

namespace Cert.Kernel9Ideal.Ple

open Cert.Kernel9Ideal.Gen Cert.Panel

open Idealize.ShloMosaic Idealize.ShloMosaic.TcCoe Idealize.SL.Sem

variable (m : (ℓ : Loc nD τ sig) → Buf (Elt Ideal) ℓ) (ρ : Dev nD → PrngReg)

/-! ## The payloads at an index -/

theorem slab_apply (w : Vec Ideal S1x512x1024 .f32) (a : Fin 512) (b : Fin 1024) :
    (k0_pay1 w : FVec Ideal S512x1024 .bf16) (ix2 a b) = (w (ix3 0 a b) : EReal) := by
  pointwise [k0_pay1]

/-- The logistic function. -/
def logistic (s : EReal) : EReal := Ideal.div 1 (1 + Ideal.exp (-s))

/-- Entry (a, b) of a point's result, from the point's panel and blocks. -/
theorem product_apply (p : FVec Ideal S4096x1024 .bf16) (x : FVec Ideal S1024x4096 .bf16) (u : FVec Ideal S1x256x1024 .f32)
    (g : FVec Ideal S1024x256 .f32) (a b : Fin 1024) :
    (k0_pay2 p x u g : FVec Ideal S1024x1024 .bf16) (ix2 a b)
      = (logistic (∑ k : Fin 4096, x (ix2 a k) * p (ix2 k b)) * (∑ k : Fin 256, g (ix2 a k) * u (ix3 0 k b)) : EReal) := by
  pointwise [k0_pay2]
  rw [Cert.RealFacts.ofBits_half]
  exact congrArg (· * _) (Cert.RealFacts.sigmoid_tanh _)

/-! ## The result -/

/-- The row of `x` times the column of the first layer's weights. -/
def dotAt (x : Vec Ideal S8192x4096 .bf16) (w : Vec Ideal S2x4096x4096 .f32) (r : Fin 8192) (q : Fin 4096) : EReal :=
  ∑ k : Fin 4096, x (ix2 r k) * w (ix3 0 k q)

/-- The row of the embeddings times the column of the first layer's embedding weights. -/
def smallAt (g : Vec Ideal S8192x256 .f32) (u : Vec Ideal S2x256x4096 .f32) (r : Fin 8192) (q : Fin 4096) : EReal :=
  ∑ k : Fin 256, g (ix2 r k) * u (ix3 0 k q)

/-- The result. -/
def result (x : Vec Ideal S8192x4096 .bf16) (w : Vec Ideal S2x4096x4096 .f32) (g : Vec Ideal S8192x256 .f32) (u : Vec Ideal S2x256x4096 .f32) : Vec Ideal S8192x4096 .bf16 :=
  fun y => (logistic (dotAt x w (y 0) (y 1)) * smallAt g u (y 0) (y 1) : EReal)

/-- The arguments of core `c`. -/
abbrev argX (c : Dev nD) : Vec Ideal S8192x4096 .bf16 := m ((c : Thread nD τ).loc main_arg0)
abbrev argW (c : Dev nD) : Vec Ideal S2x4096x4096 .f32 := m ((c : Thread nD τ).loc main_arg1)
abbrev argG (c : Dev nD) : Vec Ideal S8192x256 .f32 := m ((c : Thread nD τ).loc main_arg2)
abbrev argU (c : Dev nD) : Vec Ideal S2x256x4096 .f32 := m ((c : Thread nD τ).loc main_arg3)

/-- The result of core `c`'s arguments. -/
abbrev resultOf (c : Dev nD) : Vec Ideal S8192x4096 .bf16 := result (argX m c) (argW m c) (argG m c) (argU m c)

/-! ## The windows' places -/

theorem place_x : ∀ t : Fin cfg0.N, 8 ≤ t.val → win0_0.index t (0 : Fin 2) = t.val % 8 ∧ win0_0.index t (1 : Fin 2) = 0 :=
  (by decide +kernel : ∀ t : Fin grid0.N, _)
theorem place_w : ∀ t : Fin cfg0.N, t.val < 32 → win0_1.index t (0 : Fin 3) = 0 ∧ win0_1.index t (1 : Fin 3) = t.val % 8 ∧ win0_1.index t (2 : Fin 3) = t.val / 8 :=
  (by decide +kernel : ∀ t : Fin grid0.N, _)
theorem place_g : ∀ t : Fin cfg0.N, 8 ≤ t.val → win0_2.index t (0 : Fin 2) = t.val % 8 ∧ win0_2.index t (1 : Fin 2) = 0 :=
  (by decide +kernel : ∀ t : Fin grid0.N, _)
theorem place_u : ∀ t : Fin cfg0.N, 8 ≤ t.val → win0_3.index t (0 : Fin 3) = 0 ∧ win0_3.index t (1 : Fin 3) = 0 ∧ win0_3.index t (2 : Fin 3) = t.val / 8 - 1 :=
  (by decide +kernel : ∀ t : Fin grid0.N, _)
theorem place_out : ∀ t : Fin cfg0.N, 8 ≤ t.val → win0_4.index t (0 : Fin 2) = t.val % 8 ∧ win0_4.index t (1 : Fin 2) = t.val / 8 - 1 :=
  (by decide +kernel : ∀ t : Fin grid0.N, _)
theorem flush_out : ∀ t : Fin cfg0.N, (cfg0.win 4).flush t = true ↔ 8 ≤ t.val :=
  (by decide +kernel : ∀ t : Fin grid0.N, win0_4.flush t = true ↔ 8 ≤ t.val)

theorem x_block (c : Dev nD) (t : Fin cfg0.N) (h8 : 8 ≤ t.val) (a : Fin 1024) (k : Fin 4096) :
    (iblk m c 0 t : Vec Ideal S1024x4096 .bf16) (ix2 a k) = argX m c (ix2 ⟨1024 * (t.val % 8) + a.val, by omega⟩ k) := by
  obtain ⟨e0, e1⟩ := place_x t h8
  unfold iblk
  rw [View.read_apply]
  show V m c main_arg0 _ = m (c.tc.loc main_arg0) _
  unfold V
  congr 1
  funext d
  apply Fin.ext
  match d with
  | ⟨0, _⟩ => show win0_0.index t 0 * 1024 + 1 * a.val = 1024 * (t.val % 8) + a.val; rw [e0]; omega
  | ⟨1, _⟩ => show win0_0.index t 1 * 4096 + 1 * k.val = k.val; rw [e1]; omega

theorem w_block (c : Dev nD) (t : Fin cfg0.N) (h : t.val < 32) (a : Fin 512) (b : Fin 1024) :
    (iblk m c 1 t : Vec Ideal S1x512x1024 .f32) (ix3 0 a b)
      = argW m c (ix3 0 ⟨512 * (t.val % 8) + a.val, by omega⟩ ⟨1024 * (t.val / 8) + b.val, by omega⟩) := by
  obtain ⟨e0, e1, e2⟩ := place_w t h
  unfold iblk
  rw [View.read_apply]
  show V m c main_arg1 _ = m (c.tc.loc main_arg1) _
  unfold V
  congr 1
  funext d
  apply Fin.ext
  match d with
  | ⟨0, _⟩ => show win0_1.index t 0 * 1 + 1 * 0 = 0; rw [e0]
  | ⟨1, _⟩ => show win0_1.index t 1 * 512 + 1 * a.val = 512 * (t.val % 8) + a.val; rw [e1]; omega
  | ⟨2, _⟩ => show win0_1.index t 2 * 1024 + 1 * b.val = 1024 * (t.val / 8) + b.val; rw [e2]; omega

theorem g_block (c : Dev nD) (t : Fin cfg0.N) (h8 : 8 ≤ t.val) (a : Fin 1024) (k : Fin 256) :
    (iblk m c 2 t : Vec Ideal S1024x256 .f32) (ix2 a k) = argG m c (ix2 ⟨1024 * (t.val % 8) + a.val, by omega⟩ k) := by
  obtain ⟨e0, e1⟩ := place_g t h8
  unfold iblk
  rw [View.read_apply]
  show V m c main_arg2 _ = m (c.tc.loc main_arg2) _
  unfold V
  congr 1
  funext d
  apply Fin.ext
  match d with
  | ⟨0, _⟩ => show win0_2.index t 0 * 1024 + 1 * a.val = 1024 * (t.val % 8) + a.val; rw [e0]; omega
  | ⟨1, _⟩ => show win0_2.index t 1 * 256 + 1 * k.val = k.val; rw [e1]; omega

theorem u_block (c : Dev nD) (t : Fin cfg0.N) (h8 : 8 ≤ t.val) (hN : t.val < 40) (k : Fin 256) (b : Fin 1024) :
    (iblk m c 3 t : Vec Ideal S1x256x1024 .f32) (ix3 0 k b) = argU m c (ix3 0 k ⟨1024 * (t.val / 8 - 1) + b.val, by omega⟩) := by
  obtain ⟨e0, e1, e2⟩ := place_u t h8
  unfold iblk
  rw [View.read_apply]
  show V m c main_arg3 _ = m (c.tc.loc main_arg3) _
  unfold V
  congr 1
  funext d
  apply Fin.ext
  match d with
  | ⟨0, _⟩ => show win0_3.index t 0 * 1 + 1 * 0 = 0; rw [e0]
  | ⟨1, _⟩ => show win0_3.index t 1 * 256 + 1 * k.val = k.val; rw [e1]; omega
  | ⟨2, _⟩ => show win0_3.index t 2 * 1024 + 1 * b.val = 1024 * (t.val / 8 - 1) + b.val; rw [e2]; omega

/-- A whole panel is a column block of the weights. -/
theorem panel_apply (c : Dev nD) (p : ℕ) (hp : p < 4) (k : Fin 4096) (b : Fin 1024) :
    (panel (staged m c) p : Vec Ideal S4096x1024 .bf16) (ix2 k b) = argW m c (ix3 0 k ⟨1024 * p + b.val, by omega⟩) := by
  have hk := k.isLt
  have e : (pt (8 * p + k.val / 512)).val = 8 * p + k.val / 512 := Nat.mod_eq_of_lt (by omega)
  unfold panel staged
  show k0_pay1 (iblk m c 1 (pt (8 * p + k.val / 512))) (ix2 ⟨k.val % 512, _⟩ b) = _
  refine (slab_apply _ _ _).trans ((w_block m c _ (by omega) _ _).trans ?_)
  refine congrArg (argW m c) (funext fun d => Fin.ext ?_)
  match d with
  | ⟨0, _⟩ => rfl
  | ⟨1, _⟩ => show 512 * ((pt (8 * p + k.val / 512)).val % 8) + k.val % 512 = k.val; omega
  | ⟨2, _⟩ => show 1024 * ((pt (8 * p + k.val / 512)).val / 8) + b.val = 1024 * p + b.val; omega

/-- The sum of a point's block is the dot product of the row and the column. -/
theorem sum_apply (c : Dev nD) (t : Fin cfg0.N) (h8 : 8 ≤ t.val) (hN : t.val < 40) (a b : Fin 1024)
    (x : FVec Ideal S1024x4096 .bf16) (p : FVec Ideal S4096x1024 .bf16)
    (hx : ∀ k, x (ix2 a k) = argX m c (ix2 ⟨1024 * (t.val % 8) + a.val, by omega⟩ k))
    (hp : ∀ k, p (ix2 k b) = argW m c (ix3 0 k ⟨1024 * (t.val / 8 - 1) + b.val, by omega⟩)) :
    (∑ k : Fin 4096, x (ix2 a k) * p (ix2 k b) : EReal)
      = dotAt (argX m c) (argW m c) ⟨1024 * (t.val % 8) + a.val, by omega⟩ ⟨1024 * (t.val / 8 - 1) + b.val, by omega⟩ := by
  unfold dotAt
  refine Finset.sum_congr rfl fun k _ => ?_
  rw [hx k, hp k]

/-- The output block of a point is a block of the result. -/
theorem outBlock_apply (c : Dev nD) (t : Fin cfg0.N) (h8 : 8 ≤ t.val) (a b : Fin 1024) :
    (outBlock m c t : Vec Ideal S1024x1024 .bf16) (ix2 a b)
      = resultOf m c (ix2 ⟨1024 * (t.val % 8) + a.val, by omega⟩
          ⟨1024 * (t.val / 8 - 1) + b.val, by have := lt_of_lt_of_eq t.isLt N_0; omega⟩) := by
  have hN : t.val < 40 := lt_of_lt_of_eq t.isLt N_0
  have hs := sum_apply m c t h8 hN a b (iblk m c 0 t) (panel (staged m c) (t.val / 8 - 1)) (x_block m c t h8 a) (fun k => panel_apply m c _ (by omega) k b)
  unfold outBlock
  refine (product_apply _ _ _ _ a b).trans ?_
  rw [hs]
  refine congrArg (logistic _ * ·) ?_
  unfold smallAt
  refine Finset.sum_congr rfl fun k _ => ?_
  rw [g_block m c t h8 a k, u_block m c t h8 hN k b]
  rfl

/-! ## The final array -/

theorem flushed_out (c : Dev nD) (t : Fin cfg0.N) (hf : (cfg0.win 4).flush t = true) :
    (dats m 0 c).flushed 4 t = ((cfg0.win 4).blk t).view.read (Elt Ideal) (resultOf m c) := by
  have h8 := (flush_out t).mp hf
  obtain ⟨e0, e1⟩ := place_out t h8
  show (cfg0.win 4).cut (grid0.coords t) ((dats m 0 c).after 4 t) = _
  rw [after_4]
  funext y
  obtain ⟨a, b, rfl⟩ : ∃ a b : Fin 1024, y = ix2 a b := ⟨y 0, y 1, eq_ix2 y⟩
  rw [View.read_apply]
  refine (outBlock_apply m c t h8 a b).trans (congrArg (resultOf m c) (funext fun d => Fin.ext ?_))
  match d with
  | ⟨0, _⟩ => show 1024 * (t.val % 8) + a.val = win0_4.index t (0 : Fin 2) * 1024 + 1 * a.val; rw [e0]; omega
  | ⟨1, _⟩ => show 1024 * (t.val / 8 - 1) + b.val = win0_4.index t (1 : Fin 2) * 1024 + 1 * b.val; rw [e1]; omega

/-- An index is in a point's block where each coordinate is in the block's range. -/
theorem mem_block (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index of the result is in a block some point writes back. -/
theorem cover_out (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have ht : 8 * ((i 1).val / 1024 + 1) + (i 0).val / 1024 < cfg0.N := lt_of_lt_of_eq (by omega) N_0.symm
  obtain ⟨e0, e1⟩ := place_out ⟨_, ht⟩ (by dsimp only; omega)
  dsimp only at e0 e1
  refine ⟨⟨_, ht⟩, (flush_out _).mpr (by dsimp only; omega), ?_⟩
  rw [mem_block]
  intro a
  match a with
  | ⟨0, _⟩ => show win0_4.index ⟨_, ht⟩ (0 : Fin 2) * 1024 ≤ (i 0).val ∧ (i 0).val < win0_4.index ⟨_, ht⟩ (0 : Fin 2) * 1024 + 1024; omega
  | ⟨1, _⟩ => show win0_4.index ⟨_, ht⟩ (1 : Fin 2) * 1024 ≤ (i 1).val ∧ (i 1).val < win0_4.index ⟨_, ht⟩ (1 : Fin 2) * 1024 + 1024; omega

theorem final_out (c : Dev nD) : (dats m 0 c).arrAt 4 cfg0.N = resultOf m c :=
  (dats m 0 c).arrAt_eq_of_cover 4 _ (fun t hf => flushed_out m c t hf) (fun i => cover_out i)

/-- The run with the result named. -/
theorem run_results : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final_out m c), kept m r h c⟩)
    (run_main m ρ)

/-! ## The reference's result -/

theorem reference_out (x : FVec Ideal Cert.Reference9Ideal.S8192x4096 .bf16) (w : FVec Ideal Cert.Reference9Ideal.S2x4096x4096 .f32) (g : FVec Ideal Cert.Reference9Ideal.S8192x256 .f32) (u : FVec Ideal Cert.Reference9Ideal.S2x256x4096 .f32) (h1 h2 h3 h5 h6 h7 h9) :
    (truncf (F := Ideal) .bf16 (mulf (Host.divf (broadcastInDim Cert.Reference9Ideal.S8192x4096 ![] h5 (constant Cert.Reference9Ideal.S_ .f32 0x3F800000#32))
      (addf (broadcastInDim Cert.Reference9Ideal.S8192x4096 ![] h5 (constant Cert.Reference9Ideal.S_ .f32 0x3F800000#32)) (Host.exp (Host.negf
      (Host.dotGeneral Cert.Reference9Ideal.dot_S8192x4096_S4096x4096_S8192x4096_1_0_0_1_n_n none (extf .f32 x h1)
        (shapeCast Cert.Reference9Ideal.S4096x4096 (extractStridedSlice Cert.Reference9Ideal.S1x4096x4096 ![0, 0, 0] w h2) h3))))))
      (Host.dotGeneral Cert.Reference9Ideal.dot_S8192x256_S256x4096_S8192x4096_1_0_0_1_n_n none g
        (shapeCast Cert.Reference9Ideal.S256x4096 (extractStridedSlice Cert.Reference9Ideal.S1x256x4096 ![0, 0, 0] u h6) h7))) h9 : FVec Ideal Cert.Reference9Ideal.S8192x4096 .bf16) = result x w g u := by
  funext y
  obtain ⟨r, q, rfl⟩ : ∃ (r : Fin 8192) (q : Fin 4096), y = ix2 r q := ⟨y 0, y 1, eq_ix2 y⟩
  refine Eq.trans (b := (logistic (∑ k : Fin 4096, x (ix2 r k) * w (ix3 0 k q)) * (∑ k : Fin 256, g (ix2 r k) * u (ix3 0 k q)) : EReal)) ?_ rfl
  unfold logistic
  pointwise

/-! ## The frames, and the two results are one -/

/-- The frame of the idealised program's text, read over the bit patterns. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_same : Cert.quiescent_Kernel9 = FrameBits := by sl_kernel_rfl

theorem frame_kernel : Cert.quiescent_Kernel9 := by
  rw [frame_same]
  exact fun m ρ _ => frame_main m ρ

theorem frame_ideal : Cert.quiescent_Kernel9Ideal := fun m ρ _ => frame_main m ρ

theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem same_result : Cert.algebraic_Kernel9Ideal_Reference9Ideal := fun m ρ m' ρ' _ hargs =>
  ⟨fun c => resultOf m c, run_results m ρ,
    (θ_run Cert.Reference9Ideal.defs _ _).mono (fun _ h c =>
      ⟨(h c).1.trans ((reference_out _ _ _ _ _ _ _ _ _ _ _).trans (by rw [(hargs c).1, (hargs c).2.1, (hargs c).2.2.1, (hargs c).2.2.2])), (h c).2⟩)
      (Cert.Reference9Ideal.Value.run (F := Ideal) m' ρ')⟩

end Cert.Kernel9Ideal.Ple

end
-- ==== Proof.Norm.lean ====
/-
  THE NORM of the layer over exact values: a row divided by the root of the mean of its squares plus ε, times the weights
  column by column; the same in the host's operations; and the rows and blocks of rows the norms' kernels read.
-/
module

public import proofs.«01_k».proof.Proof.Gen.Reference10Ideal.Run
public import Idealize.ShloMosaic.PureOps.Ideal
public import Idealize.ShloMosaic.Lib.Pointwise
public import Idealize.ShloMosaic.Lib.IdealHost
public import Idealize.ShloMosaic.Lib.Tactic

@[expose] public section

noncomputable section

namespace Cert.Norm

open Idealize.ShloMosaic Cert.Reference10Ideal Cert.Reference10Ideal.Gen

/-- One over the root of the mean of a row's squares plus ε, the mean's 4096 and ε as the words the programs hold. -/
def scale (row : Fin 4096 → EReal) : EReal :=
  Ideal.rsqrt (Ideal.div (∑ k, row k * row k) (Ideal.ofBits .f32 0x45800000#32) + Ideal.ofBits .f32 0x358637BD#32)

/-- The norm of a row, times the weights. -/
def rms (row g : Fin 4096 → EReal) (q : Fin 4096) : EReal := row q * scale row * g q

/-- A row plus the norm of another. -/
def addRms (x y g : Fin 4096 → EReal) (q : Fin 4096) : EReal := x q + rms y g q

/-- Row `r` of an array. -/
def rowOf (x : S8192x4096.Idx → EReal) (r : Fin 8192) : Fin 4096 → EReal := fun k => x (ix2 r k)

/-- The weights as a row. -/
def weights (g : S4096.Idx → EReal) : Fin 4096 → EReal := fun k => g (ix1 k)

/-- The norm of each row of `x`. -/
def normed (x : S8192x4096.Idx → EReal) (g : S4096.Idx → EReal) : S8192x4096.Idx → EReal :=
  fun i => rms (rowOf x (i 0)) (weights g) (i 1)

/-- Each row of `x` plus the norm of that row of `y`. -/
def added (x y : S8192x4096.Idx → EReal) (g : S4096.Idx → EReal) : S8192x4096.Idx → EReal :=
  fun i => addRms (rowOf x (i 0)) (rowOf y (i 0)) (weights g) (i 1)

theorem rowOf_added (x y : S8192x4096.Idx → EReal) (g : S4096.Idx → EReal) (r : Fin 8192) :
    rowOf (added x y g) r = addRms (rowOf x r) (rowOf y r) (weights g) := rfl

/-- The norm in the host's operations. -/
abbrev hostNorm (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf
      (Host.divf (broadcastInDim S8192x1 ![0] bcast_S8192_S8192x1_0
          (Host.reduceAdd (mulf x x) (constant S_ .f32 0x00000000#32) reducesTo_S8192x4096_S8192_d1 h_S_))
        (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

theorem hostNorm_apply (x : FVec Ideal S8192x4096 .f32) (g : FVec Ideal S4096 .f32) (r : Fin 8192) (q : Fin 4096) :
    hostNorm x g (ix2 r q) = (rms (rowOf x r) (weights g) q : EReal) := by
  unfold rms scale rowOf weights
  pointwise [hostNorm]

/-- The host's norm is the norm of each row. -/
theorem hostNorm_eq (x : FVec Ideal S8192x4096 .f32) (g : FVec Ideal S4096 .f32) : hostNorm x g = normed x g := by
  funext i
  obtain ⟨r, q, rfl⟩ : ∃ (r : Fin 8192) (q : Fin 4096), i = ix2 r q := ⟨i 0, i 1, eq_ix2 i⟩
  exact hostNorm_apply x g r q

/-- An offset of zeros. -/
theorem zeros : (![0, 0] : Fin 2 → ℕ) = fun _ => 0 := funext fun a => match a with | ⟨0, _⟩ => rfl | ⟨1, _⟩ => rfl

end Cert.Norm

end
-- ==== Proof.RmsValue.lean ====
/-
  THE VALUE of the norm's kernel over exact values, and its reference's: row r of the result is the norm of row r of x, times
  the weights.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Norm
public import Idealize.ShloMosaic.Lib.Pipeline.Value
public import Idealize.ShloMosaic.Lib.Quiescent

@[expose] public section

set_option maxRecDepth 16384

noncomputable section

namespace Cert.Kernel10Ideal.Rms

open Cert.Kernel10Ideal.Gen Cert.Norm
open Idealize.ShloMosaic Idealize.ShloMosaic.TcCoe Idealize.SL.Sem

variable (m : (ℓ : Loc nD τ sig) → Buf (Elt Ideal) ℓ) (ρ : Dev nD → PrngReg)

/-! ## What a point writes -/

theorem pay_2 (x : FVec Ideal S512x4096 .f32) (g : FVec Ideal S1x4096 .f32) (a : Fin 512) (b : Fin 4096) :
    (k0_pay1 x g : FVec Ideal S512x4096 .bf16) (ix2 a b)
      = (rms (fun k => x (ix2 a k)) (fun k => g (ix2 0 k)) b : EReal) := by
  unfold rms scale
  pointwise [k0_pay1]

theorem out_2 (x : Vec Ideal S512x4096 .f32) (g : Vec Ideal S1x4096 .f32) :
    out0_2 x g = k0_pay1 x g := by
  unfold out0_2
  rw [show View.ld x r0_0 = x from View.ld_unit_zero zeros _ _, show View.ld g r0_1 = g from View.ld_unit_zero zeros _ _]
  exact View.canon_unit_zero zeros _ _

/-! ## The arguments and the results -/

/-- The arguments of core `c`. -/
abbrev argX (c : Dev nD) : Vec Ideal S8192x4096 .f32 := m ((c : Thread nD τ).loc main_arg0)
abbrev argG (c : Dev nD) : Vec Ideal S4096 .f32 := m ((c : Thread nD τ).loc main_arg1)

/-- Result `main_v1` of core `c`'s arguments. -/
abbrev result2 (c : Dev nD) : Vec Ideal S8192x4096 .bf16 := normed (argX m c) (argG m c)

/-- The weights of window 1, as the region finds them. -/
theorem V_g (c : Dev nD) : V m c main_v0 = (shapeCast S1x4096 (argG m c) shapeCasts_S4096_S1x4096 : Vec Ideal S1x4096 .f32) := by
  unfold_abbrev_sides
  after_results <;> rfl

theorem cast_apply (g : FVec Ideal S4096 .f32) (k : Fin 4096) :
    (shapeCast S1x4096 g shapeCasts_S4096_S1x4096 : FVec Ideal S1x4096 .f32) (ix2 0 k) = (g (ix1 k) : EReal) := by
  pointwise

/-! ## The windows' places -/

theorem place_x : ∀ t : Fin cfg0.N, win0_0.index t (0 : Fin 2) = t.val ∧ win0_0.index t (1 : Fin 2) = 0 :=
  (by decide +kernel : ∀ t : Fin grid0.N, _)
theorem place_g : ∀ t : Fin cfg0.N, win0_1.index t (0 : Fin 2) = 0 ∧ win0_1.index t (1 : Fin 2) = 0 :=
  (by decide +kernel : ∀ t : Fin grid0.N, _)
theorem place_2 : ∀ t : Fin cfg0.N, win0_2.index t (0 : Fin 2) = t.val ∧ win0_2.index t (1 : Fin 2) = 0 :=
  (by decide +kernel : ∀ t : Fin grid0.N, _)
theorem flush_2 : ∀ t : Fin cfg0.N, (cfg0.win 2).flush t = true :=
  (by decide +kernel : ∀ t : Fin grid0.N, win0_2.flush t = true)
theorem row_lt (t : Fin cfg0.N) (a : Fin 512) : 512 * t.val + a.val < 8192 := by
  have := lt_of_lt_of_eq t.isLt N_0
  omega

theorem x_block (c : Dev nD) (t : Fin cfg0.N) (a : Fin 512) (k : Fin 4096) :
    (iblk m c 0 t : Vec Ideal S512x4096 .f32) (ix2 a k) = argX m c (ix2 ⟨512 * t.val + a.val, row_lt t a⟩ k) := by
  obtain ⟨e0, e1⟩ := place_x t
  unfold iblk
  rw [View.read_apply]
  show V m c main_arg0 _ = m (c.tc.loc main_arg0) _
  rw [V_main_arg0]
  congr 1
  funext d
  apply Fin.ext
  match d with
  | ⟨0, _⟩ => show win0_0.index t 0 * 512 + 1 * a.val = 512 * t.val + a.val; rw [e0]; omega
  | ⟨1, _⟩ => show win0_0.index t 1 * 4096 + 1 * k.val = k.val; rw [e1]; omega

theorem g_block (c : Dev nD) (t : Fin cfg0.N) (k : Fin 4096) :
    (iblk m c 1 t : Vec Ideal S1x4096 .f32) (ix2 0 k) = argG m c (ix1 k) := by
  obtain ⟨e0, e1⟩ := place_g t
  unfold iblk
  rw [View.read_apply]
  show V m c main_v0 _ = _
  rw [V_g]
  refine Eq.trans (congrArg _ (funext fun d => Fin.ext ?_)) (cast_apply (argG m c) k)
  match d with
  | ⟨0, _⟩ => show win0_1.index t 0 * 1 + 1 * 0 = 0; rw [e0]
  | ⟨1, _⟩ => show win0_1.index t 1 * 4096 + 1 * k.val = k.val; rw [e1]; omega

/-! ## The final arrays -/

/-- What a point writes back is a block of rows of the result. -/
theorem flushed_2 (c : Dev nD) (t : Fin cfg0.N) :
    (dats m 0 c).flushed 2 t = ((cfg0.win 2).blk t).view.read (Elt Ideal) (result2 m c) := by
  obtain ⟨e0, e1⟩ := place_2 t
  show (cfg0.win 2).cut (grid0.coords t) ((dats m 0 c).after 2 t) = _
  rw [after0_2, out_2]
  funext y
  obtain ⟨a, b, rfl⟩ : ∃ (a : Fin 512) (b : Fin 4096), y = ix2 a b := ⟨y 0, y 1, eq_ix2 y⟩
  rw [View.read_apply]
  refine ((pay_2 _ _ a b).trans ?_ : _ = result2 m c (ix2 ⟨512 * t.val + a.val, row_lt t a⟩ b)).trans
    (congrArg (result2 m c) (funext fun d => Fin.ext ?_))
  · simp only [x_block m c t a, g_block m c t]
    rfl
  · match d with
    | ⟨0, _⟩ => show 512 * t.val + a.val = win0_2.index t (0 : Fin 2) * 512 + 1 * a.val; rw [e0]; omega
    | ⟨1, _⟩ => show b.val = win0_2.index t (1 : Fin 2) * 4096 + 1 * b.val; rw [e1]; omega

/-- Every index of the result is in a block some point writes back. -/
theorem cover_2 (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have ht : (i 0).val / 512 < cfg0.N := lt_of_lt_of_eq (by omega) N_0.symm
  obtain ⟨e0, e1⟩ := place_2 ⟨_, ht⟩
  dsimp only at e0
  refine ⟨⟨_, ht⟩, flush_2 _, ?_⟩
  show i ∈ ((View.whole main_v1).slice (win0_2.rect ⟨_, ht⟩)).set
  rw [View.set_slice_whole, Rect.mem_set_unit]
  intro a
  match a with
  | ⟨0, _⟩ => show win0_2.index ⟨_, ht⟩ (0 : Fin 2) * 512 ≤ (i 0).val ∧ (i 0).val < win0_2.index ⟨_, ht⟩ (0 : Fin 2) * 512 + 512; omega
  | ⟨1, _⟩ => show win0_2.index ⟨_, ht⟩ (1 : Fin 2) * 4096 ≤ (i 1).val ∧ (i 1).val < win0_2.index ⟨_, ht⟩ (1 : Fin 2) * 4096 + 4096; omega

theorem final_2 (c : Dev nD) : (dats m 0 c).arrAt 2 cfg0.N = result2 m c :=
  (dats m 0 c).arrAt_eq_of_cover 2 _ (fun t _ => flushed_2 m c t) cover_2

/-- The run with its results named. -/
theorem run_results : θ_run defs (onTc (τ := τ) (main (F := Ideal))) ⟨m, fun _ => 0, ρ⟩ fun r => ∀ c : Dev nD,
      r.2.mem ((c.tc : Thread nD τ).loc main_v1) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final_2 m c), h.2 c⟩)
    (θ_run_and (run_main m ρ) (unchanged m ρ))

/-! ## The reference, the frames, and that the results are one -/

theorem reference_2 (x : FVec Ideal S8192x4096 .f32) (g : FVec Ideal S4096 .f32) :
    (truncf (F := Ideal) .bf16 (hostNorm x g) bitsLt_bf16_f32 : FVec Ideal S8192x4096 .bf16) = normed x g := by
  exact hostNorm_eq x g

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel and its reference end with the same results. -/
theorem same_result : Cert.algebraic_Kernel10Ideal_Reference10Ideal := fun m ρ m' ρ' _ hargs =>
  ⟨fun c => result2 m c, run_results m ρ,
    (θ_run Cert.Reference10Ideal.defs _ _).mono (fun _ h c =>
      ⟨(h c).1.trans ((reference_2 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1))).trans (by rw [(hargs c).1, (hargs c).2])),
       (h c).2⟩)
      (Cert.Reference10Ideal.Value.run (F := Ideal) m' ρ')⟩

end Cert.Kernel10Ideal.Rms

end
-- ==== Proof.ResValue.lean ====
/-
  THE VALUE of the residual's kernel with its two results over exact values, and its reference's: row r of the first result is
  row r of x plus the norm of row r of y, times the weights; row r of the second is the norm of that row, times the next weights.
-/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Norm
public import Idealize.ShloMosaic.Lib.Pipeline.Value
public import Idealize.ShloMosaic.Lib.Quiescent

@[expose] public section

set_option maxRecDepth 16384

noncomputable section

namespace Cert.Kernel11Ideal.Res

open Cert.Kernel11Ideal.Gen Cert.Norm
open Idealize.ShloMosaic Idealize.ShloMosaic.TcCoe Idealize.SL.Sem

variable (m : (ℓ : Loc nD τ sig) → Buf (Elt Ideal) ℓ) (ρ : Dev nD → PrngReg)

/-! ## What a point writes -/

theorem pay_4 (x : FVec Ideal S512x4096 .f32) (y : FVec Ideal S512x4096 .bf16) (g : FVec Ideal S1x4096 .f32) (a : Fin 512) (b : Fin 4096) :
    (k0_pay2 x y g : FVec Ideal S512x4096 .bf16) (ix2 a b)
      = (addRms (fun k => x (ix2 a k)) (fun k => y (ix2 a k)) (fun k => g (ix2 0 k)) b : EReal) := by
  unfold addRms rms scale
  pointwise [k0_pay2, k0_pay1]

theorem out_4 (x : Vec Ideal S512x4096 .f32) (y : Vec Ideal S512x4096 .bf16) (g : Vec Ideal S1x4096 .f32) (h : Vec Ideal S1x4096 .f32) :
    out0_4 x y g h = k0_pay2 x y g := by
  unfold out0_4
  rw [show View.ld x r0_0 = x from View.ld_unit_zero zeros _ _, show View.ld y r0_0 = y from View.ld_unit_zero zeros _ _, show View.ld g r0_1 = g from View.ld_unit_zero zeros _ _]
  exact View.canon_unit_zero zeros _ _

theorem pay_5 (x : FVec Ideal S512x4096 .f32) (y : FVec Ideal S512x4096 .bf16) (g : FVec Ideal S1x4096 .f32) (h : FVec Ideal S1x4096 .f32) (a : Fin 512) (b : Fin 4096) :
    (k0_pay3 x y g h : FVec Ideal S512x4096 .bf16) (ix2 a b)
      = (rms (addRms (fun k => x (ix2 a k)) (fun k => y (ix2 a k)) (fun k => g (ix2 0 k))) (fun k => h (ix2 0 k)) b : EReal) := by
  unfold addRms rms scale
  pointwise [k0_pay3, k0_pay1]

theorem out_5 (x : Vec Ideal S512x4096 .f32) (y : Vec Ideal S512x4096 .bf16) (g : Vec Ideal S1x4096 .f32) (h : Vec Ideal S1x4096 .f32) :
    out0_5 x y g h = k0_pay3 x y g h := by
  unfold out0_5
  rw [show View.ld x r0_0 = x from View.ld_unit_zero zeros _ _, show View.ld y r0_0 = y from View.ld_unit_zero zeros _ _, show View.ld g r0_1 = g from View.ld_unit_zero zeros _ _, show View.ld h r0_1 = h from View.ld_unit_zero zeros _ _]
  exact View.canon_unit_zero zeros _ _

/-! ## The arguments and the results -/

/-- The arguments of core `c`. -/
abbrev argX (c : Dev nD) : Vec Ideal S8192x4096 .f32 := m ((c : Thread nD τ).loc main_arg0)
abbrev argY (c : Dev nD) : Vec Ideal S8192x4096 .bf16 := m ((c : Thread nD τ).loc main_arg1)
abbrev argG (c : Dev nD) : Vec Ideal S4096 .f32 := m ((c : Thread nD τ).loc main_arg2)
abbrev argH (c : Dev nD) : Vec Ideal S4096 .f32 := m ((c : Thread nD τ).loc main_arg3)

/-- Result `main_v2_0` of core `c`'s arguments. -/
abbrev result4 (c : Dev nD) : Vec Ideal S8192x4096 .bf16 := added (argX m c) (argY m c) (argG m c)

/-- Result `main_v2_1` of core `c`'s arguments. -/
abbrev result5 (c : Dev nD) : Vec Ideal S8192x4096 .bf16 := normed (added (argX m c) (argY m c) (argG m c)) (argH m c)

/-- The weights of window 2, as the region finds them. -/
theorem V_g (c : Dev nD) : V m c main_v0 = (shapeCast S1x4096 (argG m c) shapeCasts_S4096_S1x4096 : Vec Ideal S1x4096 .f32) := by
  unfold_abbrev_sides
  after_results <;> rfl

/-- The weights of window 3, as the region finds them. -/
theorem V_h (c : Dev nD) : V m c main_v1 = (shapeCast S1x4096 (argH m c) shapeCasts_S4096_S1x4096 : Vec Ideal S1x4096 .f32) := by
  unfold_abbrev_sides
  after_results <;> rfl

theorem cast_apply (g : FVec Ideal S4096 .f32) (k : Fin 4096) :
    (shapeCast S1x4096 g shapeCasts_S4096_S1x4096 : FVec Ideal S1x4096 .f32) (ix2 0 k) = (g (ix1 k) : EReal) := by
  pointwise

/-! ## The windows' places -/

theorem place_x : ∀ t : Fin cfg0.N, win0_0.index t (0 : Fin 2) = t.val ∧ win0_0.index t (1 : Fin 2) = 0 :=
  (by decide +kernel : ∀ t : Fin grid0.N, _)
theorem place_y : ∀ t : Fin cfg0.N, win0_1.index t (0 : Fin 2) = t.val ∧ win0_1.index t (1 : Fin 2) = 0 :=
  (by decide +kernel : ∀ t : Fin grid0.N, _)
theorem place_g : ∀ t : Fin cfg0.N, win0_2.index t (0 : Fin 2) = 0 ∧ win0_2.index t (1 : Fin 2) = 0 :=
  (by decide +kernel : ∀ t : Fin grid0.N, _)
theorem place_h : ∀ t : Fin cfg0.N, win0_3.index t (0 : Fin 2) = 0 ∧ win0_3.index t (1 : Fin 2) = 0 :=
  (by decide +kernel : ∀ t : Fin grid0.N, _)
theorem place_4 : ∀ t : Fin cfg0.N, win0_4.index t (0 : Fin 2) = t.val ∧ win0_4.index t (1 : Fin 2) = 0 :=
  (by decide +kernel : ∀ t : Fin grid0.N, _)
theorem flush_4 : ∀ t : Fin cfg0.N, (cfg0.win 4).flush t = true :=
  (by decide +kernel : ∀ t : Fin grid0.N, win0_4.flush t = true)
theorem place_5 : ∀ t : Fin cfg0.N, win0_5.index t (0 : Fin 2) = t.val ∧ win0_5.index t (1 : Fin 2) = 0 :=
  (by decide +kernel : ∀ t : Fin grid0.N, _)
theorem flush_5 : ∀ t : Fin cfg0.N, (cfg0.win 5).flush t = true :=
  (by decide +kernel : ∀ t : Fin grid0.N, win0_5.flush t = true)
theorem row_lt (t : Fin cfg0.N) (a : Fin 512) : 512 * t.val + a.val < 8192 := by
  have := lt_of_lt_of_eq t.isLt N_0
  omega

theorem x_block (c : Dev nD) (t : Fin cfg0.N) (a : Fin 512) (k : Fin 4096) :
    (iblk m c 0 t : Vec Ideal S512x4096 .f32) (ix2 a k) = argX m c (ix2 ⟨512 * t.val + a.val, row_lt t a⟩ k) := by
  obtain ⟨e0, e1⟩ := place_x t
  unfold iblk
  rw [View.read_apply]
  show V m c main_arg0 _ = m (c.tc.loc main_arg0) _
  rw [V_main_arg0]
  congr 1
  funext d
  apply Fin.ext
  match d with
  | ⟨0, _⟩ => show win0_0.index t 0 * 512 + 1 * a.val = 512 * t.val + a.val; rw [e0]; omega
  | ⟨1, _⟩ => show win0_0.index t 1 * 4096 + 1 * k.val = k.val; rw [e1]; omega

theorem y_block (c : Dev nD) (t : Fin cfg0.N) (a : Fin 512) (k : Fin 4096) :
    (iblk m c 1 t : Vec Ideal S512x4096 .bf16) (ix2 a k) = argY m c (ix2 ⟨512 * t.val + a.val, row_lt t a⟩ k) := by
  obtain ⟨e0, e1⟩ := place_y t
  unfold iblk
  rw [View.read_apply]
  show V m c main_arg1 _ = m (c.tc.loc main_arg1) _
  rw [V_main_arg1]
  congr 1
  funext d
  apply Fin.ext
  match d with
  | ⟨0, _⟩ => show win0_1.index t 0 * 512 + 1 * a.val = 512 * t.val + a.val; rw [e0]; omega
  | ⟨1, _⟩ => show win0_1.index t 1 * 4096 + 1 * k.val = k.val; rw [e1]; omega

theorem g_block (c : Dev nD) (t : Fin cfg0.N) (k : Fin 4096) :
    (iblk m c 2 t : Vec Ideal S1x4096 .f32) (ix2 0 k) = argG m c (ix1 k) := by
  obtain ⟨e0, e1⟩ := place_g t
  unfold iblk
  rw [View.read_apply]
  show V m c main_v0 _ = _
  rw [V_g]
  refine Eq.trans (congrArg _ (funext fun d => Fin.ext ?_)) (cast_apply (argG m c) k)
  match d with
  | ⟨0, _⟩ => show win0_2.index t 0 * 1 + 1 * 0 = 0; rw [e0]
  | ⟨1, _⟩ => show win0_2.index t 1 * 4096 + 1 * k.val = k.val; rw [e1]; omega

theorem h_block (c : Dev nD) (t : Fin cfg0.N) (k : Fin 4096) :
    (iblk m c 3 t : Vec Ideal S1x4096 .f32) (ix2 0 k) = argH m c (ix1 k) := by
  obtain ⟨e0, e1⟩ := place_h t
  unfold iblk
  rw [View.read_apply]
  show V m c main_v1 _ = _
  rw [V_h]
  refine Eq.trans (congrArg _ (funext fun d => Fin.ext ?_)) (cast_apply (argH m c) k)
  match d with
  | ⟨0, _⟩ => show win0_3.index t 0 * 1 + 1 * 0 = 0; rw [e0]
  | ⟨1, _⟩ => show win0_3.index t 1 * 4096 + 1 * k.val = k.val; rw [e1]; omega

/-! ## The final arrays -/

/-- What a point writes back is a block of rows of the result. -/
theorem flushed_4 (c : Dev nD) (t : Fin cfg0.N) :
    (dats m 0 c).flushed 4 t = ((cfg0.win 4).blk t).view.read (Elt Ideal) (result4 m c) := by
  obtain ⟨e0, e1⟩ := place_4 t
  show (cfg0.win 4).cut (grid0.coords t) ((dats m 0 c).after 4 t) = _
  rw [after0_4, out_4]
  funext y
  obtain ⟨a, b, rfl⟩ : ∃ (a : Fin 512) (b : Fin 4096), y = ix2 a b := ⟨y 0, y 1, eq_ix2 y⟩
  rw [View.read_apply]
  refine ((pay_4 _ _ _ a b).trans ?_ : _ = result4 m c (ix2 ⟨512 * t.val + a.val, row_lt t a⟩ b)).trans
    (congrArg (result4 m c) (funext fun d => Fin.ext ?_))
  · simp only [x_block m c t a, y_block m c t a, g_block m c t]
    rfl
  · match d with
    | ⟨0, _⟩ => show 512 * t.val + a.val = win0_4.index t (0 : Fin 2) * 512 + 1 * a.val; rw [e0]; omega
    | ⟨1, _⟩ => show b.val = win0_4.index t (1 : Fin 2) * 4096 + 1 * b.val; rw [e1]; omega

/-- Every index of the result is in a block some point writes back. -/
theorem cover_4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have ht : (i 0).val / 512 < cfg0.N := lt_of_lt_of_eq (by omega) N_0.symm
  obtain ⟨e0, e1⟩ := place_4 ⟨_, ht⟩
  dsimp only at e0
  refine ⟨⟨_, ht⟩, flush_4 _, ?_⟩
  show i ∈ ((View.whole main_v2_0).slice (win0_4.rect ⟨_, ht⟩)).set
  rw [View.set_slice_whole, Rect.mem_set_unit]
  intro a
  match a with
  | ⟨0, _⟩ => show win0_4.index ⟨_, ht⟩ (0 : Fin 2) * 512 ≤ (i 0).val ∧ (i 0).val < win0_4.index ⟨_, ht⟩ (0 : Fin 2) * 512 + 512; omega
  | ⟨1, _⟩ => show win0_4.index ⟨_, ht⟩ (1 : Fin 2) * 4096 ≤ (i 1).val ∧ (i 1).val < win0_4.index ⟨_, ht⟩ (1 : Fin 2) * 4096 + 4096; omega

theorem final_4 (c : Dev nD) : (dats m 0 c).arrAt 4 cfg0.N = result4 m c :=
  (dats m 0 c).arrAt_eq_of_cover 4 _ (fun t _ => flushed_4 m c t) cover_4

/-- What a point writes back is a block of rows of the result. -/
theorem flushed_5 (c : Dev nD) (t : Fin cfg0.N) :
    (dats m 0 c).flushed 5 t = ((cfg0.win 5).blk t).view.read (Elt Ideal) (result5 m c) := by
  obtain ⟨e0, e1⟩ := place_5 t
  show (cfg0.win 5).cut (grid0.coords t) ((dats m 0 c).after 5 t) = _
  rw [after0_5, out_5]
  funext y
  obtain ⟨a, b, rfl⟩ : ∃ (a : Fin 512) (b : Fin 4096), y = ix2 a b := ⟨y 0, y 1, eq_ix2 y⟩
  rw [View.read_apply]
  refine ((pay_5 _ _ _ _ a b).trans ?_ : _ = result5 m c (ix2 ⟨512 * t.val + a.val, row_lt t a⟩ b)).trans
    (congrArg (result5 m c) (funext fun d => Fin.ext ?_))
  · simp only [x_block m c t a, y_block m c t a, g_block m c t, h_block m c t]
    rfl
  · match d with
    | ⟨0, _⟩ => show 512 * t.val + a.val = win0_5.index t (0 : Fin 2) * 512 + 1 * a.val; rw [e0]; omega
    | ⟨1, _⟩ => show b.val = win0_5.index t (1 : Fin 2) * 4096 + 1 * b.val; rw [e1]; omega

/-- Every index of the result is in a block some point writes back. -/
theorem cover_5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have ht : (i 0).val / 512 < cfg0.N := lt_of_lt_of_eq (by omega) N_0.symm
  obtain ⟨e0, e1⟩ := place_5 ⟨_, ht⟩
  dsimp only at e0
  refine ⟨⟨_, ht⟩, flush_5 _, ?_⟩
  show i ∈ ((View.whole main_v2_1).slice (win0_5.rect ⟨_, ht⟩)).set
  rw [View.set_slice_whole, Rect.mem_set_unit]
  intro a
  match a with
  | ⟨0, _⟩ => show win0_5.index ⟨_, ht⟩ (0 : Fin 2) * 512 ≤ (i 0).val ∧ (i 0).val < win0_5.index ⟨_, ht⟩ (0 : Fin 2) * 512 + 512; omega
  | ⟨1, _⟩ => show win0_5.index ⟨_, ht⟩ (1 : Fin 2) * 4096 ≤ (i 1).val ∧ (i 1).val < win0_5.index ⟨_, ht⟩ (1 : Fin 2) * 4096 + 4096; omega

theorem final_5 (c : Dev nD) : (dats m 0 c).arrAt 5 cfg0.N = result5 m c :=
  (dats m 0 c).arrAt_eq_of_cover 5 _ (fun t _ => flushed_5 m c t) cover_5

/-- The run with its results named. -/
theorem run_results : θ_run defs (onTc (τ := τ) (main (F := Ideal))) ⟨m, fun _ => 0, ρ⟩ fun r => ∀ c : Dev nD,
      r.2.mem ((c.tc : Thread nD τ).loc main_v2_0) = result4 m c
      ∧ r.2.mem ((c.tc : Thread nD τ).loc main_v2_1) = result5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final_4 m c), ((h.1 c).1 5).trans (final_5 m c), h.2 c⟩)
    (θ_run_and (run_main m ρ) (unchanged m ρ))

/-! ## The reference, the frames, and that the results are one -/

theorem reference_4 (x : FVec Ideal S8192x4096 .f32) (y : FVec Ideal S8192x4096 .bf16) (g : FVec Ideal S4096 .f32) :
    (truncf (F := Ideal) .bf16 (addf x (hostNorm (extf .f32 y bitsLt_bf16_f32) g)) bitsLt_bf16_f32 : FVec Ideal S8192x4096 .bf16) = added x y g := by
  funext i
  obtain ⟨r, q, rfl⟩ : ∃ (r : Fin 8192) (q : Fin 4096), i = ix2 r q := ⟨i 0, i 1, eq_ix2 i⟩
  exact congrArg ((x (ix2 r q) : EReal) + ·) (hostNorm_apply (extf .f32 y bitsLt_bf16_f32) g r q)

theorem reference_5 (x : FVec Ideal S8192x4096 .f32) (y : FVec Ideal S8192x4096 .bf16) (g : FVec Ideal S4096 .f32) (h : FVec Ideal S4096 .f32) :
    (truncf (F := Ideal) .bf16 (hostNorm (addf x (hostNorm (extf .f32 y bitsLt_bf16_f32) g)) h) bitsLt_bf16_f32 : FVec Ideal S8192x4096 .bf16) = normed (added x y g) h := by
  refine (hostNorm_eq _ h).trans ?_
  exact congrArg (fun v => normed v h) (reference_4 x y g)

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m ρ)

/-- The kernel and its reference end with the same results. -/
theorem same_result : Cert.algebraic_Kernel11Ideal_Reference11Ideal := fun m ρ m' ρ' _ hargs =>
  ⟨fun c => result4 m c, fun c => result5 m c, run_results m ρ,
    (θ_run Cert.Reference11Ideal.defs _ _).mono (fun _ h c =>
      ⟨(h c).1.trans ((reference_4 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2))).trans (by rw [(hargs c).1, (hargs c).2.1, (hargs c).2.2.1])),
       (h c).2.1.trans ((reference_5 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3))).trans (by rw [(hargs c).1, (hargs c).2.1, (hargs c).2.2.1, (hargs c).2.2.2])),
       (h c).2.2⟩)
      (Cert.Reference11Ideal.Value.run (F := Ideal) m' ρ')⟩

end Cert.Kernel11Ideal.Res

end
-- ==== Proof.ResOneValue.lean ====
/-
  THE VALUE of the residual's kernel with one result over exact values, and its reference's: row r of the result is row r of x
  plus the norm of row r of y, times the weights.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Norm
public import Idealize.ShloMosaic.Lib.Pipeline.Value
public import Idealize.ShloMosaic.Lib.Quiescent

@[expose] public section

set_option maxRecDepth 16384

noncomputable section

namespace Cert.Kernel12Ideal.ResOne

open Cert.Kernel12Ideal.Gen Cert.Norm
open Idealize.ShloMosaic Idealize.ShloMosaic.TcCoe Idealize.SL.Sem

variable (m : (ℓ : Loc nD τ sig) → Buf (Elt Ideal) ℓ) (ρ : Dev nD → PrngReg)

/-! ## What a point writes -/

theorem pay_4 (x : FVec Ideal S512x4096 .bf16) (y : FVec Ideal S512x4096 .bf16) (g : FVec Ideal S1x4096 .f32) (a : Fin 512) (b : Fin 4096) :
    (k0_pay1 x y g : FVec Ideal S512x4096 .bf16) (ix2 a b)
      = (addRms (fun k => x (ix2 a k)) (fun k => y (ix2 a k)) (fun k => g (ix2 0 k)) b : EReal) := by
  unfold addRms rms scale
  pointwise [k0_pay1]

theorem out_4 (x : Vec Ideal S512x4096 .bf16) (y : Vec Ideal S512x4096 .bf16) (g : Vec Ideal S1x4096 .f32) (spare : Vec Ideal S1x4096 .f32) :
    out0_4 x y g spare = k0_pay1 x y g := by
  unfold out0_4
  rw [show View.ld x r0_0 = x from View.ld_unit_zero zeros _ _, show View.ld y r0_0 = y from View.ld_unit_zero zeros _ _, show View.ld g r0_1 = g from View.ld_unit_zero zeros _ _]
  exact View.canon_unit_zero zeros _ _

/-! ## The arguments and the results -/

/-- The arguments of core `c`. -/
abbrev argX (c : Dev nD) : Vec Ideal S8192x4096 .bf16 := m ((c : Thread nD τ).loc main_arg0)
abbrev argY (c : Dev nD) : Vec Ideal S8192x4096 .bf16 := m ((c : Thread nD τ).loc main_arg1)
abbrev argG (c : Dev nD) : Vec Ideal S4096 .f32 := m ((c : Thread nD τ).loc main_arg2)

/-- Result `main_v2` of core `c`'s arguments. -/
abbrev result4 (c : Dev nD) : Vec Ideal S8192x4096 .bf16 := added (argX m c) (argY m c) (argG m c)

/-- The weights of window 2, as the region finds them. -/
theorem V_g (c : Dev nD) : V m c main_v0 = (shapeCast S1x4096 (argG m c) shapeCasts_S4096_S1x4096 : Vec Ideal S1x4096 .f32) := by
  unfold_abbrev_sides
  after_results <;> rfl

theorem cast_apply (g : FVec Ideal S4096 .f32) (k : Fin 4096) :
    (shapeCast S1x4096 g shapeCasts_S4096_S1x4096 : FVec Ideal S1x4096 .f32) (ix2 0 k) = (g (ix1 k) : EReal) := by
  pointwise

/-! ## The windows' places -/

theorem place_x : ∀ t : Fin cfg0.N, win0_0.index t (0 : Fin 2) = t.val ∧ win0_0.index t (1 : Fin 2) = 0 :=
  (by decide +kernel : ∀ t : Fin grid0.N, _)
theorem place_y : ∀ t : Fin cfg0.N, win0_1.index t (0 : Fin 2) = t.val ∧ win0_1.index t (1 : Fin 2) = 0 :=
  (by decide +kernel : ∀ t : Fin grid0.N, _)
theorem place_g : ∀ t : Fin cfg0.N, win0_2.index t (0 : Fin 2) = 0 ∧ win0_2.index t (1 : Fin 2) = 0 :=
  (by decide +kernel : ∀ t : Fin grid0.N, _)
theorem place_4 : ∀ t : Fin cfg0.N, win0_4.index t (0 : Fin 2) = t.val ∧ win0_4.index t (1 : Fin 2) = 0 :=
  (by decide +kernel : ∀ t : Fin grid0.N, _)
theorem flush_4 : ∀ t : Fin cfg0.N, (cfg0.win 4).flush t = true :=
  (by decide +kernel : ∀ t : Fin grid0.N, win0_4.flush t = true)
theorem row_lt (t : Fin cfg0.N) (a : Fin 512) : 512 * t.val + a.val < 8192 := by
  have := lt_of_lt_of_eq t.isLt N_0
  omega

theorem x_block (c : Dev nD) (t : Fin cfg0.N) (a : Fin 512) (k : Fin 4096) :
    (iblk m c 0 t : Vec Ideal S512x4096 .bf16) (ix2 a k) = argX m c (ix2 ⟨512 * t.val + a.val, row_lt t a⟩ k) := by
  obtain ⟨e0, e1⟩ := place_x t
  unfold iblk
  rw [View.read_apply]
  show V m c main_arg0 _ = m (c.tc.loc main_arg0) _
  rw [V_main_arg0]
  congr 1
  funext d
  apply Fin.ext
  match d with
  | ⟨0, _⟩ => show win0_0.index t 0 * 512 + 1 * a.val = 512 * t.val + a.val; rw [e0]; omega
  | ⟨1, _⟩ => show win0_0.index t 1 * 4096 + 1 * k.val = k.val; rw [e1]; omega

theorem y_block (c : Dev nD) (t : Fin cfg0.N) (a : Fin 512) (k : Fin 4096) :
    (iblk m c 1 t : Vec Ideal S512x4096 .bf16) (ix2 a k) = argY m c (ix2 ⟨512 * t.val + a.val, row_lt t a⟩ k) := by
  obtain ⟨e0, e1⟩ := place_y t
  unfold iblk
  rw [View.read_apply]
  show V m c main_arg1 _ = m (c.tc.loc main_arg1) _
  rw [V_main_arg1]
  congr 1
  funext d
  apply Fin.ext
  match d with
  | ⟨0, _⟩ => show win0_1.index t 0 * 512 + 1 * a.val = 512 * t.val + a.val; rw [e0]; omega
  | ⟨1, _⟩ => show win0_1.index t 1 * 4096 + 1 * k.val = k.val; rw [e1]; omega

theorem g_block (c : Dev nD) (t : Fin cfg0.N) (k : Fin 4096) :
    (iblk m c 2 t : Vec Ideal S1x4096 .f32) (ix2 0 k) = argG m c (ix1 k) := by
  obtain ⟨e0, e1⟩ := place_g t
  unfold iblk
  rw [View.read_apply]
  show V m c main_v0 _ = _
  rw [V_g]
  refine Eq.trans (congrArg _ (funext fun d => Fin.ext ?_)) (cast_apply (argG m c) k)
  match d with
  | ⟨0, _⟩ => show win0_2.index t 0 * 1 + 1 * 0 = 0; rw [e0]
  | ⟨1, _⟩ => show win0_2.index t 1 * 4096 + 1 * k.val = k.val; rw [e1]; omega

/-! ## The final arrays -/

/-- What a point writes back is a block of rows of the result. -/
theorem flushed_4 (c : Dev nD) (t : Fin cfg0.N) :
    (dats m 0 c).flushed 4 t = ((cfg0.win 4).blk t).view.read (Elt Ideal) (result4 m c) := by
  obtain ⟨e0, e1⟩ := place_4 t
  show (cfg0.win 4).cut (grid0.coords t) ((dats m 0 c).after 4 t) = _
  rw [after0_4, out_4]
  funext y
  obtain ⟨a, b, rfl⟩ : ∃ (a : Fin 512) (b : Fin 4096), y = ix2 a b := ⟨y 0, y 1, eq_ix2 y⟩
  rw [View.read_apply]
  refine ((pay_4 _ _ _ a b).trans ?_ : _ = result4 m c (ix2 ⟨512 * t.val + a.val, row_lt t a⟩ b)).trans
    (congrArg (result4 m c) (funext fun d => Fin.ext ?_))
  · simp only [x_block m c t a, y_block m c t a, g_block m c t]
    rfl
  · match d with
    | ⟨0, _⟩ => show 512 * t.val + a.val = win0_4.index t (0 : Fin 2) * 512 + 1 * a.val; rw [e0]; omega
    | ⟨1, _⟩ => show b.val = win0_4.index t (1 : Fin 2) * 4096 + 1 * b.val; rw [e1]; omega

/-- Every index of the result is in a block some point writes back. -/
theorem cover_4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have ht : (i 0).val / 512 < cfg0.N := lt_of_lt_of_eq (by omega) N_0.symm
  obtain ⟨e0, e1⟩ := place_4 ⟨_, ht⟩
  dsimp only at e0
  refine ⟨⟨_, ht⟩, flush_4 _, ?_⟩
  show i ∈ ((View.whole main_v2).slice (win0_4.rect ⟨_, ht⟩)).set
  rw [View.set_slice_whole, Rect.mem_set_unit]
  intro a
  match a with
  | ⟨0, _⟩ => show win0_4.index ⟨_, ht⟩ (0 : Fin 2) * 512 ≤ (i 0).val ∧ (i 0).val < win0_4.index ⟨_, ht⟩ (0 : Fin 2) * 512 + 512; omega
  | ⟨1, _⟩ => show win0_4.index ⟨_, ht⟩ (1 : Fin 2) * 4096 ≤ (i 1).val ∧ (i 1).val < win0_4.index ⟨_, ht⟩ (1 : Fin 2) * 4096 + 4096; omega

theorem final_4 (c : Dev nD) : (dats m 0 c).arrAt 4 cfg0.N = result4 m c :=
  (dats m 0 c).arrAt_eq_of_cover 4 _ (fun t _ => flushed_4 m c t) cover_4

/-- The run with its results named. -/
theorem run_results : θ_run defs (onTc (τ := τ) (main (F := Ideal))) ⟨m, fun _ => 0, ρ⟩ fun r => ∀ c : Dev nD,
      r.2.mem ((c.tc : Thread nD τ).loc main_v2) = result4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 4).trans (final_4 m c), h.2 c⟩)
    (θ_run_and (run_main m ρ) (unchanged m ρ))

/-! ## The reference, the frames, and that the results are one -/

theorem reference_4 (x : FVec Ideal S8192x4096 .bf16) (y : FVec Ideal S8192x4096 .bf16) (g : FVec Ideal S4096 .f32) :
    (truncf (F := Ideal) .bf16 (addf (extf .f32 x bitsLt_bf16_f32) (hostNorm (extf .f32 y bitsLt_bf16_f32) g)) bitsLt_bf16_f32 : FVec Ideal S8192x4096 .bf16) = added x y g := by
  funext i
  obtain ⟨r, q, rfl⟩ : ∃ (r : Fin 8192) (q : Fin 4096), i = ix2 r q := ⟨i 0, i 1, eq_ix2 i⟩
  exact congrArg ((x (ix2 r q) : EReal) + ·) (hostNorm_apply (extf .f32 y bitsLt_bf16_f32) g r q)

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The kernel and its reference end with the same results. -/
theorem same_result : Cert.algebraic_Kernel12Ideal_Reference12Ideal := fun m ρ m' ρ' _ hargs =>
  ⟨fun c => result4 m c, run_results m ρ,
    (θ_run Cert.Reference12Ideal.defs _ _).mono (fun _ h c =>
      ⟨(h c).1.trans ((reference_4 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2))).trans (by rw [(hargs c).1, (hargs c).2.1, (hargs c).2.2])),
       (h c).2⟩)
      (Cert.Reference12Ideal.Value.run (F := Ideal) m' ρ')⟩

end Cert.Kernel12Ideal.ResOne

end
-- ==== Proof.lean ====
/- The certificate of the mLSTM kernel: the frames of both kernel programs and of the reference, the named constant
   (Proof/MlstmFrames.lean), and the equality of the two results over the extended reals (Proof/KernelValue.lean,
   Proof/RefValue.lean) where the queries, keys and values are finite (Proof/FinitePre.lean); the same of the MLP's down
   projection (Proof/DownValue.lean), of its up projection (Proof/UpFrames.lean), of the
   input projection (Proof/InFrames.lean), of the merge gates, of the two gated branches and of the output projection
   (Proof/MergeValue.lean, Proof/BrMValue.lean, Proof/BrFValue.lean, Proof/OutValue.lean), of the layer embedding
   (Proof/PleValue.lean), of the norm and of the residuals (Proof/RmsValue.lean, Proof/ResValue.lean,
   Proof/ResOneValue.lean), with no condition. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.MlstmFrames
public import proofs.«01_k».proof.Proof.FinitePre
public import proofs.«01_k».proof.Proof.RefValue
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.DownValue
public import proofs.«01_k».proof.Proof.Gen.Kernel3
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Reference3Ideal.Run
public import proofs.«01_k».proof.Proof.UpFrames
public import proofs.«01_k».proof.Proof.Gen.Kernel4
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Reference4Ideal.Run
public import proofs.«01_k».proof.Proof.InFrames
public import proofs.«01_k».proof.Proof.Gen.Kernel5
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Reference5Ideal.Run
public import proofs.«01_k».proof.Proof.MergeValue
public import proofs.«01_k».proof.Proof.Gen.Kernel6
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Reference6Ideal.Run
public import proofs.«01_k».proof.Proof.BrMValue
public import proofs.«01_k».proof.Proof.Gen.Kernel7
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Reference7Ideal.Run
public import proofs.«01_k».proof.Proof.BrFValue
public import proofs.«01_k».proof.Proof.Gen.Kernel8
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Reference8Ideal.Run
public import proofs.«01_k».proof.Proof.OutValue
public import proofs.«01_k».proof.Proof.Gen.Kernel9
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Reference9Ideal.Run
public import proofs.«01_k».proof.Proof.Gen.Kernel10
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Reference10Ideal.Run
public import proofs.«01_k».proof.Proof.Gen.Kernel10Ideal.Frame
public import proofs.«01_k».proof.Proof.Gen.Kernel10.Frame
public import proofs.«01_k».proof.Proof.Gen.Kernel11
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Reference11Ideal.Run
public import proofs.«01_k».proof.Proof.Gen.Kernel11Ideal.Frame
public import proofs.«01_k».proof.Proof.Gen.Kernel11.Frame
public import proofs.«01_k».proof.Proof.Gen.Kernel12
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Reference12Ideal.Run
public import proofs.«01_k».proof.Proof.Gen.Kernel12Ideal.Frame
public import proofs.«01_k».proof.Proof.Gen.Kernel12.Frame
public import proofs.«01_k».proof.Proof.PleValue
public import proofs.«01_k».proof.Proof.RmsValue
public import proofs.«01_k».proof.Proof.ResValue
public import proofs.«01_k».proof.Proof.ResOneValue

@[expose] public section

set_option maxRecDepth 16384

noncomputable section

namespace Cert.Proof

open Idealize.ShloMosaic Idealize.ShloMosaic.TcCoe Idealize.SL.Sem

local instance : Cert.Pre_finite_qkv.Facts := Cert.Pre_finite_qkv.facts

theorem frame_ideal_finite : Cert.quiescent_KernelIdeal_pre_finite_qkv := fun m ρ _ => frame_ideal m ρ trivial

theorem frame_reference_finite : Cert.quiescent_ReferenceIdeal_pre_finite_qkv := fun m ρ _ => frame_reference m ρ trivial

/-- The two memories' arguments by coordinates are the same where the arguments agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RValue.args m' c = Cert.KernelIdeal.KValue.args m c := by
  unfold Cert.ReferenceIdeal.RValue.args Cert.KernelIdeal.KValue.args
  rw [h0, h1, h2, h3, h4]

/-- Where the queries, keys and values are finite, the kernel and the reference end with the same result. -/
theorem same_result : Cert.algebraic_KernelIdeal_ReferenceIdeal_pre_finite_qkv := fun m ρ m' ρ' hpre hargs => by
  have fin : ∀ c, Cert.Spec.Finite (Cert.KernelIdeal.KValue.args m c) := fun c b t x hx =>
    Cert.Pre_finite_qkv.real _ _ _ _ _ (hpre c) b t x hx
  have same : ∀ c, Cert.ReferenceIdeal.RValue.args m' c = Cert.KernelIdeal.KValue.args m c := fun c =>
    args_eq m m' c (hargs c).1 (hargs c).2.1 (hargs c).2.2.1 (hargs c).2.2.2.1 (hargs c).2.2.2.2
  refine ⟨fun c => Cert.KernelIdeal.KValue.result (Cert.KernelIdeal.KValue.args m c), ?_, ?_⟩
  · exact (θ_run Cert.KernelIdeal.defs _ _).mono (fun _ h c =>
      ⟨(h.1 c _ (Cert.KernelIdeal.Run.mem_uc Cert.KernelIdeal.main_v30 (by decide))).trans (Cert.KernelIdeal.KValue.result_eq m ρ c (fin c)),
       (h.1 c _ (Cert.KernelIdeal.Run.mem_uc Cert.KernelIdeal.main_arg0 (by decide))).trans (Cert.KernelIdeal.Run.W4_main_arg0 m ρ c),
       (h.1 c _ (Cert.KernelIdeal.Run.mem_uc Cert.KernelIdeal.main_arg1 (by decide))).trans (Cert.KernelIdeal.Run.W4_main_arg1 m ρ c),
       (h.1 c _ (Cert.KernelIdeal.Run.mem_uc Cert.KernelIdeal.main_arg2 (by decide))).trans (Cert.KernelIdeal.Run.W4_main_arg2 m ρ c),
       (h.1 c _ (Cert.KernelIdeal.Run.mem_uc Cert.KernelIdeal.main_arg3 (by decide))).trans (Cert.KernelIdeal.Run.W4_main_arg3 m ρ c),
       (h.1 c _ (Cert.KernelIdeal.Run.mem_uc Cert.KernelIdeal.main_arg4 (by decide))).trans (Cert.KernelIdeal.Run.W4_main_arg4 m ρ c)⟩)
      (Cert.KernelIdeal.Run.run_main m ρ)
  · exact (θ_run Cert.ReferenceIdeal.defs _ _).mono (fun _ h c =>
      ⟨(h c).1.trans ((Cert.ReferenceIdeal.RValue.result_eq m' c (same c ▸ fin c)).trans (congrArg Cert.KernelIdeal.KValue.result (same c))), (h c).2⟩)
      (Cert.ReferenceIdeal.Value.run (F := Ideal) m' ρ')

/-- The down projection's reference runs and leaves its arguments and every semaphore as they were. -/
theorem frame_reference_down : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The down projection and its reference end with the same result. -/
theorem same_result_down : Cert.algebraic_Kernel2Ideal_Reference2Ideal := fun m ρ m' ρ' _ hargs =>
  ⟨fun c => Cert.Kernel2Ideal.Value.G2 m c, Cert.Kernel2Ideal.Value.run m ρ,
    (θ_run Cert.Reference2Ideal.defs _ _).mono (fun _ h c =>
      ⟨(h c).1.trans (Cert.Kernel2Ideal.Down.result_eq m c (hargs c).1 (hargs c).2 _ _ _), (h c).2⟩)
      (Cert.Reference2Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_qkv.facts,
  frame_kernel, frame_ideal, frame_ideal_finite, frame_reference, frame_reference_finite,
  fun m ρ _ => Cert.Kernel2.Gen.frame m ρ, fun m ρ _ => Cert.Kernel2Ideal.Gen.frame m ρ, frame_reference_down,
  Up.frame_kernel_up, Up.frame_ideal_up, Up.frame_reference_up,
  Inp.frame_kernel_in, Inp.frame_ideal_in, Inp.frame_reference_in,
  Cert.Kernel5Ideal.Merge.frame_kernel, Cert.Kernel5Ideal.Merge.frame_ideal, Cert.Kernel5Ideal.Merge.frame_reference,
  Cert.Kernel6Ideal.BrM.frame_kernel, Cert.Kernel6Ideal.BrM.frame_ideal, Cert.Kernel6Ideal.BrM.frame_reference,
  Cert.Kernel7Ideal.BrF.frame_kernel, Cert.Kernel7Ideal.BrF.frame_ideal, Cert.Kernel7Ideal.BrF.frame_reference,
  Cert.Kernel8Ideal.Out.frame_kernel, Cert.Kernel8Ideal.Out.frame_ideal, Cert.Kernel8Ideal.Out.frame_reference,
  Cert.Kernel9Ideal.Ple.frame_kernel, Cert.Kernel9Ideal.Ple.frame_ideal, Cert.Kernel9Ideal.Ple.frame_reference,
  Cert.Kernel10Ideal.Rms.frame_kernel, Cert.Kernel10Ideal.Rms.frame_ideal, Cert.Kernel10Ideal.Rms.frame_reference,
  Cert.Kernel11Ideal.Res.frame_kernel, Cert.Kernel11Ideal.Res.frame_ideal, Cert.Kernel11Ideal.Res.frame_reference,
  Cert.Kernel12Ideal.ResOne.frame_kernel, Cert.Kernel12Ideal.ResOne.frame_ideal, Cert.Kernel12Ideal.ResOne.frame_reference,
  named_constant, same_result, trivial, same_result_down, trivial, Up.same_result_up, trivial, Inp.same_result_in,
  trivial, Cert.Kernel5Ideal.Merge.same_result,
  trivial, Cert.Kernel6Ideal.BrM.same_result,
  trivial, Cert.Kernel7Ideal.BrF.same_result,
  trivial, Cert.Kernel8Ideal.Out.same_result,
  trivial, Cert.Kernel9Ideal.Ple.same_result,
  trivial, Cert.Kernel10Ideal.Rms.same_result,
  trivial, Cert.Kernel11Ideal.Res.same_result,
  trivial, Cert.Kernel12Ideal.ResOne.same_result⟩

end Cert.Proof

end
